-- ==== Defs.lean ====
def Pre_Kernel [hPre_rows_in_pool : Cert.Pre_rows_in_pool.Facts] (m : (ℓ : Loc Cert.Kernel.nD Cert.Kernel.τ Cert.Kernel.sig) → Buf (Elt Bits) ℓ) : Prop :=
  ∀ c : Dev Cert.Kernel.nD,
    (Cert.Pre_rows_in_pool.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_pool : Cert.Pre_rows_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_pool [hPre_rows_in_pool : Cert.Pre_rows_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_pool : Cert.Pre_rows_in_pool.Facts] (m : (ℓ : Loc Cert.Reference.nD Cert.Reference.τ Cert.Reference.sig) → Buf (Elt Bits) ℓ) : Prop :=
  ∀ c : Dev Cert.Reference.nD,
    (Cert.Pre_rows_in_pool.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_rows_in_pool : Cert.Pre_rows_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_pool : Cert.Pre_rows_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_pool [hReferenceIdeal : Cert.ReferenceIdeal.Facts] [hPre_rows_in_pool : Cert.Pre_rows_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_pool : Cert.Pre_rows_in_pool.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def bitexact_Kernel_Reference [hKernel : Cert.Kernel.Facts] [hReference : Cert.Reference.Facts] [hPre_rows_in_pool : Cert.Pre_rows_in_pool.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_rows_in_pool : Cert.Pre_rows_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v24_1)) (v1 : (c : Dev Cert.Kernel3Ideal.nD) → Buf (Elt Ideal) ((c.tc : Thread Cert.Kernel3Ideal.nD Cert.Kernel3Ideal.τ).loc Cert.Kernel3Ideal.main_v24_2)) (v2 : (c : Dev Cert.Kernel3Ideal.nD) → Buf (Elt Ideal) ((c.tc : Thread Cert.Kernel3Ideal.nD Cert.Kernel3Ideal.τ).loc Cert.Kernel3Ideal.main_v24_4)) (v3 : (c : Dev Cert.Kernel3Ideal.nD) → Buf (Elt Ideal) ((c.tc : Thread Cert.Kernel3Ideal.nD Cert.Kernel3Ideal.τ).loc Cert.Kernel3Ideal.main_v24_11)) (v4 : (c : Dev Cert.Kernel3Ideal.nD) → Buf (Elt Ideal) ((c.tc : Thread Cert.Kernel3Ideal.nD Cert.Kernel3Ideal.τ).loc Cert.Kernel3Ideal.main_v24_6)) (v5 : (c : Dev Cert.Kernel3Ideal.nD) → Buf (Elt Ideal) ((c.tc : Thread Cert.Kernel3Ideal.nD Cert.Kernel3Ideal.τ).loc Cert.Kernel3Ideal.main_v24_7)) (v6 : (c : Dev Cert.Kernel3Ideal.nD) → Buf (Elt Ideal) ((c.tc : Thread Cert.Kernel3Ideal.nD Cert.Kernel3Ideal.τ).loc Cert.Kernel3Ideal.main_v24_9)) (v7 : (c : Dev Cert.Kernel3Ideal.nD) → Buf (Elt Ideal) ((c.tc : Thread Cert.Kernel3Ideal.nD Cert.Kernel3Ideal.τ).loc Cert.Kernel3Ideal.main_v24_12)) (v8 : (c : Dev Cert.Kernel3Ideal.nD) → Buf (Elt Ideal) ((c.tc : Thread Cert.Kernel3Ideal.nD Cert.Kernel3Ideal.τ).loc Cert.Kernel3Ideal.main_v24_13)) (v9 : (c : Dev Cert.Kernel3Ideal.nD) → Buf (Elt Ideal) ((c.tc : Thread Cert.Kernel3Ideal.nD Cert.Kernel3Ideal.τ).loc Cert.Kernel3Ideal.main_v24_14)) (v10 : (c : Dev Cert.Kernel3Ideal.nD) → Buf (Elt Ideal) ((c.tc : Thread Cert.Kernel3Ideal.nD Cert.Kernel3Ideal.τ).loc Cert.Kernel3Ideal.main_v24_15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_1) = v0 c
          ∧ r.2.mem ((c.tc : Thread Cert.Kernel3Ideal.nD Cert.Kernel3Ideal.τ).loc Cert.Kernel3Ideal.main_v24_2) = v1 c
          ∧ r.2.mem ((c.tc : Thread Cert.Kernel3Ideal.nD Cert.Kernel3Ideal.τ).loc Cert.Kernel3Ideal.main_v24_4) = v2 c
          ∧ r.2.mem ((c.tc : Thread Cert.Kernel3Ideal.nD Cert.Kernel3Ideal.τ).loc Cert.Kernel3Ideal.main_v24_11) = v3 c
          ∧ r.2.mem ((c.tc : Thread Cert.Kernel3Ideal.nD Cert.Kernel3Ideal.τ).loc Cert.Kernel3Ideal.main_v24_6) = v4 c
          ∧ r.2.mem ((c.tc : Thread Cert.Kernel3Ideal.nD Cert.Kernel3Ideal.τ).loc Cert.Kernel3Ideal.main_v24_7) = v5 c
          ∧ r.2.mem ((c.tc : Thread Cert.Kernel3Ideal.nD Cert.Kernel3Ideal.τ).loc Cert.Kernel3Ideal.main_v24_9) = v6 c
          ∧ r.2.mem ((c.tc : Thread Cert.Kernel3Ideal.nD Cert.Kernel3Ideal.τ).loc Cert.Kernel3Ideal.main_v24_12) = v7 c
          ∧ r.2.mem ((c.tc : Thread Cert.Kernel3Ideal.nD Cert.Kernel3Ideal.τ).loc Cert.Kernel3Ideal.main_v24_13) = v8 c
          ∧ r.2.mem ((c.tc : Thread Cert.Kernel3Ideal.nD Cert.Kernel3Ideal.τ).loc Cert.Kernel3Ideal.main_v24_14) = v9 c
          ∧ r.2.mem ((c.tc : Thread Cert.Kernel3Ideal.nD Cert.Kernel3Ideal.τ).loc Cert.Kernel3Ideal.main_v24_15) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v101) = v1 c
          ∧ r.2.mem ((c.tc : Thread Cert.Reference3Ideal.nD Cert.Reference3Ideal.τ).loc Cert.Reference3Ideal.main_v102) = v2 c
          ∧ r.2.mem ((c.tc : Thread Cert.Reference3Ideal.nD Cert.Reference3Ideal.τ).loc Cert.Reference3Ideal.main_v105) = v3 c
          ∧ r.2.mem ((c.tc : Thread Cert.Reference3Ideal.nD Cert.Reference3Ideal.τ).loc Cert.Reference3Ideal.main_v107) = v4 c
          ∧ r.2.mem ((c.tc : Thread Cert.Reference3Ideal.nD Cert.Reference3Ideal.τ).loc Cert.Reference3Ideal.main_v108) = v5 c
          ∧ r.2.mem ((c.tc : Thread Cert.Reference3Ideal.nD Cert.Reference3Ideal.τ).loc Cert.Reference3Ideal.main_v109) = v6 c
          ∧ r.2.mem ((c.tc : Thread Cert.Reference3Ideal.nD Cert.Reference3Ideal.τ).loc Cert.Reference3Ideal.main_v112) = v7 c
          ∧ r.2.mem ((c.tc : Thread Cert.Reference3Ideal.nD Cert.Reference3Ideal.τ).loc Cert.Reference3Ideal.main_v116) = v8 c
          ∧ r.2.mem ((c.tc : Thread Cert.Reference3Ideal.nD Cert.Reference3Ideal.τ).loc Cert.Reference3Ideal.main_v117) = v9 c
          ∧ r.2.mem ((c.tc : Thread Cert.Reference3Ideal.nD Cert.Reference3Ideal.τ).loc Cert.Reference3Ideal.main_v119) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v24_1)) (v1 : (c : Dev Cert.Kernel5Ideal.nD) → Buf (Elt Ideal) ((c.tc : Thread Cert.Kernel5Ideal.nD Cert.Kernel5Ideal.τ).loc Cert.Kernel5Ideal.main_v24_2)) (v2 : (c : Dev Cert.Kernel5Ideal.nD) → Buf (Elt Ideal) ((c.tc : Thread Cert.Kernel5Ideal.nD Cert.Kernel5Ideal.τ).loc Cert.Kernel5Ideal.main_v24_4)) (v3 : (c : Dev Cert.Kernel5Ideal.nD) → Buf (Elt Ideal) ((c.tc : Thread Cert.Kernel5Ideal.nD Cert.Kernel5Ideal.τ).loc Cert.Kernel5Ideal.main_v24_6)) (v4 : (c : Dev Cert.Kernel5Ideal.nD) → Buf (Elt Ideal) ((c.tc : Thread Cert.Kernel5Ideal.nD Cert.Kernel5Ideal.τ).loc Cert.Kernel5Ideal.main_v24_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_1) = v0 c
          ∧ r.2.mem ((c.tc : Thread Cert.Kernel5Ideal.nD Cert.Kernel5Ideal.τ).loc Cert.Kernel5Ideal.main_v24_2) = v1 c
          ∧ r.2.mem ((c.tc : Thread Cert.Kernel5Ideal.nD Cert.Kernel5Ideal.τ).loc Cert.Kernel5Ideal.main_v24_4) = v2 c
          ∧ r.2.mem ((c.tc : Thread Cert.Kernel5Ideal.nD Cert.Kernel5Ideal.τ).loc Cert.Kernel5Ideal.main_v24_6) = v3 c
          ∧ r.2.mem ((c.tc : Thread Cert.Kernel5Ideal.nD Cert.Kernel5Ideal.τ).loc Cert.Kernel5Ideal.main_v24_7) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_v71) = v3 c
          ∧ r.2.mem ((c.tc : Thread Cert.Reference5Ideal.nD Cert.Reference5Ideal.τ).loc Cert.Reference5Ideal.main_v73) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)) (v2 : (c : Dev Cert.Kernel6Ideal.nD) → Buf (Elt Ideal) ((c.tc : Thread Cert.Kernel6Ideal.nD Cert.Kernel6Ideal.τ).loc Cert.Kernel6Ideal.main_v23_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_v23_3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_rows_in_pool : Cert.Pre_rows_in_pool.Facts),
    quiescent_Kernel (hKernel := hKernel) (hPre_rows_in_pool := hPre_rows_in_pool)
    ∧ quiescent_KernelIdeal (hKernelIdeal := hKernelIdeal) (hPre_rows_in_pool := hPre_rows_in_pool)
    ∧ quiescent_ReferenceIdeal (hReferenceIdeal := hReferenceIdeal)
    ∧ quiescent_ReferenceIdeal_pre_rows_in_pool (hReferenceIdeal := hReferenceIdeal) (hPre_rows_in_pool := hPre_rows_in_pool)
    ∧ quiescent_Reference (hReference := hReference) (hPre_rows_in_pool := hPre_rows_in_pool)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ bitexact_Kernel_Reference (hKernel := hKernel) (hReference := hReference) (hPre_rows_in_pool := hPre_rows_in_pool)
    ∧ algebraic_KernelIdeal_ReferenceIdeal (hKernelIdeal := hKernelIdeal) (hReferenceIdeal := hReferenceIdeal) (hPre_rows_in_pool := hPre_rows_in_pool)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_rows_in_pool.lean ====
abbrev S1x5120x128x4x128 : Shape := ⟨5, ![1, 5120, 128, 4, 128]⟩
abbrev S32x4x256x1 : Shape := ⟨4, ![32, 4, 256, 1]⟩
abbrev S_ : Shape := ⟨0, ![]⟩

class Facts : Prop where
  bcast_S_S32x4x256x1 : S_.BroadcastsInDim S32x4x256x1 (![] : Fin 0 → Fin S32x4x256x1.rank)

variable [Facts]

def fn {F : FTy → Type} [FloatOps F] (main_arg0 : FVec F S1x5120x128x4x128 .f32) (main_arg1 : IVec S32x4x256x1 32) : IVec S32x4x256x1 1 :=
  let main_c : IVec S_ 32 := constantI S_ 32 0#32
  let main_v0 : IVec S32x4x256x1 32 := broadcastInDim S32x4x256x1 ![] bcast_S_S32x4x256x1 main_c
  let main_v1 : IVec S32x4x256x1 1 := cmpi .sge main_arg1 main_v0
  let main_c_0 : IVec S_ 32 := constantI S_ 32 655360#32
  let main_v2 : IVec S32x4x256x1 32 := broadcastInDim S32x4x256x1 ![] bcast_S_S32x4x256x1 main_c_0
  let main_v3 : IVec S32x4x256x1 1 := cmpi .slt main_arg1 main_v2
  let main_v4 : IVec S32x4x256x1 1 := andi main_v1 main_v3
  main_v4
-- ==== Kernel.lean ====
abbrev S1x5120x128x4x128 : Shape := ⟨5, ![1, 5120, 128, 4, 128]⟩
abbrev S32x4x256x1 : Shape := ⟨4, ![32, 4, 256, 1]⟩
abbrev S32x4x1x256 : Shape := ⟨4, ![32, 4, 1, 256]⟩
abbrev S_ : Shape := ⟨0, ![]⟩
abbrev S4 : Shape := ⟨1, ![4]⟩
abbrev S1x1x4x1 : Shape := ⟨4, ![1, 1, 4, 1]⟩
abbrev S32x4x4x256 : Shape := ⟨4, ![32, 4, 4, 256]⟩
abbrev S131072 : Shape := ⟨1, ![131072]⟩
abbrev S5120x128x4x128 : Shape := ⟨4, ![5120, 128, 4, 128]⟩
abbrev S2621440x128 : Shape := ⟨2, ![2621440, 128]⟩
abbrev S1x131072 : Shape := ⟨2, ![1, 131072]⟩
abbrev S131072x128 : Shape := ⟨2, ![131072, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 16
  | .local .scVector .vmem => 2
  | _ => 0

abbrev bufTy : (tb : Table) → Fin (nBuf tb) → BufTy
  | .hbm, ⟨0, _⟩ => ⟨S1x5120x128x4x128, .f32⟩
  | .hbm, ⟨1, _⟩ => ⟨S32x4x256x1, .i32⟩
  | .hbm, ⟨2, _⟩ => ⟨S32x4x1x256, .i32⟩
  | .hbm, ⟨3, _⟩ => ⟨S_, .i32⟩
  | .hbm, ⟨4, _⟩ => ⟨S32x4x1x256, .i32⟩
  | .hbm, ⟨5, _⟩ => ⟨S32x4x1x256, .i32⟩
  | .hbm, ⟨6, _⟩ => ⟨S4, .i32⟩
  | .hbm, ⟨7, _⟩ => ⟨S1x1x4x1, .i32⟩
  | .hbm, ⟨8, _⟩ => ⟨S32x4x4x256, .i32⟩
  | .hbm, ⟨9, _⟩ => ⟨S32x4x4x256, .i32⟩
  | .hbm, ⟨10, _⟩ => ⟨S32x4x4x256, .i32⟩
  | .hbm, ⟨11, _⟩ => ⟨S131072, .i32⟩
  | .hbm, ⟨12, _⟩ => ⟨S5120x128x4x128, .f32⟩
  | .hbm, ⟨13, _⟩ => ⟨S2621440x128, .f32⟩
  | .hbm, ⟨14, _⟩ => ⟨S1x131072, .i32⟩
  | .hbm, ⟨15, _⟩ => ⟨S131072x128, .f32⟩
  | .local .scVector .vmem, ⟨0, _⟩ => ⟨S2x1x128, .i32⟩
  | .local .scVector .vmem, ⟨1, _⟩ => ⟨S2x128x128, .f32⟩
  | _, _ => ⟨S1x5120x128x4x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v10_scv : Ref sig .scVector := ⟨.hbm, 13, rfl⟩
abbrev main_v11_scv : Ref sig .scVector := ⟨.hbm, 14, rfl⟩
abbrev main_v12_scv : Ref sig .scVector := ⟨.hbm, 15, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_27_r0 : BitVec 32 := 0#32
  let c2_i32_28_r0 : BitVec 32 := 2#32
  let v34_r0 : BitVec 32 := Scalar.remui c0_i32_27_r0 c2_i32_28_r0
  let c0_i32_30_r0 : BitVec 32 := 0#32
  let c0_i32_31_r0 : BitVec 32 := 0#32
  ![v34_r0.toNat, 0, 0]
def k0_off2 (i : grid0.Coords) : Fin 2 → Nat :=
  let c0_i32_32_r0 : BitVec 32 := 0#32
  let c128_i32_r0 : BitVec 32 := 128#32
  let c0_i32_29_r0 : BitVec 32 := 0#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v35_r0 : BitVec 32 := Scalar.addi c0_i32_29_r0 v7_r0
  let v36_r0 : BitVec 32 := Scalar.muli c128_i32_r0 v35_r0
  ![0, v36_r0.toNat]
def k0_off3 : Fin 1 → Nat :=
  let c0_i32_27_r0 : BitVec 32 := 0#32
  let c2_i32_28_r0 : BitVec 32 := 2#32
  let v34_r0 : BitVec 32 := Scalar.remui c0_i32_27_r0 c2_i32_28_r0
  ![v34_r0.toNat]
@[reducible] def k0_t1_loop : Scf.Loop 32 :=
  let c0_i32_43_r0 : BitVec 32 := 0#32
  let c32_i32_r0 : BitVec 32 := 32#32
  let v46_r0 : BitVec 32 := Scalar.addi c0_i32_43_r0 c32_i32_r0
  let c1_i32_44_r0 : BitVec 32 := 1#32
  ⟨c0_i32_43_r0, v46_r0, c1_i32_44_r0⟩
def k0_off4 (arg6_r0 : BitVec 32) : Fin 3 → Nat :=
  let c2_i32_152_r0 : BitVec 32 := 2#32
  let v212_r0 : BitVec 32 := Scalar.remui arg6_r0 c2_i32_152_r0
  let c0_i32_155_r0 : BitVec 32 := 0#32
  let c0_i32_156_r0 : BitVec 32 := 0#32
  ![v212_r0.toNat, 0, 0]
def k0_cond1 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_112_r0 : BitVec 32 := 512#32
  let v134_r0 : BitVec 32 := Scalar.muli v102_r0 c512_i32_112_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v135_r0 : BitVec 32 := Scalar.addi v134_r0 v103_r0
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c16_i32_98_r0 : BitVec 32 := 16#32
  let v116_r0 : BitVec 1 := Scalar.cmpi .eq v115_r0 c16_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c512_i32_113_r0 : BitVec 32 := 512#32
  let v136_r0 : BitVec 32 := Scalar.muli v122_r0 c512_i32_113_r0
  let c0_i32_99_r0 : BitVec 32 := 0#32
  let v117_r0 : BitVec 32 := Scalar.select v116_r0 c0_i32_99_r0 v115_r0
  let v123_r0 : BitVec 32 := Scalar.addi v117_r0 v4
  let v137_r0 : BitVec 32 := Scalar.addi v136_r0 v123_r0
  let v138_r0 : BitVec 1 := Scalar.cmpi .ne v135_r0 v137_r0
  let c0_i32_43_r0 : BitVec 32 := 0#32
  let c1_i32_44_r0 : BitVec 32 := 1#32
  let arg5_r0 : BitVec 32 := Scf.iv c0_i32_43_r0 c1_i32_44_r0 k0_t1
  let c31_i32_114_r0 : BitVec 32 := 31#32
  let v139_r0 : BitVec 1 := Scalar.cmpi .sge arg5_r0 c31_i32_114_r0
  let true_115_r0 : BitVec 1 := 1#1
  let v140_r0 : BitVec 1 := Scalar.xori v139_r0 true_115_r0
  let v141_r0 : BitVec 1 := Scalar.andi v138_r0 v140_r0
  let true_116_r0 : BitVec 1 := 1#1
  let v142_r0 : BitVec 1 := Scalar.andi v141_r0 true_116_r0
  let v143_r0 : BitVec 32 := Scalar.extui v142_r0
  let c0_i32_117_r0 : BitVec 32 := 0#32
  let v144_r0 : BitVec 1 := Scalar.cmpi .ne v143_r0 c0_i32_117_r0
  v144_r0

def k0_off5 (i : grid0.Coords) (arg10_r0 : BitVec 32) (arg11_r0 : BitVec 32) : Fin 2 → Nat :=
  let c0_i32_157_r0 : BitVec 32 := 0#32
  let c128_i32_154_r0 : BitVec 32 := 128#32
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c16_i32_98_r0 : BitVec 32 := 16#32
  let v116_r0 : BitVec 1 := Scalar.cmpi .eq v115_r0 c16_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c512_i32_153_r0 : BitVec 32 := 512#32
  let v213_r0 : BitVec 32 := Scalar.muli v122_r0 c512_i32_153_r0
  let c0_i32_99_r0 : BitVec 32 := 0#32
  let v117_r0 : BitVec 32 := Scalar.select v116_r0 c0_i32_99_r0 v115_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v123_r0 : BitVec 32 := Scalar.addi v117_r0 v4
  let v214_r0 : BitVec 32 := Scalar.addi v213_r0 v123_r0
  let v215_r0 : BitVec 32 := Scalar.muli c128_i32_154_r0 v214_r0
  ![0, v215_r0.toNat]
def k0_off6 (arg6_r0 : BitVec 32) : Fin 1 → Nat :=
  let c2_i32_152_r0 : BitVec 32 := 2#32
  let v212_r0 : BitVec 32 := Scalar.remui arg6_r0 c2_i32_152_r0
  ![v212_r0.toNat]
def k0_off7 (arg7_r0 : BitVec 32) : Fin 3 → Nat :=
  let c2_i32_154_r0 : BitVec 32 := 2#32
  let v215_r0 : BitVec 32 := Scalar.remui arg7_r0 c2_i32_154_r0
  let c0_i32_155_r0 : BitVec 32 := 0#32
  let c0_i32_156_r0 : BitVec 32 := 0#32
  ![v215_r0.toNat, 0, 0]
def k0_cond2 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_112_r0 : BitVec 32 := 512#32
  let v134_r0 : BitVec 32 := Scalar.muli v102_r0 c512_i32_112_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v135_r0 : BitVec 32 := Scalar.addi v134_r0 v103_r0
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c512_i32_124_r0 : BitVec 32 := 512#32
  let v156_r0 : BitVec 32 := Scalar.muli v112_r0 c512_i32_124_r0
  let c15_i32_91_r0 : BitVec 32 := 15#32
  let v107_r0 : BitVec 32 := Scalar.select v106_r0 c15_i32_91_r0 v105_r0
  let v113_r0 : BitVec 32 := Scalar.addi v107_r0 v4
  let v157_r0 : BitVec 32 := Scalar.addi v156_r0 v113_r0
  let v158_r0 : BitVec 1 := Scalar.cmpi .ne v135_r0 v157_r0
  let c0_i32_43_r0 : BitVec 32 := 0#32
  let c1_i32_44_r0 : BitVec 32 := 1#32
  let arg5_r0 : BitVec 32 := Scf.iv c0_i32_43_r0 c1_i32_44_r0 k0_t1
  let c0_i32_86_r0 : BitVec 32 := 0#32
  let v100_r0 : BitVec 1 := Scalar.cmpi .eq arg5_r0 c0_i32_86_r0
  let v159_r0 : BitVec 1 := Scalar.ori v158_r0 v100_r0
  let c0_i32_125_r0 : BitVec 32 := 0#32
  let v160_r0 : BitVec 1 := Scalar.cmpi .sge arg5_r0 c0_i32_125_r0
  let v161_r0 : BitVec 1 := Scalar.andi v159_r0 v160_r0
  let v162_r0 : BitVec 32 := Scalar.extui v161_r0
  let c0_i32_126_r0 : BitVec 32 := 0#32
  let v163_r0 : BitVec 1 := Scalar.cmpi .ne v162_r0 c0_i32_126_r0
  v163_r0

def k0_off8 (i : grid0.Coords) (arg10_r0 : BitVec 32) (arg11_r0 : BitVec 32) : Fin 2 → Nat :=
  let c0_i32_157_r0 : BitVec 32 := 0#32
  let c128_i32_153_r0 : BitVec 32 := 128#32
  let c0_i32_87_r0 : BitVec 32 := 0#32
  let v102_r0 : BitVec 32 := Scalar.addi arg10_r0 c0_i32_87_r0
  let c512_i32_152_r0 : BitVec 32 := 512#32
  let v212_r0 : BitVec 32 := Scalar.muli v102_r0 c512_i32_152_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v213_r0 : BitVec 32 := Scalar.addi v212_r0 v103_r0
  let v214_r0 : BitVec 32 := Scalar.muli c128_i32_153_r0 v213_r0
  ![0, v214_r0.toNat]
def k0_off9 (arg7_r0 : BitVec 32) : Fin 1 → Nat :=
  let c2_i32_154_r0 : BitVec 32 := 2#32
  let v215_r0 : BitVec 32 := Scalar.remui arg7_r0 c2_i32_154_r0
  ![v215_r0.toNat]
def k0_off10 (arg8_r0 : BitVec 32) : Fin 3 → Nat :=
  let c2_i32_131_r0 : BitVec 32 := 2#32
  let v173_r0 : BitVec 32 := Scalar.remui arg8_r0 c2_i32_131_r0
  let c0_i32_152_r1 : BitVec 32 := 0#32
  let c0_i32_153_r1 : BitVec 32 := 0#32
  ![v173_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_130_r0 : BitVec 32 := 2#32
  let v172_r0 : BitVec 32 := Scalar.remui arg7_r0 c2_i32_130_r0
  let c0_i32_154_r1 : BitVec 32 := 0#32
  let c0_i32_155_r1 : BitVec 32 := 0#32
  ![v172_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_152_r0 : BitVec 32 := 2#32
  let v212_r0 : BitVec 32 := Scalar.remui arg8_r0 c2_i32_152_r0
  let c0_i32_155_r0 : BitVec 32 := 0#32
  let c0_i32_156_r0 : BitVec 32 := 0#32
  ![v212_r0.toNat, 0, 0]
def k0_cond5 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_120_r0 : BitVec 32 := 512#32
  let v148_r0 : BitVec 32 := Scalar.muli v102_r0 c512_i32_120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v149_r0 : BitVec 32 := Scalar.addi v148_r0 v103_r0
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c16_i32_98_r0 : BitVec 32 := 16#32
  let v116_r0 : BitVec 1 := Scalar.cmpi .eq v115_r0 c16_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c512_i32_121_r0 : BitVec 32 := 512#32
  let v150_r0 : BitVec 32 := Scalar.muli v122_r0 c512_i32_121_r0
  let c0_i32_99_r0 : BitVec 32 := 0#32
  let v117_r0 : BitVec 32 := Scalar.select v116_r0 c0_i32_99_r0 v115_r0
  let v123_r0 : BitVec 32 := Scalar.addi v117_r0 v4
  let v151_r0 : BitVec 32 := Scalar.addi v150_r0 v123_r0
  let v179_r0 : BitVec 1 := Scalar.cmpi .ne v149_r0 v151_r0
  let c0_i32_43_r0 : BitVec 32 := 0#32
  let c1_i32_44_r0 : BitVec 32 := 1#32
  let arg5_r0 : BitVec 32 := Scf.iv c0_i32_43_r0 c1_i32_44_r0 k0_t1
  let c31_i32_r0 : BitVec 32 := 31#32
  let v101_r0 : BitVec 1 := Scalar.cmpi .eq arg5_r0 c31_i32_r0
  let v180_r0 : BitVec 1 := Scalar.ori v179_r0 v101_r0
  let v181_r0 : BitVec 32 := Scalar.extui v180_r0
  let c0_i32_134_r0 : BitVec 32 := 0#32
  let v182_r0 : BitVec 1 := Scalar.cmpi .ne v181_r0 c0_i32_134_r0
  v182_r0

def k0_off13 (i : grid0.Coords) (arg10_r0 : BitVec 32) (arg11_r0 : BitVec 32) : Fin 2 → Nat :=
  let c128_i32_154_r0 : BitVec 32 := 128#32
  let c0_i32_87_r0 : BitVec 32 := 0#32
  let v102_r0 : BitVec 32 := Scalar.addi arg10_r0 c0_i32_87_r0
  let c512_i32_153_r0 : BitVec 32 := 512#32
  let v213_r0 : BitVec 32 := Scalar.muli v102_r0 c512_i32_153_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v214_r0 : BitVec 32 := Scalar.addi v213_r0 v103_r0
  let v215_r0 : BitVec 32 := Scalar.muli c128_i32_154_r0 v214_r0
  let c0_i32_157_r0 : BitVec 32 := 0#32
  ![v215_r0.toNat, 0]
def k0_off14 (arg8_r0 : BitVec 32) : Fin 1 → Nat :=
  let c2_i32_152_r0 : BitVec 32 := 2#32
  let v212_r0 : BitVec 32 := Scalar.remui arg8_r0 c2_i32_152_r0
  ![v212_r0.toNat]
def k0_off15 (arg9_r0 : BitVec 32) : Fin 3 → Nat :=
  let c2_i32_152_r0 : BitVec 32 := 2#32
  let v212_r0 : BitVec 32 := Scalar.remui arg9_r0 c2_i32_152_r0
  let c0_i32_155_r0 : BitVec 32 := 0#32
  let c0_i32_156_r0 : BitVec 32 := 0#32
  ![v212_r0.toNat, 0, 0]
def k0_cond7 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_120_r0 : BitVec 32 := 512#32
  let v148_r0 : BitVec 32 := Scalar.muli v102_r0 c512_i32_120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v149_r0 : BitVec 32 := Scalar.addi v148_r0 v103_r0
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c512_i32_127_r0 : BitVec 32 := 512#32
  let v164_r0 : BitVec 32 := Scalar.muli v112_r0 c512_i32_127_r0
  let c15_i32_91_r0 : BitVec 32 := 15#32
  let v107_r0 : BitVec 32 := Scalar.select v106_r0 c15_i32_91_r0 v105_r0
  let v113_r0 : BitVec 32 := Scalar.addi v107_r0 v4
  let v165_r0 : BitVec 32 := Scalar.addi v164_r0 v113_r0
  let v192_r0 : BitVec 1 := Scalar.cmpi .ne v149_r0 v165_r0
  let c0_i32_43_r0 : BitVec 32 := 0#32
  let c1_i32_44_r0 : BitVec 32 := 1#32
  let arg5_r0 : BitVec 32 := Scf.iv c0_i32_43_r0 c1_i32_44_r0 k0_t1
  let c0_i32_86_r0 : BitVec 32 := 0#32
  let v100_r0 : BitVec 1 := Scalar.cmpi .eq arg5_r0 c0_i32_86_r0
  let true_140_r0 : BitVec 1 := 1#1
  let v193_r0 : BitVec 1 := Scalar.xori v100_r0 true_140_r0
  let v194_r0 : BitVec 1 := Scalar.andi v192_r0 v193_r0
  let v195_r0 : BitVec 32 := Scalar.extui v194_r0
  let c0_i32_141_r0 : BitVec 32 := 0#32
  let v196_r0 : BitVec 1 := Scalar.cmpi .ne v195_r0 c0_i32_141_r0
  v196_r0

def k0_off16 (i : grid0.Coords) (arg10_r0 : BitVec 32) (arg11_r0 : BitVec 32) : Fin 2 → Nat :=
  let c128_i32_154_r0 : BitVec 32 := 128#32
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c512_i32_153_r0 : BitVec 32 := 512#32
  let v213_r0 : BitVec 32 := Scalar.muli v112_r0 c512_i32_153_r0
  let c15_i32_91_r0 : BitVec 32 := 15#32
  let v107_r0 : BitVec 32 := Scalar.select v106_r0 c15_i32_91_r0 v105_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v113_r0 : BitVec 32 := Scalar.addi v107_r0 v4
  let v214_r0 : BitVec 32 := Scalar.addi v213_r0 v113_r0
  let v215_r0 : BitVec 32 := Scalar.muli c128_i32_154_r0 v214_r0
  let c0_i32_157_r0 : BitVec 32 := 0#32
  ![v215_r0.toNat, 0]
def k0_off17 (arg9_r0 : BitVec 32) : Fin 1 → Nat :=
  let c2_i32_152_r0 : BitVec 32 := 2#32
  let v212_r0 : BitVec 32 := Scalar.remui arg9_r0 c2_i32_152_r0
  ![v212_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) : Prop :=
  (∀ (k0_h1 : k0_cond1 i k0_t1 arg10_r0 arg11_r0 = 1#1), ∀ a, (k0_off4 arg6_r0) a + S1x1x128.size a ≤ S2x1x128.size a) ∧
  (∀ (k0_h1 : k0_cond1 i k0_t1 arg10_r0 arg11_r0 = 1#1), ∀ a, (k0_off5 i arg10_r0 arg11_r0) a + S1x128.size a ≤ S1x131072.size a) ∧
  (∀ (k0_h1 : k0_cond1 i k0_t1 arg10_r0 arg11_r0 = 1#1), ∀ a, (k0_off6 arg6_r0) a + S1.size a ≤ S2.size a) ∧
  (∀ (k0_h2 : k0_cond2 i k0_t1 arg10_r0 arg11_r0 = 1#1), ∀ a, (k0_off7 arg7_r0) a + S1x1x128.size a ≤ S2x1x128.size a) ∧
  (∀ (k0_h2 : k0_cond2 i k0_t1 arg10_r0 arg11_r0 = 1#1), ∀ a, (k0_off8 i arg10_r0 arg11_r0) a + S1x128.size a ≤ S1x131072.size a) ∧
  (∀ (k0_h2 : k0_cond2 i k0_t1 arg10_r0 arg11_r0 = 1#1), ∀ a, (k0_off9 arg7_r0) a + S1.size a ≤ S2.size a) ∧
  (∀ (k0_h5 : k0_cond5 i k0_t1 arg10_r0 arg11_r0 = 1#1), ∀ a, (k0_off12 arg8_r0) a + S1x128x128.size a ≤ S2x128x128.size a) ∧
  (∀ (k0_h5 : k0_cond5 i k0_t1 arg10_r0 arg11_r0 = 1#1), ∀ a, (k0_off13 i arg10_r0 arg11_r0) a + S128x128.size a ≤ S131072x128.size a) ∧
  (∀ (k0_h5 : k0_cond5 i k0_t1 arg10_r0 arg11_r0 = 1#1), ∀ a, (k0_off14 arg8_r0) a + S1.size a ≤ S2.size a) ∧
  (∀ (k0_h7 : k0_cond7 i k0_t1 arg10_r0 arg11_r0 = 1#1), ∀ a, (k0_off15 arg9_r0) a + S1x128x128.size a ≤ S2x128x128.size a) ∧
  (∀ (k0_h7 : k0_cond7 i k0_t1 arg10_r0 arg11_r0 = 1#1), ∀ a, (k0_off16 i arg10_r0 arg11_r0) a + S128x128.size a ≤ S131072x128.size a) ∧
  (∀ (k0_h7 : k0_cond7 i k0_t1 arg10_r0 arg11_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off4 arg6_r0) a + S1x1x128.size a ≤ S2x1x128.size a := fun i k0_t1 arg6_r0 arg7_r0 arg8_r0 arg9_r0 arg10_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off5 i arg10_r0 arg11_r0) a + S1x128.size a ≤ S1x131072.size a := fun i k0_t1 arg6_r0 arg7_r0 arg8_r0 arg9_r0 arg10_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off6 arg6_r0) a + S1.size a ≤ S2.size a := fun i k0_t1 arg6_r0 arg7_r0 arg8_r0 arg9_r0 arg10_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off7 arg7_r0) a + S1x1x128.size a ≤ S2x1x128.size a := fun i k0_t1 arg6_r0 arg7_r0 arg8_r0 arg9_r0 arg10_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off8 i arg10_r0 arg11_r0) a + S1x128.size a ≤ S1x131072.size a := fun i k0_t1 arg6_r0 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off9 arg7_r0) a + S1.size a ≤ S2.size a := fun i k0_t1 arg6_r0 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off12 arg8_r0) a + S1x128x128.size a ≤ S2x128x128.size a := fun i k0_t1 arg6_r0 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off13 i arg10_r0 arg11_r0) a + S128x128.size a ≤ S131072x128.size a := fun i k0_t1 arg6_r0 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off14 arg8_r0) a + S1.size a ≤ S2.size a := fun i k0_t1 arg6_r0 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off15 arg9_r0) a + S1x128x128.size a ≤ S2x128x128.size a := fun i k0_t1 arg6_r0 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off16 i arg10_r0 arg11_r0) a + S128x128.size a ≤ S131072x128.size a := fun i k0_t1 arg6_r0 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off17 arg9_r0) a + S1.size a ≤ S2.size a := fun i k0_t1 arg6_r0 arg7_r0 arg8_r0 arg9_r0 arg10_r0 arg11_r0 k0_hw1 k0_h7 => k0_hw1.2.2.2.2.2.2.2.2.2.2.2 k0_h7

def k0_off18 (v47_3_r0 : BitVec 32) : Fin 3 → Nat :=
  let c2_i32_78_r0 : BitVec 32 := 2#32
  let v88_r0 : BitVec 32 := Scalar.remui v47_3_r0 c2_i32_78_r0
  let c0_i32_80_r0 : BitVec 32 := 0#32
  let c0_i32_81_r0 : BitVec 32 := 0#32
  ![v88_r0.toNat, 0, 0]

def k0_off19 (i : grid0.Coords) (v47_5_r0 : BitVec 32) (v47_4_r0 : BitVec 32) : Fin 2 → Nat :=
  let c128_i32_79_r0 : BitVec 32 := 128#32
  let true_47_r0 : BitVec 1 := 1#1
  let c1_i32_46_r0 : BitVec 32 := 1#32
  let v48_r0 : BitVec 32 := Scalar.subi v47_5_r0 c1_i32_46_r0
  let v49_r0 : BitVec 32 := Scalar.select true_47_r0 v48_r0 v47_5_r0
  let c_m1_i32_48_r0 : BitVec 32 := 4294967295#32
  let v50_r0 : BitVec 1 := Scalar.cmpi .eq v49_r0 c_m1_i32_48_r0
  let c1_i32_50_r0 : BitVec 32 := 1#32
  let v52_r0 : BitVec 32 := Scalar.subi v47_4_r0 c1_i32_50_r0
  let v53_r0 : BitVec 32 := Scalar.select v50_r0 v52_r0 v47_4_r0
  let c_m1_i32_51_r0 : BitVec 32 := 4294967295#32
  let v54_r0 : BitVec 1 := Scalar.cmpi .eq v53_r0 c_m1_i32_51_r0
  let c1_i32_52_r0 : BitVec 32 := 1#32
  let v55_r0 : BitVec 32 := Scalar.select v54_r0 c1_i32_52_r0 v53_r0
  let c0_i32_53_r0 : BitVec 32 := 0#32
  let v56_r0 : BitVec 32 := Scalar.addi v55_r0 c0_i32_53_r0
  let c512_i32_r0 : BitVec 32 := 512#32
  let v89_r0 : BitVec 32 := Scalar.muli v56_r0 c512_i32_r0
  let c15_i32_49_r0 : BitVec 32 := 15#32
  let v51_r0 : BitVec 32 := Scalar.select v50_r0 c15_i32_49_r0 v49_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v57_r0 : BitVec 32 := Scalar.addi v51_r0 v4
  let v90_r0 : BitVec 32 := Scalar.addi v89_r0 v57_r0
  let v91_r0 : BitVec 32 := Scalar.muli c128_i32_79_r0 v90_r0
  let c0_i32_82_r0 : BitVec 32 := 0#32
  ![v91_r0.toNat, 0]

def k0_chk5 (i : grid0.Coords) (v47_5_r0 : BitVec 32) (v47_4_r0 : BitVec 32) : Prop :=
  (∀ a, (k0_off19 i v47_5_r0 v47_4_r0) a + S128x128.size a ≤ S131072x128.size a)
theorem k0_off19_inb : ∀ (i : grid0.Coords) (v47_5_r0 : BitVec 32) (v47_4_r0 : BitVec 32) (k0_hw5 : k0_chk5 i v47_5_r0 v47_4_r0), ∀ a, (k0_off19 i v47_5_r0 v47_4_r0) a + S128x128.size a ≤ S131072x128.size a := fun i v47_5_r0 v47_4_r0 k0_hw5 => k0_hw5

def k0_off20 (v47_3_r0 : BitVec 32) : Fin 1 → Nat :=
  let c2_i32_78_r0 : BitVec 32 := 2#32
  let v88_r0 : BitVec 32 := Scalar.remui v47_3_r0 c2_i32_78_r0
  ![v88_r0.toNat]
def k0_off21 (v47_3_r0 : BitVec 32) : Fin 3 → Nat :=
  let c2_i32_78_r0 : BitVec 32 := 2#32
  let v88_r0 : BitVec 32 := Scalar.remui v47_3_r0 c2_i32_78_r0
  let c0_i32_84_r0 : BitVec 32 := 0#32
  let c0_i32_85_r0 : BitVec 32 := 0#32
  ![v88_r0.toNat, 0, 0]

def k0_chk4 (v47_3_r0 : BitVec 32) : Prop :=
  (∀ a, (k0_off18 v47_3_r0) a + S1x128x128.size a ≤ S2x128x128.size a) ∧
  (∀ a, (k0_off20 v47_3_r0) a + S1.size a ≤ S2.size a) ∧
  (∀ a, (k0_off21 v47_3_r0) a + S1x128x128.size a ≤ S2x128x128.size a)
theorem k0_off18_inb : ∀ (v47_3_r0 : BitVec 32) (k0_hw4 : k0_chk4 v47_3_r0), ∀ a, (k0_off18 v47_3_r0) a + S1x128x128.size a ≤ S2x128x128.size a := fun v47_3_r0 k0_hw4 => k0_hw4.1
theorem k0_off20_inb : ∀ (v47_3_r0 : BitVec 32) (k0_hw4 : k0_chk4 v47_3_r0), ∀ a, (k0_off20 v47_3_r0) a + S1.size a ≤ S2.size a := fun v47_3_r0 k0_hw4 => k0_hw4.2.1
theorem k0_off21_inb : ∀ (v47_3_r0 : BitVec 32) (k0_hw4 : k0_chk4 v47_3_r0), ∀ a, (k0_off21 v47_3_r0) a + S1x128x128.size a ≤ S2x128x128.size a := fun v47_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1x5120x128x4x128 : Shape := ⟨5, ![1, 5120, 128, 4, 128]⟩
abbrev S32x4x256x1 : Shape := ⟨4, ![32, 4, 256, 1]⟩
abbrev S32x4x256 : Shape := ⟨3, ![32, 4, 256]⟩
abbrev S_ : Shape := ⟨0, ![]⟩
abbrev S32x4x256x3 : Shape := ⟨4, ![32, 4, 256, 3]⟩
abbrev S32x4x256x4x128 : Shape := ⟨5, ![32, 4, 256, 4, 128]⟩
abbrev S32x4x4x256x128 : Shape := ⟨5, ![32, 4, 4, 256, 128]⟩
abbrev S131072x128 : Shape := ⟨2, ![131072, 128]⟩

abbrev nBuf : Space → Nat
  | .hbm => 68
  | .vmem => 0
  | .smem => 0
  | _ => 0

abbrev bufTy : (tb : Table) → Fin (tcTables nBuf tb) → BufTy
  | .hbm, ⟨0, _⟩ => ⟨S1x5120x128x4x128, .f32⟩
  | .hbm, ⟨1, _⟩ => ⟨S32x4x256x1, .i32⟩
  | .hbm, ⟨2, _⟩ => ⟨S32x4x256, .i32⟩
  | .hbm, ⟨3, _⟩ => ⟨S_, .i32⟩
  | .hbm, ⟨4, _⟩ => ⟨S_, .i32⟩
  | .hbm, ⟨5, _⟩ => ⟨S32x4x256, .i32⟩
  | .hbm, ⟨6, _⟩ => ⟨S32x4x256, .i32⟩
  | .hbm, ⟨7, _⟩ => ⟨S32x4x256, .i32⟩
  | .hbm, ⟨8, _⟩ => ⟨S_, .i32⟩
  | .hbm, ⟨9, _⟩ => ⟨S32x4x256, .i32⟩
  | .hbm, ⟨10, _⟩ => ⟨S32x4x256, .i1⟩
  | .hbm, ⟨11, _⟩ => ⟨S32x4x256, .i32⟩
  | .hbm, ⟨12, _⟩ => ⟨S32x4x256, .i32⟩
  | .hbm, ⟨13, _⟩ => ⟨S_, .i32⟩
  | .hbm, ⟨14, _⟩ => ⟨S32x4x256, .i32⟩
  | .hbm, ⟨15, _⟩ => ⟨S32x4x256, .i1⟩
  | .hbm, ⟨16, _⟩ => ⟨S32x4x256, .i1⟩
  | .hbm, ⟨17, _⟩ => ⟨S_, .i32⟩
  | .hbm, ⟨18, _⟩ => ⟨S32x4x256, .i32⟩
  | .hbm, ⟨19, _⟩ => ⟨S32x4x256, .i32⟩
  | .hbm, ⟨20, _⟩ => ⟨S32x4x256, .i32⟩
  | .hbm, ⟨21, _⟩ => ⟨S32x4x256, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S32x4x256, .i32⟩
  | .hbm, ⟨29, _⟩ => ⟨S32x4x256, .i32⟩
  | .hbm, ⟨30, _⟩ => ⟨S_, .i32⟩
  | .hbm, ⟨31, _⟩ => ⟨S32x4x256, .i32⟩
  | .hbm, ⟨32, _⟩ => ⟨S32x4x256, .i1⟩
  | .hbm, ⟨33, _⟩ => ⟨S_, .i32⟩
  | .hbm, ⟨34, _⟩ => ⟨S32x4x256, .i32⟩
  | .hbm, ⟨35, _⟩ => ⟨S32x4x256, .i1⟩
  | .hbm, ⟨36, _⟩ => ⟨S_, .i32⟩
  | .hbm, ⟨37, _⟩ => ⟨S_, .i1⟩
  | .hbm, ⟨38, _⟩ => ⟨S32x4x256, .i1⟩
  | .hbm, ⟨39, _⟩ => ⟨S32x4x256, .i1⟩
  | .hbm, ⟨40, _⟩ => ⟨S32x4x256, .i1⟩
  | .hbm, ⟨41, _⟩ => ⟨S32x4x256, .i32⟩
  | .hbm, ⟨42, _⟩ => ⟨S32x4x256, .i32⟩
  | .hbm, ⟨43, _⟩ => ⟨S32x4x256, .i32⟩
  | .hbm, ⟨44, _⟩ => ⟨S_, .i32⟩
  | .hbm, ⟨45, _⟩ => ⟨S32x4x256, .i32⟩
  | .hbm, ⟨46, _⟩ => ⟨S32x4x256, .i1⟩
  | .hbm, ⟨47, _⟩ => ⟨S_, .i32⟩
  | .hbm, ⟨48, _⟩ => ⟨S32x4x256, .i32⟩
  | .hbm, ⟨49, _⟩ => ⟨S32x4x256, .i32⟩
  | .hbm, ⟨50, _⟩ => ⟨S32x4x256, .i32⟩
  | .hbm, ⟨51, _⟩ => ⟨S_, .i32⟩
  | .hbm, ⟨52, _⟩ => ⟨S32x4x256, .i32⟩
  | .hbm, ⟨53, _⟩ => ⟨S32x4x256, .i1⟩
  | .hbm, ⟨54, _⟩ => ⟨S_, .i32⟩
  | .hbm, ⟨55, _⟩ => ⟨S32x4x256, .i32⟩
  | .hbm, ⟨56, _⟩ => ⟨S32x4x256, .i32⟩
  | .hbm, ⟨57, _⟩ => ⟨S32x4x256, .i32⟩
  | .hbm, ⟨58, _⟩ => ⟨S_, .i32⟩
  | .hbm, ⟨59, _⟩ => ⟨S32x4x256, .i32⟩
  | .hbm, ⟨60, _⟩ => ⟨S32x4x256, .i32⟩
  | .hbm, ⟨61, _⟩ => ⟨S32x4x256x1, .i32⟩
  | .hbm, ⟨62, _⟩ => ⟨S32x4x256x1, .i32⟩
  | .hbm, ⟨63, _⟩ => ⟨S32x4x256x1, .i32⟩
  | .hbm, ⟨64, _⟩ => ⟨S32x4x256x3, .i32⟩
  | .hbm, ⟨65, _⟩ => ⟨S32x4x256x4x128, .f32⟩
  | .hbm, ⟨66, _⟩ => ⟨S32x4x4x256x128, .f32⟩
  | .hbm, ⟨67, _⟩ => ⟨S131072x128, .f32⟩
  | _, _ => ⟨S1x5120x128x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_c_1 : Ref sig .tc := ⟨.hbm, 44, rfl⟩
abbrev main_v4 : Ref sig .tc := ⟨.hbm, 45, rfl⟩
abbrev main_v5 : Ref sig .tc := ⟨.hbm, 46, rfl⟩
abbrev main_c_2 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_c_5 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩

abbrev nD : Nat := 1
abbrev τ : Topo := Topo.v7x

variable {F : FTy → Type} [FloatOps F]
-- ==== Kernel2.lean ====
abbrev S8x2048x2048 : Shape := ⟨3, ![8, 2048, 2048]⟩
abbrev S16384x1024 : Shape := ⟨2, ![16384, 1024]⟩
abbrev S1x8x2048x256 : Shape := ⟨4, ![1, 8, 2048, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048x2048 : Shape := ⟨2, ![2048, 2048]⟩
abbrev S256x2048 : Shape := ⟨2, ![256, 2048]⟩
abbrev S2048 : Shape := ⟨1, ![2048]⟩
abbrev S16384x2048 : Shape := ⟨2, ![16384, 2048]⟩
abbrev S8x2048x256 : Shape := ⟨3, ![8, 2048, 256]⟩
abbrev S16384x256 : Shape := ⟨2, ![16384, 256]⟩
abbrev S256x1024 : Shape := ⟨2, ![256, 1024]⟩
abbrev S256x256 : Shape := ⟨2, ![256, 256]⟩
abbrev S1024x2048 : Shape := ⟨2, ![1024, 2048]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S1x8x2048x256, .f32⟩
  | .hbm, ⟨4, _⟩ => ⟨S1x2048x2048, .f32⟩
  | .hbm, ⟨5, _⟩ => ⟨S1x256x2048, .f32⟩
  | .hbm, ⟨6, _⟩ => ⟨S1x2048, .f32⟩
  | .hbm, ⟨7, _⟩ => ⟨S1x2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S2048, .f32⟩
  | .hbm, ⟨15, _⟩ => ⟨S1x2048, .f32⟩
  | .hbm, ⟨16, _⟩ => ⟨S16384x2048, .f32⟩
  | .hbm, ⟨17, _⟩ => ⟨S8x2048x256, .f32⟩
  | .hbm, ⟨18, _⟩ => ⟨S16384x256, .f32⟩
  | .hbm, ⟨19, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x256, .f32⟩
  | .local _ .vmem, ⟨7, _⟩ => ⟨S256x256, .f32⟩
  | .local _ .vmem, ⟨8, _⟩ => ⟨S2048x2048, .bf16⟩
  | .local _ .vmem, ⟨9, _⟩ => ⟨S2048x2048, .bf16⟩
  | .local _ .vmem, ⟨10, _⟩ => ⟨S256x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
abbrev S8x2048x2048 : Shape := ⟨3, ![8, 2048, 2048]⟩
abbrev S16384x1024 : Shape := ⟨2, ![16384, 1024]⟩
abbrev S1x8x2048x256 : Shape := ⟨4, ![1, 8, 2048, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048x2048 : Shape := ⟨2, ![2048, 2048]⟩
abbrev S256x2048 : Shape := ⟨2, ![256, 2048]⟩
abbrev S2048 : Shape := ⟨1, ![2048]⟩
abbrev S16384x2048 : Shape := ⟨2, ![16384, 2048]⟩
abbrev S8x2048x256 : Shape := ⟨3, ![8, 2048, 256]⟩
abbrev S16384x256 : Shape := ⟨2, ![16384, 256]⟩
abbrev S256x1024 : Shape := ⟨2, ![256, 1024]⟩
abbrev S256x256 : Shape := ⟨2, ![256, 256]⟩
abbrev S1024x2048 : Shape := ⟨2, ![1024, 2048]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S1x8x2048x256, .f32⟩
  | .hbm, ⟨4, _⟩ => ⟨S1x2048x2048, .f32⟩
  | .hbm, ⟨5, _⟩ => ⟨S1x256x2048, .f32⟩
  | .hbm, ⟨6, _⟩ => ⟨S1x2048, .f32⟩
  | .hbm, ⟨7, _⟩ => ⟨S1x2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S2048, .f32⟩
  | .hbm, ⟨15, _⟩ => ⟨S1x2048, .f32⟩
  | .hbm, ⟨16, _⟩ => ⟨S16384x2048, .f32⟩
  | .hbm, ⟨17, _⟩ => ⟨S8x2048x256, .f32⟩
  | .hbm, ⟨18, _⟩ => ⟨S16384x256, .f32⟩
  | .hbm, ⟨19, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x256, .f32⟩
  | .local _ .vmem, ⟨7, _⟩ => ⟨S256x256, .f32⟩
  | .local _ .vmem, ⟨8, _⟩ => ⟨S2048x2048, .bf16⟩
  | .local _ .vmem, ⟨9, _⟩ => ⟨S2048x2048, .bf16⟩
  | .local _ .vmem, ⟨10, _⟩ => ⟨S256x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x2048 : Shape := ⟨3, ![8, 2048, 2048]⟩
abbrev S16384x1024 : Shape := ⟨2, ![16384, 1024]⟩
abbrev S1x8x2048x256 : Shape := ⟨4, ![1, 8, 2048, 256]⟩
abbrev S1x2048x2048 : Shape := ⟨3, ![1, 2048, 2048]⟩
abbrev S1x256x2048 : Shape := ⟨3, ![1, 256, 2048]⟩
abbrev S1x2048 : Shape := ⟨2, ![1, 2048]⟩
abbrev S16384x2048 : Shape := ⟨2, ![16384, 2048]⟩
abbrev S2048x2048 : Shape := ⟨2, ![2048, 2048]⟩
abbrev S_ : Shape := ⟨0, ![]⟩
abbrev S8x2048x256 : Shape := ⟨3, ![8, 2048, 256]⟩
abbrev S256x2048 : Shape := ⟨2, ![256, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S1x8x2048x256, .f32⟩
  | .hbm, ⟨4, _⟩ => ⟨S1x2048x2048, .f32⟩
  | .hbm, ⟨5, _⟩ => ⟨S1x256x2048, .f32⟩
  | .hbm, ⟨6, _⟩ => ⟨S1x2048, .f32⟩
  | .hbm, ⟨7, _⟩ => ⟨S1x2048x2048, .f32⟩
  | .hbm, ⟨8, _⟩ => ⟨S16384x2048, .bf16⟩
  | .hbm, ⟨9, _⟩ => ⟨S16384x2048, .f32⟩
  | .hbm, ⟨10, _⟩ => ⟨S8x2048x2048, .f32⟩
  | .hbm, ⟨11, _⟩ => ⟨S2048x2048, .f32⟩
  | .hbm, ⟨12, _⟩ => ⟨S8x2048x2048, .f32⟩
  | .hbm, ⟨13, _⟩ => ⟨S8x2048x2048, .f32⟩
  | .hbm, ⟨14, _⟩ => ⟨S2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x256, .f32⟩
  | .hbm, ⟨25, _⟩ => ⟨S256x2048, .f32⟩
  | .hbm, ⟨26, _⟩ => ⟨S8x2048x2048, .f32⟩
  | .hbm, ⟨27, _⟩ => ⟨S2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S1x1x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel3.lean ====
abbrev S32x4x2048 : Shape := ⟨3, ![32, 4, 2048]⟩
abbrev S1x2048 : Shape := ⟨2, ![1, 2048]⟩
abbrev S1x2048x7256 : Shape := ⟨3, ![1, 2048, 7256]⟩
abbrev S1x8 : Shape := ⟨2, ![1, 8]⟩
abbrev S1x128 : Shape := ⟨2, ![1, 128]⟩
abbrev S2048x7256 : Shape := ⟨2, ![2048, 7256]⟩
abbrev S7256x2048 : Shape := ⟨2, ![7256, 2048]⟩
abbrev S1024x2048 : Shape := ⟨2, ![1024, 2048]⟩
abbrev S512x2048 : Shape := ⟨2, ![512, 2048]⟩
abbrev S8x2048 : Shape := ⟨2, ![8, 2048]⟩
abbrev S64x2048 : Shape := ⟨2, ![64, 2048]⟩
abbrev S16x2048 : Shape := ⟨2, ![16, 2048]⟩
abbrev S7168x2048 : Shape := ⟨2, ![7168, 2048]⟩
abbrev S_ : Shape := ⟨0, ![]⟩
abbrev S40x2048 : Shape := ⟨2, ![40, 2048]⟩
abbrev S128x2048 : Shape := ⟨2, ![128, 2048]⟩
abbrev S2048 : Shape := ⟨1, ![2048]⟩
abbrev S4x128 : Shape := ⟨2, ![4, 128]⟩
abbrev S8 : Shape := ⟨1, ![8]⟩
abbrev S8x1 : Shape := ⟨2, ![8, 1]⟩
abbrev S128x1024 : Shape := ⟨2, ![128, 1024]⟩
abbrev S512x128 : Shape := ⟨2, ![512, 128]⟩
abbrev S128x512 : Shape := ⟨2, ![128, 512]⟩
abbrev S128x128 : Shape := ⟨2, ![128, 128]⟩
abbrev S8x128 : Shape := ⟨2, ![8, 128]⟩
abbrev S128 : Shape := ⟨1, ![128]⟩
abbrev S128x1 : Shape := ⟨2, ![128, 1]⟩

abbrev nBuf : Space → Nat
  | .hbm => 49
  | .vmem => 23
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x7256, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S2048x7256, .f32⟩
  | .hbm, ⟨9, _⟩ => ⟨S7256x2048, .f32⟩
  | .hbm, ⟨10, _⟩ => ⟨S7256x2048, .bf16⟩
  | .hbm, ⟨11, _⟩ => ⟨S1024x2048, .bf16⟩
  | .hbm, ⟨12, _⟩ => ⟨S512x2048, .bf16⟩
  | .hbm, ⟨13, _⟩ => ⟨S512x2048, .bf16⟩
  | .hbm, ⟨14, _⟩ => ⟨S8x2048, .bf16⟩
  | .hbm, ⟨15, _⟩ => ⟨S1024x2048, .bf16⟩
  | .hbm, ⟨16, _⟩ => ⟨S1024x2048, .bf16⟩
  | .hbm, ⟨17, _⟩ => ⟨S512x2048, .bf16⟩
  | .hbm, ⟨18, _⟩ => ⟨S512x2048, .bf16⟩
  | .hbm, ⟨19, _⟩ => ⟨S1024x2048, .bf16⟩
  | .hbm, ⟨20, _⟩ => ⟨S1024x2048, .bf16⟩
  | .hbm, ⟨21, _⟩ => ⟨S64x2048, .bf16⟩
  | .hbm, ⟨22, _⟩ => ⟨S16x2048, .bf16⟩
  | .hbm, ⟨23, _⟩ => ⟨S7168x2048, .bf16⟩
  | .hbm, ⟨24, _⟩ => ⟨S_, .bf16⟩
  | .hbm, ⟨25, _⟩ => ⟨S40x2048, .bf16⟩
  | .hbm, ⟨26, _⟩ => ⟨S128x2048, .bf16⟩
  | .hbm, ⟨27, _⟩ => ⟨S2048, .f32⟩
  | .hbm, ⟨28, _⟩ => ⟨S1x2048, .f32⟩
  | .hbm, ⟨29, _⟩ => ⟨S4x128, .f32⟩
  | .hbm, ⟨30, _⟩ => ⟨S8, .f32⟩
  | .hbm, ⟨31, _⟩ => ⟨S8x1, .f32⟩
  | .hbm, ⟨32, _⟩ => ⟨S128x2048, .f32⟩
  | .hbm, ⟨33, _⟩ => ⟨S128x2048, .bf16⟩
  | .hbm, ⟨34, _⟩ => ⟨S128x1024, .bf16⟩
  | .hbm, ⟨35, _⟩ => ⟨S512x128, .f32⟩
  | .hbm, ⟨36, _⟩ => ⟨S128x512, .bf16⟩
  | .hbm, ⟨37, _⟩ => ⟨S512x128, .f32⟩
  | .hbm, ⟨38, _⟩ => ⟨S128x512, .bf16⟩
  | .hbm, ⟨39, _⟩ => ⟨S128x1024, .bf16⟩
  | .hbm, ⟨40, _⟩ => ⟨S512x128, .f32⟩
  | .hbm, ⟨41, _⟩ => ⟨S128x512, .bf16⟩
  | .hbm, ⟨42, _⟩ => ⟨S512x128, .f32⟩
  | .hbm, ⟨43, _⟩ => ⟨S128x512, .bf16⟩
  | .hbm, ⟨44, _⟩ => ⟨S128x1024, .bf16⟩
  | .hbm, ⟨45, _⟩ => ⟨S128x1024, .bf16⟩
  | .hbm, ⟨46, _⟩ => ⟨S128x1024, .bf16⟩
  | .hbm, ⟨47, _⟩ => ⟨S128x128, .f32⟩
  | .hbm, ⟨48, _⟩ => ⟨S8x128, .f32⟩
  | .local _ .vmem, ⟨0, _⟩ => ⟨S128x2048, .f32⟩
  | .local _ .vmem, ⟨1, _⟩ => ⟨S1x2048, .f32⟩
  | .local _ .vmem, ⟨2, _⟩ => ⟨S1024x2048, .bf16⟩
  | .local _ .vmem, ⟨3, _⟩ => ⟨S1024x2048, .bf16⟩
  | .local _ .vmem, ⟨4, _⟩ => ⟨S128x2048, .bf16⟩
  | .local _ .vmem, ⟨5, _⟩ => ⟨S4x128, .f32⟩
  | .local _ .vmem, ⟨6, _⟩ => ⟨S8x1, .f32⟩
  | .local _ .vmem, ⟨7, _⟩ => ⟨S128x2048, .bf16⟩
  | .local _ .vmem, ⟨8, _⟩ => ⟨S128x1024, .bf16⟩
  | .local _ .vmem, ⟨9, _⟩ => ⟨S512x128, .f32⟩
  | .local _ .vmem, ⟨10, _⟩ => ⟨S128x512, .bf16⟩
  | .local _ .vmem, ⟨11, _⟩ => ⟨S512x128, .f32⟩
  | .local _ .vmem, ⟨12, _⟩ => ⟨S128x512, .bf16⟩
  | .local _ .vmem, ⟨13, _⟩ => ⟨S128x1024, .bf16⟩
  | .local _ .vmem, ⟨14, _⟩ => ⟨S512x128, .f32⟩
  | .local _ .vmem, ⟨15, _⟩ => ⟨S128x512, .bf16⟩
  | .local _ .vmem, ⟨16, _⟩ => ⟨S512x128, .f32⟩
  | .local _ .vmem, ⟨17, _⟩ => ⟨S128x512, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x128, .f32⟩
  | .local _ .vmem, ⟨22, _⟩ => ⟨S8x128, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v24_6 : Ref sig .tc := ⟨.hbm, 39, rfl⟩
abbrev main_v24_7 : Ref sig .tc := ⟨.hbm, 40, rfl⟩
abbrev main_v24_8 : Ref sig .tc := ⟨.hbm, 41, rfl⟩
abbrev main_v24_9 : Ref sig .tc := ⟨.hbm, 42, rfl⟩
abbrev main_v24_10 : Ref sig .tc := ⟨.hbm, 43, rfl⟩
abbrev main_v24_11 : Ref sig .tc := ⟨.hbm, 44, rfl⟩
abbrev main_v24_12 : Ref sig .tc := ⟨.hbm, 45, rfl⟩
abbrev main_v24_13 : Ref sig .tc := ⟨.hbm, 46, rfl⟩
abbrev main_v24_14 : Ref sig .tc := ⟨.hbm, 47, rfl⟩
abbrev main_v24_15 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg1 : BitVec 32 := BitVec.ofNat 32 (i 1).val
  let c6_i32 : BitVec 32 := 6#32
  let v21 : BitVec 1 := Scalar.cmpi .eq arg1 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, false]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, false]
-- ==== Reference3Ideal.lean ====
abbrev S32x4x2048 : Shape := ⟨3, ![32, 4, 2048]⟩
abbrev S1x2048 : Shape := ⟨2, ![1, 2048]⟩
abbrev S1x2048x7256 : Shape := ⟨3, ![1, 2048, 7256]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x7256 : Shape := ⟨2, ![2048, 7256]⟩
abbrev S32x4x7256 : Shape := ⟨3, ![32, 4, 7256]⟩
abbrev S32x4x1024 : Shape := ⟨3, ![32, 4, 1024]⟩
abbrev S32x4x512 : Shape := ⟨3, ![32, 4, 512]⟩
abbrev S32x4x8 : Shape := ⟨3, ![32, 4, 8]⟩
abbrev S32x4x64 : Shape := ⟨3, ![32, 4, 64]⟩
abbrev S32x4x16 : Shape := ⟨3, ![32, 4, 16]⟩
abbrev S32x4x8x128 : Shape := ⟨4, ![32, 4, 8, 128]⟩
abbrev S128 : Shape := ⟨1, ![128]⟩
abbrev S32x4x8x1 : Shape := ⟨4, ![32, 4, 8, 1]⟩
abbrev S1x1x1x128 : Shape := ⟨4, ![1, 1, 1, 128]⟩
abbrev S32x4x4x128 : Shape := ⟨4, ![32, 4, 4, 128]⟩
abbrev S32x4x4 : Shape := ⟨3, ![32, 4, 4]⟩
abbrev S32x4x4x1 : Shape := ⟨4, ![32, 4, 4, 1]⟩
abbrev S8 : Shape := ⟨1, ![8]⟩
abbrev S1x1x8 : Shape := ⟨3, ![1, 1, 8]⟩
abbrev S32x4x40 : Shape := ⟨3, ![32, 4, 40]⟩
abbrev S32x4x128 : Shape := ⟨3, ![32, 4, 128]⟩
abbrev S128x1024 : Shape := ⟨2, ![128, 1024]⟩
abbrev S512x128 : Shape := ⟨2, ![512, 128]⟩
abbrev S128x128 : Shape := ⟨2, ![128, 128]⟩
abbrev S128x8 : Shape := ⟨2, ![128, 8]⟩
abbrev S8x128 : Shape := ⟨2, ![8, 128]⟩

abbrev nBuf : Space → Nat
  | .hbm => 178
  | .vmem => 0
  | .smem => 0
  | _ => 0

abbrev hbmTy0_0 (i : Nat) : BufTy := match i % 128 with
  | 0 => ⟨S32x4x2048, .f32⟩
  | 1 => ⟨S1x2048, .f32⟩
  | 2 => ⟨S1x2048x7256, .f32⟩
  | 3 => ⟨S1x8, .f32⟩
  | 4 => ⟨S1x128, .f32⟩
  | 5 => ⟨S1x128, .f32⟩
  | 6 => ⟨S1x128, .f32⟩
  | 7 => ⟨S1x128, .f32⟩
  | 8 => ⟨S2048, .f32⟩
  | 9 => ⟨S32x4x2048, .f32⟩
  | 10 => ⟨S_, .f32⟩
  | 11 => ⟨S32x4, .f32⟩
  | 12 => ⟨S32x4x1, .f32⟩
  | 13 => ⟨S_, .f32⟩
  | 14 => ⟨S32x4x1, .f32⟩
  | 15 => ⟨S32x4x1, .f32⟩
  | 16 => ⟨S_, .f32⟩
  | 17 => ⟨S32x4x1, .f32⟩
  | 18 => ⟨S32x4x1, .f32⟩
  | 19 => ⟨S32x4x1, .f32⟩
  | 20 => ⟨S32x4x2048, .f32⟩
  | 21 => ⟨S32x4x2048, .f32⟩
  | 22 => ⟨S1x1x2048, .f32⟩
  | 23 => ⟨S32x4x2048, .f32⟩
  | 24 => ⟨S32x4x2048, .f32⟩
  | 25 => ⟨S2048x7256, .f32⟩
  | 26 => ⟨S32x4x7256, .f32⟩
  | 27 => ⟨S32x4x1024, .f32⟩
  | 28 => ⟨S32x4x512, .f32⟩
  | 29 => ⟨S32x4x512, .f32⟩
  | 30 => ⟨S32x4x8, .f32⟩
  | 31 => ⟨S32x4x1024, .f32⟩
  | 32 => ⟨S32x4x1024, .f32⟩
  | 33 => ⟨S32x4x512, .f32⟩
  | 34 => ⟨S32x4x512, .f32⟩
  | 35 => ⟨S32x4x1024, .f32⟩
  | 36 => ⟨S32x4x1024, .f32⟩
  | 37 => ⟨S32x4x64, .f32⟩
  | 38 => ⟨S32x4x16, .f32⟩
  | 39 => ⟨S32x4x8x128, .f32⟩
  | 40 => ⟨S128, .f32⟩
  | 41 => ⟨S32x4x8x128, .f32⟩
  | 42 => ⟨S_, .f32⟩
  | 43 => ⟨S32x4x8, .f32⟩
  | 44 => ⟨S32x4x8x1, .f32⟩
  | 45 => ⟨S_, .f32⟩
  | 46 => ⟨S32x4x8x1, .f32⟩
  | 47 => ⟨S32x4x8x1, .f32⟩
  | 48 => ⟨S_, .f32⟩
  | 49 => ⟨S32x4x8x1, .f32⟩
  | 50 => ⟨S32x4x8x1, .f32⟩
  | 51 => ⟨S32x4x8x1, .f32⟩
  | 52 => ⟨S32x4x8x128, .f32⟩
  | 53 => ⟨S32x4x8x128, .f32⟩
  | 54 => ⟨S1x1x1x128, .f32⟩
  | 55 => ⟨S32x4x8x128, .f32⟩
  | 56 => ⟨S32x4x8x128, .f32⟩
  | 57 => ⟨S_, .f32⟩
  | 58 => ⟨S32x4x8x128, .f32⟩
  | 59 => ⟨S32x4x8x128, .f32⟩
  | 60 => ⟨S32x4x4x128, .f32⟩
  | 61 => ⟨S128, .f32⟩
  | 62 => ⟨S32x4x4x128, .f32⟩
  | 63 => ⟨S_, .f32⟩
  | 64 => ⟨S32x4x4, .f32⟩
  | 65 => ⟨S32x4x4x1, .f32⟩
  | 66 => ⟨S_, .f32⟩
  | 67 => ⟨S32x4x4x1, .f32⟩
  | 68 => ⟨S32x4x4x1, .f32⟩
  | 69 => ⟨S_, .f32⟩
  | 70 => ⟨S32x4x4x1, .f32⟩
  | 71 => ⟨S32x4x4x1, .f32⟩
  | 72 => ⟨S32x4x4x1, .f32⟩
  | 73 => ⟨S32x4x4x128, .f32⟩
  | 74 => ⟨S32x4x4x128, .f32⟩
  | 75 => ⟨S1x1x1x128, .f32⟩
  | 76 => ⟨S32x4x4x128, .f32⟩
  | 77 => ⟨S32x4x4x128, .f32⟩
  | 78 => ⟨S8, .f32⟩
  | 79 => ⟨S1x1x8, .f32⟩
  | 80 => ⟨S32x4x8, .f32⟩
  | 81 => ⟨S32x4x8, .f32⟩
  | 82 => ⟨S32x4x8, .f32⟩
  | 83 => ⟨S_, .f32⟩
  | 84 => ⟨S32x4x8, .f32⟩
  | 85 => ⟨S32x4x8, .f32⟩
  | 86 => ⟨S32x4x8, .f32⟩
  | 87 => ⟨S32x4x8, .f32⟩
  | 88 => ⟨S32x4x8, .i1⟩
  | 89 => ⟨S32x4x8, .f32⟩
  | 90 => ⟨S32x4x8, .f32⟩
  | 91 => ⟨S32x4x8, .f32⟩
  | 92 => ⟨S32x4x8, .f32⟩
  | 93 => ⟨S32x4x8, .f32⟩
  | 94 => ⟨S32x4x8, .f32⟩
  | 95 => ⟨S32x4x8, .f32⟩
  | 96 => ⟨S32x4x8, .f32⟩
  | 97 => ⟨S32x4x8, .f32⟩
  | 98 => ⟨S32x4x8x128, .f32⟩
  | 99 => ⟨S128, .f32⟩
  | 100 => ⟨S32x4x8x128, .f32⟩
  | 101 => ⟨S_, .f32⟩
  | 102 => ⟨S32x4x8, .f32⟩
  | 103 => ⟨S32x4x8x1, .f32⟩
  | 104 => ⟨S_, .f32⟩
  | 105 => ⟨S32x4x8x1, .f32⟩
  | 106 => ⟨S32x4x8x1, .f32⟩
  | 107 => ⟨S_, .f32⟩
  | 108 => ⟨S32x4x8x1, .f32⟩
  | 109 => ⟨S32x4x8x1, .f32⟩
  | 110 => ⟨S32x4x8x1, .f32⟩
  | 111 => ⟨S32x4x8x128, .f32⟩
  | 112 => ⟨S32x4x8x128, .f32⟩
  | 113 => ⟨S1x1x1x128, .f32⟩
  | 114 => ⟨S32x4x8x128, .f32⟩
  | 115 => ⟨S32x4x8x128, .f32⟩
  | 116 => ⟨S_, .f32⟩
  | 117 => ⟨S32x4x8x128, .f32⟩
  | 118 => ⟨S32x4x8x128, .f32⟩
  | 119 => ⟨S32x4x4x128, .f32⟩
  | 120 => ⟨S128, .f32⟩
  | 121 => ⟨S32x4x4x128, .f32⟩
  | 122 => ⟨S_, .f32⟩
  | 123 => ⟨S32x4x4, .f32⟩
  | 124 => ⟨S32x4x4x1, .f32⟩
  | 125 => ⟨S_, .f32⟩
  | 126 => ⟨S32x4x4x1, .f32⟩
  | 127 => ⟨S32x4x4x1, .f32⟩
  | _ => ⟨S32x4x2048, .f32⟩

abbrev hbmTy0_1 (i : Nat) : BufTy := match i % 128 with
  | 0 => ⟨S_, .f32⟩
  | 1 => ⟨S32x4x4x1, .f32⟩
  | 2 => ⟨S32x4x4x1, .f32⟩
  | 3 => ⟨S32x4x4x1, .f32⟩
  | 4 => ⟨S32x4x4x128, .f32⟩
  | 5 => ⟨S32x4x4x128, .f32⟩
  | 6 => ⟨S1x1x1x128, .f32⟩
  | 7 => ⟨S32x4x4x128, .f32⟩
  | 8 => ⟨S32x4x4x128, .f32⟩
  | 9 => ⟨S_, .f32⟩
  | 10 => ⟨S32x4x40, .f32⟩
  | 11 => ⟨S32x4x128, .f32⟩
  | 12 => ⟨S128x1024, .f32⟩
  | 13 => ⟨S128x1024, .bf16⟩
  | 14 => ⟨S512x128, .f32⟩
  | 15 => ⟨S512x128, .f32⟩
  | 16 => ⟨S32x4x1024, .f32⟩
  | 17 => ⟨S32x4x1024, .f32⟩
  | 18 => ⟨S_, .f32⟩
  | 19 => ⟨S32x4x1024, .f32⟩
  | 20 => ⟨S32x4x1024, .f32⟩
  | 21 => ⟨S_, .f32⟩
  | 22 => ⟨S32x4x1024, .f32⟩
  | 23 => ⟨S32x4x1024, .f32⟩
  | 24 => ⟨S32x4x1024, .f32⟩
  | 25 => ⟨S128x1024, .f32⟩
  | 26 => ⟨S128x1024, .bf16⟩
  | 27 => ⟨S128x1024, .f32⟩
  | 28 => ⟨S128x1024, .bf16⟩
  | 29 => ⟨S512x128, .f32⟩
  | 30 => ⟨S512x128, .f32⟩
  | 31 => ⟨S32x4x1024, .f32⟩
  | 32 => ⟨S32x4x1024, .f32⟩
  | 33 => ⟨S_, .f32⟩
  | 34 => ⟨S32x4x1024, .f32⟩
  | 35 => ⟨S32x4x1024, .f32⟩
  | 36 => ⟨S_, .f32⟩
  | 37 => ⟨S32x4x1024, .f32⟩
  | 38 => ⟨S32x4x1024, .f32⟩
  | 39 => ⟨S32x4x1024, .f32⟩
  | 40 => ⟨S128x1024, .f32⟩
  | 41 => ⟨S128x1024, .bf16⟩
  | 42 => ⟨S_, .f32⟩
  | 43 => ⟨S32x4x1024, .f32⟩
  | 44 => ⟨S32x4x1024, .f32⟩
  | 45 => ⟨S128x1024, .f32⟩
  | 46 => ⟨S128x1024, .bf16⟩
  | 47 => ⟨S128x128, .f32⟩
  | 48 => ⟨S128x8, .f32⟩
  | 49 => ⟨S8x128, .f32⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call0_v0 : Ref sig .tc := ⟨.hbm, 82, rfl⟩
abbrev main_call0_call0_cst : Ref sig .tc := ⟨.hbm, 83, rfl⟩
abbrev main_call0_call0_v0 : Ref sig .tc := ⟨.hbm, 84, rfl⟩
abbrev main_call0_call0_v1 : Ref sig .tc := ⟨.hbm, 85, rfl⟩
abbrev main_call0_call0_v2 : Ref sig .tc := ⟨.hbm, 86, rfl⟩
abbrev main_call0_call0_v3 : Ref sig .tc := ⟨.hbm, 87, rfl⟩
abbrev main_call0_call0_v4 : Ref sig .tc := ⟨.hbm, 88, rfl⟩
abbrev main_call0_call0_v5 : Ref sig .tc := ⟨.hbm, 89, rfl⟩
abbrev main_call0_call0_v6 : Ref sig .tc := ⟨.hbm, 90, rfl⟩
abbrev main_call0_call0_v7 : Ref sig .tc := ⟨.hbm, 91, rfl⟩
abbrev main_call0_call0_v8 : Ref sig .tc := ⟨.hbm, 92, rfl⟩
abbrev main_call0_call0_v9 : Ref sig .tc := ⟨.hbm, 93, rfl⟩
abbrev main_call0_call0_v10 : Ref sig .tc := ⟨.hbm, 94, rfl⟩
abbrev main_call0_call0_v11 : Ref sig .tc := ⟨.hbm, 95, rfl⟩
abbrev main_call0_v1 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_13 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_call2_v0 : Ref sig .tc := ⟨.hbm, 159, rfl⟩
abbrev main_call2_v1 : Ref sig .tc := ⟨.hbm, 160, rfl⟩
abbrev main_call2_cst : Ref sig .tc := ⟨.hbm, 161, rfl⟩
abbrev main_call2_v2 : Ref sig .tc := ⟨.hbm, 162, rfl⟩
abbrev main_call2_v3 : Ref sig .tc := ⟨.hbm, 163, rfl⟩
abbrev main_call2_cst_0 : Ref sig .tc := ⟨.hbm, 164, rfl⟩
abbrev main_call2_v4 : Ref sig .tc := ⟨.hbm, 165, rfl⟩
abbrev main_call2_v5 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_17 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩

abbrev nD : Nat := 1
abbrev τ : Topo := Topo.v7x

variable {F : FTy → Type} [FloatOps F]
-- ==== Kernel4.lean ====
abbrev S32x4x2048 : Shape := ⟨3, ![32, 4, 2048]⟩
abbrev S128x1024 : Shape := ⟨2, ![128, 1024]⟩
abbrev S1x32x4x256 : Shape := ⟨4, ![1, 32, 4, 256]⟩
abbrev S1x2048x2048 : Shape := ⟨3, ![1, 2048, 2048]⟩
abbrev S1x256x2048 : Shape := ⟨3, ![1, 256, 2048]⟩
abbrev S1x2048 : Shape := ⟨2, ![1, 2048]⟩
abbrev S2048x2048 : Shape := ⟨2, ![2048, 2048]⟩
abbrev S256x2048 : Shape := ⟨2, ![256, 2048]⟩
abbrev S2048 : Shape := ⟨1, ![2048]⟩
abbrev S128x2048 : Shape := ⟨2, ![128, 2048]⟩
abbrev S32x4x256 : Shape := ⟨3, ![32, 4, 256]⟩
abbrev S128x256 : Shape := ⟨2, ![128, 256]⟩
abbrev S1024x2048 : Shape := ⟨2, ![1024, 2048]⟩
abbrev S128 : Shape := ⟨1, ![128]⟩
abbrev S128x1 : Shape := ⟨2, ![128, 1]⟩

abbrev nBuf : Space → Nat
  | .hbm => 20
  | .vmem => 9
  | .smem => 0
  | _ => 0

abbrev bufTy : (tb : Table) → Fin (tcTables nBuf tb) → BufTy
  | .hbm, ⟨0, _⟩ => ⟨S32x4x2048, .f32⟩
  | .hbm, ⟨1, _⟩ => ⟨S128x1024, .bf16⟩
  | .hbm, ⟨2, _⟩ => ⟨S128x1024, .bf16⟩
  | .hbm, ⟨3, _⟩ => ⟨S1x32x4x256, .f32⟩
  | .hbm, ⟨4, _⟩ => ⟨S1x2048x2048, .f32⟩
  | .hbm, ⟨5, _⟩ => ⟨S1x256x2048, .f32⟩
  | .hbm, ⟨6, _⟩ => ⟨S1x2048, .f32⟩
  | .hbm, ⟨7, _⟩ => ⟨S1x2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S2048, .f32⟩
  | .hbm, ⟨15, _⟩ => ⟨S1x2048, .f32⟩
  | .hbm, ⟨16, _⟩ => ⟨S128x2048, .f32⟩
  | .hbm, ⟨17, _⟩ => ⟨S32x4x256, .f32⟩
  | .hbm, ⟨18, _⟩ => ⟨S128x256, .f32⟩
  | .hbm, ⟨19, _⟩ => ⟨S128x2048, .f32⟩
  | .local _ .vmem, ⟨0, _⟩ => ⟨S128x2048, .f32⟩
  | .local _ .vmem, ⟨1, _⟩ => ⟨S128x1024, .bf16⟩
  | .local _ .vmem, ⟨2, _⟩ => ⟨S128x1024, .bf16⟩
  | .local _ .vmem, ⟨3, _⟩ => ⟨S128x256, .f32⟩
  | .local _ .vmem, ⟨4, _⟩ => ⟨S2048x2048, .bf16⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S128x2048, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference4Ideal.lean ====
abbrev S32x4x2048 : Shape := ⟨3, ![32, 4, 2048]⟩
abbrev S128x1024 : Shape := ⟨2, ![128, 1024]⟩
abbrev S1x32x4x256 : Shape := ⟨4, ![1, 32, 4, 256]⟩
abbrev S1x2048x2048 : Shape := ⟨3, ![1, 2048, 2048]⟩
abbrev S1x256x2048 : Shape := ⟨3, ![1, 256, 2048]⟩
abbrev S1x2048 : Shape := ⟨2, ![1, 2048]⟩
abbrev S128x2048 : Shape := ⟨2, ![128, 2048]⟩
abbrev S2048x2048 : Shape := ⟨2, ![2048, 2048]⟩
abbrev S_ : Shape := ⟨0, ![]⟩
abbrev S32x4x256 : Shape := ⟨3, ![32, 4, 256]⟩
abbrev S256x2048 : Shape := ⟨2, ![256, 2048]⟩
abbrev S2048 : Shape := ⟨1, ![2048]⟩
abbrev S32x4 : Shape := ⟨2, ![32, 4]⟩
abbrev S32x4x1 : Shape := ⟨3, ![32, 4, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S128x1024, .bf16⟩
  | .hbm, ⟨2, _⟩ => ⟨S128x1024, .bf16⟩
  | .hbm, ⟨3, _⟩ => ⟨S1x32x4x256, .f32⟩
  | .hbm, ⟨4, _⟩ => ⟨S1x2048x2048, .f32⟩
  | .hbm, ⟨5, _⟩ => ⟨S1x256x2048, .f32⟩
  | .hbm, ⟨6, _⟩ => ⟨S1x2048, .f32⟩
  | .hbm, ⟨7, _⟩ => ⟨S1x2048x2048, .f32⟩
  | .hbm, ⟨8, _⟩ => ⟨S128x2048, .bf16⟩
  | .hbm, ⟨9, _⟩ => ⟨S128x2048, .f32⟩
  | .hbm, ⟨10, _⟩ => ⟨S32x4x2048, .f32⟩
  | .hbm, ⟨11, _⟩ => ⟨S2048x2048, .f32⟩
  | .hbm, ⟨12, _⟩ => ⟨S32x4x2048, .f32⟩
  | .hbm, ⟨13, _⟩ => ⟨S32x4x2048, .f32⟩
  | .hbm, ⟨14, _⟩ => ⟨S2048x2048, .f32⟩
  | .hbm, ⟨15, _⟩ => ⟨S32x4x2048, .f32⟩
  | .hbm, ⟨16, _⟩ => ⟨S32x4x2048, .f32⟩
  | .hbm, ⟨17, _⟩ => ⟨S32x4x2048, .f32⟩
  | .hbm, ⟨18, _⟩ => ⟨S_, .f32⟩
  | .hbm, ⟨19, _⟩ => ⟨S32x4x2048, .f32⟩
  | .hbm, ⟨20, _⟩ => ⟨S32x4x2048, .f32⟩
  | .hbm, ⟨21, _⟩ => ⟨S_, .f32⟩
  | .hbm, ⟨22, _⟩ => ⟨S32x4x2048, .f32⟩
  | .hbm, ⟨23, _⟩ => ⟨S32x4x2048, .f32⟩
  | .hbm, ⟨24, _⟩ => ⟨S32x4x256, .f32⟩
  | .hbm, ⟨25, _⟩ => ⟨S256x2048, .f32⟩
  | .hbm, ⟨26, _⟩ => ⟨S32x4x2048, .f32⟩
  | .hbm, ⟨27, _⟩ => ⟨S2048, .f32⟩
  | .hbm, ⟨28, _⟩ => ⟨S32x4x2048, .f32⟩
  | .hbm, ⟨29, _⟩ => ⟨S_, .f32⟩
  | .hbm, ⟨30, _⟩ => ⟨S32x4, .f32⟩
  | .hbm, ⟨31, _⟩ => ⟨S32x4x1, .f32⟩
  | .hbm, ⟨32, _⟩ => ⟨S_, .f32⟩
  | .hbm, ⟨33, _⟩ => ⟨S32x4x1, .f32⟩
  | .hbm, ⟨34, _⟩ => ⟨S32x4x1, .f32⟩
  | .hbm, ⟨35, _⟩ => ⟨S_, .f32⟩
  | .hbm, ⟨36, _⟩ => ⟨S32x4x1, .f32⟩
  | .hbm, ⟨37, _⟩ => ⟨S32x4x1, .f32⟩
  | .hbm, ⟨38, _⟩ => ⟨S32x4x1, .f32⟩
  | .hbm, ⟨39, _⟩ => ⟨S32x4x2048, .f32⟩
  | .hbm, ⟨40, _⟩ => ⟨S32x4x2048, .f32⟩
  | .hbm, ⟨41, _⟩ => ⟨S1x1x2048, .f32⟩
  | .hbm, ⟨42, _⟩ => ⟨S32x4x2048, .f32⟩
  | .hbm, ⟨43, _⟩ => ⟨S32x4x2048, .f32⟩
  | .hbm, ⟨44, _⟩ => ⟨S32x4x2048, .f32⟩
  | .hbm, ⟨45, _⟩ => ⟨S32x4x2048, .f32⟩
  | .hbm, ⟨46, _⟩ => ⟨S128x2048, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel5.lean ====
abbrev S8x2048x2048 : Shape := ⟨3, ![8, 2048, 2048]⟩
abbrev S1x2048 : Shape := ⟨2, ![1, 2048]⟩
abbrev S1x2048x7256 : Shape := ⟨3, ![1, 2048, 7256]⟩
abbrev S1x8 : Shape := ⟨2, ![1, 8]⟩
abbrev S1x128 : Shape := ⟨2, ![1, 128]⟩
abbrev S2048x7256 : Shape := ⟨2, ![2048, 7256]⟩
abbrev S7256x2048 : Shape := ⟨2, ![7256, 2048]⟩
abbrev S1024x2048 : Shape := ⟨2, ![1024, 2048]⟩
abbrev S512x2048 : Shape := ⟨2, ![512, 2048]⟩
abbrev S8x2048 : Shape := ⟨2, ![8, 2048]⟩
abbrev S64x2048 : Shape := ⟨2, ![64, 2048]⟩
abbrev S16x2048 : Shape := ⟨2, ![16, 2048]⟩
abbrev S7168x2048 : Shape := ⟨2, ![7168, 2048]⟩
abbrev S_ : Shape := ⟨0, ![]⟩
abbrev S40x2048 : Shape := ⟨2, ![40, 2048]⟩
abbrev S128x2048 : Shape := ⟨2, ![128, 2048]⟩
abbrev S2048 : Shape := ⟨1, ![2048]⟩
abbrev S4x128 : Shape := ⟨2, ![4, 128]⟩
abbrev S8 : Shape := ⟨1, ![8]⟩
abbrev S8x1 : Shape := ⟨2, ![8, 1]⟩
abbrev S16384x2048 : Shape := ⟨2, ![16384, 2048]⟩
abbrev S16384x1024 : Shape := ⟨2, ![16384, 1024]⟩
abbrev S65536x128 : Shape := ⟨2, ![65536, 128]⟩
abbrev S16384x512 : Shape := ⟨2, ![16384, 512]⟩
abbrev S16384x128 : Shape := ⟨2, ![16384, 128]⟩
abbrev S8x16384 : Shape := ⟨2, ![8, 16384]⟩
abbrev S1024x1024 : Shape := ⟨2, ![1024, 1024]⟩
abbrev S4096x128 : Shape := ⟨2, ![4096, 128]⟩
abbrev S1024x512 : Shape := ⟨2, ![1024, 512]⟩
abbrev S1024x128 : Shape := ⟨2, ![1024, 128]⟩
abbrev S8x1024 : Shape := ⟨2, ![8, 1024]⟩
abbrev S1024 : Shape := ⟨1, ![1024]⟩
abbrev S1024x1 : Shape := ⟨2, ![1024, 1]⟩
abbrev S128x1024 : Shape := ⟨2, ![128, 1024]⟩

abbrev nBuf : Space → Nat
  | .hbm => 41
  | .vmem => 24
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7256, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S2048x7256, .f32⟩
  | .hbm, ⟨9, _⟩ => ⟨S7256x2048, .f32⟩
  | .hbm, ⟨10, _⟩ => ⟨S7256x2048, .bf16⟩
  | .hbm, ⟨11, _⟩ => ⟨S1024x2048, .bf16⟩
  | .hbm, ⟨12, _⟩ => ⟨S512x2048, .bf16⟩
  | .hbm, ⟨13, _⟩ => ⟨S512x2048, .bf16⟩
  | .hbm, ⟨14, _⟩ => ⟨S8x2048, .bf16⟩
  | .hbm, ⟨15, _⟩ => ⟨S1024x2048, .bf16⟩
  | .hbm, ⟨16, _⟩ => ⟨S1024x2048, .bf16⟩
  | .hbm, ⟨17, _⟩ => ⟨S512x2048, .bf16⟩
  | .hbm, ⟨18, _⟩ => ⟨S512x2048, .bf16⟩
  | .hbm, ⟨19, _⟩ => ⟨S1024x2048, .bf16⟩
  | .hbm, ⟨20, _⟩ => ⟨S1024x2048, .bf16⟩
  | .hbm, ⟨21, _⟩ => ⟨S64x2048, .bf16⟩
  | .hbm, ⟨22, _⟩ => ⟨S16x2048, .bf16⟩
  | .hbm, ⟨23, _⟩ => ⟨S7168x2048, .bf16⟩
  | .hbm, ⟨24, _⟩ => ⟨S_, .bf16⟩
  | .hbm, ⟨25, _⟩ => ⟨S40x2048, .bf16⟩
  | .hbm, ⟨26, _⟩ => ⟨S128x2048, .bf16⟩
  | .hbm, ⟨27, _⟩ => ⟨S2048, .f32⟩
  | .hbm, ⟨28, _⟩ => ⟨S1x2048, .f32⟩
  | .hbm, ⟨29, _⟩ => ⟨S4x128, .f32⟩
  | .hbm, ⟨30, _⟩ => ⟨S8, .f32⟩
  | .hbm, ⟨31, _⟩ => ⟨S8x1, .f32⟩
  | .hbm, ⟨32, _⟩ => ⟨S16384x2048, .f32⟩
  | .hbm, ⟨33, _⟩ => ⟨S16384x2048, .bf16⟩
  | .hbm, ⟨34, _⟩ => ⟨S16384x1024, .bf16⟩
  | .hbm, ⟨35, _⟩ => ⟨S65536x128, .f32⟩
  | .hbm, ⟨36, _⟩ => ⟨S16384x512, .bf16⟩
  | .hbm, ⟨37, _⟩ => ⟨S65536x128, .f32⟩
  | .hbm, ⟨38, _⟩ => ⟨S16384x512, .bf16⟩
  | .hbm, ⟨39, _⟩ => ⟨S16384x128, .f32⟩
  | .hbm, ⟨40, _⟩ => ⟨S8x16384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S4x128, .f32⟩
  | .local _ .vmem, ⟨7, _⟩ => ⟨S8x1, .f32⟩
  | .local _ .vmem, ⟨8, _⟩ => ⟨S1024x2048, .bf16⟩
  | .local _ .vmem, ⟨9, _⟩ => ⟨S1024x2048, .bf16⟩
  | .local _ .vmem, ⟨10, _⟩ => ⟨S1024x1024, .bf16⟩
  | .local _ .vmem, ⟨11, _⟩ => ⟨S1024x1024, .bf16⟩
  | .local _ .vmem, ⟨12, _⟩ => ⟨S4096x128, .f32⟩
  | .local _ .vmem, ⟨13, _⟩ => ⟨S4096x128, .f32⟩
  | .local _ .vmem, ⟨14, _⟩ => ⟨S1024x512, .bf16⟩
  | .local _ .vmem, ⟨15, _⟩ => ⟨S1024x512, .bf16⟩
  | .local _ .vmem, ⟨16, _⟩ => ⟨S4096x128, .f32⟩
  | .local _ .vmem, ⟨17, _⟩ => ⟨S4096x128, .f32⟩
  | .local _ .vmem, ⟨18, _⟩ => ⟨S1024x512, .bf16⟩
  | .local _ .vmem, ⟨19, _⟩ => ⟨S1024x512, .bf16⟩
  | .local _ .vmem, ⟨20, _⟩ => ⟨S1024x128, .f32⟩
  | .local _ .vmem, ⟨21, _⟩ => ⟨S1024x128, .f32⟩
  | .local _ .vmem, ⟨22, _⟩ => ⟨S8x1024, .f32⟩
  | .local _ .vmem, ⟨23, _⟩ => ⟨S8x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v24_6 : Ref sig .tc := ⟨.hbm, 39, rfl⟩
abbrev main_v24_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference5Ideal.lean ====
abbrev S8x2048x2048 : Shape := ⟨3, ![8, 2048, 2048]⟩
abbrev S1x2048 : Shape := ⟨2, ![1, 2048]⟩
abbrev S1x2048x7256 : Shape := ⟨3, ![1, 2048, 7256]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x7256 : Shape := ⟨2, ![2048, 7256]⟩
abbrev S8x2048x7256 : Shape := ⟨3, ![8, 2048, 7256]⟩
abbrev S8x2048x1024 : Shape := ⟨3, ![8, 2048, 1024]⟩
abbrev S8x2048x512 : Shape := ⟨3, ![8, 2048, 512]⟩
abbrev S8x2048x8 : Shape := ⟨3, ![8, 2048, 8]⟩
abbrev S8x2048x64 : Shape := ⟨3, ![8, 2048, 64]⟩
abbrev S8x2048x16 : Shape := ⟨3, ![8, 2048, 16]⟩
abbrev S8x2048x8x128 : Shape := ⟨4, ![8, 2048, 8, 128]⟩
abbrev S128 : Shape := ⟨1, ![128]⟩
abbrev S8x2048x8x1 : Shape := ⟨4, ![8, 2048, 8, 1]⟩
abbrev S1x1x1x128 : Shape := ⟨4, ![1, 1, 1, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S8 : Shape := ⟨1, ![8]⟩
abbrev S1x1x8 : Shape := ⟨3, ![1, 1, 8]⟩
abbrev S8x2048x40 : Shape := ⟨3, ![8, 2048, 40]⟩
abbrev S8x2048x128 : Shape := ⟨3, ![8, 2048, 128]⟩
abbrev S16384x1024 : Shape := ⟨2, ![16384, 1024]⟩
abbrev S65536x128 : Shape := ⟨2, ![65536, 128]⟩
abbrev S16384x128 : Shape := ⟨2, ![16384, 128]⟩
abbrev S16384x8 : Shape := ⟨2, ![16384, 8]⟩
abbrev S8x16384 : Shape := ⟨2, ![8, 16384]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7256, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S2048x7256, .f32⟩
  | .hbm, ⟨26, _⟩ => ⟨S8x2048x7256, .f32⟩
  | .hbm, ⟨27, _⟩ => ⟨S8x2048x1024, .f32⟩
  | .hbm, ⟨28, _⟩ => ⟨S8x2048x512, .f32⟩
  | .hbm, ⟨29, _⟩ => ⟨S8x2048x512, .f32⟩
  | .hbm, ⟨30, _⟩ => ⟨S8x2048x8, .f32⟩
  | .hbm, ⟨31, _⟩ => ⟨S8x2048x1024, .f32⟩
  | .hbm, ⟨32, _⟩ => ⟨S8x2048x1024, .f32⟩
  | .hbm, ⟨33, _⟩ => ⟨S8x2048x512, .f32⟩
  | .hbm, ⟨34, _⟩ => ⟨S8x2048x512, .f32⟩
  | .hbm, ⟨35, _⟩ => ⟨S8x2048x1024, .f32⟩
  | .hbm, ⟨36, _⟩ => ⟨S8x2048x1024, .f32⟩
  | .hbm, ⟨37, _⟩ => ⟨S8x2048x64, .f32⟩
  | .hbm, ⟨38, _⟩ => ⟨S8x2048x16, .f32⟩
  | .hbm, ⟨39, _⟩ => ⟨S8x2048x8x128, .f32⟩
  | .hbm, ⟨40, _⟩ => ⟨S128, .f32⟩
  | .hbm, ⟨41, _⟩ => ⟨S8x2048x8x128, .f32⟩
  | .hbm, ⟨42, _⟩ => ⟨S_, .f32⟩
  | .hbm, ⟨43, _⟩ => ⟨S8x2048x8, .f32⟩
  | .hbm, ⟨44, _⟩ => ⟨S8x2048x8x1, .f32⟩
  | .hbm, ⟨45, _⟩ => ⟨S_, .f32⟩
  | .hbm, ⟨46, _⟩ => ⟨S8x2048x8x1, .f32⟩
  | .hbm, ⟨47, _⟩ => ⟨S8x2048x8x1, .f32⟩
  | .hbm, ⟨48, _⟩ => ⟨S_, .f32⟩
  | .hbm, ⟨49, _⟩ => ⟨S8x2048x8x1, .f32⟩
  | .hbm, ⟨50, _⟩ => ⟨S8x2048x8x1, .f32⟩
  | .hbm, ⟨51, _⟩ => ⟨S8x2048x8x1, .f32⟩
  | .hbm, ⟨52, _⟩ => ⟨S8x2048x8x128, .f32⟩
  | .hbm, ⟨53, _⟩ => ⟨S8x2048x8x128, .f32⟩
  | .hbm, ⟨54, _⟩ => ⟨S1x1x1x128, .f32⟩
  | .hbm, ⟨55, _⟩ => ⟨S8x2048x8x128, .f32⟩
  | .hbm, ⟨56, _⟩ => ⟨S8x2048x8x128, .f32⟩
  | .hbm, ⟨57, _⟩ => ⟨S_, .f32⟩
  | .hbm, ⟨58, _⟩ => ⟨S8x2048x8x128, .f32⟩
  | .hbm, ⟨59, _⟩ => ⟨S8x2048x8x128, .f32⟩
  | .hbm, ⟨60, _⟩ => ⟨S8x2048x4x128, .f32⟩
  | .hbm, ⟨61, _⟩ => ⟨S128, .f32⟩
  | .hbm, ⟨62, _⟩ => ⟨S8x2048x4x128, .f32⟩
  | .hbm, ⟨63, _⟩ => ⟨S_, .f32⟩
  | .hbm, ⟨64, _⟩ => ⟨S8x2048x4, .f32⟩
  | .hbm, ⟨65, _⟩ => ⟨S8x2048x4x1, .f32⟩
  | .hbm, ⟨66, _⟩ => ⟨S_, .f32⟩
  | .hbm, ⟨67, _⟩ => ⟨S8x2048x4x1, .f32⟩
  | .hbm, ⟨68, _⟩ => ⟨S8x2048x4x1, .f32⟩
  | .hbm, ⟨69, _⟩ => ⟨S_, .f32⟩
  | .hbm, ⟨70, _⟩ => ⟨S8x2048x4x1, .f32⟩
  | .hbm, ⟨71, _⟩ => ⟨S8x2048x4x1, .f32⟩
  | .hbm, ⟨72, _⟩ => ⟨S8x2048x4x1, .f32⟩
  | .hbm, ⟨73, _⟩ => ⟨S8x2048x4x128, .f32⟩
  | .hbm, ⟨74, _⟩ => ⟨S8x2048x4x128, .f32⟩
  | .hbm, ⟨75, _⟩ => ⟨S1x1x1x128, .f32⟩
  | .hbm, ⟨76, _⟩ => ⟨S8x2048x4x128, .f32⟩
  | .hbm, ⟨77, _⟩ => ⟨S8x2048x4x128, .f32⟩
  | .hbm, ⟨78, _⟩ => ⟨S8, .f32⟩
  | .hbm, ⟨79, _⟩ => ⟨S1x1x8, .f32⟩
  | .hbm, ⟨80, _⟩ => ⟨S8x2048x8, .f32⟩
  | .hbm, ⟨81, _⟩ => ⟨S8x2048x8, .f32⟩
  | .hbm, ⟨82, _⟩ => ⟨S8x2048x8, .f32⟩
  | .hbm, ⟨83, _⟩ => ⟨S_, .f32⟩
  | .hbm, ⟨84, _⟩ => ⟨S8x2048x8, .f32⟩
  | .hbm, ⟨85, _⟩ => ⟨S8x2048x8, .f32⟩
  | .hbm, ⟨86, _⟩ => ⟨S8x2048x8, .f32⟩
  | .hbm, ⟨87, _⟩ => ⟨S8x2048x8, .f32⟩
  | .hbm, ⟨88, _⟩ => ⟨S8x2048x8, .i1⟩
  | .hbm, ⟨89, _⟩ => ⟨S8x2048x8, .f32⟩
  | .hbm, ⟨90, _⟩ => ⟨S8x2048x8, .f32⟩
  | .hbm, ⟨91, _⟩ => ⟨S8x2048x8, .f32⟩
  | .hbm, ⟨92, _⟩ => ⟨S8x2048x8, .f32⟩
  | .hbm, ⟨93, _⟩ => ⟨S8x2048x8, .f32⟩
  | .hbm, ⟨94, _⟩ => ⟨S8x2048x8, .f32⟩
  | .hbm, ⟨95, _⟩ => ⟨S8x2048x8, .f32⟩
  | .hbm, ⟨96, _⟩ => ⟨S8x2048x8, .f32⟩
  | .hbm, ⟨97, _⟩ => ⟨S8x2048x8, .f32⟩
  | .hbm, ⟨98, _⟩ => ⟨S_, .f32⟩
  | .hbm, ⟨99, _⟩ => ⟨S8x2048x40, .f32⟩
  | .hbm, ⟨100, _⟩ => ⟨S8x2048x128, .f32⟩
  | .hbm, ⟨101, _⟩ => ⟨S16384x1024, .f32⟩
  | .hbm, ⟨102, _⟩ => ⟨S16384x1024, .bf16⟩
  | .hbm, ⟨103, _⟩ => ⟨S65536x128, .f32⟩
  | .hbm, ⟨104, _⟩ => ⟨S65536x128, .f32⟩
  | .hbm, ⟨105, _⟩ => ⟨S16384x128, .f32⟩
  | .hbm, ⟨106, _⟩ => ⟨S16384x8, .f32⟩
  | .hbm, ⟨107, _⟩ => ⟨S8x16384, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call0_v0 : Ref sig .tc := ⟨.hbm, 82, rfl⟩
abbrev main_call0_call0_cst : Ref sig .tc := ⟨.hbm, 83, rfl⟩
abbrev main_call0_call0_v0 : Ref sig .tc := ⟨.hbm, 84, rfl⟩
abbrev main_call0_call0_v1 : Ref sig .tc := ⟨.hbm, 85, rfl⟩
abbrev main_call0_call0_v2 : Ref sig .tc := ⟨.hbm, 86, rfl⟩
abbrev main_call0_call0_v3 : Ref sig .tc := ⟨.hbm, 87, rfl⟩
abbrev main_call0_call0_v4 : Ref sig .tc := ⟨.hbm, 88, rfl⟩
abbrev main_call0_call0_v5 : Ref sig .tc := ⟨.hbm, 89, rfl⟩
abbrev main_call0_call0_v6 : Ref sig .tc := ⟨.hbm, 90, rfl⟩
abbrev main_call0_call0_v7 : Ref sig .tc := ⟨.hbm, 91, rfl⟩
abbrev main_call0_call0_v8 : Ref sig .tc := ⟨.hbm, 92, rfl⟩
abbrev main_call0_call0_v9 : Ref sig .tc := ⟨.hbm, 93, rfl⟩
abbrev main_call0_call0_v10 : Ref sig .tc := ⟨.hbm, 94, rfl⟩
abbrev main_call0_call0_v11 : Ref sig .tc := ⟨.hbm, 95, rfl⟩
abbrev main_call0_v1 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]
-- ==== Kernel6.lean ====
abbrev S16384x2048 : Shape := ⟨2, ![16384, 2048]⟩
abbrev S1x2048 : Shape := ⟨2, ![1, 2048]⟩
abbrev S1x2048x7256 : Shape := ⟨3, ![1, 2048, 7256]⟩
abbrev S1x8 : Shape := ⟨2, ![1, 8]⟩
abbrev S1x128 : Shape := ⟨2, ![1, 128]⟩
abbrev S2048x7256 : Shape := ⟨2, ![2048, 7256]⟩
abbrev S7256x2048 : Shape := ⟨2, ![7256, 2048]⟩
abbrev S1024x2048 : Shape := ⟨2, ![1024, 2048]⟩
abbrev S512x2048 : Shape := ⟨2, ![512, 2048]⟩
abbrev S8x2048 : Shape := ⟨2, ![8, 2048]⟩
abbrev S64x2048 : Shape := ⟨2, ![64, 2048]⟩
abbrev S16x2048 : Shape := ⟨2, ![16, 2048]⟩
abbrev S7168x2048 : Shape := ⟨2, ![7168, 2048]⟩
abbrev S_ : Shape := ⟨0, ![]⟩
abbrev S40x2048 : Shape := ⟨2, ![40, 2048]⟩
abbrev S128x2048 : Shape := ⟨2, ![128, 2048]⟩
abbrev S2048 : Shape := ⟨1, ![2048]⟩
abbrev S4x128 : Shape := ⟨2, ![4, 128]⟩
abbrev S8 : Shape := ⟨1, ![8]⟩
abbrev S8x1 : Shape := ⟨2, ![8, 1]⟩
abbrev S16384x1024 : Shape := ⟨2, ![16384, 1024]⟩
abbrev S65536x128 : Shape := ⟨2, ![65536, 128]⟩
abbrev S16384x512 : Shape := ⟨2, ![16384, 512]⟩
abbrev S1024x1024 : Shape := ⟨2, ![1024, 1024]⟩
abbrev S4096x128 : Shape := ⟨2, ![4096, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 37
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S1x2048, .f32⟩
  | .hbm, ⟨2, _⟩ => ⟨S1x2048x7256, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S2048x7256, .f32⟩
  | .hbm, ⟨9, _⟩ => ⟨S7256x2048, .f32⟩
  | .hbm, ⟨10, _⟩ => ⟨S7256x2048, .bf16⟩
  | .hbm, ⟨11, _⟩ => ⟨S1024x2048, .bf16⟩
  | .hbm, ⟨12, _⟩ => ⟨S512x2048, .bf16⟩
  | .hbm, ⟨13, _⟩ => ⟨S512x2048, .bf16⟩
  | .hbm, ⟨14, _⟩ => ⟨S8x2048, .bf16⟩
  | .hbm, ⟨15, _⟩ => ⟨S1024x2048, .bf16⟩
  | .hbm, ⟨16, _⟩ => ⟨S1024x2048, .bf16⟩
  | .hbm, ⟨17, _⟩ => ⟨S512x2048, .bf16⟩
  | .hbm, ⟨18, _⟩ => ⟨S512x2048, .bf16⟩
  | .hbm, ⟨19, _⟩ => ⟨S1024x2048, .bf16⟩
  | .hbm, ⟨20, _⟩ => ⟨S1024x2048, .bf16⟩
  | .hbm, ⟨21, _⟩ => ⟨S64x2048, .bf16⟩
  | .hbm, ⟨22, _⟩ => ⟨S16x2048, .bf16⟩
  | .hbm, ⟨23, _⟩ => ⟨S7168x2048, .bf16⟩
  | .hbm, ⟨24, _⟩ => ⟨S_, .bf16⟩
  | .hbm, ⟨25, _⟩ => ⟨S40x2048, .bf16⟩
  | .hbm, ⟨26, _⟩ => ⟨S128x2048, .bf16⟩
  | .hbm, ⟨27, _⟩ => ⟨S2048, .f32⟩
  | .hbm, ⟨28, _⟩ => ⟨S1x2048, .f32⟩
  | .hbm, ⟨29, _⟩ => ⟨S4x128, .f32⟩
  | .hbm, ⟨30, _⟩ => ⟨S8, .f32⟩
  | .hbm, ⟨31, _⟩ => ⟨S8x1, .f32⟩
  | .hbm, ⟨32, _⟩ => ⟨S16384x1024, .bf16⟩
  | .hbm, ⟨33, _⟩ => ⟨S65536x128, .f32⟩
  | .hbm, ⟨34, _⟩ => ⟨S16384x512, .bf16⟩
  | .hbm, ⟨35, _⟩ => ⟨S65536x128, .f32⟩
  | .hbm, ⟨36, _⟩ => ⟨S16384x512, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S4x128, .f32⟩
  | .local _ .vmem, ⟨7, _⟩ => ⟨S8x1, .f32⟩
  | .local _ .vmem, ⟨8, _⟩ => ⟨S1024x1024, .bf16⟩
  | .local _ .vmem, ⟨9, _⟩ => ⟨S1024x1024, .bf16⟩
  | .local _ .vmem, ⟨10, _⟩ => ⟨S4096x128, .f32⟩
  | .local _ .vmem, ⟨11, _⟩ => ⟨S4096x128, .f32⟩
  | .local _ .vmem, ⟨12, _⟩ => ⟨S1024x512, .bf16⟩
  | .local _ .vmem, ⟨13, _⟩ => ⟨S1024x512, .bf16⟩
  | .local _ .vmem, ⟨14, _⟩ => ⟨S4096x128, .f32⟩
  | .local _ .vmem, ⟨15, _⟩ => ⟨S4096x128, .f32⟩
  | .local _ .vmem, ⟨16, _⟩ => ⟨S1024x512, .bf16⟩
  | .local _ .vmem, ⟨17, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let v1 : BitVec 32 := Scalar.addi c2_i32 v0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference6Ideal.lean ====
abbrev S16384x2048 : Shape := ⟨2, ![16384, 2048]⟩
abbrev S1x2048 : Shape := ⟨2, ![1, 2048]⟩
abbrev S1x2048x7256 : Shape := ⟨3, ![1, 2048, 7256]⟩
abbrev S1x8 : Shape := ⟨2, ![1, 8]⟩
abbrev S1x128 : Shape := ⟨2, ![1, 128]⟩
abbrev S8x2048x2048 : Shape := ⟨3, ![8, 2048, 2048]⟩
abbrev S2048x7256 : Shape := ⟨2, ![2048, 7256]⟩
abbrev S8x2048x7256 : Shape := ⟨3, ![8, 2048, 7256]⟩
abbrev S8x2048x1024 : Shape := ⟨3, ![8, 2048, 1024]⟩
abbrev S8x2048x512 : Shape := ⟨3, ![8, 2048, 512]⟩
abbrev S8x2048x8 : Shape := ⟨3, ![8, 2048, 8]⟩
abbrev S8x2048x64 : Shape := ⟨3, ![8, 2048, 64]⟩
abbrev S8x2048x16 : Shape := ⟨3, ![8, 2048, 16]⟩
abbrev S8x2048x8x128 : Shape := ⟨4, ![8, 2048, 8, 128]⟩
abbrev S128 : Shape := ⟨1, ![128]⟩
abbrev S_ : Shape := ⟨0, ![]⟩
abbrev S8x2048x8x1 : Shape := ⟨4, ![8, 2048, 8, 1]⟩
abbrev S1x1x1x128 : Shape := ⟨4, ![1, 1, 1, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S16384x1024 : Shape := ⟨2, ![16384, 1024]⟩
abbrev S65536x128 : Shape := ⟨2, ![65536, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048, .f32⟩
  | .hbm, ⟨2, _⟩ => ⟨S1x2048x7256, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S16384x2048, .f32⟩
  | .hbm, ⟨9, _⟩ => ⟨S8x2048x2048, .f32⟩
  | .hbm, ⟨10, _⟩ => ⟨S2048x7256, .f32⟩
  | .hbm, ⟨11, _⟩ => ⟨S8x2048x7256, .f32⟩
  | .hbm, ⟨12, _⟩ => ⟨S8x2048x1024, .f32⟩
  | .hbm, ⟨13, _⟩ => ⟨S8x2048x512, .f32⟩
  | .hbm, ⟨14, _⟩ => ⟨S8x2048x512, .f32⟩
  | .hbm, ⟨15, _⟩ => ⟨S8x2048x8, .f32⟩
  | .hbm, ⟨16, _⟩ => ⟨S8x2048x1024, .f32⟩
  | .hbm, ⟨17, _⟩ => ⟨S8x2048x1024, .f32⟩
  | .hbm, ⟨18, _⟩ => ⟨S8x2048x512, .f32⟩
  | .hbm, ⟨19, _⟩ => ⟨S8x2048x512, .f32⟩
  | .hbm, ⟨20, _⟩ => ⟨S8x2048x1024, .f32⟩
  | .hbm, ⟨21, _⟩ => ⟨S8x2048x1024, .f32⟩
  | .hbm, ⟨22, _⟩ => ⟨S8x2048x64, .f32⟩
  | .hbm, ⟨23, _⟩ => ⟨S8x2048x16, .f32⟩
  | .hbm, ⟨24, _⟩ => ⟨S8x2048x8x128, .f32⟩
  | .hbm, ⟨25, _⟩ => ⟨S128, .f32⟩
  | .hbm, ⟨26, _⟩ => ⟨S8x2048x8x128, .f32⟩
  | .hbm, ⟨27, _⟩ => ⟨S_, .f32⟩
  | .hbm, ⟨28, _⟩ => ⟨S8x2048x8, .f32⟩
  | .hbm, ⟨29, _⟩ => ⟨S8x2048x8x1, .f32⟩
  | .hbm, ⟨30, _⟩ => ⟨S_, .f32⟩
  | .hbm, ⟨31, _⟩ => ⟨S8x2048x8x1, .f32⟩
  | .hbm, ⟨32, _⟩ => ⟨S8x2048x8x1, .f32⟩
  | .hbm, ⟨33, _⟩ => ⟨S_, .f32⟩
  | .hbm, ⟨34, _⟩ => ⟨S8x2048x8x1, .f32⟩
  | .hbm, ⟨35, _⟩ => ⟨S8x2048x8x1, .f32⟩
  | .hbm, ⟨36, _⟩ => ⟨S8x2048x8x1, .f32⟩
  | .hbm, ⟨37, _⟩ => ⟨S8x2048x8x128, .f32⟩
  | .hbm, ⟨38, _⟩ => ⟨S8x2048x8x128, .f32⟩
  | .hbm, ⟨39, _⟩ => ⟨S1x1x1x128, .f32⟩
  | .hbm, ⟨40, _⟩ => ⟨S8x2048x8x128, .f32⟩
  | .hbm, ⟨41, _⟩ => ⟨S8x2048x8x128, .f32⟩
  | .hbm, ⟨42, _⟩ => ⟨S_, .f32⟩
  | .hbm, ⟨43, _⟩ => ⟨S8x2048x8x128, .f32⟩
  | .hbm, ⟨44, _⟩ => ⟨S8x2048x8x128, .f32⟩
  | .hbm, ⟨45, _⟩ => ⟨S8x2048x4x128, .f32⟩
  | .hbm, ⟨46, _⟩ => ⟨S128, .f32⟩
  | .hbm, ⟨47, _⟩ => ⟨S8x2048x4x128, .f32⟩
  | .hbm, ⟨48, _⟩ => ⟨S_, .f32⟩
  | .hbm, ⟨49, _⟩ => ⟨S8x2048x4, .f32⟩
  | .hbm, ⟨50, _⟩ => ⟨S8x2048x4x1, .f32⟩
  | .hbm, ⟨51, _⟩ => ⟨S_, .f32⟩
  | .hbm, ⟨52, _⟩ => ⟨S8x2048x4x1, .f32⟩
  | .hbm, ⟨53, _⟩ => ⟨S8x2048x4x1, .f32⟩
  | .hbm, ⟨54, _⟩ => ⟨S_, .f32⟩
  | .hbm, ⟨55, _⟩ => ⟨S8x2048x4x1, .f32⟩
  | .hbm, ⟨56, _⟩ => ⟨S8x2048x4x1, .f32⟩
  | .hbm, ⟨57, _⟩ => ⟨S8x2048x4x1, .f32⟩
  | .hbm, ⟨58, _⟩ => ⟨S8x2048x4x128, .f32⟩
  | .hbm, ⟨59, _⟩ => ⟨S8x2048x4x128, .f32⟩
  | .hbm, ⟨60, _⟩ => ⟨S1x1x1x128, .f32⟩
  | .hbm, ⟨61, _⟩ => ⟨S8x2048x4x128, .f32⟩
  | .hbm, ⟨62, _⟩ => ⟨S8x2048x4x128, .f32⟩
  | .hbm, ⟨63, _⟩ => ⟨S16384x1024, .f32⟩
  | .hbm, ⟨64, _⟩ => ⟨S16384x1024, .bf16⟩
  | .hbm, ⟨65, _⟩ => ⟨S65536x128, .f32⟩
  | .hbm, ⟨66, _⟩ => ⟨S65536x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.RefValue.lean ====
/-
  What the reference computes, read at an index: for row numbers inside the pool its result's entry is the pool's entry
  at page `n / 128` and position `n % 128` of the page.
-/
module

public import proofs.«01_k».proof.Proof.Gen.Reference.Run
public import Idealize.ShloMosaic.Lib.Routing.Words
public import Idealize.ShloMosaic.Lib.ValueIdx
public import Idealize.ShloMosaic.Lib.Pointwise

@[expose] public section

noncomputable section

namespace Cert.GatherRef

open Cert.Reference Cert.Reference.Gen
open Idealize.ShloMosaic hiding ix1 ix2 ix3 ix4 ix5
open Idealize.ShloMosaic.ValueIdx

variable {F : FTy → Type} [FloatOps F]

/-- A word at every index. -/
def every (w : BitVec 32) : IVec S32x4x256 32 := broadcastInDim S32x4x256 ![] bcast_S_S32x4x256 (constantI S_ 32 w)

/-- The floor quotient by 128. -/
def quo (v : IVec S32x4x256 32) : IVec S32x4x256 32 :=
  select (andi (cmpi .ne (signi v) (broadcastInDim S32x4x256 ![] bcast_S_S32x4x256 (signi (id (constantI S_ 32 128#32)))))
      (cmpi .ne (Host.remsi v (every 128#32)) (every 0#32)))
    (subi (Host.divsi v (every 128#32)) (every 1#32)) (Host.divsi v (every 128#32))

/-- The divisor of the floor remainder. -/
def dsor : IVec S_ 32 := select (cmpi .eq (id (constantI S_ 32 128#32)) (constantI S_ 32 0#32)) (constantI S_ 32 1#32) (id (constantI S_ 32 128#32))

/-- The floor remainder by 128. -/
def rmd (v : IVec S32x4x256 32) : IVec S32x4x256 32 :=
  select (andi (cmpi .ne (cmpi .slt (Host.remsi v (broadcastInDim S32x4x256 ![] bcast_S_S32x4x256 dsor)) (every 0#32))
        (broadcastInDim S32x4x256 ![] bcast_S_S32x4x256 (cmpi .slt dsor (constantI S_ 32 0#32))))
      (cmpi .ne (Host.remsi v (broadcastInDim S32x4x256 ![] bcast_S_S32x4x256 dsor)) (every 0#32)))
    (addi (Host.remsi v (broadcastInDim S32x4x256 ![] bcast_S_S32x4x256 dsor)) (broadcastInDim S32x4x256 ![] bcast_S_S32x4x256 dsor))
    (Host.remsi v (broadcastInDim S32x4x256 ![] bcast_S_S32x4x256 dsor))

/-- A negative index counted from the end of an axis of extent `k`. -/
def wrap (k : BitVec 32) (v : IVec S32x4x256 32) : IVec S32x4x256 32 := select (cmpi .slt v (every 0#32)) (addi v (every k)) v

/-- A trailing unit axis. -/
def col (v : IVec S32x4x256 32) : IVec S32x4x256x1 32 := broadcastInDim S32x4x256x1 ![0, 1, 2] bcast_S32x4x256_S32x4x256x1_0_1_2 v

def rowsOf (phys : IVec S32x4x256x1 32) : IVec S32x4x256 32 := shapeCast _ phys shapeCasts_S32x4x256x1_S32x4x256

/-- The start indices: layer 0, the page, the position in the page. -/
def starts (phys : IVec S32x4x256x1 32) : IVec S32x4x256x3 32 :=
  concatenate S32x4x256x3 3 [⟨S32x4x256x1, col (every 0#32)⟩, ⟨S32x4x256x1, col (wrap 5120#32 (quo (rowsOf phys)))⟩,
    ⟨S32x4x256x1, col (wrap 128#32 (rmd (rowsOf phys)))⟩] concatenates_S32x4x256x1_S32x4x256x1_S32x4x256x1_S32x4x256x3_d3

/-- The rows, by slot, token, selected row, head. -/
def picked (cache : S1x5120x128x4x128.Idx → Elt F .f32) (phys : IVec S32x4x256x1 32) : S32x4x256x4x128.Idx → Elt F .f32 :=
  Host.gather gather_S1x5120x128x4x128_S32x4x256x3_S32x4x256x4x128_34_012_n_n_012_3_1114128 cache (starts phys)

/-- The reference's result as a function of its arguments. -/
def refOut (cache : S1x5120x128x4x128.Idx → Elt F .f32) (phys : IVec S32x4x256x1 32) : S131072x128.Idx → Elt F .f32 :=
  shapeCast _ (transpose S32x4x4x256x128 [0, 1, 3, 2, 4] (picked cache phys) transposes_S32x4x256x4x128_S32x4x4x256x128_0_1_3_2_4)
    shapeCasts_S32x4x4x256x128_S131072x128

set_option maxRecDepth 8192 in
theorem res_eq (m : (ℓ : Loc nD τ sig) → Buf (Elt F) ℓ) (c : Dev nD) :
    Cert.Reference.Value.res_main_v22 m c = refOut (m ((c.tc : Thread nD τ).loc main_arg0)) (m ((c.tc : Thread nD τ).loc main_arg1)) := rfl

/-! ## The words -/

theorem slt_zero {n : ℕ} (hn : n < 2 ^ 31) : IntOp.cmpi .slt (BitVec.ofNat 32 n) 0#32 = 0#1 := by
  have h : (BitVec.ofNat 32 n).toNat = n := by rw [BitVec.toNat_ofNat]; omega
  simp only [IntOp.cmpi, BitVec.slt_eq_decide, BitVec.toInt_eq_toNat_cond, h]
  rw [decide_eq_false]; · rfl
  split <;> simp <;> omega

/-- A word's sign. -/
def sgn (w : BitVec 32) : BitVec 32 := if w = 0 then 0 else if w.msb then -1 else 1

theorem and_zero (x : BitVec 1) : IntOp.andi 0#1 x = 0#1 := BitVec.zero_and

theorem quo_word (v : IVec S32x4x256 32) (i : S32x4x256.Idx) {n : ℕ} (hn : n < 655360) (hv : v i = BitVec.ofNat 32 n) :
    quo v i = BitVec.ofNat 32 (n / 128) := by
  have hd : IntOp.divsi .host (BitVec.ofNat 32 n) (BitVec.ofNat 32 128) = BitVec.ofNat 32 (n / 128) :=
    Idealize.ShloMosaic.Routing.divsi_word _ (by omega) (by omega) (by omega)
  have hr : IntOp.remsi .host (BitVec.ofNat 32 n) (BitVec.ofNat 32 128) = BitVec.ofNat 32 (n % 128) :=
    Idealize.ShloMosaic.Routing.remsi_word _ (by omega) (by omega) (by omega)
  have e : quo v i = Scalar.select (IntOp.andi (IntOp.cmpi .ne (sgn (v i)) (sgn 128#32)) (IntOp.cmpi .ne (IntOp.remsi .host (v i) 128#32) 0#32))
      (IntOp.subi (IntOp.divsi .host (v i) 128#32) 1#32) (IntOp.divsi .host (v i) 128#32) := rfl
  rw [e, hv, hd, hr]
  by_cases h0 : n = 0
  · subst h0
    clear e hd hr hv
    decide
  have hz : BitVec.ofNat 32 n ≠ 0 := fun e => by
    have := congrArg BitVec.toNat e
    rw [BitVec.toNat_ofNat] at this; simp at this; omega
  have hm : (BitVec.ofNat 32 n).msb = false := by rw [BitVec.msb_eq_decide, BitVec.toNat_ofNat]; simp; omega
  have hs : sgn (BitVec.ofNat 32 n) = 1#32 := by unfold sgn; rw [if_neg hz, hm]; rfl
  rw [hs, show IntOp.cmpi .ne 1#32 (sgn 128#32) = 0#1 by decide, and_zero]
  rfl

theorem rmd_word (v : IVec S32x4x256 32) (i : S32x4x256.Idx) {n : ℕ} (hn : n < 655360) (hv : v i = BitVec.ofNat 32 n) :
    rmd v i = BitVec.ofNat 32 (n % 128) := by
  have hr : IntOp.remsi .host (BitVec.ofNat 32 n) (BitVec.ofNat 32 128) = BitVec.ofNat 32 (n % 128) :=
    Idealize.ShloMosaic.Routing.remsi_word _ (by omega) (by omega) (by omega)
  have hs : dsor = fun _ => BitVec.ofNat 32 128 := rfl
  simp only [rmd, every, select, andi, cmpi, Host.remsi, addi, broadcastInDim, constantI, hs, hv, hr]
  rw [slt_zero (n := n % 128) (by omega), slt_zero (n := 128) (by omega)]
  rw [show IntOp.cmpi .ne 0#1 0#1 = 0#1 by decide, and_zero]
  rfl

theorem wrap_word (k : BitVec 32) (v : IVec S32x4x256 32) (i : S32x4x256.Idx) {n : ℕ} (hn : n < 2 ^ 31) (hv : v i = BitVec.ofNat 32 n) :
    wrap k v i = BitVec.ofNat 32 n := by
  simp only [wrap, every, select, cmpi, broadcastInDim, constantI, hv, slt_zero hn]
  rfl

/-! ## The gather -/

theorem rowsOf_at (phys : IVec S32x4x256x1 32) (s : Fin 32) (t : Fin 4) (j : Fin 256) : rowsOf phys (ix3 s t j) = phys (ix4 s t j 0) := by
  unfold rowsOf shapeCast
  refine congrArg phys (Shape.reshapeEquiv_eq_of_rowMajor _ ?_)
  rw [Shape.rowMajor_val_three, Shape.rowMajor_val_four]
  simp [ix3, ix4] <;> omega

theorem starts_at (phys : IVec S32x4x256x1 32) (s : Fin 32) (t : Fin 4) (j : Fin 256) :
    starts phys (ix4 s t j 0) = 0#32 ∧ starts phys (ix4 s t j 1) = wrap 5120#32 (quo (rowsOf phys)) (ix3 s t j)
      ∧ starts phys (ix4 s t j 2) = wrap 128#32 (rmd (rowsOf phys)) (ix3 s t j) := by
  unfold starts
  refine ⟨?_, ?_, ?_⟩ <;> rw [concatenate_cons_apply]
  · rw [concatenateAt_cons]; rfl
  · rw [concatenateAt_cons, dif_neg (by exact Nat.lt_irrefl 1), concatenateAt_cons, dif_pos (by exact Nat.zero_lt_one)]
    unfold col broadcastInDim
    refine congrArg _ (funext fun a => ?_)
    match a with | ⟨0, _⟩ => rfl | ⟨1, _⟩ => rfl | ⟨2, _⟩ => rfl
  · rw [concatenateAt_cons, dif_neg (by exact (by decide : ¬ 2 < 1)), concatenateAt_cons, dif_neg (by exact Nat.lt_irrefl 1), concatenateAt_singleton]
    unfold col broadcastInDim
    refine congrArg _ (funext fun a => ?_)
    match a with | ⟨0, _⟩ => rfl | ⟨1, _⟩ => rfl | ⟨2, _⟩ => rfl

theorem toInt_word {n : ℕ} (hn : n < 2 ^ 31) : (BitVec.ofNat 32 n).toInt.toNat = n := by
  have h : (BitVec.ofNat 32 n).toNat = n := by rw [BitVec.toNat_ofNat]; omega
  rw [BitVec.toInt_eq_toNat_cond, h]
  split <;> omega

/-- The gather read at an index, its start words known. -/
theorem gather_at (cache : S1x5120x128x4x128.Idx → Elt F .f32) (idx : IVec S32x4x256x3 32) (s : Fin 32) (t : Fin 4) (j : Fin 256) (h : Fin 4) (d : Fin 128)
    (p : Fin 5120) (o : Fin 128) (h0 : idx (ix4 s t j 0) = 0#32) (h1 : idx (ix4 s t j 1) = BitVec.ofNat 32 p.val) (h2 : idx (ix4 s t j 2) = BitVec.ofNat 32 o.val) :
    Host.gather gather_S1x5120x128x4x128_S32x4x256x3_S32x4x256x4x128_34_012_n_n_012_3_1114128 cache idx (ix5 s t j h d) = cache (ix5 0 p o h d) := by
  unfold Host.gather
  refine congrArg cache (funext fun a => Fin.ext ?_)
  set g := gather_S1x5120x128x4x128_S32x4x256x3_S32x4x256x4x128_34_012_n_n_012_3_1114128 with hg
  have hsi : ∀ c : Fin g.startIndexMap.length, g.siIdx (ix5 s t j h d) c = ix4 s t j ⟨c.val, c.isLt⟩ := fun c => by
    funext b
    match b with | ⟨0, _⟩ => rfl | ⟨1, _⟩ => rfl | ⟨2, _⟩ => rfl | ⟨3, _⟩ => rfl
  show g.start (ix5 s t j h d) idx a + g.batchCoord (ix5 s t j h d) a + g.offCoord (ix5 s t j h d) a = _
  rw [GatherDims.batchCoord_eq_zero _ _ _ List.not_mem_nil, Nat.add_zero]
  obtain rfl | rfl | rfl | rfl | rfl : a = 0 ∨ a = 1 ∨ a = 2 ∨ a = 3 ∨ a = 4 := by revert a; decide
  · rw [GatherDims.offCoord_eq_zero _ _ _ (by decide)]
    unfold GatherDims.start
    rw [dif_pos (by decide), hsi]
    show min (idx (ix4 s t j 0)).toInt.toNat 0 + 0 = 0
    omega
  · rw [GatherDims.offCoord_eq_zero _ _ _ (by decide)]
    unfold GatherDims.start
    rw [dif_pos (by decide), hsi]
    show min (idx (ix4 s t j 1)).toInt.toNat 5119 + 0 = p.val
    rw [h1, toInt_word (by omega)]; omega
  · rw [GatherDims.offCoord_eq_zero _ _ _ (by decide)]
    unfold GatherDims.start
    rw [dif_pos (by decide), hsi]
    show min (idx (ix4 s t j 2)).toInt.toNat 127 + 0 = o.val
    rw [h2, toInt_word (by omega)]; omega
  · unfold GatherDims.start
    rw [dif_neg (by decide)]
    exact Nat.zero_add _
  · unfold GatherDims.start
    rw [dif_neg (by decide)]
    exact Nat.zero_add _

/-- The reference's result at slot `s`, token `t`, head `h`, selected row `j`, lane `d`. -/
theorem refOut_at (cache : S1x5120x128x4x128.Idx → Elt F .f32) (phys : IVec S32x4x256x1 32) (s : Fin 32) (t : Fin 4) (h : Fin 4) (j : Fin 256) (d : Fin 128)
    (r : Fin 131072) (hr : r.val = ((s.val * 4 + t.val) * 4 + h.val) * 256 + j.val) (n : ℕ) (hn : n < 655360) (hv : phys (ix4 s t j 0) = BitVec.ofNat 32 n) :
    refOut cache phys (ix2 r d) = cache (ix5 0 ⟨n / 128, by omega⟩ ⟨n % 128, by omega⟩ h d) := by
  have hw : rowsOf phys (ix3 s t j) = BitVec.ofNat 32 n := (rowsOf_at phys s t j).trans hv
  obtain ⟨h0, h1, h2⟩ := starts_at phys s t j
  have e : refOut cache phys (ix2 r d) = picked cache phys (ix5 s t j h d) := by
    unfold refOut shapeCast
    rw [Shape.reshapeEquiv_eq_of_rowMajor (y := ix5 s t h j d) _ (by
      rw [Shape.rowMajor_val_five, Shape.rowMajor_val_two]
      simp [ix5, ix2]; omega)]
    unfold transpose
    refine congrArg _ (funext fun a => ?_)
    match a with | ⟨0, _⟩ => rfl | ⟨1, _⟩ => rfl | ⟨2, _⟩ => rfl | ⟨3, _⟩ => rfl | ⟨4, _⟩ => rfl
  rw [e]
  exact gather_at cache _ s t j h d _ _ h0
    (h1.trans (wrap_word _ _ _ (by omega) (quo_word _ _ hn hw))) (h2.trans (wrap_word _ _ _ (by omega) (rmd_word _ _ hn hw)))

end Cert.GatherRef

end
-- ==== Proof.Words.lean ====
/-
  The words the pipelined loop carries, and what the printed offsets and conditions come to at them.

  Subcore `s` of SparseCore `c` runs 32 trips. Trip `k` of it gathers block `blk c s k` of the result (128 rows). The
  loop carries six words; before trip `k` they are `st k`. Each fact below is a finite check over the two grid
  coordinates and the trip.
-/
module

public import proofs.«01_k».proof.Proof.Gen.KernelIdeal.Skeleton

@[expose] public section

namespace Cert.Gather

open Cert.KernelIdeal Idealize.ShloMosaic

/-- The grid coordinates of subcore `s` of SparseCore `c`. -/
def at2 (c : Fin 2) (s : Fin 16) : grid0.Coords :=
  fun | 0 => c | 1 => s | ⟨_ + 2, h⟩ => absurd h (Nat.not_lt.2 (Nat.le_add_left _ _))

theorem at2_eta (i : grid0.Coords) : i = at2 (i 0) (i 1) := by
  funext a; match a with
  | 0 => rfl
  | 1 => rfl

/-- The block number of trip `k` of subcore `s` of SparseCore `c`. -/
def blkN (c : Fin 2) (s : Fin 16) (k : ℕ) : ℕ := (k / 16) * 512 + (c.val * 16 + s.val) * 16 + k % 16

theorem blkN_lt (c : Fin 2) (s : Fin 16) (k : Fin 32) : blkN c s k.val < 1024 := by
  unfold blkN; omega

/-- The same, as one of the result's 1024 blocks. -/
def blk (c : Fin 2) (s : Fin 16) (k : Fin 32) : Fin 1024 := ⟨blkN c s k.val, blkN_lt c s k⟩

/-- The half of a double buffer that trip `k` uses. -/
def par (k : ℕ) : Fin 2 := ⟨k % 2, Nat.mod_lt _ (by decide)⟩

/-- The six words the loop carries before trip `k`: the reads issued, the reads awaited, the writes issued, the writes
    awaited, and the two grid counters of the trip. -/
def st (k : ℕ) : BitVec 32 × BitVec 32 × BitVec 32 × BitVec 32 × BitVec 32 × BitVec 32 :=
  (BitVec.ofNat 32 (min (k + 1) 32), BitVec.ofNat 32 k, BitVec.ofNat 32 k, BitVec.ofNat 32 (k - 1),
    BitVec.ofNat 32 (k / 16 % 2), BitVec.ofNat 32 (k % 16))

abbrev w6 (k : ℕ) : BitVec 32 := BitVec.ofNat 32 (min (k + 1) 32)
abbrev w7 (k : ℕ) : BitVec 32 := BitVec.ofNat 32 k
abbrev w9 (k : ℕ) : BitVec 32 := BitVec.ofNat 32 (k - 1)
abbrev w10 (k : ℕ) : BitVec 32 := BitVec.ofNat 32 (k / 16 % 2)
abbrev w11 (k : ℕ) : BitVec 32 := BitVec.ofNat 32 (k % 16)

theorem trips_eq : k0_t1_loop.trips = 32 := by decide

/-- Trip `k` as the loop counts it. -/
abbrev tr (k : Fin 32) : Fin k0_t1_loop.trips := k.cast trips_eq.symm

/-! ## Offsets into the double buffers and their semaphores -/

theorem off1_eq : k0_off1 = ![(par 0).val, 0, 0] := by decide
theorem off3_eq : k0_off3 = ![(par 0).val] := by decide
theorem off4_eq : ∀ k : Fin 32, k.val < 31 → k0_off4 (w6 k.val) = ![(par (k.val + 1)).val, 0, 0] := by decide +kernel
theorem off6_eq : ∀ k : Fin 32, k.val < 31 → k0_off6 (w6 k.val) = ![(par (k.val + 1)).val] := by decide +kernel
theorem off7_eq : ∀ k : Fin 32, k0_off7 (w7 k.val) = ![(par k.val).val, 0, 0] := by decide +kernel
theorem off9_eq : ∀ k : Fin 32, k0_off9 (w7 k.val) = ![(par k.val).val] := by decide +kernel
theorem off10_eq : ∀ k : Fin 32, k0_off10 (w7 k.val) = ![(par k.val).val, 0, 0] := by decide +kernel
theorem off11_eq : ∀ k : Fin 32, k0_off11 (w7 k.val) = ![(par k.val).val, 0, 0] := by decide +kernel
theorem off12_eq : ∀ k : Fin 32, k0_off12 (w7 k.val) = ![(par k.val).val, 0, 0] := by decide +kernel
theorem off14_eq : ∀ k : Fin 32, k0_off14 (w7 k.val) = ![(par k.val).val] := by decide +kernel
theorem off15_eq : ∀ k : Fin 32, 0 < k.val → k0_off15 (w9 k.val) = ![(par (k.val + 1)).val, 0, 0] := by decide +kernel
theorem off17_eq : ∀ k : Fin 32, 0 < k.val → k0_off17 (w9 k.val) = ![(par (k.val + 1)).val] := by decide +kernel
theorem off18_eq : k0_off18 (w9 32) = ![(par 31).val, 0, 0] := by decide +kernel
theorem off20_eq : k0_off20 (w9 32) = ![(par 31).val] := by decide +kernel
theorem off21_eq : k0_off21 (w9 32) = ![(par 31).val, 0, 0] := by decide +kernel

/-! ## Offsets into the index array and the result -/

theorem off2_eq : ∀ (c : Fin 2) (s : Fin 16), k0_off2 (at2 c s) = ![0, blkN c s 0 * 128] := by decide +kernel
theorem off5_eq : ∀ (c : Fin 2) (s : Fin 16) (k : Fin 32), k.val < 31 →
    k0_off5 (at2 c s) (w10 k.val) (w11 k.val) = ![0, blkN c s (k.val + 1) * 128] := by decide +kernel
theorem off8_eq : ∀ (c : Fin 2) (s : Fin 16) (k : Fin 32),
    k0_off8 (at2 c s) (w10 k.val) (w11 k.val) = ![0, blkN c s k.val * 128] := by decide +kernel
theorem off13_eq : ∀ (c : Fin 2) (s : Fin 16) (k : Fin 32),
    k0_off13 (at2 c s) (w10 k.val) (w11 k.val) = ![blkN c s k.val * 128, 0] := by decide +kernel
theorem off16_eq : ∀ (c : Fin 2) (s : Fin 16) (k : Fin 32), 0 < k.val →
    k0_off16 (at2 c s) (w10 k.val) (w11 k.val) = ![blkN c s (k.val - 1) * 128, 0] := by decide +kernel
theorem off19_eq : ∀ (c : Fin 2) (s : Fin 16),
    k0_off19 (at2 c s) (w11 32) (w10 32) = ![blkN c s 31 * 128, 0] := by decide +kernel

/-! ## Conditions -/

/-- The next block's indices are fetched on every trip but the last, -/
theorem cond1_eq : ∀ (c : Fin 2) (s : Fin 16) (k : Fin 32),
    k0_cond1 (at2 c s) (tr k) (w10 k.val) (w11 k.val) = if k.val < 31 then 1#1 else 0#1 := by decide +kernel
/-- this block's are awaited on every trip, -/
theorem cond2_eq : ∀ (c : Fin 2) (s : Fin 16) (k : Fin 32),
    k0_cond2 (at2 c s) (tr k) (w10 k.val) (w11 k.val) = 1#1 := by decide +kernel
/-- this block's rows are written out on every trip, -/
theorem cond5_eq : ∀ (c : Fin 2) (s : Fin 16) (k : Fin 32),
    k0_cond5 (at2 c s) (tr k) (w10 k.val) (w11 k.val) = 1#1 := by decide +kernel
/-- and the write of the block before is awaited on every trip but the first. -/
theorem cond7_eq : ∀ (c : Fin 2) (s : Fin 16) (k : Fin 32),
    k0_cond7 (at2 c s) (tr k) (w10 k.val) (w11 k.val) = if 0 < k.val then 1#1 else 0#1 := by decide +kernel

/-! ## The side conditions the loop's body assumes -/

theorem chk3_ok : ∀ k : Fin 32, k0_chk3 (w7 k.val) := by decide +kernel
theorem chk2_ok : ∀ k : Fin 32, k0_chk2 (w7 k.val) := by decide +kernel
theorem chk1_ok : ∀ (c : Fin 2) (s : Fin 16) (k : Fin 32),
    k0_chk1 (at2 c s) (tr k) (w6 k.val) (w7 k.val) (w7 k.val) (w9 k.val) (w10 k.val) (w11 k.val) := by decide +kernel
theorem chk5_ok : ∀ (c : Fin 2) (s : Fin 16), k0_chk5 (at2 c s) (w11 32) (w10 32) := by decide +kernel
theorem chk4_ok : k0_chk4 (w9 32) := by decide +kernel

/-! ## The words a trip yields -/

/-- The first of the 16 blocks a worker has in each half, as the body computes it. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 16#32

/-- The words the body yields, from the grid coordinates, the induction variable and the words it took. -/
def next (i : grid0.Coords) (t : Fin k0_t1_loop.trips) (a6 a7 a8 a9 a10 a11 : BitVec 32) :
    BitVec 32 × BitVec 32 × BitVec 32 × BitVec 32 × BitVec 32 × BitVec 32 :=
  let iv : BitVec 32 := Scf.iv 0#32 1#32 t
  let first := Scalar.cmpi .eq iv 0#32
  let last := Scalar.cmpi .eq iv 31#32
  let v102 := Scalar.addi a10 0#32
  let v103 := Scalar.addi a11 (base i)
  let v105 := Scalar.select 1#1 (Scalar.subi a11 1#32) a11
  let v106 := Scalar.cmpi .eq v105 4294967295#32
  let v107 := Scalar.select v106 15#32 v105
  let v109 := Scalar.select v106 (Scalar.subi a10 1#32) a10
  let v110 := Scalar.cmpi .eq v109 4294967295#32
  let v111 := Scalar.select v110 1#32 v109
  let v112 := Scalar.addi v111 0#32
  let v113 := Scalar.addi v107 (base i)
  let v115 := Scalar.select 1#1 (Scalar.addi a11 1#32) a11
  let v116 := Scalar.cmpi .eq v115 16#32
  let v117 := Scalar.select v116 0#32 v115
  let v119 := Scalar.select v116 (Scalar.addi a10 1#32) a10
  let v120 := Scalar.cmpi .eq v119 2#32
  let v121 := Scalar.select v120 0#32 v119
  let v122 := Scalar.addi v121 0#32
  let v123 := Scalar.addi v117 (base i)
  let here := Scalar.addi (Scalar.muli v102 512#32) v103
  let following := Scalar.addi (Scalar.muli v122 512#32) v123
  let before := Scalar.addi (Scalar.muli v112 512#32) v113
  let v141 := Scalar.andi (Scalar.cmpi .ne here following) (Scalar.xori (Scalar.cmpi .sge iv 31#32) 1#1)
  let v147 := Scalar.select (Scalar.andi v141 1#1) (Scalar.addi a6 1#32) a6
  let v180 := Scalar.ori (Scalar.cmpi .ne here following) last
  let v185 := Scalar.select (Scalar.andi v180 1#1) (Scalar.addi a8 1#32) a8
  let v194 := Scalar.andi (Scalar.cmpi .ne here before) (Scalar.xori first 1#1)
  let v199 := Scalar.select (Scalar.andi v194 1#1) (Scalar.addi a9 1#32) a9
  let v203 := Scalar.select (Scalar.ori (Scalar.cmpi .ne here following) last) (Scalar.addi a7 1#32) a7
  let v205 := Scalar.select 1#1 (Scalar.addi a11 1#32) a11
  let v206 := Scalar.cmpi .eq v205 16#32
  let v207 := Scalar.select v206 0#32 v205
  let v209 := Scalar.select v206 (Scalar.addi a10 1#32) a10
  let v210 := Scalar.cmpi .eq v209 2#32
  let v211 := Scalar.select v210 0#32 v209
  (v147, v203, v185, v199, v211, v207)

theorem next_eq : ∀ (c : Fin 2) (s : Fin 16) (k : Fin 32),
    next (at2 c s) (tr k) (w6 k.val) (w7 k.val) (w7 k.val) (w9 k.val) (w10 k.val) (w11 k.val) = st (k.val + 1) := by decide +kernel

theorem st_zero : st 0 = (Scalar.addi 0#32 1#32, 0#32, 0#32, 0#32, 0#32, 0#32) := by decide +kernel
theorem st_last : st 32 = (32#32, 32#32, 32#32, 31#32, 0#32, 0#32) := by decide +kernel

end Cert.Gather
-- ==== Proof.Views.lean ====
/-
  The pieces of the arrays a task names, in one spelling each: a half of the two double buffers, a block of the index
  array and of the result, the table whole; and the semaphore cells.
-/
module

public import proofs.«01_k».proof.Proof.Words
public import Idealize.ShloMosaic.Lib.Ring
public import Idealize.ShloMosaic.Lib.ValueIdxCore
public import Idealize.ShloMosaic.Lib.SparseCore.Stream

@[expose] public section

noncomputable section

namespace Cert.Gather

open Cert.KernelIdeal Cert.KernelIdeal.Gen Idealize.ShloMosaic Idealize.ShloMosaic.ValueIdx

abbrev tabV : Memref sig .scVector .hbm S2621440x128 .f32 := Memref.whole main_v10_scv
abbrev idxV : Memref sig .scVector .hbm S1x131072 .i32 := Memref.whole main_v11_scv
abbrev outV : Memref sig .scVector .hbm S131072x128 .f32 := Memref.whole main_v12_scv
abbrev iBuf : Memref sig .scVector .vmem S2x1x128 .i32 := Memref.whole cc0_scoped0
abbrev rBuf : Memref sig .scVector .vmem S2x128x128 .f32 := Memref.whole cc0_scoped2

theorem iSlot_inb (s : Fin 2) : ∀ a, (![s.val, 0, 0] : Fin 3 → ℕ) a + S1x1x128.size a ≤ S2x1x128.size a := by
  revert s; decide
theorem rSlot_inb (s : Fin 2) : ∀ a, (![s.val, 0, 0] : Fin 3 → ℕ) a + S1x128x128.size a ≤ S2x128x128.size a := by
  revert s; decide
theorem iBlk_inb (b : Fin 1024) : ∀ a, (![0, b.val * 128] : Fin 2 → ℕ) a + S1x128.size a ≤ S1x131072.size a := by
  intro a; match a with
  | 0 => show 0 + 1 ≤ 1; omega
  | 1 => show b.val * 128 + 128 ≤ 131072; omega
theorem oBlk_inb (b : Fin 1024) : ∀ a, (![b.val * 128, 0] : Fin 2 → ℕ) a + S128x128.size a ≤ S131072x128.size a := by
  intro a; match a with
  | 0 => show b.val * 128 + 128 ≤ 131072; omega
  | 1 => show 0 + 128 ≤ 128; omega
theorem cell_inb (s : Fin 2) : ∀ a, (![s.val] : Fin 1 → ℕ) a + S1.size a ≤ S2.size a := by
  revert s; decide

abbrev iRect (s : Fin 2) : Rect S2x1x128 := Rect.unit (s := S2x1x128) ![s.val, 0, 0] S1x1x128.size (iSlot_inb s)
abbrev rRect (s : Fin 2) : Rect S2x128x128 := Rect.unit (s := S2x128x128) ![s.val, 0, 0] S1x128x128.size (rSlot_inb s)
abbrev iBRect (b : Fin 1024) : Rect S1x131072 := Rect.unit (s := S1x131072) ![0, b.val * 128] S1x128.size (iBlk_inb b)
abbrev oBRect (b : Fin 1024) : Rect S131072x128 := Rect.unit (s := S131072x128) ![b.val * 128, 0] S128x128.size (oBlk_inb b)

/-- Half `s` of the index buffer, -/
def iSlot (s : Fin 2) : Memref sig .scVector .vmem S1x128 .i32 :=
  ((iBuf).slice (iRect s) (fun _ => rfl)).squeeze S1x128 squeezes_S1x1x128_S1x128
/-- half `s` of the row buffer, -/
def rSlot (s : Fin 2) : Memref sig .scVector .vmem S128x128 .f32 :=
  ((rBuf).slice (rRect s) (fun _ => rfl)).squeeze S128x128 squeezes_S1x128x128_S128x128
/-- half `s` of the index buffer as the list of rows the gather takes, -/
def oSlot (s : Fin 2) : Memref sig .scVector .vmem S128 .i32 :=
  ((iSlot s).slice (Rect.unit (s := S1x128) ![0, 0] S1x128.size inb_S1x128_S1x128_0_0) (fun _ => rfl)).squeeze S128 squeezes_S1x128_S128
/-- block `b` of the index array, -/
def iBlk (b : Fin 1024) : Memref sig .scVector .hbm S1x128 .i32 := (idxV).slice (iBRect b) (fun _ => rfl)
/-- block `b` of the result, -/
def oBlk (b : Fin 1024) : Memref sig .scVector .hbm S128x128 .f32 := (outV).slice (oBRect b) (fun _ => rfl)
/-- the table, as the gather names it. -/
def tabAll : Memref sig .scVector .hbm S2621440x128 .f32 :=
  (tabV).slice (Rect.unit (s := S2621440x128) ![0, 0] S2621440x128.size inb_S2621440x128_S2621440x128_0_0) (fun _ => rfl)

/-- The semaphore of the fetch into half `s`, -/
def iSem (s : Fin 2) : DmaSem sig := ((cc0_scoped1.slice (Rect.unit (s := S2) ![s.val] S1.size (cell_inb s))).squeeze S_ squeezes_S1_S_).sem
/-- and of the write out of half `s`. -/
def oSem (s : Fin 2) : DmaSem sig := ((cc0_scoped3.slice (Rect.unit (s := S2) ![s.val] S1.size (cell_inb s))).squeeze S_ squeezes_S1_S_).sem
/-- The gather's. -/
abbrev gSem : DmaSem sig := cc0_scoped4.sem

/-! ## The program's spellings are these -/

theorem iSlot_of {off : Fin 3 → ℕ} {inb : ∀ a, off a + S1x1x128.size a ≤ S2x1x128.size a} {s : Fin 2} (h : off = ![s.val, 0, 0]) :
    ((iBuf).slice (Rect.unit (s := S2x1x128) off S1x1x128.size inb) (fun _ => rfl)).squeeze S1x128 squeezes_S1x1x128_S1x128 = iSlot s := by
  subst h; rfl
theorem rSlot_of {off : Fin 3 → ℕ} {inb : ∀ a, off a + S1x128x128.size a ≤ S2x128x128.size a} {s : Fin 2} (h : off = ![s.val, 0, 0]) :
    ((rBuf).slice (Rect.unit (s := S2x128x128) off S1x128x128.size inb) (fun _ => rfl)).squeeze S128x128 squeezes_S1x128x128_S128x128 = rSlot s := by
  subst h; rfl
theorem oSlot_of (s : Fin 2) :
    ((iSlot s).slice (Rect.unit (s := S1x128) ![0, 0] S1x128.size inb_S1x128_S1x128_0_0) (fun _ => rfl)).squeeze S128 squeezes_S1x128_S128 = oSlot s := rfl
theorem iBlk_of {off : Fin 2 → ℕ} {inb : ∀ a, off a + S1x128.size a ≤ S1x131072.size a} {b : Fin 1024} (h : off = ![0, b.val * 128]) :
    ((idxV).slice (Rect.unit (s := S1x131072) off S1x128.size inb) (fun _ => rfl) : Memref sig .scVector .hbm S1x128 .i32) = iBlk b := by
  subst h; rfl
theorem oBlk_of {off : Fin 2 → ℕ} {inb : ∀ a, off a + S128x128.size a ≤ S131072x128.size a} {b : Fin 1024} (h : off = ![b.val * 128, 0]) :
    ((outV).slice (Rect.unit (s := S131072x128) off S128x128.size inb) (fun _ => rfl) : Memref sig .scVector .hbm S128x128 .f32) = oBlk b := by
  subst h; rfl
theorem iSem_of {off : Fin 1 → ℕ} {inb : ∀ a, off a + S1.size a ≤ S2.size a} {s : Fin 2} (h : off = ![s.val]) :
    ((cc0_scoped1.slice (Rect.unit (s := S2) off S1.size inb)).squeeze S_ squeezes_S1_S_).sem = iSem s := by
  subst h; rfl
theorem oSem_of {off : Fin 1 → ℕ} {inb : ∀ a, off a + S1.size a ≤ S2.size a} {s : Fin 2} (h : off = ![s.val]) :
    ((cc0_scoped3.slice (Rect.unit (s := S2) off S1.size inb)).squeeze S_ squeezes_S1_S_).sem = oSem s := by
  subst h; rfl

theorem iSem_val : ∀ s : Fin 2, iSem s = (match s with | 0 => 0 | 1 => 1) := by decide +kernel
theorem oSem_val : ∀ s : Fin 2, oSem s = (match s with | 0 => 2 | 1 => 3) := by decide +kernel
theorem gSem_val : gSem = 4 := by decide +kernel

/-! ## Credits -/

theorem iSlot_credit (s : Fin 2) : (iSlot s).view.dmaCredit = (iSlot 0).view.dmaCredit := rfl
theorem oBlk_credit (b : Fin 1024) : (oBlk b).view.dmaCredit = (oBlk 0).view.dmaCredit := rfl
theorem rSlot_rows (s : Fin 2) (h : S2621440x128.Gathers 0 S128x128) :
    ∑ j, ((rSlot s).slice (S128x128.rowRect h.axis' j) (S128x128.stride_rowRect h.axis' j)).view.dmaCredit = (rSlot s).view.dmaCredit := by
  revert s h; decide +kernel

/-! ## The sets of elements -/

theorem iSlot_set (s : Fin 2) : (iSlot s).view.set = (iRect s).set := by
  show (((iBuf).view.slice (iRect s)).reshape S1x128 squeezes_S1x1x128_S1x128.numel_eq).set = _
  rw [View.set_reshape, View.set_slice]; exact Finset.map_refl
theorem rSlot_set (s : Fin 2) : (rSlot s).view.set = (rRect s).set := by
  show (((rBuf).view.slice (rRect s)).reshape S128x128 squeezes_S1x128x128_S128x128.numel_eq).set = _
  rw [View.set_reshape, View.set_slice]; exact Finset.map_refl
theorem iBlk_set (b : Fin 1024) : (iBlk b).view.set = (iBRect b).set := by
  show ((idxV).view.slice (iBRect b)).set = _
  rw [View.set_slice]; exact Finset.map_refl
theorem oBlk_set (b : Fin 1024) : (oBlk b).view.set = (oBRect b).set := by
  show ((outV).view.slice (oBRect b)).set = _
  rw [View.set_slice]; exact Finset.map_refl
theorem oSlot_set (s : Fin 2) : (oSlot s).view.set = (iSlot s).view.set := by
  show (((iSlot s).view.slice (Rect.unit (s := S1x128) ![0, 0] S1x128.size inb_S1x128_S1x128_0_0)).reshape S128 squeezes_S1x128_S128.numel_eq).set = _
  rw [View.set_reshape, View.set_slice,
    show (Rect.unit (s := S1x128) ![0, 0] S1x128.size inb_S1x128_S1x128_0_0).set = Finset.univ by decide +kernel]
  rfl

theorem iRect_disjoint : Disjoint (iRect 0).set (iRect 1).set :=
  Rect.unit_disjoint (0 : Fin 3) (Or.inl (by decide))
theorem rRect_disjoint : Disjoint (rRect 0).set (rRect 1).set :=
  Rect.unit_disjoint (0 : Fin 3) (Or.inl (by decide))

theorem iRect_cover : (iRect 0).set ∪ (iRect 1).set = Finset.univ := by
  ext x
  simp only [Finset.mem_union, Rect.mem_set_unit, Finset.mem_univ, iff_true]
  have h0 : (x 0).val < 2 := (x 0).isLt
  have h1 : (x 1).val < 1 := (x 1).isLt
  have h2 : (x 2).val < 128 := (x 2).isLt
  by_cases h : (x 0).val = 0
  · left; intro a; match a with
    | 0 => show 0 ≤ (x 0).val ∧ (x 0).val < 0 + 1; omega
    | 1 => show 0 ≤ (x 1).val ∧ (x 1).val < 0 + 1; omega
    | 2 => show 0 ≤ (x 2).val ∧ (x 2).val < 0 + 128; omega
  · right; intro a; match a with
    | 0 => show 1 ≤ (x 0).val ∧ (x 0).val < 1 + 1; omega
    | 1 => show 0 ≤ (x 1).val ∧ (x 1).val < 0 + 1; omega
    | 2 => show 0 ≤ (x 2).val ∧ (x 2).val < 0 + 128; omega

theorem rRect_cover : (rRect 0).set ∪ (rRect 1).set = Finset.univ := by
  ext x
  simp only [Finset.mem_union, Rect.mem_set_unit, Finset.mem_univ, iff_true]
  have h0 : (x 0).val < 2 := (x 0).isLt
  have h1 : (x 1).val < 128 := (x 1).isLt
  have h2 : (x 2).val < 128 := (x 2).isLt
  by_cases h : (x 0).val = 0
  · left; intro a; match a with
    | 0 => show 0 ≤ (x 0).val ∧ (x 0).val < 0 + 1; omega
    | 1 => show 0 ≤ (x 1).val ∧ (x 1).val < 0 + 128; omega
    | 2 => show 0 ≤ (x 2).val ∧ (x 2).val < 0 + 128; omega
  · right; intro a; match a with
    | 0 => show 1 ≤ (x 0).val ∧ (x 0).val < 1 + 1; omega
    | 1 => show 0 ≤ (x 1).val ∧ (x 1).val < 0 + 128; omega
    | 2 => show 0 ≤ (x 2).val ∧ (x 2).val < 0 + 128; omega

theorem iBRect_disjoint {b b' : Fin 1024} (h : b ≠ b') : Disjoint (iBRect b).set (iBRect b').set := by
  have : b.val ≠ b'.val := fun e => h (Fin.ext e)
  refine Rect.unit_disjoint (1 : Fin 2) ?_
  show b.val * 128 + 128 ≤ b'.val * 128 ∨ b'.val * 128 + 128 ≤ b.val * 128
  omega
theorem oBRect_disjoint {b b' : Fin 1024} (h : b ≠ b') : Disjoint (oBRect b).set (oBRect b').set := by
  have : b.val ≠ b'.val := fun e => h (Fin.ext e)
  refine Rect.unit_disjoint (0 : Fin 2) ?_
  show b.val * 128 + 128 ≤ b'.val * 128 ∨ b'.val * 128 + 128 ≤ b.val * 128
  omega

theorem iBRect_cover : (Finset.univ : Finset (Fin 1024)).biUnion (fun b => (iBRect b).set) = Finset.univ := by
  ext x
  simp only [Finset.mem_biUnion, Finset.mem_univ, true_and, iff_true]
  have h0 : (x 0).val < 1 := (x 0).isLt
  have h1 : (x 1).val < 131072 := (x 1).isLt
  refine ⟨⟨(x 1).val / 128, by omega⟩, Rect.mem_set_unit.mpr fun a => ?_⟩
  match a with
  | 0 => show 0 ≤ (x 0).val ∧ (x 0).val < 0 + 1; omega
  | 1 => show (x 1).val / 128 * 128 ≤ (x 1).val ∧ (x 1).val < (x 1).val / 128 * 128 + 128; omega
theorem oBRect_cover : (Finset.univ : Finset (Fin 1024)).biUnion (fun b => (oBRect b).set) = Finset.univ := by
  ext x
  simp only [Finset.mem_biUnion, Finset.mem_univ, true_and, iff_true]
  have h0 : (x 0).val < 131072 := (x 0).isLt
  have h1 : (x 1).val < 128 := (x 1).isLt
  refine ⟨⟨(x 0).val / 128, by omega⟩, Rect.mem_set_unit.mpr fun a => ?_⟩
  match a with
  | 0 => show (x 0).val / 128 * 128 ≤ (x 0).val ∧ (x 0).val < (x 0).val / 128 * 128 + 128; omega
  | 1 => show 0 ≤ (x 1).val ∧ (x 1).val < 0 + 128; omega

/-! ## Elements -/

variable {F : FTy → Type}

/-- Element `j` of block `b` of the index array. -/
theorem iBlk_read (b : Fin 1024) (I : S1x131072.Idx → Elt F .i32) (x : S1x128.Idx) :
    (iBlk b).view.read (Elt F) I x = I (ix2 (x 0) ⟨b.val * 128 + (x 1).val, by have : (x 1).val < 128 := (x 1).isLt; omega⟩) := by
  refine (View.read_apply _ _).trans ((cast_eq _ _).trans (congrArg I ?_))
  show (iBRect b).emb x = _
  funext a
  match a with
  | 0 => exact Fin.ext (by show 0 + 1 * (x 0).val = (x 0).val; omega)
  | 1 => exact Fin.ext (by show b.val * 128 + 1 * (x 1).val = _; simp)

/-- Where element `y` of block `b` of the result lies. -/
theorem oBlk_emb (b : Fin 1024) (y : S128x128.Idx) :
    (oBlk b).view.emb y = (ix2 ⟨b.val * 128 + (y 0).val, by have : (y 0).val < 128 := (y 0).isLt; omega⟩ (y 1) : S131072x128.Idx) := by
  show (oBRect b).emb y = _
  funext a
  match a with
  | 0 => exact Fin.ext (by show b.val * 128 + 1 * (y 0).val = _; simp)
  | 1 => exact Fin.ext (by show 0 + 1 * (y 1).val = (y 1).val; omega)

/-- Entry `j` of the list the gather takes is word `j` of its half of the index buffer. -/
theorem oSlot_read (s : Fin 2) (f : S2x1x128.Idx → Elt F .i32) (x : S128.Idx) :
    (oSlot s).view.read (Elt F) f x = (iSlot s).view.read (Elt F) f (ix2 0 (x 0)) := by
  refine (View.read_apply _ _).trans ((cast_eq _ _).trans ?_)
  refine Eq.trans ?_ ((View.read_apply _ _).trans (cast_eq _ _)).symm
  refine congrArg f (congrArg (iSlot s).view.emb ?_)
  show (Rect.unit (s := S1x128) ![0, 0] S1x128.size inb_S1x128_S1x128_0_0).emb (Shape.reshapeEquiv squeezes_S1x128_S128.numel_eq x) = _
  have e : Shape.reshapeEquiv squeezes_S1x128_S128.numel_eq x = (ix2 0 (x 0) : S1x128.Idx) :=
    Shape.reshapeEquiv_eq_of_rowMajor _ (by rw [Shape.rowMajor_val_one, Shape.rowMajor_val_two]; show 0 * 128 + _ = _; simp)
  rw [e]
  funext a
  match a with
  | 0 => rfl
  | 1 => exact Fin.ext (by show 0 + 1 * (x 0).val = (x 0).val; omega)

/-- The table read through the gather's view of it is the table. -/
theorem tabAll_read (T : S2621440x128.Idx → Elt F .f32) : tabAll.view.read (Elt F) T = T := by
  funext x
  refine (View.read_apply _ _).trans ((cast_eq _ _).trans (congrArg T ?_))
  show (Rect.unit (s := S2621440x128) ![0, 0] S2621440x128.size inb_S2621440x128_S2621440x128_0_0).emb x = x
  funext a
  match a with
  | 0 => exact Fin.ext (by show 0 + 1 * (x 0).val = (x 0).val; omega)
  | 1 => exact Fin.ext (by show 0 + 1 * (x 1).val = (x 1).val; omega)

/-- The row a word names: the word itself where it is in range. -/
def rowOfWord (w : BitVec 32) : Fin 2621440 := Fin.ofNat 2621440 w.toNat

/-- The gathered array: row `r` is the table's row that index word `r` names. -/
def gathered (T : S2621440x128.Idx → Elt F .f32) (I : S1x131072.Idx → Elt F .i32) : S131072x128.Idx → Elt F .f32 :=
  fun x => T (ix2 (rowOfWord (I (ix2 0 (x 0)))) (x 1))

/-- Block `b` of it, 128 rows. -/
def gatheredBlk (T : S2621440x128.Idx → Elt F .f32) (I : S1x131072.Idx → Elt F .i32) (b : Fin 1024) : S128x128.Idx → Elt F .f32 :=
  fun y => gathered T I (ix2 ⟨b.val * 128 + (y 0).val, by have : (y 0).val < 128 := (y 0).isLt; omega⟩ (y 1))

/-- The index words of block `b`. -/
def idxBlk (I : S1x131072.Idx → Elt F .i32) (b : Fin 1024) : S1x128.Idx → Elt F .i32 := (iBlk b).view.read (Elt F) I

/-- What the gather delivers from block `b`'s index words is block `b` of the gathered array. -/
theorem payload_eq (T : S2621440x128.Idx → Elt F .f32) (I : S1x131072.Idx → Elt F .i32) (b : Fin 1024) (s : Fin 2)
    (f : S2x1x128.Idx → Elt F .i32) (hf : (iSlot s).view.read (Elt F) f = idxBlk I b)
    (hg : S2621440x128.Gathers 0 S128x128) (hn : S128.numel = S128x128.size hg.axis')
    (hin : ∀ x, ((oSlot s).view.read (Elt F) f x).toNat < S2621440x128.size hg.axis) :
    SparseCore.gatherPayload hg (tabAll.view.read (Elt F) T) (SparseCore.rows ((oSlot s).view.read (Elt F) f) hn hin)
      = gatheredBlk T I b := by
  funext y
  rw [tabAll_read]
  unfold SparseCore.gatherPayload gatheredBlk gathered
  refine congrArg T ?_
  funext a
  match a with
  | 0 =>
    refine (Shape.Gathers.idx_axis hg _ y).trans (Fin.ext ?_)
    have hy : (y 0).val < 128 := (y 0).isLt
    let x : S128.Idx := S128.rowMajor.symm ((y hg.axis').cast hn.symm)
    have hx : (x 0).val = (y 0).val := by
      have h1 : (S128.rowMajor x).val = (y 0).val := by simp [x]; rfl
      rw [← h1, Shape.rowMajor_val_one]
    have hw : (oSlot s).view.read (Elt F) f x = I (ix2 0 ⟨b.val * 128 + (y 0).val, by omega⟩) := by
      rw [oSlot_read, hf]; unfold idxBlk; rw [iBlk_read]
      refine congrArg I ?_
      funext a
      match a with
      | 0 => rfl
      | 1 => exact Fin.ext (by show b.val * 128 + (x 0).val = _; rw [hx])
    have hb : (I (ix2 0 ⟨b.val * 128 + (y 0).val, by omega⟩)).toNat < 2621440 := hw ▸ hin x
    show ((oSlot s).view.read (Elt F) f x).toNat = _
    rw [hw]
    exact (Nat.mod_eq_of_lt hb).symm
  | 1 => exact Fin.ext (Shape.Gathers.idx_of_ne hg _ y 1 (by decide))

end Cert.Gather

end
-- ==== Proof.Steps.lean ====
/-
  The resources a task holds, and one rule per memory operation of its loop: the fetch of a block of indices into a
  half of the index buffer and its wait, the gather of the rows they name and its wait, the write of those rows to the
  result and its wait.
-/
module

public import proofs.«01_k».proof.Proof.Views
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Gather

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The launch's ghost state: the handshakes' rounds and the transfers' counters. -/
abbrev UU : Type := URounds (GSem nD τ sig) ℕ × Counters

/-- The resource algebra the proof works in, -/
abbrev 𝕄 (F : FTy → Type) := MT nD τ sig (HIx 1) (Elt F) ℕ UU ℕ
/-- and its assertions. -/
abbrev SP (F : FTy → Type) := sProp (𝕄 F)

abbrev 𝒱₀ : Variants := Variants.none

/-- Vector subcore `s` of SparseCore `c` of device `d`. -/
abbrev thr (d : Dev nD) (c : Fin 2) (s : Fin 16) : Thread nD τ := V d ((at2 c s 0).castLE hcore0) ((at2 c s 1).castLE hsub0)

section Pieces

variable (d : Dev nD) (c : Fin 2) (s : Fin 16)

/-- Half `p` of the index buffer at contents `f`. -/
def iPts (p : Fin 2) (f : S2x1x128.Idx → Elt F .i32) : SP F :=
  (iSlot p).view.loc (thr d c s) ↦[(iSlot p).view.set]{fullShare} f
/-- Half `p` of the row buffer at contents `f`. -/
def rPts (p : Fin 2) (f : S2x128x128.Idx → Elt F .f32) : SP F :=
  (rSlot p).view.loc (thr d c s) ↦[(rSlot p).view.set]{fullShare} f
/-- Block `b` of the index array at contents `I`. -/
def iHome (I : S1x131072.Idx → Elt F .i32) (b : Fin 1024) : SP F :=
  (iBlk b).view.loc (thr d c s) ↦[(iBlk b).view.set]{fullShare} I
/-- Block `b` of the result at contents `O`. -/
def oPts (O : S131072x128.Idx → Elt F .f32) (b : Fin 1024) : SP F :=
  (oBlk b).view.loc (thr d c s) ↦[(oBlk b).view.set]{fullShare} O
/-- A share of the table. -/
def tPts (q : PosShare TreeShare) (T : S2621440x128.Idx → Elt F .f32) : SP F :=
  (tabAll).view.loc (thr d c s) ↦[(tabAll).view.set]{q} T

abbrev iCell (p : Fin 2) : SP F := semVal (thr d c s, SemLoc.dma (iSem p)) 0
abbrev oCell (p : Fin 2) : SP F := semVal (thr d c s, SemLoc.dma (oSem p)) 0
abbrev gCell : SP F := semVal (thr d c s, SemLoc.dma gSem) 0

/-- Half `p` of the index buffer, free. -/
def iFree (p : Fin 2) : SP F := iprop(∃ f : S2x1x128.Idx → Elt F .i32, iPts d c s p f ∗ iCell d c s p)
/-- Half `p` of the index buffer holding block `b`'s words. -/
def iFull (I : S1x131072.Idx → Elt F .i32) (p : Fin 2) (b : Fin 1024) : SP F :=
  iprop(∃ f : S2x1x128.Idx → Elt F .i32, ⌜(iSlot p).view.read (Elt F) f = idxBlk I b⌝ ∗ iPts d c s p f ∗ iCell d c s p)
/-- Block `b`'s fetch into half `p`, in flight. -/
def iPend (I : S1x131072.Idx → Elt F .i32) (p : Fin 2) (b : Fin 1024) : SP F :=
  iprop(∃ f, Transfers.Flight countersEmb (thr d c s) (SemLoc.dma (iSem p)) (default : HIx 1) (iSlot p).view.dmaCredit
    iprop(((iSlot p).view.loc (thr d c s) ↦[(iSlot p).view.set]{fullShare} (iSlot p).view.write (Elt F) f (idxBlk I b) Finset.univ)
      ∗ ((iBlk b).view.loc (thr d c s) ↦[(iBlk b).view.set]{fullShare} I)))
/-- Half `p` of the row buffer, free; its write-out's cell apart. -/
def rFree (p : Fin 2) : SP F := iprop(∃ f : S2x128x128.Idx → Elt F .f32, rPts d c s p f ∗ oCell d c s p)
/-- Half `p` of the row buffer holding rows `R`. -/
def rFull (R : S128x128.Idx → Elt F .f32) (p : Fin 2) : SP F :=
  iprop(∃ f : S2x128x128.Idx → Elt F .f32, ⌜(rSlot p).view.read (Elt F) f = R⌝ ∗ rPts d c s p f ∗ oCell d c s p)
/-- The write of rows `R` out of half `p` to block `b`, in flight. -/
def rPend (R : S128x128.Idx → Elt F .f32) (O : S131072x128.Idx → Elt F .f32) (p : Fin 2) (b : Fin 1024) : SP F :=
  iprop(∃ f, Transfers.Flight countersEmb (thr d c s) (SemLoc.dma (oSem p)) (default : HIx 1) (oBlk b).view.dmaCredit
    iprop(((oBlk b).view.loc (thr d c s) ↦[(oBlk b).view.set]{fullShare} (oBlk b).view.write (Elt F) O R Finset.univ)
      ∗ ((rSlot p).view.loc (thr d c s) ↦[(rSlot p).view.set]{fullShare} f)))

/-- The gather of block `b`'s rows into half `p`, in flight. -/
def gPend (I : S1x131072.Idx → Elt F .i32) (T : S2621440x128.Idx → Elt F .f32) (q : PosShare TreeShare) (p : Fin 2) (b : Fin 1024) : SP F :=
  iprop(∃ (f : S2x128x128.Idx → Elt F .f32) (fi : S2x1x128.Idx → Elt F .i32), ⌜(iSlot p).view.read (Elt F) fi = idxBlk I b⌝
    ∗ Transfers.Flight countersEmb (thr d c s) (SemLoc.dma gSem) (default : HIx 1) (rSlot p).view.dmaCredit
        iprop(((rSlot p).view.loc (thr d c s) ↦[(rSlot p).view.set]{fullShare} (rSlot p).view.write (Elt F) f (gatheredBlk T I b) Finset.univ)
          ∗ ((tabAll).view.loc (thr d c s) ↦[(tabAll).view.set]{q} T)
          ∗ ((oSlot p).view.loc (thr d c s) ↦[(oSlot p).view.set]{fullShare} fi))
    ∗ iCell d c s p ∗ oCell d c s p)

/-- What the subcore owes, its waits so far beside `W` being on its own transfers. -/
def owing (O : CellTallies nD τ sig (HIx 1)) (W : Waits sig (HIx 1)) : SP F :=
  iprop(Transfers.MayWaits (thr d c s) (default : HIx 1) O ∗ ∃ W', ⌜∀ p ∈ W', p ∈ W ∨ p.2 = none⌝ ∗ owes (thr d c s) O W')

end Pieces

variable [FloatOps F]

section Rules

variable (d : Dev nD) (c : Fin 2) (s : Fin 16)

/-- The assertion that the rest of the task, `p`, runs to `Q`. -/
abbrev goes {α : Type} (p : Prog (TpuEff nD τ sig (Elt F) Λ₀ (thr d c s).2) α) (Q : α → SP F) : SP F :=
  wp frame (wpE (defs₀ (F := F)) 𝒱₀ (thr d c s) none) Set.univ p Q

variable {O : CellTallies nD τ sig (HIx 1)} {W : Waits sig (HIx 1)} {Q : PUnit → SP F}

/-- Start fetching block `b` of the indices into half `p`. -/
theorem fetch (I : S1x131072.Idx → Elt F .i32) {p : Fin 2} {b : Fin 1024}
    {src : Memref sig .scVector .hbm S1x128 .i32} {dst : Memref sig .scVector .vmem S1x128 .i32} {sm : DmaSem sig}
    (e₁ : src = iBlk b) (e₂ : dst = iSlot p) (e₃ : sm = iSem p)
    {h₁ : src.view.WordExact} {h₂ : dst.view.WordExact} {h₃ : DmaTarget.Typed (nD := nD) (τ := τ) (p := (thr d c s).2) .hbm (.dma sm) (.here dst)} :
    iprop(iHome d c s I b ∗ iFree d c s p)
      ⊢ iprop((iPend d c s I p b -∗ Q ⟨⟩)
          -∗ goes d c s (Prog.lift (.enqueueDma src (.here dst) (.dma sm) h₁ h₂ h₃)) Q) := by
  subst e₁ e₂ e₃
  unfold iHome iFree iPts
  iintro ⟨Hs, %f, Hd, Hv⟩ Hk
  iapply (Transfers.wp_dmaLocal countersEmb 𝒱₀ (thr d c s) none (default : HIx 1) (iSlot p).view.dmaCredit rfl (View.dmaCredit_pos _ (by decide)) (Finset.Subset.refl _)) $$ [Hs Hd Hv]
  · isplitl [Hs]; · iexact Hs
    isplitl [Hd]; · iexact Hd
    iexact Hv
  iintro Hf
  rw [wp_ret]; imodintro
  iapply Hk
  unfold iPend
  iexists f; iexact Hf

/-- Await it. -/
theorem await (I : S1x131072.Idx → Elt F .i32) {p : Fin 2} {b : Fin 1024}
    {src : Memref sig .scVector .hbm S1x128 .i32} {dst : Memref sig .scVector .vmem S1x128 .i32} {sm : DmaSem sig}
    (e₂ : dst = iSlot p) (e₃ : sm = iSem p) {h₁ : src.view.WordExact} {h₂ : dst.view.WordExact} :
    iprop(iPend d c s I p b ∗ owing d c s O W)
      ⊢ iprop((iprop(iFull d c s I p b ∗ iHome d c s I b ∗ owing d c s O W) -∗ Q ⟨⟩)
          -∗ goes d c s (Prog.lift (.waitDma2 sm src dst h₁ h₂)) Q) := by
  subst e₂ e₃
  unfold iPend owing
  iintro ⟨⟨%f, Hf⟩, #Hm, %W', %hW, HO⟩ Hk
  iapply (Transfers.wp_waitLocalO countersEmb 𝒱₀ (thr d c s) none (default : HIx 1) rfl) $$ [Hf HO]
  · isplitl [Hf]; · iexact Hf
    isplitl [HO]; · iexact HO
    iapply (Transfers.MayWaits.elim (SemLoc.dma (iSem p))) $$ Hm
  iintro ⟨⟨Hd, Hs⟩, Hv, HO⟩
  rw [wp_ret]; imodintro
  iapply Hk
  unfold iFull iHome iPts
  isplitl [Hd Hv]
  · iexists _
    isplitr [Hd Hv]
    swap
    · isplitl [Hd]; · iexact Hd
      iexact Hv
    · ipureintro; exact View.read_write_univ _ _
  isplitl [Hs]; · iexact Hs
  isplitr; · iexact Hm
  iexists _; isplitr
  swap; · iexact HO
  ipureintro; intro x hx
  rcases Finset.mem_insert.mp hx with hx | hx
  · exact .inr (hx ▸ rfl)
  · exact hW x hx

/-- Start gathering the rows block `b`'s words name into half `p`. -/
theorem gather (I : S1x131072.Idx → Elt F .i32) (T : S2621440x128.Idx → Elt F .f32) (q : PosShare TreeShare) {p : Fin 2} {b : Fin 1024}
    (hI : ∀ x, (idxBlk I b x).toNat < 2621440)
    {src : Memref sig .scVector .hbm S2621440x128 .f32} {dst : Memref sig .scVector .vmem S128x128 .f32} {off : Memref sig .scVector .vmem S128 .i32} {sm : DmaSem sig}
    (e₁ : src = tabAll) (e₂ : dst = rSlot p) (e₃ : off = oSlot p) (e₄ : sm = gSem)
    {hg : S2621440x128.Gathers 0 S128x128} {hn : S128.numel = S128x128.size hg.axis'} {hp : (thr d c s).2.kind = .scVector}
    {h₁ : src.view.WordExact} {h₂ : (EltTy.f32).bits = 32} {h₃ : Space.hbm = .hbm ∨ Space.hbm = .shared} {hr : S2621440x128.StreamRows 0} :
    iprop(iFull d c s I p b ∗ rFree d c s p ∗ tPts d c s q T ∗ gCell d c s)
      ⊢ iprop((gPend d c s I T q p b -∗ Q ⟨⟩)
          -∗ goes d c s (SparseCore.enqueueIndirectGather (p := (thr d c s).2) hp src dst hg off hn sm h₁ h₂ h₃ hr) Q) := by
  subst e₁ e₂ e₃ e₄
  unfold iFull rFree rPts iPts tPts
  iintro ⟨⟨%fi, %hfi, Hi, Hic⟩, ⟨%f, Hr, Hrc⟩, Ht, Hg⟩ Hk
  have hin : ∀ x, ((oSlot p).view.read (Elt F) fi x).toNat < S2621440x128.size hg.axis := by
    intro x
    exact lt_of_eq_of_lt (congrArg BitVec.toNat ((oSlot_read p fi x).trans (congrFun hfi _))) (hI _)
  have e := SparseCore.wp_indirectGatherLocal (defs := defs₀ (F := F)) (Q := Q) (k := Prog.ret) (q := q) (qo := fullShare) (fs := T) (fd := f) countersEmb 𝒱₀ (thr d c s) none (hg := hg) (hn := hn) (hp := hp) (src := tabAll) (dst := rSlot p)
    (offs := oSlot p) (sem := gSem) (hsrc := h₁) (he := h₂) (hsp := h₃) (hr := hr) (default : HIx 1)
    (rSlot p).view.dmaCredit (rSlot_rows p hg) (by decide) hin
  rw [payload_eq T I b p fi hfi hg hn hin] at e
  iapply e $$ [Hr Ht Hi Hg]
  · isplitl [Ht]; · iexact Ht
    isplitl [Hr]; · iexact Hr
    isplitl [Hi]
    · iapply (Entails.of_eq (show ((iSlot p).view.loc (thr d c s) ↦[(iSlot p).view.set]{fullShare} fi : SP F)
        = (oSlot p).view.loc (thr d c s) ↦[(oSlot p).view.set]{fullShare} fi by rw [oSlot_set]; rfl))
      iexact Hi
    iexact Hg
  iintro Hf
  rw [wp_ret]; imodintro
  iapply Hk
  unfold gPend
  iexists f, fi
  isplitr [Hf Hic Hrc]
  · ipureintro; exact hfi
  isplitl [Hf]; · iexact Hf
  isplitl [Hic]; · iexact Hic
  iexact Hrc

/-- Await them: half `p` of the row buffer holds block `b` of the gathered array, half `p` of the index buffer is free. -/
theorem awaitRows (I : S1x131072.Idx → Elt F .i32) (T : S2621440x128.Idx → Elt F .f32) (q : PosShare TreeShare) {p : Fin 2} {b : Fin 1024}
    {src : Memref sig .scVector .hbm S2621440x128 .f32} {dst : Memref sig .scVector .vmem S128x128 .f32} {sm : DmaSem sig}
    (e₂ : dst = rSlot p) (e₄ : sm = gSem) {h₁ : src.view.WordExact} {h₂ : dst.view.WordExact} :
    iprop(gPend d c s I T q p b ∗ owing d c s O W)
      ⊢ iprop((iprop(rFull d c s (gatheredBlk T I b) p ∗ iFree d c s p ∗ tPts d c s q T ∗ gCell d c s ∗ owing d c s O W) -∗ Q ⟨⟩)
          -∗ goes d c s (SparseCore.waitIndirectGather (p := (thr d c s).2) sm src dst h₁ h₂) Q) := by
  subst e₂ e₄
  unfold gPend owing
  iintro ⟨⟨%f, %fi, %hfi, Hf, Hic, Hrc⟩, #Hm, %W', %hW, HO⟩ Hk
  unfold SparseCore.waitIndirectGather
  iapply (Transfers.wp_waitLocalO countersEmb 𝒱₀ (thr d c s) none (default : HIx 1) rfl) $$ [Hf HO]
  · isplitl [Hf]; · iexact Hf
    isplitl [HO]; · iexact HO
    iapply (Transfers.MayWaits.elim (SemLoc.dma gSem)) $$ Hm
  iintro ⟨⟨Hd, Ht, Hi⟩, Hv, HO⟩
  rw [wp_ret]; imodintro
  iapply Hk
  unfold rFull iFree rPts iPts tPts
  isplitl [Hd Hrc]
  · iexists _
    isplitr [Hd Hrc]
    swap
    · isplitl [Hd]; · iexact Hd
      iexact Hrc
    · ipureintro; exact View.read_write_univ _ _
  isplitl [Hi Hic]
  · iexists fi
    isplitl [Hi]
    · iapply (Entails.of_eq (show ((oSlot p).view.loc (thr d c s) ↦[(oSlot p).view.set]{fullShare} fi : SP F)
        = (iSlot p).view.loc (thr d c s) ↦[(iSlot p).view.set]{fullShare} fi by rw [oSlot_set]; rfl))
      iexact Hi
    iexact Hic
  isplitl [Ht]; · iexact Ht
  isplitl [Hv]; · iexact Hv
  isplitr; · iexact Hm
  iexists _; isplitr
  swap; · iexact HO
  ipureintro; intro x hx
  rcases Finset.mem_insert.mp hx with hx | hx
  · exact .inr (hx ▸ rfl)
  · exact hW x hx

/-- Start writing the rows in half `p` to block `b` of the result. -/
theorem put (R : S128x128.Idx → Elt F .f32) (Y : S131072x128.Idx → Elt F .f32) {p : Fin 2} {b : Fin 1024}
    {src : Memref sig .scVector .vmem S128x128 .f32} {dst : Memref sig .scVector .hbm S128x128 .f32} {sm : DmaSem sig}
    (e₁ : src = rSlot p) (e₂ : dst = oBlk b) (e₃ : sm = oSem p)
    {h₁ : src.view.WordExact} {h₂ : dst.view.WordExact} {h₃ : DmaTarget.Typed (nD := nD) (τ := τ) (p := (thr d c s).2) .vmem (.dma sm) (.here dst)} :
    iprop(rFull d c s R p ∗ oPts d c s Y b)
      ⊢ iprop((rPend d c s R Y p b -∗ Q ⟨⟩)
          -∗ goes d c s (Prog.lift (.enqueueDma src (.here dst) (.dma sm) h₁ h₂ h₃)) Q) := by
  subst e₁ e₂ e₃
  unfold rFull oPts rPts
  iintro ⟨⟨%f, %hf, Hs, Hv⟩, Hd⟩ Hk
  iapply (Transfers.wp_dmaLocal countersEmb 𝒱₀ (thr d c s) none (default : HIx 1) (oBlk b).view.dmaCredit rfl (View.dmaCredit_pos _ (by decide)) (Finset.Subset.refl _)) $$ [Hs Hd Hv]
  · isplitl [Hs]; · iexact Hs
    isplitl [Hd]; · iexact Hd
    iexact Hv
  iintro Hf
  rw [wp_ret]; imodintro
  iapply Hk
  unfold rPend
  iexists f
  rw [← hf]
  iexact Hf

/-- Await it: block `b` of the result holds the rows, half `p` is free. -/
theorem awaitPut (T : S2621440x128.Idx → Elt F .f32) (I : S1x131072.Idx → Elt F .i32) (Y : S131072x128.Idx → Elt F .f32) {p : Fin 2} {b : Fin 1024}
    {src : Memref sig .scVector .vmem S128x128 .f32} {dst : Memref sig .scVector .hbm S128x128 .f32} {sm : DmaSem sig}
    (e₂ : dst = oBlk b) (e₃ : sm = oSem p) {h₁ : src.view.WordExact} {h₂ : dst.view.WordExact} :
    iprop(rPend d c s (gatheredBlk T I b) Y p b ∗ owing d c s O W)
      ⊢ iprop((iprop(rFree d c s p ∗ oPts d c s (gathered T I) b ∗ owing d c s O W) -∗ Q ⟨⟩)
          -∗ goes d c s (Prog.lift (.waitDma2 sm src dst h₁ h₂)) Q) := by
  subst e₂ e₃
  unfold rPend owing
  iintro ⟨⟨%f, Hf⟩, #Hm, %W', %hW, HO⟩ Hk
  iapply (Transfers.wp_waitLocalO countersEmb 𝒱₀ (thr d c s) none (default : HIx 1) rfl) $$ [Hf HO]
  · isplitl [Hf]; · iexact Hf
    isplitl [HO]; · iexact HO
    iapply (Transfers.MayWaits.elim (SemLoc.dma (oSem p))) $$ Hm
  iintro ⟨⟨Hd, Hs⟩, Hv, HO⟩
  rw [wp_ret]; imodintro
  iapply Hk
  unfold rFree oPts rPts
  isplitl [Hs Hv]
  · iexists f
    isplitl [Hs]; · iexact Hs
    iexact Hv
  isplitl [Hd]
  · have e : ∀ x ∈ (oBlk b).view.set, (oBlk b).view.write (Elt F) Y (gatheredBlk T I b) Finset.univ x = gathered T I x := by
      intro x hx
      obtain ⟨y, -, rfl⟩ := Finset.mem_map.mp hx
      refine (View.write_emb_of_mem _ _ (Finset.mem_univ y)).trans ((cast_eq _ _).trans ?_)
      exact congrArg (gathered T I) (oBlk_emb b y).symm
    iapply (Entails.of_eq (pointsTo_congr (ℓ := (oBlk b).view.loc (thr d c s)) (q := fullShare) e))
    iexact Hd
  isplitr; · iexact Hm
  iexists _; isplitr
  swap; · iexact HO
  ipureintro; intro x hx
  rcases Finset.mem_insert.mp hx with hx | hx
  · exact .inr (hx ▸ rfl)
  · exact hW x hx

end Rules

end Cert.Gather

end
-- ==== Proof.Trip.lean ====
/-
  One trip of the pipelined loop: from what the task holds before trip `k` to what it holds before trip `k + 1`.
-/
module

public import proofs.«01_k».proof.Proof.Steps

@[expose] public section

noncomputable section

namespace Cert.Gather

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- Block number of trip `j`, for any `j` below 32. -/
def bk (c : Fin 2) (s : Fin 16) (j : ℕ) : Fin 1024 := blk c s ⟨j % 32, Nat.mod_lt _ (by decide)⟩

theorem bk_val (c : Fin 2) (s : Fin 16) {j : ℕ} (h : j < 32) : (bk c s j).val = blkN c s j := by
  show blkN c s (j % 32) = _
  rw [Nat.mod_eq_of_lt h]

theorem par_two (k : ℕ) : par (k + 1 + 1) = par k := Fin.ext (by show (k + 1 + 1) % 2 = k % 2; omega)

section Inv

variable (d : Dev nD) (c : Fin 2) (s : Fin 16) (O : CellTallies nD τ sig (HIx 1)) (W : Waits sig (HIx 1))
variable (T : S2621440x128.Idx → Elt F .f32) (I : S1x131072.Idx → Elt F .i32) (Y : S131072x128.Idx → Elt F .f32) (q : PosShare TreeShare)

/-- The worker's index blocks in `J`, at home; -/
def homes (J : Finset ℕ) : SP F := bigSep J fun j => iHome d c s I (bk c s j)
/-- its blocks of the result in `J`, at contents `X`. -/
def outs (X : S131072x128.Idx → Elt F .f32) (J : Finset ℕ) : SP F := bigSep J fun j => oPts d c s X (bk c s j)

/-- The half that trip `k` reads its indices from: their fetch in flight, or nothing after the last trip. -/
def reading (k : ℕ) : SP F := if k < 32 then iPend d c s I (par k) (bk c s k) else iFree d c s (par k)
/-- The other half of the row buffer: the write of the block before in flight, or nothing before the first trip. -/
def writing (k : ℕ) : SP F :=
  if k = 0 then rFree d c s (par (k + 1)) else rPend d c s (gatheredBlk T I (bk c s (k - 1))) Y (par (k + 1)) (bk c s (k - 1))

/-- What the task holds before trip `k`, beside the words the loop carries. -/
def held (k : ℕ) : SP F :=
  iprop(owing d c s O W ∗ tPts d c s q T ∗ gCell d c s
    ∗ reading d c s I k ∗ iFree d c s (par (k + 1)) ∗ homes d c s I ((Finset.range 32).erase k)
    ∗ rFree d c s (par k) ∗ writing d c s T I Y k
    ∗ outs d c s Y (Finset.Ico k 32) ∗ outs d c s (gathered T I) (Finset.range (k - 1)))

/-- The loop's invariant. -/
def Inv (k : ℕ) (acc : BitVec 32 × BitVec 32 × BitVec 32 × BitVec 32 × BitVec 32 × BitVec 32) : SP F :=
  iprop(⌜acc = st k⌝ ∗ held d c s O W T I Y q k)

/-- Two trips' blocks apart, the rest. -/
theorem homes_step {k : ℕ} (h : k < 31) :
    homes d c s I ((Finset.range 32).erase k) = iprop(iHome d c s I (bk c s (k + 1)) ∗ homes d c s I (((Finset.range 32).erase k).erase (k + 1))) := by
  unfold homes
  exact SparseCore.bigSep_erase' (Finset.mem_erase.mpr ⟨by omega, Finset.mem_range.mpr (by omega)⟩)

theorem homes_back {k : ℕ} (h : k < 32) :
    homes d c s I ((Finset.range 32).erase (k + 1)) = iprop(iHome d c s I (bk c s k) ∗ homes d c s I (((Finset.range 32).erase k).erase (k + 1))) := by
  unfold homes
  rw [Finset.erase_right_comm]
  exact SparseCore.bigSep_erase' (Finset.mem_erase.mpr ⟨by omega, Finset.mem_range.mpr (by omega)⟩)

theorem outs_todo {k : ℕ} (h : k < 32) (X : S131072x128.Idx → Elt F .f32) :
    outs d c s X (Finset.Ico k 32) = iprop(oPts d c s X (bk c s k) ∗ outs d c s X (Finset.Ico (k + 1) 32)) := by
  unfold outs
  rw [show Finset.Ico k 32 = insert k (Finset.Ico (k + 1) 32) by ext x; simp only [Finset.mem_insert, Finset.mem_Ico]; omega]
  exact SparseCore.bigSep_insert' (by simp)

theorem outs_done {k : ℕ} (h : 0 < k) (X : S131072x128.Idx → Elt F .f32) :
    outs d c s X (Finset.range k) = iprop(oPts d c s X (bk c s (k - 1)) ∗ outs d c s X (Finset.range (k - 1))) := by
  obtain ⟨k, rfl⟩ : ∃ j, k = j + 1 := ⟨k - 1, by omega⟩
  unfold outs
  rw [Finset.range_add_one]
  exact SparseCore.bigSep_insert' (by simp)

end Inv

variable [FloatOps F]

section Trip

variable (d : Dev nD) (c : Fin 2) (s : Fin 16) (O : CellTallies nD τ sig (HIx 1)) (W : Waits sig (HIx 1))
variable (T : S2621440x128.Idx → Elt F .f32) (I : S1x131072.Idx → Elt F .i32) (Y : S131072x128.Idx → Elt F .f32) (q : PosShare TreeShare)

/-- The loop's body as the launch instantiates it. -/
abbrev body (v7 v27 v29 : BitVec 32) :=
  k0_t1_body (F := F) (at2 c s) tabV (Memref.isWhole_whole _) idxV (Memref.isWhole_whole _) outV (Memref.isWhole_whole _)
    iBuf (Memref.isWhole_whole _) cc0_scoped1 rBuf (Memref.isWhole_whole _) cc0_scoped3 cc0_scoped4 (base (at2 c s)) v7 v27 v29

omit [FloatOps F] in
/-- A side condition that holds is passed. -/
theorem assume_of [FloatOps F] {P : Prop} {dec : Decidable P} {Q : PLift P → SP F} (h : P) :
    wp frame (wpE (defs₀ (F := F)) 𝒱₀ (thr d c s) none) Set.univ (Prog.lift (.assume P dec)) Q = iprop(|={Set.univ}[frame]=> Q ⟨h⟩) :=
  wp_assume_of 𝒱₀ (thr d c s) none Set.univ h

/-- The fetch of the next block's indices, which every trip but the last starts. -/
theorem fetchNext {α : Type} {Q : α → SP F} (k : Fin 32) {b : BitVec 1} (hb : b = if k.val < 31 then 1#1 else 0#1)
    {src : b = 1#1 → Memref sig .scVector .hbm S1x128 .i32} {dst : b = 1#1 → Memref sig .scVector .vmem S1x128 .i32} {sm : b = 1#1 → DmaSem sig}
    (e₁ : k.val < 31 → ∀ h, src h = iBlk (bk c s (k.val + 1))) (e₂ : k.val < 31 → ∀ h, dst h = iSlot (par (k.val + 1)))
    (e₃ : k.val < 31 → ∀ h, sm h = iSem (par (k.val + 1)))
    {h₁ : ∀ h, (src h).view.WordExact} {h₂ : ∀ h, (dst h).view.WordExact}
    {h₃ : ∀ h, DmaTarget.Typed (nD := nD) (τ := τ) (p := (thr d c s).2) .hbm (.dma (sm h)) (.here (dst h))}
    {rest : Prog (TpuEff nD τ sig (Elt F) Λ₀ (thr d c s).2) α} :
    iprop(iFree d c s (par (k.val + 1)) ∗ homes d c s I ((Finset.range 32).erase k.val))
      ⊢ iprop((iprop(reading d c s I (k.val + 1) ∗ homes d c s I (((Finset.range 32).erase k.val).erase (k.val + 1))) -∗ goes d c s rest Q)
          -∗ goes d c s (if h : b = 1#1 then
              Prog.lift (.enqueueDma (src h) (.here (dst h)) (.dma (sm h)) (h₁ h) (h₂ h) (h₃ h)) >>= fun _ => rest
            else rest) Q) := by
  by_cases hk : k.val < 31
  · rw [if_pos hk] at hb
    rw [dif_pos hb, homes_step d c s I hk]
    unfold goes
    rw [wp_bind]
    iintro ⟨Hf, Hh, Hr⟩ Hk
    iapply (fetch d c s I (e₁ hk hb) (e₂ hk hb) (e₃ hk hb)) $$ [Hf Hh]
    · isplitl [Hh]; · iexact Hh
      iexact Hf
    iintro Hp
    iapply Hk
    unfold reading
    rw [if_pos (show k.val + 1 < 32 by omega)]
    isplitl [Hp]; · iexact Hp
    iexact Hr
  · rw [if_neg hk] at hb
    have hk' := k.isLt
    rw [dif_neg (by rw [hb]; decide)]
    iintro ⟨Hf, Hr⟩ Hk
    iapply Hk
    unfold reading
    rw [if_neg (show ¬ k.val + 1 < 32 by omega),
      Finset.erase_eq_of_notMem (s := (Finset.range 32).erase k.val) (a := k.val + 1) (by simp; omega)]
    isplitl [Hf]; · iexact Hf
    iexact Hr

/-- The wait for the write of the block before, which every trip but the first makes. -/
theorem awaitBefore {α : Type} {Q : α → SP F} (k : Fin 32) {b : BitVec 1} (hb : b = if 0 < k.val then 1#1 else 0#1)
    {src : b = 1#1 → Memref sig .scVector .vmem S128x128 .f32} {dst : b = 1#1 → Memref sig .scVector .hbm S128x128 .f32} {sm : b = 1#1 → DmaSem sig}
    (e₂ : 0 < k.val → ∀ h, dst h = oBlk (bk c s (k.val - 1)))
    (e₃ : 0 < k.val → ∀ h, sm h = oSem (par (k.val + 1)))
    {h₁ : ∀ h, (src h).view.WordExact} {h₂ : ∀ h, (dst h).view.WordExact}
    {rest : Prog (TpuEff nD τ sig (Elt F) Λ₀ (thr d c s).2) α} :
    iprop(writing d c s T I Y k.val ∗ outs d c s (gathered T I) (Finset.range (k.val - 1)) ∗ owing d c s O W)
      ⊢ iprop((iprop(rFree d c s (par (k.val + 1)) ∗ outs d c s (gathered T I) (Finset.range k.val) ∗ owing d c s O W) -∗ goes d c s rest Q)
          -∗ goes d c s (if h : b = 1#1 then
              Prog.lift (.waitDma2 (sm h) (src h) (dst h) (h₁ h) (h₂ h)) >>= fun _ => rest
            else rest) Q) := by
  by_cases hk : 0 < k.val
  · rw [if_pos hk] at hb
    rw [dif_pos hb, outs_done d c s hk]
    unfold goes writing
    rw [wp_bind, if_neg (show ¬ k.val = 0 by omega)]
    iintro ⟨Hp, Hr, HO⟩ Hk
    iapply (awaitPut d c s T I Y (e₂ hk hb) (e₃ hk hb)) $$ [Hp HO]
    · isplitl [Hp]; · iexact Hp
      iexact HO
    iintro ⟨Hf, Ho, HO⟩
    iapply Hk
    isplitl [Hf]; · iexact Hf
    isplitr [HO]
    · isplitl [Ho]; · iexact Ho
      iexact Hr
    iexact HO
  · rw [if_neg hk] at hb
    have h0 : k.val = 0 := by omega
    rw [dif_neg (by rw [hb]; decide)]
    unfold writing
    rw [if_pos h0, h0]
    iintro H Hk
    iapply Hk
    iexact H

set_option maxHeartbeats 4000000 in
/-- Trip `k`. -/
theorem trip (hI : ∀ b x, (idxBlk I b x).toNat < 2621440) (v7 v27 v29 : BitVec 32) (k : Fin 32) :
    held d c s O W T I Y q k.val
      ⊢ goes d c s (body c s v7 v27 v29 (tr k) (w6 k.val, w7 k.val, w7 k.val, w9 k.val, w10 k.val, w11 k.val))
          (Inv d c s O W T I Y q (k.val + 1)) := by
  have hk := k.isLt
  unfold held
  rw [outs_todo d c s hk Y, show reading d c s I k.val = iPend d c s I (par k.val) (bk c s k.val) from if_pos hk]
  unfold goes body k0_t1_body
  simp only [k0_part1_eq_skeleton, k0_part1_skel, k0_part2_eq_skeleton, k0_part2_skel, k0_part3_eq_skeleton, k0_part3_skel,
    wp_bind, wp_pure, ite_self, cond2_eq, cond5_eq, ↓reduceDIte, assume_of d c s (chk3_ok k), assume_of d c s (chk2_ok k),
    assume_of d c s (chk1_ok c s k)]
  iintro ⟨HO, Ht, Hg, Hi, Hif, Hh, Hrf, Hw, ⟨Ho, Hos⟩, Hod⟩
  imodintro
  imodintro
  imodintro
  imodintro
  iapply (fetchNext d c s I k (cond1_eq c s k)
    (fun h _ => iBlk_of (by rw [off5_eq c s k h, bk_val c s (by omega)])) (fun h _ => iSlot_of (off4_eq k h)) (fun h _ => iSem_of (off6_eq k h))) $$ [Hif Hh]
  · isplitl [Hif]; · iexact Hif
    iexact Hh
  iintro ⟨Hi', Hh⟩
  simp only [wp_bind, wp_pure]
  iapply (await d c s (O := O) (W := W) I (iSlot_of (off7_eq k)) (iSem_of (off9_eq k))) $$ [Hi HO]
  · isplitl [Hi]; · iexact Hi
    iexact HO
  iintro ⟨Hi, Hhk, HO⟩
  imodintro
  iapply (gather d c s I T q (hI _) rfl (rSlot_of (off10_eq k)) (by rw [iSlot_of (off11_eq k)]; rfl) rfl) $$ [Hi Hrf Ht Hg]
  · isplitl [Hi]; · iexact Hi
    isplitl [Hrf]; · iexact Hrf
    isplitl [Ht]; · iexact Ht
    iexact Hg
  iintro Hgp
  iapply (awaitRows d c s (O := O) (W := W) I T q (rSlot_of (off10_eq k)) rfl) $$ [Hgp HO]
  · isplitl [Hgp]; · iexact Hgp
    iexact HO
  iintro ⟨Hr, Hif, Ht, Hg, HO⟩
  iapply (put d c s (gatheredBlk T I (bk c s k.val)) Y (rSlot_of (off12_eq k)) (oBlk_of (by rw [off13_eq c s k, bk_val c s hk])) (oSem_of (off14_eq k))) $$ [Hr Ho]
  · isplitl [Hr]; · iexact Hr
    iexact Ho
  iintro Hrp
  imodintro
  iapply (awaitBefore d c s O W T I Y k (cond7_eq c s k)
    (fun h _ => oBlk_of (by rw [off16_eq c s k h, bk_val c s (by omega)])) (fun h _ => oSem_of (off17_eq k h))) $$ [Hw Hod HO]
  · isplitl [Hw]; · iexact Hw
    isplitl [Hod]; · iexact Hod
    iexact HO
  iintro ⟨Hrf, Hod, HO⟩
  simp only [wp_pure]
  imodintro
  unfold Inv held
  isplitr
  · ipureintro; exact next_eq c s k
  isplitl [HO]; · iexact HO
  isplitl [Ht]; · iexact Ht
  isplitl [Hg]; · iexact Hg
  isplitl [Hi']; · iexact Hi'
  isplitl [Hif]; · rw [par_two]; iexact Hif
  isplitl [Hh Hhk]
  · rw [homes_back d c s I hk]
    isplitl [Hhk]; · iexact Hhk
    iexact Hh
  isplitl [Hrf]; · iexact Hrf
  isplitl [Hrp]
  · unfold writing
    rw [if_neg (Nat.succ_ne_zero _), par_two]; iexact Hrp
  isplitl [Hos]; · iexact Hos
  iexact Hod

end Trip

end Cert.Gather

end
-- ==== Proof.Task.lean ====
/-
  A subcore's whole task: the first fetch, the 32 trips, and the wait for the last block's write.
-/
module

public import proofs.«01_k».proof.Proof.Trip

@[expose] public section

noncomputable section

namespace Cert.Gather

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

variable (d : Dev nD) (c : Fin 2) (s : Fin 16) (O : CellTallies nD τ sig (HIx 1)) (W : Waits sig (HIx 1))
variable (T : S2621440x128.Idx → Elt F .f32) (I : S1x131072.Idx → Elt F .i32) (Y : S131072x128.Idx → Elt F .f32) (q : PosShare TreeShare)

omit [FloatOps F] in
theorem homes_first : homes d c s I (Finset.range 32) = iprop(iHome d c s I (bk c s 0) ∗ homes d c s I ((Finset.range 32).erase 0)) := by
  unfold homes
  exact SparseCore.bigSep_erase' (Finset.mem_range.mpr (by omega))

omit [FloatOps F] in
theorem reading_zero : reading d c s I 0 = iPend d c s I (par 0) (bk c s 0) := if_pos (by omega)
omit [FloatOps F] in
theorem writing_zero : writing d c s T I Y 0 = rFree d c s 1 := if_pos rfl

omit [FloatOps F] in
theorem reading_last : reading d c s I 32 = iFree d c s 0 := if_neg (by omega)
omit [FloatOps F] in
theorem writing_last : writing d c s T I Y 32 = rPend d c s (gatheredBlk T I (bk c s 31)) Y (par 33) (bk c s 31) := if_neg (by omega)

/-- The scratch of a task at rest: both halves of both double buffers, and the gather's cell. -/
def rest : SP F :=
  iprop(gCell d c s ∗ iFree d c s 0 ∗ iFree d c s 1 ∗ rFree d c s 0 ∗ rFree d c s 1)

set_option maxHeartbeats 4000000 in
theorem task (hI : ∀ b x, (idxBlk I b x).toNat < 2621440) :
    iprop(owing d c s O W ∗ rest d c s ∗ tPts d c s q T ∗ homes d c s I (Finset.range 32) ∗ outs d c s Y (Finset.range 32))
      ⊢ goes d c s (cc0_gather (F := F) (at2 c s) tabV (Memref.isWhole_whole _) idxV (Memref.isWhole_whole _) outV (Memref.isWhole_whole _)
          iBuf (Memref.isWhole_whole _) cc0_scoped1 rBuf (Memref.isWhole_whole _) cc0_scoped3 cc0_scoped4)
        fun _ => iprop(owing d c s O W ∗ rest d c s ∗ tPts d c s q T ∗ homes d c s I (Finset.range 32) ∗ outs d c s (gathered T I) (Finset.range 32)) := by
  unfold goes rest
  simp only [cc0_gather_eq_skeleton, cc0_gather_skel, k0_part4_eq_skeleton, k0_part4_skel, k0_part5_eq_skeleton, k0_part5_skel,
    k0_part6_eq_skeleton, k0_part6_skel, wp_bind, wp_pure]
  rw [homes_first]
  iintro ⟨HO, ⟨Hg, Hi0, Hi1, Hr0, Hr1⟩, Ht, ⟨Hh0, Hh⟩, Ho⟩
  imodintro
  iapply (fetch d c s I (p := par 0) (b := bk c s 0) (iBlk_of (by rw [off2_eq c s, bk_val c s (by omega)])) (iSlot_of off1_eq) (iSem_of off3_eq)) $$ [Hh0 Hi0]
  · isplitl [Hh0]; · iexact Hh0
    iexact Hi0
  iintro Hp
  iapply (Scf.wp_for _ _ _ _ _ _ _ _ _ (Inv d c s O W T I Y q) (fun k acc => by
    unfold Inv
    iintro ⟨%h, H⟩
    subst h
    iapply (trip d c s O W T I Y q hI _ _ _ (k.cast trips_eq))
    iexact H))
  isplitl [HO Hg Hi1 Hr0 Hr1 Ht Hh Ho Hp]
  · unfold Inv held
    isplitr
    · ipureintro; exact st_zero.symm
    isplitl [HO]; · iexact HO
    isplitl [Ht]; · iexact Ht
    isplitl [Hg]; · iexact Hg
    isplitl [Hp]; · rw [reading_zero]; iexact Hp
    isplitl [Hi1]; · iexact Hi1
    isplitl [Hh]; · iexact Hh
    isplitl [Hr0]; · iexact Hr0
    isplitl [Hr1]; · rw [writing_zero]; iexact Hr1
    isplitl [Ho]
    · rw [show Finset.Ico 0 32 = Finset.range 32 from (Finset.range_eq_Ico 32).symm]; iexact Ho
    unfold outs
    rw [show Finset.range (0 - 1) = ∅ from rfl, bigSep_empty]
    iempintro
  iintro %acc Hinv
  unfold Inv held
  rw [show Scf.trips k0_t1_loop.lb k0_t1_loop.ub k0_t1_loop.st = 32 from trips_eq, reading_last, writing_last]
  icases Hinv with ⟨%hacc, HO, Ht, Hg, Hi0, Hi1, Hh, Hr0, Hw, -, Hod⟩
  replace hacc : acc = (w6 32, w7 32, w7 32, w9 32, w10 32, w11 32) := hacc
  subst hacc
  simp only [assume_of d c s (chk5_ok c s), assume_of d c s chk4_ok]
  imodintro
  imodintro
  imodintro
  imodintro
  iapply (awaitPut d c s (O := O) (W := W) T I Y (p := par 33) (b := bk c s 31) (oBlk_of (by rw [off19_eq c s, bk_val c s (by omega)])) (oSem_of off20_eq)) $$ [Hw HO]
  · isplitl [Hw]; · iexact Hw
    iexact HO
  iintro ⟨Hr1, Ho, HO⟩
  try imodintro
  isplitl [HO]; · iexact HO
  isplitl [Hg Hi0 Hi1 Hr0 Hr1]
  · isplitl [Hg]; · iexact Hg
    isplitl [Hi0]; · iexact Hi0
    isplitl [Hi1]; · iexact Hi1
    isplitl [Hr0]; · iexact Hr0
    iexact Hr1
  isplitl [Ht]; · iexact Ht
  isplitl [Hh]
  · rw [show (Finset.range 32).erase 32 = Finset.range 32 from Finset.erase_eq_of_notMem (by simp)]
    iapply (Entails.of_eq (homes_first d c s I))
    iexact Hh
  rw [outs_done d c s (show 0 < 32 by omega)]
  isplitl [Ho]; · iexact Ho
  iexact Hod

end Cert.Gather

end
-- ==== Proof.Tile.lean ====
/-
  A subcore's own scratch is what a task rests on: the two double buffers, each in its two halves, and the five
  semaphore cells.
-/
module

public import proofs.«01_k».proof.Proof.Task

@[expose] public section

noncomputable section

namespace Cert.Gather

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The program as the launch theorem sees it. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Halves

variable (d : Dev nD) (c : Fin 2) (s : Fin 16)

theorem iBuf_halves (f : S2x1x128.Idx → Elt F .i32) :
    ((thr d c s).loc cc0_scoped0 ↦{fullShare} f : SP F) ⊣⊢ iprop(iPts d c s 0 f ∗ iPts d c s 1 f) := by
  unfold iPts
  rw [iSlot_set, iSlot_set]
  have h := pointsTo_union (ℓ := (thr d c s).loc cc0_scoped0) (q := fullShare) (f := f) (Val := Elt F) (Ix := HIx 1) (Name := ℕ) (U := UU) (Lvl := ℕ) iRect_disjoint
  rw [show (iRect 0).set ∪ (iRect 1).set = (Finset.univ : Finset S2x1x128.Idx) from iRect_cover] at h
  exact h

theorem iBuf_join (f g : S2x1x128.Idx → Elt F .i32) :
    iprop(iPts d c s 0 f ∗ iPts d c s 1 g) ⊢ (iprop(∃ h, (thr d c s).loc cc0_scoped0 ↦{fullShare} h) : SP F) := by
  unfold iPts
  rw [iSlot_set, iSlot_set]
  have h := pointsTo_join (ℓ := (thr d c s).loc cc0_scoped0) (q := fullShare) (f := f) (g := g) (Val := Elt F) (Ix := HIx 1) (Name := ℕ) (U := UU) (Lvl := ℕ) iRect_disjoint
  rw [show (iRect 0).set ∪ (iRect 1).set = (Finset.univ : Finset S2x1x128.Idx) from iRect_cover] at h
  iintro H
  iexists _
  iapply h
  iexact H

theorem rBuf_halves (f : S2x128x128.Idx → Elt F .f32) :
    ((thr d c s).loc cc0_scoped2 ↦{fullShare} f : SP F) ⊣⊢ iprop(rPts d c s 0 f ∗ rPts d c s 1 f) := by
  unfold rPts
  rw [rSlot_set, rSlot_set]
  have h := pointsTo_union (ℓ := (thr d c s).loc cc0_scoped2) (q := fullShare) (f := f) (Val := Elt F) (Ix := HIx 1) (Name := ℕ) (U := UU) (Lvl := ℕ) rRect_disjoint
  rw [show (rRect 0).set ∪ (rRect 1).set = (Finset.univ : Finset S2x128x128.Idx) from rRect_cover] at h
  exact h

theorem rBuf_join (f g : S2x128x128.Idx → Elt F .f32) :
    iprop(rPts d c s 0 f ∗ rPts d c s 1 g) ⊢ (iprop(∃ h, (thr d c s).loc cc0_scoped2 ↦{fullShare} h) : SP F) := by
  unfold rPts
  rw [rSlot_set, rSlot_set]
  have h := pointsTo_join (ℓ := (thr d c s).loc cc0_scoped2) (q := fullShare) (f := f) (g := g) (Val := Elt F) (Ix := HIx 1) (Name := ℕ) (U := UU) (Lvl := ℕ) rRect_disjoint
  rw [show (rRect 0).set ∪ (rRect 1).set = (Finset.univ : Finset S2x128x128.Idx) from rRect_cover] at h
  iintro H
  iexists _
  iapply h
  iexact H

end Halves

section Own

variable (d : Dev nD) (c : Fin 2) (s : Fin 16)

/-- The subcore's DMA cell `n`. -/
abbrev cell (n : DmaSem sig) : GSem nD τ sig := (thr d c s, .dma n)

theorem cell_own (n : DmaSem sig) (h : (SemLoc.dma n : SemLoc sig).isScoped .scVector = true) : cell d c s n ∈ ownCells (thr d c s) :=
  mem_ownCells.mpr ⟨rfl, h⟩

theorem cell_ne {a b : DmaSem sig} (h : a ≠ b) : cell d c s a ≠ cell d c s b := fun e => h (by
  have := congrArg Prod.snd e
  exact SemLoc.dma.inj this)

/-- The subcore's other cells. -/
def otherCells : Finset (GSem nD τ sig) :=
  (((((ownCells (thr d c s)).erase (cell d c s gSem)).erase (cell d c s (iSem 0))).erase (cell d c s (iSem 1))).erase (cell d c s (oSem 0))).erase (cell d c s (oSem 1))

theorem ownSems0_split :
    (ownSems0 (thr d c s) : SP F)
      = iprop(gCell d c s ∗ iCell d c s 0 ∗ iCell d c s 1 ∗ oCell d c s 0 ∗ oCell d c s 1
          ∗ bigSep (otherCells d c s) fun g => semVal g 0) := by
  unfold SparseCore.Cfg.ownSems0 otherCells
  rw [SparseCore.bigSep_erase' (cell_own d c s gSem (by decide +kernel)),
    SparseCore.bigSep_erase' (i := cell d c s (iSem 0)) (by
      simp only [Finset.mem_erase]
      exact ⟨cell_ne d c s (by decide +kernel), cell_own d c s _ (by decide +kernel)⟩),
    SparseCore.bigSep_erase' (i := cell d c s (iSem 1)) (by
      simp only [Finset.mem_erase]
      exact ⟨cell_ne d c s (by decide +kernel), cell_ne d c s (by decide +kernel), cell_own d c s _ (by decide +kernel)⟩),
    SparseCore.bigSep_erase' (i := cell d c s (oSem 0)) (by
      simp only [Finset.mem_erase]
      exact ⟨cell_ne d c s (by decide +kernel), cell_ne d c s (by decide +kernel), cell_ne d c s (by decide +kernel), cell_own d c s _ (by decide +kernel)⟩),
    SparseCore.bigSep_erase' (i := cell d c s (oSem 1)) (by
      simp only [Finset.mem_erase]
      exact ⟨cell_ne d c s (by decide +kernel), cell_ne d c s (by decide +kernel), cell_ne d c s (by decide +kernel), cell_ne d c s (by decide +kernel), cell_own d c s _ (by decide +kernel)⟩)]

/-- The subcore's other buffers. -/
def otherRefs : Finset (DevRef τ sig) :=
  ((ownRefs (τ := τ) (thr d c s).2).erase ((thr d c s).2.devRef cc0_scoped0)).erase ((thr d c s).2.devRef cc0_scoped2)

theorem ownBufs_split :
    (ownBufs (thr d c s) : SP F)
      = iprop((∃ f, (thr d c s).loc cc0_scoped0 ↦{fullShare} f) ∗ (∃ f, (thr d c s).loc cc0_scoped2 ↦{fullShare} f)
          ∗ bigSep (otherRefs d c s) fun b => iprop(∃ f, ((d, b) : Loc nD τ sig) ↦{fullShare} f)) := by
  unfold SparseCore.Cfg.ownBufs otherRefs
  refine (SparseCore.bigSep_erase' (SparseCore.Cfg.mem_ownRefs_of_owner (p := (thr d c s).2)
    (b := (thr d c s).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d c s).2) (b := (thr d c s).2.devRef cc0_scoped2) rfl⟩)]

/-- What of a subcore's own a task leaves alone. -/
def others : SP F :=
  iprop((bigSep (otherRefs d c s) fun b => iprop(∃ f, ((d, b) : Loc nD τ sig) ↦{fullShare} f)) ∗ bigSep (otherCells d c s) fun g => semVal g 0)

theorem own_rest : iprop(ownBufs (thr d c s) ∗ ownSems0 (thr d c s)) ⊢ (iprop(rest d c s ∗ others d c s) : SP F) := by
  rw [ownBufs_split, ownSems0_split]
  unfold rest others iFree rFree
  iintro ⟨⟨⟨%f, Hi⟩, ⟨%g, Hr⟩, Hb⟩, Hg, Hi0, Hi1, Ho0, Ho1, Hs⟩
  ihave Hi := (iBuf_halves d c s f).1 $$ Hi
  icases Hi with ⟨Hf0, Hf1⟩
  ihave Hr := (rBuf_halves d c s g).1 $$ Hr
  icases Hr with ⟨Hr0, Hr1⟩
  isplitr [Hb Hs]
  · isplitl [Hg]; · iexact Hg
    isplitl [Hf0 Hi0]
    · iexists f; isplitl [Hf0]; · iexact Hf0
      iexact Hi0
    isplitl [Hf1 Hi1]
    · iexists f; isplitl [Hf1]; · iexact Hf1
      iexact Hi1
    isplitl [Hr0 Ho0]
    · iexists g; isplitl [Hr0]; · iexact Hr0
      iexact Ho0
    iexists g; isplitl [Hr1]; · iexact Hr1
    iexact Ho1
  isplitl [Hb]; · iexact Hb
  iexact Hs

theorem rest_own : iprop(rest d c s ∗ others d c s) ⊢ (iprop(ownBufs (thr d c s) ∗ ownSems0 (thr d c s)) : SP F) := by
  rw [ownBufs_split, ownSems0_split]
  unfold rest others iFree rFree
  iintro ⟨⟨Hg, ⟨%f0, Hf0, Hi0⟩, ⟨%f1, Hf1, Hi1⟩, ⟨%g0, Hr0, Ho0⟩, ⟨%g1, Hr1, Ho1⟩⟩, Hb, Hs⟩
  ihave Hi := (iBuf_join d c s f0 f1) $$ [Hf0 Hf1]
  · isplitl [Hf0]; · iexact Hf0
    iexact Hf1
  ihave Hr := (rBuf_join d c s g0 g1) $$ [Hr0 Hr1]
  · isplitl [Hr0]; · iexact Hr0
    iexact Hr1
  isplitl [Hi Hr Hb]
  · isplitl [Hi]; · iexact Hi
    isplitl [Hr]; · iexact Hr
    iexact Hb
  isplitl [Hg]; · iexact Hg
  isplitl [Hi0]; · iexact Hi0
  isplitl [Hi1]; · iexact Hi1
  isplitl [Ho0]; · iexact Ho0
  isplitl [Ho1]; · iexact Ho1
  iexact Hs

end Own

end Cert.Gather

end
-- ==== Proof.Split.lean ====
/-
  The three arrays of the call, cut among the 32 tasks: the index array and the result by blocks of 128, the table by
  shares.
-/
module

public import proofs.«01_k».proof.Proof.Tile
public import Idealize.ShloMosaic.Lib.SparseCore.Stream

@[expose] public section

noncomputable section

namespace Cert.Gather

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held_sub_split wp_seq)

variable {F : FTy → Type}

/-- The call's arrays, as the host names them. -/
abbrev tabLoc (d : Dev nD) : Loc nD τ sig := (SparseCore.T d).loc main_v10
abbrev idxLoc (d : Dev nD) : Loc nD τ sig := (SparseCore.T d).loc main_v11
abbrev outLoc (d : Dev nD) : Loc nD τ sig := (SparseCore.T d).loc main_v12

/-- A core, a subcore of it, a trip. -/
abbrev Trips : Type := Fin 2 × Fin 16 × Fin 32

/-- The block of a trip. -/
def blkOf (x : Trips) : Fin 1024 := blk x.1 x.2.1 x.2.2

theorem blkOf_val (x : Trips) : (blkOf x).val = (x.2.2.val / 16) * 512 + (x.1.val * 16 + x.2.1.val) * 16 + x.2.2.val % 16 := rfl

theorem blkOf_inj {x y : Trips} (h : x ≠ y) : blkOf x ≠ blkOf y := fun e => h (by
  have e := congrArg Fin.val e
  rw [blkOf_val, blkOf_val] at e
  obtain ⟨⟨a, ha⟩, ⟨b, hb⟩, ⟨k, hk⟩⟩ := x
  obtain ⟨⟨a', ha'⟩, ⟨b', hb'⟩, ⟨k', hk'⟩⟩ := y
  dsimp only at e
  have h1 : a = a' := by omega
  have h2 : b = b' := by omega
  have h3 : k = k' := by omega
  subst h1; subst h2; subst h3; rfl)

theorem blkOf_surj (b : Fin 1024) : ∃ x, blkOf x = b :=
  ⟨(⟨b.val / 256 % 2, by omega⟩, ⟨b.val / 16 % 16, by omega⟩, ⟨b.val / 512 * 16 + b.val % 16, by omega⟩), Fin.ext (by
    rw [blkOf_val]; dsimp only; omega)⟩

theorem bk_trip (c : Fin 2) (s : Fin 16) (k : Fin 32) : bk c s k.val = blkOf (c, s, k) := by
  unfold bk blkOf
  exact congrArg (blk c s) (Fin.ext (Nat.mod_eq_of_lt k.isLt))

theorem iCover : (Finset.univ : Finset Trips).biUnion (fun x => (iBRect (blkOf x)).set) = Finset.univ := by
  rw [← iBRect_cover]
  ext i
  simp only [Finset.mem_biUnion, Finset.mem_univ, true_and]
  exact ⟨fun ⟨x, h⟩ => ⟨blkOf x, h⟩, fun ⟨b, h⟩ => by obtain ⟨x, rfl⟩ := blkOf_surj b; exact ⟨x, h⟩⟩

theorem oCover : (Finset.univ : Finset Trips).biUnion (fun x => (oBRect (blkOf x)).set) = Finset.univ := by
  rw [← oBRect_cover]
  ext i
  simp only [Finset.mem_biUnion, Finset.mem_univ, true_and]
  exact ⟨fun ⟨x, h⟩ => ⟨blkOf x, h⟩, fun ⟨b, h⟩ => by obtain ⟨x, rfl⟩ := blkOf_surj b; exact ⟨x, h⟩⟩

/-- A `bigSep` over trips, one index at a time. -/
theorem bigSep_trips (Φ : ℕ → SP F) : (bigSep (Finset.range 32) Φ) = bigSep (Finset.univ : Finset (Fin 32)) fun k => Φ k.val := by
  rw [show Finset.range 32 = (Finset.univ : Finset (Fin 32)).map Fin.valEmbedding by decide, bigSep_map]
  rfl

variable (d : Dev nD)

theorem idx_split (I : S1x131072.Idx → Elt F .i32) :
    (idxLoc d ↦{fullShare} I : SP F)
      = bigSep (Finset.univ : Finset (Fin 2)) fun c => bigSep (Finset.univ : Finset (Fin 16)) fun s => homes d c s I (Finset.range 32) := by
  have h := pointsTo_biUnion (ℓ := idxLoc d) (q := fullShare) (f := I) (Val := Elt F) (Ix := HIx 1) (Name := ℕ) (U := UU) (Lvl := ℕ)
    (Finset.univ : Finset Trips) (fun x => (iBRect (blkOf x)).set) (fun x _ y _ h => iBRect_disjoint (blkOf_inj h))
  rw [iCover] at h
  refine h.trans ?_
  rw [← Finset.univ_product_univ, SparseCore.bigSep_product]
  refine bigSep_congr fun c _ => ?_
  rw [← Finset.univ_product_univ, SparseCore.bigSep_product]
  refine bigSep_congr fun s _ => ?_
  unfold homes
  rw [bigSep_trips]
  refine bigSep_congr fun k _ => ?_
  rw [bk_trip]
  unfold iHome
  rw [iBlk_set]
  rfl

theorem out_split (Y : S131072x128.Idx → Elt F .f32) :
    (outLoc d ↦{fullShare} Y : SP F)
      = bigSep (Finset.univ : Finset (Fin 2)) fun c => bigSep (Finset.univ : Finset (Fin 16)) fun s => outs d c s Y (Finset.range 32) := by
  have h := pointsTo_biUnion (ℓ := outLoc d) (q := fullShare) (f := Y) (Val := Elt F) (Ix := HIx 1) (Name := ℕ) (U := UU) (Lvl := ℕ)
    (Finset.univ : Finset Trips) (fun x => (oBRect (blkOf x)).set) (fun x _ y _ h => oBRect_disjoint (blkOf_inj h))
  rw [oCover] at h
  refine h.trans ?_
  rw [← Finset.univ_product_univ, SparseCore.bigSep_product]
  refine bigSep_congr fun c _ => ?_
  rw [← Finset.univ_product_univ, SparseCore.bigSep_product]
  refine bigSep_congr fun s _ => ?_
  unfold outs
  rw [bigSep_trips]
  refine bigSep_congr fun k _ => ?_
  rw [bk_trip]
  unfold oPts
  rw [oBlk_set]
  rfl

/-- A task's share of the table. -/
def tq (c : Fin 2) (s : Fin 16) : PosShare TreeShare := Idealize.ShloMosaic.pieceOf fullShare 32 (by decide) (finProdFinEquiv (c, s))

/-- The table's one rectangle, all of it. -/
abbrev tRect : Rect S2621440x128 := Rect.unit (s := S2621440x128) ![0, 0] S2621440x128.size inb_S2621440x128_S2621440x128_0_0

theorem tRect_set : tRect.set = Finset.univ := by
  ext x
  simp only [Finset.mem_univ, iff_true]
  have h0 : (x 0).val < 2621440 := (x 0).isLt
  have h1 : (x 1).val < 128 := (x 1).isLt
  refine Rect.mem_set_unit.mpr fun a => ?_
  match a with
  | 0 => show 0 ≤ (x 0).val ∧ (x 0).val < 0 + 2621440; omega
  | 1 => show 0 ≤ (x 1).val ∧ (x 1).val < 0 + 128; omega

theorem tabAll_set : (tabAll).view.set = (Finset.univ : Finset S2621440x128.Idx) := by
  refine Eq.trans (b := tRect.set) ?_ tRect_set
  show ((tabV).view.slice tRect).set = _
  rw [View.set_slice]; exact Finset.map_refl

theorem tab_split (X : S2621440x128.Idx → Elt F .f32) :
    (tabLoc d ↦{fullShare} X : SP F)
      = bigSep (Finset.univ : Finset (Fin 2)) fun c => bigSep (Finset.univ : Finset (Fin 16)) fun s => tPts d c s (tq c s) X := by
  refine (Idealize.ShloMosaic.pointsTo_piecesOf (ℓ := tabLoc d) (Finset.univ : Finset S2621440x128.Idx) X (o := 32) (by decide) fullShare).trans ?_
  rw [bigSep_univ_equiv (finProdFinEquiv (m := 2) (n := 16)), ← Finset.univ_product_univ, SparseCore.bigSep_product]
  refine bigSep_congr fun c _ => bigSep_congr fun s _ => ?_
  unfold tPts
  rw [tabAll_set]
  rfl

end Cert.Gather

end
-- ==== Proof.Launch.lean ====
/-
  The launch: what the call hands to each task and takes back, the host operations before it, and the whole program's
  run: it ends with the result holding the gathered rows, the arguments as they were and every counter at zero.
-/
module

public import proofs.«01_k».proof.Proof.Split

@[expose] public section

noncomputable section

namespace Cert.Gather

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held_sub_split wp_seq)

variable {F : FTy → Type}

variable [FloatOps F]

abbrev EH : Emb (URounds (GSem nD τ sig) ℕ) (𝕄 F) := embL

variable (m : (ℓ : Loc nD τ sig) → Buf (Elt F) ℓ) (ρ : Dev nD → PrngReg)

/-! ## The host operations before the call -/

abbrev ops : List (HloOp τ sig (Elt F)) :=
  [ StableHlo.reshape main_arg1 main_v0 (rfl : (.i32 : EltTy) = .i32) shapeCasts_S32x4x256x1_S32x4x1x256,
    StableHlo.nullary main_c (constantI S_ 32 4#32),
    StableHlo.unary main_c main_v1 (broadcastInDim S32x4x1x256 ![] bcast_S_S32x4x1x256 : (⟨S_, .i32⟩ : BufTy).Contents (Elt F) → (⟨S32x4x1x256, .i32⟩ : BufTy).Contents (Elt F)),
    StableHlo.binary main_v0 main_v1 main_v2 (muli : (⟨S32x4x1x256, .i32⟩ : BufTy).Contents (Elt F) → (⟨S32x4x1x256, .i32⟩ : BufTy).Contents (Elt F) → (⟨S32x4x1x256, .i32⟩ : BufTy).Contents (Elt F)),
    StableHlo.nullary main_v3 (iotaInDim S4 32 0),
    StableHlo.reshape main_v3 main_v4 (rfl : (.i32 : EltTy) = .i32) shapeCasts_S4_S1x1x4x1,
    StableHlo.unary main_v2 main_v5 (broadcastInDim S32x4x4x256 ![0, 1, 2, 3] bcast_S32x4x1x256_S32x4x4x256_0_1_2_3 : (⟨S32x4x1x256, .i32⟩ : BufTy).Contents (Elt F) → (⟨S32x4x4x256, .i32⟩ : BufTy).Contents (Elt F)),
    StableHlo.unary main_v4 main_v6 (broadcastInDim S32x4x4x256 ![0, 1, 2, 3] bcast_S1x1x4x1_S32x4x4x256_0_1_2_3 : (⟨S1x1x4x1, .i32⟩ : BufTy).Contents (Elt F) → (⟨S32x4x4x256, .i32⟩ : BufTy).Contents (Elt F)),
    StableHlo.binary main_v5 main_v6 main_v7 (addi : (⟨S32x4x4x256, .i32⟩ : BufTy).Contents (Elt F) → (⟨S32x4x4x256, .i32⟩ : BufTy).Contents (Elt F) → (⟨S32x4x4x256, .i32⟩ : BufTy).Contents (Elt F)),
    StableHlo.reshape main_v7 main_v8 (rfl : (.i32 : EltTy) = .i32) shapeCasts_S32x4x4x256_S131072,
    StableHlo.reshape main_arg0 main_v9 (rfl : (.f32 : EltTy) = .f32) shapeCasts_S1x5120x128x4x128_S5120x128x4x128,
    StableHlo.reshape main_v9 main_v10 (rfl : (.f32 : EltTy) = .f32) shapeCasts_S5120x128x4x128_S2621440x128,
    StableHlo.reshape main_v8 main_v11 (rfl : (.i32 : EltTy) = .i32) shapeCasts_S131072_S1x131072 ]

theorem main_eq (d : Dev nD) : main (F := F) d = (seq ops >>= fun _ => (sc (F := F)).run d 0 >>= fun _ => pure ⟨⟩) := rfl

/-- The index array: four times each selected row number, plus the head. -/
def idxOf (phys : S32x4x256x1.Idx → Elt F .i32) : S1x131072.Idx → Elt F .i32 :=
  shapeCast _ (shapeCast _ (addi (broadcastInDim S32x4x4x256 ![0, 1, 2, 3] bcast_S32x4x1x256_S32x4x4x256_0_1_2_3
      (muli (shapeCast _ phys shapeCasts_S32x4x256x1_S32x4x1x256) (broadcastInDim S32x4x1x256 ![] bcast_S_S32x4x1x256 (constantI S_ 32 4#32))))
    (broadcastInDim S32x4x4x256 ![0, 1, 2, 3] bcast_S1x1x4x1_S32x4x4x256_0_1_2_3
      (shapeCast _ (iotaInDim S4 32 0) shapeCasts_S4_S1x1x4x1))) shapeCasts_S32x4x4x256_S131072) shapeCasts_S131072_S1x131072

/-- The table: the pool's rows, one per head. -/
def tabOf (cache : S1x5120x128x4x128.Idx → Elt F .f32) : S2621440x128.Idx → Elt F .f32 :=
  shapeCast _ (shapeCast _ cache shapeCasts_S1x5120x128x4x128_S5120x128x4x128) shapeCasts_S5120x128x4x128_S2621440x128

abbrev argLoc0 (d : Dev nD) : Loc nD τ sig := (SparseCore.T d).loc main_arg0
abbrev argLoc1 (d : Dev nD) : Loc nD τ sig := (SparseCore.T d).loc main_arg1

def Tab (d : Dev nD) : S2621440x128.Idx → Elt F .f32 := tabOf (m (argLoc0 d))
def Ind (d : Dev nD) : S1x131072.Idx → Elt F .i32 := idxOf (m (argLoc1 d))
def Old (d : Dev nD) : S131072x128.Idx → Elt F .f32 := m (outLoc d)

/-- The launch valuation. -/
def V₀ (d : Dev nD) : Valuation τ sig (Elt F) := fun b => m (d, b)

abbrev ref (b : Ref sig .tc) : DevRef τ sig := Proc.devRef .tc b

set_option maxRecDepth 8192 in
theorem after_tab (d : Dev nD) : after ops (V₀ m d) (ref main_v10) = Tab m d := by
  simp only [ops]; after_results_simp <;> rfl
set_option maxRecDepth 8192 in
theorem after_idx (d : Dev nD) : after ops (V₀ m d) (ref main_v11) = Ind m d := by
  simp only [ops]; after_results_simp <;> rfl
set_option maxRecDepth 8192 in
theorem after_out (d : Dev nD) : after ops (V₀ m d) (ref main_v12) = Old m d := by
  simp only [ops]; after_results_simp <;> rfl
set_option maxRecDepth 8192 in
theorem after_arg0 (d : Dev nD) : after ops (V₀ m d) (ref main_arg0) = m (argLoc0 d) := by
  simp only [ops]; after_results_simp <;> rfl
set_option maxRecDepth 8192 in
theorem after_arg1 (d : Dev nD) : after ops (V₀ m d) (ref main_arg1) = m (argLoc1 d) := by
  simp only [ops]; after_results_simp <;> rfl

/-! ## What the handshakes carry -/

theorem nCore_zero : (K (F := F)).nCore 0 = 2 := rfl
theorem nSub_zero : (K (F := F)).nSub 0 = 16 := rfl

/-- A task takes its share of the table, its blocks of the index array and of the result; -/
def goes₀ (d : Dev nD) (c : Fin 2) (s : Fin 16) : SP F :=
  iprop(tPts d c s (tq c s) (Tab m d) ∗ homes d c s (Ind m d) (Finset.range 32) ∗ outs d c s (Old m d) (Finset.range 32))
/-- and brings them back, the result's blocks holding the gathered rows. -/
def comes₀ (d : Dev nD) (c : Fin 2) (s : Fin 16) : SP F :=
  iprop(tPts d c s (tq c s) (Tab m d) ∗ homes d c s (Ind m d) (Finset.range 32) ∗ outs d c s (gathered (Tab m d) (Ind m d)) (Finset.range 32))

theorem goes₀_def (d : Dev nD) (c : Fin 2) (s : Fin 16) : goes₀ m d c s
    = iprop(tPts d c s (tq c s) (Tab m d) ∗ homes d c s (Ind m d) (Finset.range 32) ∗ outs d c s (Old m d) (Finset.range 32)) := rfl
theorem comes₀_def (d : Dev nD) (c : Fin 2) (s : Fin 16) : comes₀ m d c s
    = iprop(tPts d c s (tq c s) (Tab m d) ∗ homes d c s (Ind m d) (Finset.range 32) ∗ outs d c s (gathered (Tab m d) (Ind m d)) (Finset.range 32)) := rfl

def P : (K (F := F)).Pay (nD := nD) (Val := Elt F) (Name := ℕ) (U := UU) where
  st := fun q d c => match q with | 0 => bigSep (Finset.univ : Finset (Fin 16)) fun s => goes₀ m d (Fin.cast nCore_zero c) s
  dn := fun q d c => match q with | 0 => bigSep (Finset.univ : Finset (Fin 16)) fun s => comes₀ m d (Fin.cast nCore_zero c) s
  go := fun q d c i => match q with | 0 => goes₀ m d (Fin.cast nCore_zero c) (Fin.cast nSub_zero i)
  td := fun q d c i => match q with | 0 => comes₀ m d (Fin.cast nCore_zero c) (Fin.cast nSub_zero i)
  x := fun _ _ => iprop(emp)

theorem pts_storable (ℓ : Loc nD τ sig) (I : Finset (Idx ℓ)) (q : PosShare TreeShare) (f : Buf (Elt F) ℓ) :
    BI.Storable (upEmb : UEmb _ (𝕄 F)) (ℓ ↦[I]{q} f : SP F) := inferInstance
instance iHome_storable (d : Dev nD) (c : Fin 2) (s : Fin 16) (I : S1x131072.Idx → Elt F .i32) (b : Fin 1024) :
    BI.Storable (upEmb : UEmb _ (𝕄 F)) (iHome d c s I b) := by unfold iHome; exact pts_storable _ _ _ _
instance oPts_storable (d : Dev nD) (c : Fin 2) (s : Fin 16) (X : S131072x128.Idx → Elt F .f32) (b : Fin 1024) :
    BI.Storable (upEmb : UEmb _ (𝕄 F)) (oPts d c s X b) := by unfold oPts; exact pts_storable _ _ _ _
instance tPts_storable (d : Dev nD) (c : Fin 2) (s : Fin 16) (q : PosShare TreeShare) (X : S2621440x128.Idx → Elt F .f32) :
    BI.Storable (upEmb : UEmb _ (𝕄 F)) (tPts d c s q X) := by unfold tPts; exact pts_storable _ _ _ _
instance homes_storable (d : Dev nD) (c : Fin 2) (s : Fin 16) (I : S1x131072.Idx → Elt F .i32) (J : Finset ℕ) :
    BI.Storable (upEmb : UEmb _ (𝕄 F)) (homes d c s I J) := by unfold homes; infer_instance
instance outs_storable (d : Dev nD) (c : Fin 2) (s : Fin 16) (X : S131072x128.Idx → Elt F .f32) (J : Finset ℕ) :
    BI.Storable (upEmb : UEmb _ (𝕄 F)) (outs d c s X J) := by unfold outs; infer_instance
instance goes₀_storable (d : Dev nD) (c : Fin 2) (s : Fin 16) : BI.Storable (upEmb : UEmb _ (𝕄 F)) (goes₀ m d c s) := by
  unfold goes₀; infer_instance
instance comes₀_storable (d : Dev nD) (c : Fin 2) (s : Fin 16) : BI.Storable (upEmb : UEmb _ (𝕄 F)) (comes₀ m d c s) := by
  unfold comes₀; infer_instance

attribute [local irreducible] goes₀ comes₀

instance P_storable : (P (F := F) m).IsStorable where
  st q d c := match q with
    | 0 => (Storable.bigSep _ _ _ : BI.Storable (upEmb : UEmb _ (𝕄 F)) (bigSep (Finset.univ : Finset (Fin 16)) fun s => goes₀ m d (Fin.cast nCore_zero c) s))
  dn q d c := match q with
    | 0 => (Storable.bigSep _ _ _ : BI.Storable (upEmb : UEmb _ (𝕄 F)) (bigSep (Finset.univ : Finset (Fin 16)) fun s => comes₀ m d (Fin.cast nCore_zero c) s))
  go q d c i := match q with
    | 0 => goes₀_storable m d (Fin.cast nCore_zero c) (Fin.cast nSub_zero i)
  td q d c i := match q with
    | 0 => comes₀_storable m d (Fin.cast nCore_zero c) (Fin.cast nSub_zero i)

theorem P_st (d : Dev nD) (c : Fin 2) : (P (F := F) m).st 0 d c = bigSep (Finset.univ : Finset (Fin 16)) fun s => goes₀ m d c s := rfl
theorem P_dn (d : Dev nD) (c : Fin 2) : (P (F := F) m).dn 0 d c = bigSep (Finset.univ : Finset (Fin 16)) fun s => comes₀ m d c s := rfl

/-- What the proof asks of the arguments: every index names a row of the table. -/
def Ok : Prop := ∀ (d : Dev nD) (x : S1x131072.Idx), (Ind m d x).toNat < 2621440

/-! ## The task's obligation -/

theorem tile (hpre : Ok m) (d : Dev nD) (c : Fin 2) (s : Fin 16) (O : CellTallies nD τ sig (HIx 1)) (W : Waits sig (HIx 1)) (hO : ∀ g, O g none = 0) :
    iprop(levAts (K (F := F)).L (K (F := F)).lev ∗ emp ∗ goes₀ m d c s
        ∗ scopedBufs (thr d c s) ∗ scopedSems0 (thr d c s) ∗ owes (thr d c s) O W)
      ⊢ wp frame (wpE (defs₀ (F := F)) 𝒱₀ (thr d c s) none) Set.univ
          (cc0_gather (F := F) (at2 c s) tabV (Memref.isWhole_whole _) idxV (Memref.isWhole_whole _) outV (Memref.isWhole_whole _)
            iBuf (Memref.isWhole_whole _) cc0_scoped1 rBuf (Memref.isWhole_whole _) cc0_scoped3 cc0_scoped4)
          fun _ => iprop(comes₀ m d c s
            ∗ scopedBufs (thr d c s) ∗ scopedSems0 (thr d c s)
            ∗ ∃ W', ⌜∀ p ∈ W', p ∈ W ∨ p.2 = none ∨ p.2 = some (0 : Fin 1)⌝ ∗ owes (thr d c s) O W') := by
  rw [(K (F := F)).scopedBufs_V facts d _ _, SparseCore.Cfg.scopedSems0_V (Val := Elt F) d _ _]
  rw [goes₀_def, comes₀_def]
  iintro ⟨#Hlv, -, ⟨Ht, Hh, Ho⟩, Hb, Hs, HO⟩
  ihave Hmw := (show levAts (K (F := F)).L (K (F := F)).lev ⊢ Transfers.MayWaits (thr d c s) (default : HIx 1) O from
    (K (F := F)).mayWaits_none (thr := thr d c s) hO) $$ Hlv
  ihave Hr := (own_rest (F := F) d c s) $$ [Hb Hs]
  · isplitl [Hb]; · iexact Hb
    iexact Hs
  icases Hr with ⟨Hr, Hx⟩
  ihave Hw := (task (F := F) d c s O W (Tab m d) (Ind m d) (Old m d) (tq c s) (fun b x => by
    unfold idxBlk
    rw [iBlk_read]
    exact hpre d _)) $$ [Hmw HO Hr Ht Hh Ho]
  · isplitl [Hmw HO]
    · unfold owing
      isplitl [Hmw]; · iexact Hmw
      iexists W
      isplitr
      · ipureintro; exact fun p hp => Or.inl hp
      iexact HO
    isplitl [Hr]; · iexact Hr
    isplitl [Ht]; · iexact Ht
    isplitl [Hh]; · iexact Hh
    iexact Ho
  iapply (wp_wand frame _ _) $$ Hw
  iintro %_ ⟨HO, Hr, Ht, Hh, Ho⟩
  isplitl [Ht Hh Ho]
  · isplitl [Ht]; · iexact Ht
    isplitl [Hh]; · iexact Hh
    iexact Ho
  ihave Hown := (rest_own (F := F) d c s) $$ [Hr Hx]
  · isplitl [Hr]; · iexact Hr
    iexact Hx
  icases Hown with ⟨Hb, Hs⟩
  isplitl [Hb]; · iexact Hb
  isplitl [Hs]; · iexact Hs
  unfold owing
  icases HO with ⟨-, %W', %hW', HO⟩
  iexists W'
  isplitr
  · ipureintro; exact fun p hp => (hW' p hp).imp_right Or.inl
  iexact HO

theorem defs₀_vector (c : Fin τ.nSC) (s : Fin τ.nSub) :
    defs₀ (F := F) (.scVector c s) 0 ()
      = SparseCore.onTile hcore0 hsub0 (fun c s => cc0_gather (F := F) (at2 c s) tabV (Memref.isWhole_whole _) idxV (Memref.isWhole_whole _)
          outV (Memref.isWhole_whole _) iBuf (Memref.isWhole_whole _) cc0_scoped1 rBuf (Memref.isWhole_whole _) cc0_scoped3 cc0_scoped4) ⟨⟩ c s := rfl

set_option maxRecDepth 16384 in
theorem tileObl (hpre : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile m hpre d ⟨_, hci.1⟩ ⟨_, hci.2⟩ O W hO

theorem vecSplit : (K (F := F)).VecSplit' (P m) 0 := by
  intro d c
  show (bigSep (Finset.univ : Finset (Fin 16)) fun s => goes₀ m d (Fin.cast nCore_zero c) s) ⊢ |={Set.univ}=> iprop(
      (bigSep (Finset.univ : Finset (Fin 16)) fun s => goes₀ m d (Fin.cast nCore_zero c) s)
      ∗ ((bigSep (Finset.univ : Finset (Fin 16)) fun s => comes₀ m d (Fin.cast nCore_zero c) s)
          -∗ (bigSep (Finset.univ : Finset (Fin 16)) fun s => comes₀ m d (Fin.cast nCore_zero c) s)))
  iintro H; imodintro
  isplitl [H]; · iexact H
  iintro H
  iexact H

/-! ## The launch's ghost state -/

def u₀ : UU := (initOf (K (F := F)).hsCells (K (F := F)).hsToks, 1)

theorem hu₀ : (ownU (u₀ (F := F)) : SP F)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · iapply (Entails.of_eq (BI.bigSep_emp_const (Finset.univ : Finset (Dev nD))).symm); iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (BI.bigSep_emp_const (Finset.univ : Finset (Thread nD τ))).symm); iempintro

/-! ## @main on the TensorCore -/

/-- The host's arrays, as device buffers. -/
def bufs : Finset (DevRef τ sig) := (Finset.univ.filter fun b : Ref sig .tc => ¬ b.isScoped).map ⟨Proc.devRef (sig := sig) (.tc : Proc τ), Proc.devRef_injective _⟩

theorem mem_bufs (b : Ref sig .tc) (h : ¬ b.isScoped) : ref b ∈ bufs :=
  Finset.mem_map_of_mem _ (Finset.mem_filter.mpr ⟨Finset.mem_univ _, h⟩)

theorem all_bufs : ∀ b : Ref sig .tc, ¬ b.isScoped := by decide

theorem tc_bufs : StableHlo.tcRefs τ sig ⊆ bufs := by
  unfold StableHlo.tcRefs bufs
  rw [Finset.filter_true_of_mem fun b _ => all_bufs b]

theorem unscoped_held (d : Dev nD) : (unscopedBufs d (fun b => m ((SparseCore.T d).loc b)) : SP F) = StableHlo.held (SparseCore.T d) bufs (V₀ m d) := by
  unfold unscopedBufs StableHlo.held bufs
  rw [bigSep_map]
  rfl

/-- The arrays the run is read off. -/
def kept : Finset (DevRef τ sig) := {ref main_arg0, ref main_arg1, ref main_v10, ref main_v11, ref main_v12}

theorem kept_sub : kept ⊆ bufs := by
  intro b hb
  unfold kept at hb
  simp only [Finset.mem_insert, Finset.mem_singleton] at hb
  rcases hb with rfl | rfl | rfl | rfl | rfl <;> exact mem_bufs _ (all_bufs _)

theorem held_kept (d : Dev nD) (W : Valuation τ sig (Elt F)) :
    (StableHlo.held (SparseCore.T d) kept W : SP F)
      = iprop((argLoc0 d ↦{fullShare} W (ref main_arg0)) ∗ (argLoc1 d ↦{fullShare} W (ref main_arg1)) ∗ (tabLoc d ↦{fullShare} W (ref main_v10))
          ∗ (idxLoc d ↦{fullShare} W (ref main_v11)) ∗ (outLoc d ↦{fullShare} W (ref main_v12))) := by
  unfold StableHlo.held kept
  rw [SparseCore.bigSep_insert' (by decide), SparseCore.bigSep_insert' (by decide), SparseCore.bigSep_insert' (by decide),
    SparseCore.bigSep_insert' (by decide), bigSep_singleton]

set_option maxRecDepth 8192 in
theorem ops_sub : ∀ op ∈ (ops : List (HloOp τ sig (Elt F))), op.bufs ⊆ bufs := by
  have h : (ops : List (HloOp τ sig (Elt F))).Forall fun op => op.bufs ⊆ StableHlo.tcRefs τ sig :=
    ⟨StableHlo.reshape_bufs_sub .., StableHlo.nullary_bufs_sub .., StableHlo.unary_bufs_sub .., StableHlo.binary_bufs_sub .., StableHlo.nullary_bufs_sub ..,
      StableHlo.reshape_bufs_sub .., StableHlo.unary_bufs_sub .., StableHlo.unary_bufs_sub .., StableHlo.binary_bufs_sub .., StableHlo.reshape_bufs_sub ..,
      StableHlo.reshape_bufs_sub .., StableHlo.reshape_bufs_sub .., StableHlo.reshape_bufs_sub ..⟩
  exact fun op hop => (List.forall_iff_forall_mem.mp h op hop).trans tc_bufs

theorem ops_fresh : ∀ op ∈ (ops : List (HloOp τ sig (Elt F))), op.fresh = ∅ := by
  have h : (ops : List (HloOp τ sig (Elt F))).Forall fun op => op.fresh = ∅ := ⟨rfl, rfl, rfl, rfl, rfl, rfl, rfl, rfl, rfl, rfl, rfl, rfl, rfl⟩
  exact List.forall_iff_forall_mem.mp h

/-- The call's start takes the three arrays whole; -/
theorem st0_eq (d : Dev nD) : (bigSep Finset.univ fun c : Fin ((K (F := F)).nCore 0) => (P m).st 0 d c)
    = iprop((tabLoc d ↦{fullShare} Tab m d) ∗ (idxLoc d ↦{fullShare} Ind m d) ∗ (outLoc d ↦{fullShare} Old m d)) := by
  rw [tab_split, idx_split, out_split, ← bigSep_sep', ← bigSep_sep']
  refine bigSep_congr fun c _ => ?_
  rw [← bigSep_sep', ← bigSep_sep']
  exact (P_st m d c).trans (bigSep_congr fun s _ => goes₀_def m d c s)
/-- its end returns them, the result holding the gathered rows. -/
theorem dn0_eq (d : Dev nD) : (bigSep Finset.univ fun c : Fin ((K (F := F)).nCore 0) => (P m).dn 0 d c)
    = iprop((tabLoc d ↦{fullShare} Tab m d) ∗ (idxLoc d ↦{fullShare} Ind m d) ∗ (outLoc d ↦{fullShare} gathered (Tab m d) (Ind m d))) := by
  rw [tab_split, idx_split, out_split, ← bigSep_sep', ← bigSep_sep']
  refine bigSep_congr fun c _ => ?_
  rw [← bigSep_sep', ← bigSep_sep']
  exact (P_dn m d c).trans (bigSep_congr fun s _ => comes₀_def m d c s)

abbrev FIN (d : Dev nD) : SP F :=
  iprop((argLoc0 d ↦{fullShare} m (argLoc0 d)) ∗ (argLoc1 d ↦{fullShare} m (argLoc1 d)) ∗ (outLoc d ↦{fullShare} gathered (Tab m d) (Ind m d)))

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d bufs _ ops ops_sub ops_fresh (V₀ m d)) $$ [Hb Hheld]
  · isplitl [Hb]; · iexact Hb
    iexact Hheld
  iintro ⟨Hb, Hheld⟩
  ihave Hheld := (Entails.of_eq (held_sub_split (SparseCore.T d) kept_sub (after ops (V₀ m d)))) $$ Hheld
  icases Hheld with ⟨Hheld, -⟩
  ihave Hheld := (Entails.of_eq (held_kept (F := F) d (after ops (V₀ m d)))) $$ Hheld
  rw [after_arg0, after_arg1, after_tab, after_idx, after_out]
  icases Hheld with ⟨H0, H1, Ht, Hi, Ho⟩
  simp only [wp_bind, wp_pure]
  iapply ((K (F := F)).wp_run (D (F := F)) 𝒱 (EH := EH) (P := P m) κ d 0) $$ [Hst Ht Hi Ho Hb Hts H0 H1]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [H0]; · iexact H0
    isplitl [H1]; · iexact H1
    iexact Ho
  isplitl [Hb] <;> iassumption

def fq (d : Dev nD) (s' : Phys nD τ sig (Elt F)) : Prop :=
  s'.mem.mem (outLoc d) = gathered (Tab m d) (Ind m d) ∧ s'.mem.mem (argLoc0 d) = m (argLoc0 d) ∧ s'.mem.mem (argLoc1 d) = m (argLoc1 d)

set_option maxRecDepth 16384 in
theorem hfin (d : Dev nD) (s' : Phys nD τ sig (Elt F)) : iprop(FIN m d ∗ SI s') ⊢ (⌜fq m d s'⌝ : SP F) := by
  iintro ⟨⟨H0, H1, Ho⟩, HSI⟩
  ihave H := (persistent_entails_right (SI_pointsTo_agree (st := s') (ℓ := argLoc0 d) (I := Finset.univ) (q := fullShare) (f := m (argLoc0 d)))) $$ [HSI H0]
  · isplitl [HSI] <;> iassumption
  icases H with ⟨%h0, HSI, -⟩
  ihave H := (persistent_entails_right (SI_pointsTo_agree (st := s') (ℓ := argLoc1 d) (I := Finset.univ) (q := fullShare) (f := m (argLoc1 d)))) $$ [HSI H1]
  · isplitl [HSI] <;> iassumption
  icases H with ⟨%h1, HSI, -⟩
  ihave H := (SI_pointsTo_agree (st := s') (ℓ := outLoc d) (I := Finset.univ) (q := fullShare) (f := gathered (Tab m d) (Ind m d))) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

/-! ## The run -/

def QC : PUnit × MemSt nD τ sig (Elt F) → Prop := fun r =>
  (∀ c : Dev nD, r.2.mem (outLoc c) = gathered (Tab m c) (Ind m c) ∧ r.2.mem (argLoc0 c) = m (argLoc0 c) ∧ r.2.mem (argLoc1 c) = m (argLoc1 c))
    ∧ r.2.sem = fun _ => 0

theorem run_main [∀ e, Nonempty (Elt F e)] (hpre : Ok m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Gather

end
-- ==== Proof.KerValue.lean ====
/-
  What the kernel's run leaves, read at an index, and the bound on its index words: for row numbers inside the pool,
  index word `((s·4 + t)·4 + h)·256 + j` is four times the row number selected at `(s, t, j)`, plus `h`; the table's row
  of that number is the pool's row at its page, its position in the page and head `h`.
-/
module

public import proofs.«01_k».proof.Proof.Launch

@[expose] public section

noncomputable section

namespace Cert.Gather

open Cert.KernelIdeal Cert.KernelIdeal.Gen

open Idealize.ShloMosaic Idealize.ShloMosaic.ValueIdx

variable {F : FTy → Type} [FloatOps F]

/-- An index word. -/
theorem idxOf_at (phys : S32x4x256x1.Idx → Elt F .i32) (s : Fin 32) (t : Fin 4) (h : Fin 4) (j : Fin 256) (r : Fin 131072)
    (hr : r.val = ((s.val * 4 + t.val) * 4 + h.val) * 256 + j.val) :
    idxOf (F := F) phys (ix2 0 r) = IntOp.addi (IntOp.muli (phys (ix4 s t j 0)) 4#32) (BitVec.ofNat 32 h.val) := by
  unfold idxOf
  rw [shapeCast, Shape.reshapeEquiv_eq_of_rowMajor (y := (ix1 r : S131072.Idx)) _ (by
    rw [Shape.rowMajor_val_one, Shape.rowMajor_val_two]; simp [ix1, ix2])]
  rw [shapeCast, Shape.reshapeEquiv_eq_of_rowMajor (y := (ix4 s t h j : S32x4x4x256.Idx)) _ (by
    rw [Shape.rowMajor_val_four, Shape.rowMajor_val_one]; simp [ix1, ix4]; omega)]
  have e1 : broadcastInDim S32x4x4x256 ![0, 1, 2, 3] bcast_S32x4x1x256_S32x4x4x256_0_1_2_3
      (muli (shapeCast S32x4x1x256 phys shapeCasts_S32x4x256x1_S32x4x1x256) (broadcastInDim S32x4x1x256 ![] bcast_S_S32x4x1x256 (constantI S_ 32 4#32)))
        (ix4 s t h j) = IntOp.muli (phys (ix4 s t j 0)) 4#32 := by
    have hi : ∀ v : S32x4x1x256.Idx → Elt F .i32, broadcastInDim S32x4x4x256 ![0, 1, 2, 3] bcast_S32x4x1x256_S32x4x4x256_0_1_2_3 v (ix4 s t h j)
        = v (ix4 s t 0 j) := fun v => by
      unfold broadcastInDim
      refine congrArg v (funext fun a => ?_)
      match a with | ⟨0, _⟩ => rfl | ⟨1, _⟩ => rfl | ⟨2, _⟩ => rfl | ⟨3, _⟩ => rfl
    rw [hi]
    show IntOp.muli (shapeCast S32x4x1x256 phys shapeCasts_S32x4x256x1_S32x4x1x256 (ix4 s t 0 j)) 4#32 = _
    rw [shapeCast, Shape.reshapeEquiv_eq_of_rowMajor (y := (ix4 s t j 0 : S32x4x256x1.Idx)) _ (by
      rw [Shape.rowMajor_val_four, Shape.rowMajor_val_four]; simp [ix4])]
  have e2 : broadcastInDim S32x4x4x256 ![0, 1, 2, 3] bcast_S1x1x4x1_S32x4x4x256_0_1_2_3
      (shapeCast S1x1x4x1 (iotaInDim S4 32 0) shapeCasts_S4_S1x1x4x1) (ix4 s t h j) = BitVec.ofNat 32 h.val := by
    have hi : ∀ v : S1x1x4x1.Idx → Elt F .i32, broadcastInDim S32x4x4x256 ![0, 1, 2, 3] bcast_S1x1x4x1_S32x4x4x256_0_1_2_3 v (ix4 s t h j)
        = v (ix4 0 0 h 0) := fun v => by
      unfold broadcastInDim
      refine congrArg v (funext fun a => ?_)
      match a with | ⟨0, _⟩ => rfl | ⟨1, _⟩ => rfl | ⟨2, _⟩ => rfl | ⟨3, _⟩ => rfl
    refine (hi _).trans ?_
    rw [shapeCast, Shape.reshapeEquiv_eq_of_rowMajor (y := (ix1 h : S4.Idx)) _ (by
      rw [Shape.rowMajor_val_one, Shape.rowMajor_val_four]; simp [ix1, ix4])]
    rfl
  exact congrArg₂ IntOp.addi e1 e2

/-- As a number: no wrap. -/
theorem idxOf_toNat (phys : S32x4x256x1.Idx → Elt F .i32) (s : Fin 32) (t : Fin 4) (h : Fin 4) (j : Fin 256) (r : Fin 131072)
    (hr : r.val = ((s.val * 4 + t.val) * 4 + h.val) * 256 + j.val) (n : ℕ) (hn : n < 655360) (hv : phys (ix4 s t j 0) = BitVec.ofNat 32 n) :
    (idxOf (F := F) phys (ix2 0 r)).toNat = n * 4 + h.val := by
  rw [idxOf_at phys s t h j r hr, hv]
  show (BitVec.ofNat 32 n * 4#32 + BitVec.ofNat 32 h.val).toNat = _
  rw [BitVec.toNat_add, BitVec.toNat_mul, BitVec.toNat_ofNat, BitVec.toNat_ofNat, BitVec.toNat_ofNat]
  have := h.isLt
  omega

/-- A row of the result: its slot, token, head and selected row. -/
theorem row_split (r : Fin 131072) : ∃ (s : Fin 32) (t : Fin 4) (h : Fin 4) (j : Fin 256), r.val = ((s.val * 4 + t.val) * 4 + h.val) * 256 + j.val :=
  ⟨⟨r.val / 4096, by omega⟩, ⟨r.val / 1024 % 4, by omega⟩, ⟨r.val / 256 % 4, by omega⟩, ⟨r.val % 256, by omega⟩, by dsimp only; omega⟩

/-- Every index word names a row of the table, when every row number names a row of the pool. -/
theorem ok_of_bound (m : (ℓ : Loc nD τ sig) → Buf (Elt F) ℓ)
    (hb : ∀ (d : Dev nD) (x : S32x4x256x1.Idx), ∃ n : ℕ, n < 655360 ∧ (m (argLoc1 d) : S32x4x256x1.Idx → BitVec 32) x = BitVec.ofNat 32 n) : Ok m := fun d x => by
  obtain ⟨s, t, h, j, hr⟩ := row_split (x 1)
  obtain ⟨n, hn, hv⟩ := hb d (ix4 s t j 0)
  have e : x = ix2 0 (x 1) := by
    funext a
    match a with
    | ⟨0, _⟩ => exact Subsingleton.elim (α := Fin 1) _ _
    | ⟨1, _⟩ => rfl
  rw [e]
  have := idxOf_toNat (F := F) (m (argLoc1 d)) s t h j (x 1) hr n hn hv
  have hh := h.isLt
  exact lt_of_eq_of_lt this (by omega)

/-- A row of the table. -/
theorem tabOf_at (cache : S1x5120x128x4x128.Idx → Elt F .f32) (n : ℕ) (hn : n < 655360) (h : Fin 4) (d : Fin 128) (R : Fin 2621440) (hR : R.val = n * 4 + h.val) :
    tabOf cache (ix2 R d) = cache (ix5 0 ⟨n / 128, by omega⟩ ⟨n % 128, by omega⟩ h d) := by
  unfold tabOf
  rw [shapeCast, Shape.reshapeEquiv_eq_of_rowMajor (y := (ix4 ⟨n / 128, by omega⟩ ⟨n % 128, by omega⟩ h d : S5120x128x4x128.Idx)) _ (by
    rw [Shape.rowMajor_val_four, Shape.rowMajor_val_two]; simp [ix2, ix4]; omega)]
  rw [shapeCast, Shape.reshapeEquiv_eq_of_rowMajor (y := (ix5 0 ⟨n / 128, by omega⟩ ⟨n % 128, by omega⟩ h d : S1x5120x128x4x128.Idx)) _ (by
    rw [Shape.rowMajor_val_five, Shape.rowMajor_val_four]; simp [ix5, ix4])]

/-- The gathered array at a row and a lane. -/
theorem gathered_at (cache : S1x5120x128x4x128.Idx → Elt F .f32) (phys : S32x4x256x1.Idx → Elt F .i32) (s : Fin 32) (t : Fin 4) (h : Fin 4) (j : Fin 256) (d : Fin 128)
    (r : Fin 131072) (hr : r.val = ((s.val * 4 + t.val) * 4 + h.val) * 256 + j.val) (n : ℕ) (hn : n < 655360) (hv : phys (ix4 s t j 0) = BitVec.ofNat 32 n) :
    gathered (tabOf cache) (idxOf (F := F) phys) (ix2 r d) = cache (ix5 0 ⟨n / 128, by omega⟩ ⟨n % 128, by omega⟩ h d) := by
  unfold gathered
  refine tabOf_at cache n hn h d _ ?_
  show (rowOfWord (idxOf (F := F) phys (ix2 0 r))).val = _
  unfold rowOfWord
  rw [Fin.val_ofNat, idxOf_toNat phys s t h j r hr n hn hv]
  have := h.isLt
  omega

end Cert.Gather

end
-- ==== Proof.Agree.lean ====
/-
  The kernel's result is the reference's, over any float values, when every row number names a row of the pool; and the
  range of the row numbers read out of the stated condition.
-/
module

public import proofs.«01_k».proof.Proof.RefValue
public import proofs.«01_k».proof.Proof.KerValue
public import proofs.«01_k».proof.Proof.Gen.Pre_rows_in_pool

@[expose] public section

noncomputable section

namespace Cert.Gather

open Cert.KernelIdeal Cert.KernelIdeal.Gen

open Idealize.ShloMosaic hiding ix1 ix2 ix3 ix4 ix5
open Idealize.ShloMosaic.ValueIdx Idealize.SL.Sem

variable {F : FTy → Type} [FloatOps F]

/-- Every row number names a row of the pool. -/
def InPool (phys : IVec S32x4x256x1 32) : Prop := ∀ x, ∃ n : ℕ, n < 655360 ∧ phys x = BitVec.ofNat 32 n

theorem gathered_eq_ref (cache : S1x5120x128x4x128.Idx → Elt F .f32) (phys : S32x4x256x1.Idx → Elt F .i32) (hb : InPool phys) :
    gathered (tabOf cache) (idxOf (F := F) phys) = Cert.GatherRef.refOut cache phys := by
  funext x
  obtain ⟨r, d, rfl⟩ : ∃ (r : Fin 131072) (d : Fin 128), x = ix2 r d := ⟨x 0, x 1, by
    funext a
    match a with | ⟨0, _⟩ => rfl | ⟨1, _⟩ => rfl⟩
  obtain ⟨s, t, h, j, hr⟩ := row_split r
  obtain ⟨n, hn, hv⟩ := hb (ix4 s t j 0)
  exact (gathered_at cache phys s t h j d r hr n hn hv).trans (Cert.GatherRef.refOut_at cache phys s t h j d r hr n hn hv).symm

theorem word_in_pool (v : BitVec 32) (e : IntOp.andi (IntOp.cmpi .sge v 0#32) (IntOp.cmpi .slt v 655360#32) = 1#1) :
    ∃ n : ℕ, n < 655360 ∧ v = BitVec.ofNat 32 n := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  refine ⟨v.toNat, ?_, BitVec.eq_of_toNat_eq (by rw [BitVec.toNat_ofNat]; omega)⟩
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-- The stated condition, read. -/
theorem inPool_of_fn (cache : S1x5120x128x4x128.Idx → Elt F .f32) (phys : IVec S32x4x256x1 32)
    (h : Cert.Pre_rows_in_pool.fn (F := F) cache phys = fun _ => 1#1) : InPool phys := fun x => by
  have e := congrFun h x
  simp only [Cert.Pre_rows_in_pool.fn, andi, cmpi, broadcastInDim, constantI] at e
  exact word_in_pool _ e

/-- The run, from arguments meeting the condition. -/
theorem run_of_pre [∀ e, Nonempty (Elt F e)] (m : (ℓ : Loc nD τ sig) → Buf (Elt F) ℓ) (ρ : Dev nD → PrngReg)
    (h : ∀ c : Dev nD, Cert.Pre_rows_in_pool.fn (F := F) (m (argLoc0 c)) (m (argLoc1 c)) = fun _ => 1#1) :
    θ_run (Cert.KernelIdeal.defs (F := F)) (Cert.KernelIdeal.threads (F := F)) ⟨m, fun _ => 0, ρ⟩ fun r =>
      (∀ c : Dev nD, r.2.mem (outLoc c) = Cert.GatherRef.refOut (m (argLoc0 c)) (m (argLoc1 c))
        ∧ r.2.mem (argLoc0 c) = m (argLoc0 c) ∧ r.2.mem (argLoc1 c) = m (argLoc1 c)) ∧ r.2.sem = fun _ => 0 :=
  (θ_run (Cert.KernelIdeal.defs (F := F)) _ _).mono
    (fun _ hr => ⟨fun c => ⟨(hr.1 c).1.trans (gathered_eq_ref _ _ (inPool_of_fn (F := F) _ _ (h c))), (hr.1 c).2⟩, hr.2⟩)
    (run_main m ρ (ok_of_bound m fun d => inPool_of_fn (F := F) _ _ (h d)))

end Cert.Gather

end
-- ==== Proof.OutRow.lean ====
/-
  The layer's last step, one element at a time, over the extended reals: the residual sum with the two halves of the
  output product, the sigmoid gate, and the normed per-layer embedding.
-/
module

public import proofs.«01_k».proof.Proof.Gen.Kernel2Ideal.Value
public import proofs.«01_k».proof.Proof.Gen.Reference2Ideal.Run
public import Idealize.ShloMosaic.Lib.Pointwise

@[expose] public section

noncomputable section

namespace Cert.OutLayer

open Idealize.ShloMosaic

/-- One row times one column of a product. -/
def mul {n : ℕ} (u v : Fin n → EReal) : EReal := ∑ k, u k * v k

/-- `h`: the input plus the two head groups, each times its half of a column of the output weights. -/
def hid (x : EReal) (gf gd uf ud : Fin 1024 → EReal) : EReal := x + mul gf uf + mul gd ud

/-- The gate `1 / (1 + exp (-s))`. -/
def gate (s : EReal) : EReal := Ideal.div 1 (1 + Ideal.exp (-s))

/-- Element `c` of a row `e` divided by the root of its mean square (plus epsilon) and times the gain. -/
def normed (e : Fin 2048 → EReal) (g : EReal) (c : Fin 2048) : EReal :=
  e c * Ideal.rsqrt (Ideal.div (∑ k, e k * e k) (Ideal.ofBits FTy.f32 1157627904#32) + Ideal.ofBits FTy.f32 897988541#32) * g

/-- Row number `j` of the output weights' second half. -/
def low (j : Fin 1024) : Fin 2048 := ⟨j.val, by omega⟩
def high (j : Fin 1024) : Fin 2048 := ⟨1024 + j.val, by omega⟩

/-- Element `c` of the layer's result in one row, from that row of the inputs and the weights. -/
def outAt (x : Fin 2048 → EReal) (gf gd : Fin 1024 → EReal) (p : Fin 256 → EReal) (wo wg : Fin 2048 → Fin 2048 → EReal)
    (wp : Fin 256 → Fin 2048 → EReal) (g : Fin 2048 → EReal) (c : Fin 2048) : EReal :=
  hid (x c) gf gd (fun j => wo (low j) c) (fun j => wo (high j) c)
    + gate (mul (fun k => hid (x k) gf gd (fun j => wo (low j) k) (fun j => wo (high j) k)) fun k => wg k c)
      * normed (fun k => mul p fun j => wp j k) (g c) c

section Block
open Cert.Kernel2Ideal Cert.Kernel2Ideal.Gen

variable (x0 : Vec Ideal S256x2048 .f32) (x1 x2 : Vec Ideal S256x1024 .bf16) (x3 : Vec Ideal S256x256 .f32)
  (x4 x5 : Vec Ideal S2048x2048 .bf16) (x6 : Vec Ideal S256x2048 .bf16) (x7 : Vec Ideal S1x2048 .f32)

set_option maxRecDepth 16384 in
theorem pay2_at (P2 P4 : Vec Ideal S1024x2048 .bf16) (r : Fin 256) (c : Fin 2048) :
    k0_pay2 x0 x1 P2 x2 P4 (ix2 r c) = hid (x0 (ix2 r c)) (fun k => x1 (ix2 r k)) (fun k => x2 (ix2 r k)) (fun k => P2 (ix2 k c)) (fun k => P4 (ix2 k c)) := by
  pointwise [k0_pay2, hid, mul]

set_option maxRecDepth 16384 in
theorem pay3_at (P2 P4 : Vec Ideal S1024x2048 .bf16) (r : Fin 256) (c : Fin 2048) :
    k0_pay3 x0 x1 P2 x2 P4 x5 (ix2 r c) = gate (mul (fun k => k0_pay2 x0 x1 P2 x2 P4 (ix2 r k)) (fun k => x5 (ix2 k c))) := by
  pointwise [k0_pay3, gate, mul]
  rw [zero_sub]

set_option maxRecDepth 16384 in
theorem pay4_at (r : Fin 256) (c : Fin 2048) :
    k0_pay4 x3 x6 (ix2 r c) = mul (fun k => x3 (ix2 r k)) (fun k => x6 (ix2 k c)) := by
  pointwise [k0_pay4, mul]

theorem low_idx (k : Fin 1024) (c : Fin 2048) : r0_2.idx (ix2 k c) = ix2 (low k) c :=
  funext fun a => Fin.ext (by match a with | ⟨0, _⟩ => show 0 + 1 * k.val = k.val; omega | ⟨1, _⟩ => show 0 + 1 * c.val = c.val; omega)

theorem high_idx (k : Fin 1024) (c : Fin 2048) : r0_3.idx (ix2 k c) = ix2 (high k) c :=
  funext fun a => Fin.ext (by match a with | ⟨0, _⟩ => show 1024 + 1 * k.val = 1024 + k.val; omega | ⟨1, _⟩ => show 0 + 1 * c.val = c.val; omega)

theorem hz : (![0, 0] : Fin 2 → Nat) = fun _ => 0 := funext fun a => by fin_cases a <;> rfl

set_option maxRecDepth 16384 in
/-- What the body leaves in its result block, from its eight input blocks. -/
theorem block_at (r : Fin 256) (c : Fin 2048) :
    out0_8 x0 x1 x2 x3 x4 x5 x6 x7 (ix2 r c) = outAt (fun k => x0 (ix2 r k)) (fun k => x1 (ix2 r k)) (fun k => x2 (ix2 r k))
      (fun k => x3 (ix2 r k)) (fun k j => x4 (ix2 k j)) (fun k j => x5 (ix2 k j)) (fun k j => x6 (ix2 k j)) (fun k => x7 (ix2 0 k)) c := by
  unfold out0_8
  rw [View.canon_unit_zero (S := S256x2048) hz]
  simp only [View.ld_unit_zero (S := S256x2048) hz, View.ld_unit_zero (S := S256x1024) hz, View.ld_unit_zero (S := S2048x2048) hz,
    View.ld_unit_zero (S := S256x256) hz, View.ld_unit_zero (S := S1x2048) hz]
  pointwise [k0_pay1, k0_pay5]
  simp only [pay2_at, pay3_at, pay4_at]
  have e2 : ∀ k j, View.ld x4 r0_2 (ix2 k j) = x4 (ix2 (low k) j) := fun k j => congrArg x4 (low_idx k j)
  have e3 : ∀ k j, View.ld x4 r0_3 (ix2 k j) = x4 (ix2 (high k) j) := fun k j => congrArg x4 (high_idx k j)
  simp only [e2, e3]
  rfl

end Block

/-! ## The reference, at one element -/

section Ref
open Cert.Reference2Ideal Cert.Reference2Ideal.Gen

set_option maxRecDepth 16384 in
set_option maxHeartbeats 1000000 in
theorem ref_at (x : FVec Ideal S8x2048x2048 .f32) (gf gd : FVec Ideal S16384x1024 .bf16) (p : FVec Ideal S1x8x2048x256 .f32) (wo : FVec Ideal S1x2048x2048 .f32) (wp : FVec Ideal S1x256x2048 .f32) (g : FVec Ideal S1x2048 .f32) (wg : FVec Ideal S1x2048x2048 .f32) (r : Fin 16384) (c : Fin 2048) :
    (show FVec Ideal S16384x2048 .f32 from shapeCast _ (addf (addf x (Host.dotGeneral dot_S8x2048x2048_S2048x2048_S8x2048x2048_2_0_01_1_n_n none (shapeCast _ (extf .f32 (concatenate S16384x2048 1 [⟨S16384x1024, gf⟩, ⟨S16384x1024, gd⟩] concatenates_S16384x1024_S16384x1024_S16384x2048_d1) bitsLt_bf16_f32) shapeCasts_S16384x2048_S8x2048x2048) (shapeCast _ wo shapeCasts_S1x2048x2048_S2048x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (Host.dotGeneral dot_S8x2048x2048_S2048x2048_S8x2048x2048_2_0_01_1_n_n none (addf x (Host.dotGeneral dot_S8x2048x2048_S2048x2048_S8x2048x2048_2_0_01_1_n_n none (shapeCast _ (extf .f32 (concatenate S16384x2048 1 [⟨S16384x1024, gf⟩, ⟨S16384x1024, gd⟩] concatenates_S16384x1024_S16384x1024_S16384x2048_d1) bitsLt_bf16_f32) shapeCasts_S16384x2048_S8x2048x2048) (shapeCast _ wo shapeCasts_S1x2048x2048_S2048x2048))) (shapeCast _ wg shapeCasts_S1x2048x2048_S2048x2048)))))) (mulf (mulf (Host.dotGeneral dot_S8x2048x256_S256x2048_S8x2048x2048_2_0_01_1_n_n none (shapeCast _ p shapeCasts_S1x8x2048x256_S8x2048x256) (shapeCast _ wp shapeCasts_S1x256x2048_S256x2048)) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (Host.dotGeneral dot_S8x2048x256_S256x2048_S8x2048x2048_2_0_01_1_n_n none (shapeCast _ p shapeCasts_S1x8x2048x256_S8x2048x256) (shapeCast _ wp shapeCasts_S1x256x2048_S256x2048)) (Host.dotGeneral dot_S8x2048x256_S256x2048_S8x2048x2048_2_0_01_1_n_n none (shapeCast _ p shapeCasts_S1x8x2048x256_S8x2048x256) (shapeCast _ wp shapeCasts_S1x256x2048_S256x2048))) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))))) shapeCasts_S8x2048x2048_S16384x2048) (ix2 r c) = outAt (fun k => x (ix3 ⟨r.val / 2048, by omega⟩ ⟨r.val % 2048, by omega⟩ k)) (fun k => gf (ix2 r k)) (fun k => gd (ix2 r k))
      (fun k => p (ix4 0 ⟨r.val / 2048, by omega⟩ ⟨r.val % 2048, by omega⟩ k)) (fun k j => wo (ix3 0 k j)) (fun k j => wg (ix3 0 k j)) (fun k j => wp (ix3 0 k j)) (fun k => g (ix2 0 k)) c := by
  pointwise [outAt, hid, mul, gate, normed, low, high]
  simp only [add_assoc]

end Ref

end Cert.OutLayer

end
-- ==== Proof.OutArray.lean ====
/-
  What the output call leaves in its result array: row `256 t + r` is the block of grid point `t`, read off rows
  `256 t + r` of the activations and off the whole weights, which the host casts and reshapes beforehand.
-/
module

public import proofs.«01_k».proof.Proof.OutRow

@[expose] public section

noncomputable section

namespace Cert.OutLayer

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg) (c : Dev nD)

theorem first_of (t : Fin cfg0.N) : win0_0.index t 0 = t.val ∧ win0_1.index t 0 = t.val ∧ win0_2.index t 0 = t.val ∧ win0_3.index t 0 = t.val ∧ win0_8.index t 0 = t.val :=
  (by decide +kernel : ∀ t : Fin grid0.N, win0_0.index t 0 = t.val ∧ win0_1.index t 0 = t.val ∧ win0_2.index t 0 = t.val ∧ win0_3.index t 0 = t.val ∧ win0_8.index t 0 = t.val) t

/-- Row `r` of grid point `t`'s blocks, as a row of the whole arrays. -/
def row (t : Fin cfg0.N) (r : Fin 256) : Fin 16384 := ⟨256 * t.val + r.val, by have : t.val < 64 := t.isLt; omega⟩

theorem blk0 (t : Fin cfg0.N) (r : Fin 256) (k : Fin 2048) : iblk m c 0 t (ix2 r k) = V m c main_v8 (ix2 (row t r) k) :=
  congrArg (V m c main_v8) (funext fun a => Fin.ext (by
    match a with
    | ⟨0, _⟩ => show win0_0.index t 0 * 256 + 1 * r.val = 256 * t.val + r.val; rw [(first_of t).1]; omega
    | ⟨1, _⟩ => show 0 * 2048 + 1 * k.val = k.val; omega))

theorem blk1 (t : Fin cfg0.N) (r : Fin 256) (k : Fin 1024) : iblk m c 1 t (ix2 r k) = V m c main_arg1 (ix2 (row t r) k) :=
  congrArg (V m c main_arg1) (funext fun a => Fin.ext (by
    match a with
    | ⟨0, _⟩ => show win0_1.index t 0 * 256 + 1 * r.val = 256 * t.val + r.val; rw [(first_of t).2.1]; omega
    | ⟨1, _⟩ => show 0 * 1024 + 1 * k.val = k.val; omega))

theorem blk2 (t : Fin cfg0.N) (r : Fin 256) (k : Fin 1024) : iblk m c 2 t (ix2 r k) = V m c main_arg2 (ix2 (row t r) k) :=
  congrArg (V m c main_arg2) (funext fun a => Fin.ext (by
    match a with
    | ⟨0, _⟩ => show win0_2.index t 0 * 256 + 1 * r.val = 256 * t.val + r.val; rw [(first_of t).2.2.1]; omega
    | ⟨1, _⟩ => show 0 * 1024 + 1 * k.val = k.val; omega))

theorem blk3 (t : Fin cfg0.N) (r : Fin 256) (k : Fin 256) : iblk m c 3 t (ix2 r k) = V m c main_v10 (ix2 (row t r) k) :=
  congrArg (V m c main_v10) (funext fun a => Fin.ext (by
    match a with
    | ⟨0, _⟩ => show win0_3.index t 0 * 256 + 1 * r.val = 256 * t.val + r.val; rw [(first_of t).2.2.2.1]; omega
    | ⟨1, _⟩ => show 0 * 256 + 1 * k.val = k.val; omega))

theorem blk4 (t : Fin cfg0.N) (k j : Fin 2048) : iblk m c 4 t (ix2 k j) = V m c main_v1 (ix2 k j) :=
  congrArg (V m c main_v1) (funext fun a => Fin.ext (by
    match a with
    | ⟨0, _⟩ => show 0 * 2048 + 1 * k.val = k.val; omega
    | ⟨1, _⟩ => show 0 * 2048 + 1 * j.val = j.val; omega))

theorem blk5 (t : Fin cfg0.N) (k j : Fin 2048) : iblk m c 5 t (ix2 k j) = V m c main_v3 (ix2 k j) :=
  congrArg (V m c main_v3) (funext fun a => Fin.ext (by
    match a with
    | ⟨0, _⟩ => show 0 * 2048 + 1 * k.val = k.val; omega
    | ⟨1, _⟩ => show 0 * 2048 + 1 * j.val = j.val; omega))

theorem blk6 (t : Fin cfg0.N) (k : Fin 256) (j : Fin 2048) : iblk m c 6 t (ix2 k j) = V m c main_v5 (ix2 k j) :=
  congrArg (V m c main_v5) (funext fun a => Fin.ext (by
    match a with
    | ⟨0, _⟩ => show 0 * 256 + 1 * k.val = k.val; omega
    | ⟨1, _⟩ => show 0 * 2048 + 1 * j.val = j.val; omega))

theorem blk7 (t : Fin cfg0.N) (j : Fin 2048) : iblk m c 7 t (ix2 0 j) = V m c main_v7 (ix2 0 j) :=
  congrArg (V m c main_v7) (funext fun a => Fin.ext (by
    match a with
    | ⟨0, _⟩ => show 0 * 1 + 1 * 0 = 0; omega
    | ⟨1, _⟩ => show 0 * 2048 + 1 * j.val = j.val; omega))

/-- Element `(row t r, j)` of the result array after the run. -/
theorem arr_at (t : Fin cfg0.N) (r : Fin 256) (j : Fin 2048) :
    (dats m 0 c).arrAt 8 cfg0.N (ix2 (row t r) j) = outAt (fun k => V m c main_v8 (ix2 (row t r) k)) (fun k => V m c main_arg1 (ix2 (row t r) k))
      (fun k => V m c main_arg2 (ix2 (row t r) k)) (fun k => V m c main_v10 (ix2 (row t r) k)) (fun k l => V m c main_v1 (ix2 k l))
      (fun k l => V m c main_v3 (ix2 k l)) (fun k l => V m c main_v5 (ix2 k l)) (fun k => V m c main_v7 (ix2 0 k)) j := by
  have h := congrFun (Value.blocks8 m c t (flush0_8 t)) (ix2 r j)
  rw [Value.flushed8] at h
  have e : ((cfg0.win 8).blk t).view.read (Elt Ideal) ((dats m 0 c).arrAt 8 cfg0.N) (ix2 r j) = (dats m 0 c).arrAt 8 cfg0.N (ix2 (row t r) j) :=
    congrArg ((dats m 0 c).arrAt 8 cfg0.N) (funext fun a => Fin.ext (by
      match a with
      | ⟨0, _⟩ => show win0_8.index t 0 * 256 + 1 * r.val = 256 * t.val + r.val; rw [(first_of t).2.2.2.2]; omega
      | ⟨1, _⟩ => show 0 * 2048 + 1 * j.val = j.val; omega))
  rw [← e, h]
  refine (block_at _ _ _ _ _ _ _ _ r j).trans ?_
  simp only [blk0, blk1, blk2, blk3, blk4, blk5, blk6, blk7]

/-! ## The host's casts and reshapes before the call -/

theorem V_v8 : V m c main_v8 = shapeCast S16384x2048 (m ((c : Thread nD τ).loc main_arg0)) shapeCasts_S8x2048x2048_S16384x2048 := by
  unfold_abbrev_sides; after_results <;> rfl
theorem V_v10 : V m c main_v10 = shapeCast S16384x256 (shapeCast S8x2048x256 (m ((c : Thread nD τ).loc main_arg3)) shapeCasts_S1x8x2048x256_S8x2048x256) shapeCasts_S8x2048x256_S16384x256 := by
  unfold_abbrev_sides; after_results <;> rfl
theorem V_v1 : V m c main_v1 = truncf (F := Ideal) .bf16 (shapeCast S2048x2048 (m ((c : Thread nD τ).loc main_arg4)) shapeCasts_S1x2048x2048_S2048x2048) bitsLt_bf16_f32 := by
  unfold_abbrev_sides; after_results <;> rfl
theorem V_v3 : V m c main_v3 = truncf (F := Ideal) .bf16 (shapeCast S2048x2048 (m ((c : Thread nD τ).loc main_arg7)) shapeCasts_S1x2048x2048_S2048x2048) bitsLt_bf16_f32 := by
  unfold_abbrev_sides; after_results <;> rfl
theorem V_v5 : V m c main_v5 = truncf (F := Ideal) .bf16 (shapeCast S256x2048 (m ((c : Thread nD τ).loc main_arg5)) shapeCasts_S1x256x2048_S256x2048) bitsLt_bf16_f32 := by
  unfold_abbrev_sides; after_results <;> rfl
theorem V_v7 : V m c main_v7 = shapeCast S1x2048 (shapeCast S2048 (m ((c : Thread nD τ).loc main_arg6)) shapeCasts_S1x2048_S2048) shapeCasts_S2048_S1x2048 := by
  unfold_abbrev_sides; after_results <;> rfl

section Casts
set_option maxRecDepth 16384

theorem cast_x (a : FVec Ideal S8x2048x2048 .f32) (r : Fin 16384) (k : Fin 2048) :
    shapeCast S16384x2048 a shapeCasts_S8x2048x2048_S16384x2048 (ix2 r k) = a (ix3 ⟨r.val / 2048, by omega⟩ ⟨r.val % 2048, by omega⟩ k) := by
  pointwise
theorem cast_p (a : FVec Ideal S1x8x2048x256 .f32) (r : Fin 16384) (k : Fin 256) :
    shapeCast S16384x256 (shapeCast S8x2048x256 a shapeCasts_S1x8x2048x256_S8x2048x256) shapeCasts_S8x2048x256_S16384x256 (ix2 r k)
      = a (ix4 0 ⟨r.val / 2048, by omega⟩ ⟨r.val % 2048, by omega⟩ k) := by
  pointwise
theorem cast_w (a : FVec Ideal S1x2048x2048 .f32) (k l : Fin 2048) :
    truncf (F := Ideal) .bf16 (shapeCast S2048x2048 a shapeCasts_S1x2048x2048_S2048x2048) bitsLt_bf16_f32 (ix2 k l) = a (ix3 0 k l) := by
  pointwise
theorem cast_e (a : FVec Ideal S1x256x2048 .f32) (k : Fin 256) (l : Fin 2048) :
    truncf (F := Ideal) .bf16 (shapeCast S256x2048 a shapeCasts_S1x256x2048_S256x2048) bitsLt_bf16_f32 (ix2 k l) = a (ix3 0 k l) := by
  pointwise
theorem cast_g (a : FVec Ideal S1x2048 .f32) (k : Fin 2048) :
    shapeCast S1x2048 (shapeCast S2048 a shapeCasts_S1x2048_S2048) shapeCasts_S2048_S1x2048 (ix2 0 k) = a (ix2 0 k) := by
  pointwise

end Casts

set_option maxRecDepth 16384 in
/-- Element `(r, j)` of the result array after the run, from the call's arguments. -/
theorem ker_at (r : Fin 16384) (j : Fin 2048) :
    (dats m 0 c).arrAt 8 cfg0.N (ix2 r j) = outAt
      (fun k => (m ((c : Thread nD τ).loc main_arg0) : FVec Ideal S8x2048x2048 .f32) (ix3 ⟨r.val / 2048, by omega⟩ ⟨r.val % 2048, by omega⟩ k))
      (fun k => (m ((c : Thread nD τ).loc main_arg1) : FVec Ideal S16384x1024 .bf16) (ix2 r k)) (fun k => (m ((c : Thread nD τ).loc main_arg2) : FVec Ideal S16384x1024 .bf16) (ix2 r k))
      (fun k => (m ((c : Thread nD τ).loc main_arg3) : FVec Ideal S1x8x2048x256 .f32) (ix4 0 ⟨r.val / 2048, by omega⟩ ⟨r.val % 2048, by omega⟩ k))
      (fun k l => (m ((c : Thread nD τ).loc main_arg4) : FVec Ideal S1x2048x2048 .f32) (ix3 0 k l)) (fun k l => (m ((c : Thread nD τ).loc main_arg7) : FVec Ideal S1x2048x2048 .f32) (ix3 0 k l))
      (fun k l => (m ((c : Thread nD τ).loc main_arg5) : FVec Ideal S1x256x2048 .f32) (ix3 0 k l)) (fun k => (m ((c : Thread nD τ).loc main_arg6) : FVec Ideal S1x2048 .f32) (ix2 0 k)) j := by
  have hr : row ⟨r.val / 256, by show r.val / 256 < 64; omega⟩ ⟨r.val % 256, by omega⟩ = r := Fin.ext (by show 256 * (r.val / 256) + r.val % 256 = r.val; omega)
  have h := arr_at m c ⟨r.val / 256, by show r.val / 256 < 64; omega⟩ ⟨r.val % 256, by omega⟩ j
  rw [hr] at h
  rw [h, V_main_arg1, V_main_arg2, V_v8, V_v10, V_v1, V_v3, V_v5, V_v7]
  simp only [cast_w, cast_e]
  congr 1 <;> funext k
  · exact cast_x _ r k
  · exact cast_p _ r k
  · exact cast_g _ k

end Cert.OutLayer

end
-- ==== Proof.OutClaim.lean ====
/-
  The claims about the output call: its frames at both instances and the equality with the plain reference.
-/
module

public import proofs.«01_k».proof.Defs
public import proofs.«01_k».proof.Proof.OutArray
public import proofs.«01_k».proof.Proof.Gen.Kernel2
public import proofs.«01_k».proof.Proof.Gen.Reference2Ideal

@[expose] public section

noncomputable section

namespace Cert.OutLayer

open Idealize.ShloMosaic Idealize.ShloMosaic.TcCoe Idealize.SL.Sem

/-- The two printed programs run the same body at their one label. -/
theorem bodies_eq : Cert.Kernel2.defs₀ (F := Bits) = Cert.Kernel2Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel2.defs (F := Bits) = Cert.Kernel2Ideal.defs (F := Bits) :=
  congrArg (Pipeline.defs Cert.Kernel2Ideal.pcfgs) bodies_eq

theorem frame_kernel : Cert.quiescent_Kernel2 := fun m ρ _ => by
  rw [defs_eq]
  exact Cert.Kernel2Ideal.Gen.frame (F := Bits) m ρ

theorem frame_ideal : Cert.quiescent_Kernel2Ideal := fun m ρ _ => Cert.Kernel2Ideal.Gen.frame m ρ
theorem frame_refIdeal : Cert.quiescent_Reference2Ideal := fun m ρ _ =>
  (θ_run Cert.Reference2Ideal.defs _ _).mono (fun r hr => ⟨fun c => (hr c).2, sem_eq_zero_of_no_sems (by decide) r.2⟩)
    (Cert.Reference2Ideal.Value.run (F := Ideal) m ρ)

theorem algebraic : Cert.algebraic_Kernel2Ideal_Reference2Ideal := by
  intro m g m' g' _ h
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r hr c => ⟨(hr c).1.trans ?_, (hr c).2⟩)
    (Cert.Reference2Ideal.Value.run (F := Ideal) m' g')
  obtain ⟨h0, h1, h2, h3, h4, h5, h6, h7⟩ := h c
  rw [h0, h1, h2, h3, h4, h5, h6, h7]
  funext i
  obtain ⟨r, j, rfl⟩ : ∃ (r : Fin 16384) (j : Fin 2048), i = ix2 r j := ⟨i 0, i 1, eq_ix2 i⟩
  exact (ref_at _ _ _ _ _ _ _ _ r j).trans (ker_at m c r j).symm

end Cert.OutLayer

end
-- ==== Proof.ProjSteps.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Basic
public import Idealize.ShloMosaic.Lib.Pipeline.Value

/-!
The sample's projection runs its body eight times over the same block of rows: the first time it normalizes the rows and
makes the fox queries, then come the fox keys and values, the dsa queries, the dsa keys and values, the two gates, the index
queries, and last the narrow outputs. Here each of the eight is run once, on buffers that are left general: a step is
given the buffers it touches and hands them back, the ones it fills holding a named function of what it read.
-/

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- The staging buffers the projection's body is called with: six blocks of inputs, then the sixteen blocks it fills. -/
structure Bufs where
  a0 : Memref sig .tc .vmem S128x2048 .f32
  h0 : a0.IsWhole
  a1 : Memref sig .tc .vmem S1x2048 .f32
  h1 : a1.IsWhole
  a2 : Memref sig .tc .vmem S1024x2048 .bf16
  h2 : a2.IsWhole
  a3 : Memref sig .tc .vmem S128x2048 .bf16
  h3 : a3.IsWhole
  a4 : Memref sig .tc .vmem S4x128 .f32
  h4 : a4.IsWhole
  a5 : Memref sig .tc .vmem S8x1 .f32
  h5 : a5.IsWhole
  a6 : Memref sig .tc .vmem S128x2048 .bf16
  h6 : a6.IsWhole
  a7 : Memref sig .tc .vmem S128x1024 .bf16
  h7 : a7.IsWhole
  a8 : Memref sig .tc .vmem S512x128 .f32
  h8 : a8.IsWhole
  a9 : Memref sig .tc .vmem S128x512 .bf16
  h9 : a9.IsWhole
  a10 : Memref sig .tc .vmem S512x128 .f32
  h10 : a10.IsWhole
  a11 : Memref sig .tc .vmem S128x512 .bf16
  h11 : a11.IsWhole
  a12 : Memref sig .tc .vmem S128x1024 .bf16
  h12 : a12.IsWhole
  a13 : Memref sig .tc .vmem S512x128 .f32
  h13 : a13.IsWhole
  a14 : Memref sig .tc .vmem S128x512 .bf16
  h14 : a14.IsWhole
  a15 : Memref sig .tc .vmem S512x128 .f32
  h15 : a15.IsWhole
  a16 : Memref sig .tc .vmem S128x512 .bf16
  h16 : a16.IsWhole
  a17 : Memref sig .tc .vmem S128x1024 .bf16
  h17 : a17.IsWhole
  a18 : Memref sig .tc .vmem S128x1024 .bf16
  h18 : a18.IsWhole
  a19 : Memref sig .tc .vmem S128x1024 .bf16
  h19 : a19.IsWhole
  a20 : Memref sig .tc .vmem S128x128 .f32
  h20 : a20.IsWhole
  a21 : Memref sig .tc .vmem S8x128 .f32
  h21 : a21.IsWhole

/-- The body at the grid position `i` on the buffers `M`. -/
abbrev Bufs.body (M : Bufs) (i : grid0.Coords) : Prog (TpuEff nD τ sig (Elt F) Λ₀ .tc) PUnit :=
  cc0_proj_fq i M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21

/-! ## What each step computes -/

/-- Row `k` of the table of norm gains, as the body loads it. -/
def gainRow0 (g : Vec F S4x128 .f32) : Vec F S1x128 .f32 := View.ld g (Rect.unit (s := S4x128) ![0, 0] S1x128.size inb_S4x128_S1x128_0_0)
def gainRow1 (g : Vec F S4x128 .f32) : Vec F S1x128 .f32 := View.ld g (Rect.unit (s := S4x128) ![1, 0] S1x128.size inb_S4x128_S1x128_1_0)
def gainRow2 (g : Vec F S4x128 .f32) : Vec F S1x128 .f32 := View.ld g (Rect.unit (s := S4x128) ![2, 0] S1x128.size inb_S4x128_S1x128_2_0)
def gainRow3 (g : Vec F S4x128 .f32) : Vec F S1x128 .f32 := View.ld g (Rect.unit (s := S4x128) ![3, 0] S1x128.size inb_S4x128_S1x128_3_0)

/-- The eight query heads of the rows `xn` under the weight block `w`, normalized with the gain `g` and scaled. -/
def queries (xn : Vec F S128x2048 .bf16) (w : Vec F S1024x2048 .bf16) (g : Vec F S1x128 .f32) : Vec F S128x1024 .bf16 :=
  k0_pay2 (k0_pay13 xn w) (k0_pay14 g) (k0_pay15 xn w g) (k0_pay16 xn w g) (k0_pay19 (k0_pay14 g) (k0_pay17 xn w) (k0_pay18 xn w))
    (k0_pay20 (k0_pay13 xn w) (k0_pay14 g)) (k0_pay21 (k0_pay13 xn w) (k0_pay14 g)) (k0_pay22 (k0_pay13 xn w)) (k0_pay23 (k0_pay13 xn w))

/-- The rows of the four heads' blocks, row `4 r + h` of the result being row `r` of head `h`. -/
def interleave (p0 p1 p2 p3 : Vec F S128x128 .f32) : Vec F S512x128 .f32 :=
  View.canon [⟨⟨(⟨![3, 0], S128x128.size, ![4, 1], inb_S512x128_S128x128_3_0_s_4_1⟩ : LoadRect S512x128), spos_4_1⟩, p3⟩,
    ⟨⟨(⟨![2, 0], S128x128.size, ![4, 1], inb_S512x128_S128x128_2_0_s_4_1⟩ : LoadRect S512x128), spos_4_1⟩, p2⟩,
    ⟨⟨(⟨![1, 0], S128x128.size, ![4, 1], inb_S512x128_S128x128_1_0_s_4_1⟩ : LoadRect S512x128), spos_4_1⟩, p1⟩,
    ⟨⟨(⟨![0, 0], S128x128.size, ![4, 1], inb_S512x128_S128x128_0_0_s_4_1⟩ : LoadRect S512x128), spos_4_1⟩, p0⟩]

/-- A per-head function applied to what the keys' half of the step hands on. -/
def onKeys {α : Type} (f : FVec F S128x512 .f32 → FVec F S1x128 .f32 → FVec F S128x128 .f32 → FVec F S128x128 .f32 → FVec F S128x128 .f32
    → FVec F S128x128 .f32 → α) (xn : Vec F S128x2048 .bf16) (w : Vec F S1024x2048 .bf16) (g : Vec F S1x128 .f32) : α :=
  f (k0_pay25 xn w) (k0_pay26 g) (k0_pay27 xn w g) (k0_pay28 xn w g) (k0_pay29 xn w) (k0_pay30 xn w)

/-- The four key heads, normalized, one row for each row and head. -/
def keys (xn : Vec F S128x2048 .bf16) (w : Vec F S1024x2048 .bf16) (g : Vec F S1x128 .f32) : Vec F S512x128 .f32 :=
  interleave (onKeys k0_pay32 xn w g) (onKeys k0_pay33 xn w g) (onKeys k0_pay34 xn w g) (onKeys k0_pay35 xn w g)

/-- The four value heads, one row for each row and head. -/
def values (xn : Vec F S128x2048 .bf16) (w : Vec F S1024x2048 .bf16) : Vec F S512x128 .f32 :=
  interleave (k0_pay38 (k0_pay24 xn w)) (k0_pay39 (k0_pay24 xn w)) (k0_pay40 (k0_pay24 xn w)) (k0_pay3 (k0_pay37 (k0_pay24 xn w)))

/-- The sixteen bit copies of the keys and of the values, the heads side by side. -/
def keys16 (xn : Vec F S128x2048 .bf16) (w : Vec F S1024x2048 .bf16) (g : Vec F S1x128 .f32) : Vec F S128x512 .bf16 := onKeys k0_pay36 xn w g
def values16 (xn : Vec F S128x2048 .bf16) (w : Vec F S1024x2048 .bf16) : Vec F S128x512 .bf16 := k0_pay4 (k0_pay24 xn w)

/-! ## Whole buffers -/

theorem zeros2 : (![0, 0] : Fin 2 → Nat) = fun _ => 0 := by decide

/-- A load of a whole buffer reads all of it. -/
theorem load_all {κ : Kind} {sp : Space} {a b : Nat} {e : EltTy} (v : View sig κ sp ⟨2, ![a, b]⟩ e) (f : v.ty.Contents (Elt F))
    (inb : ∀ x, (![0, 0] : Fin 2 → Nat) x + (⟨2, ![a, b]⟩ : Shape).size x ≤ (⟨2, ![a, b]⟩ : Shape).size x) :
    View.readAt (Elt F) v (Rect.unit (s := ⟨2, ![a, b]⟩) ![0, 0] (⟨2, ![a, b]⟩ : Shape).size inb).toLoadRect f = View.read (Elt F) v f :=
  View.ld_unit_zero (S := ⟨2, ![a, b]⟩) zeros2 inb (View.read (Elt F) v f)

/-- A store over a whole buffer leaves what it stored, whatever was there. -/
theorem store_all {κ : Kind} {sp : Space} {S : Shape} {e : EltTy} (v : View sig κ sp S e) (f : v.ty.Contents (Elt F))
    {off : Fin S.rank → Nat} (h : off = fun _ => 0) (inb : ∀ x, off x + S.size x ≤ S.size x) (p : S.Idx → Elt F e) :
    View.read (Elt F) v (v.writes (Elt F) f [(⟨Rect.unit off S.size inb, p⟩ : View.Piece (Elt F) S e)]) = p :=
  have hc : ∀ y, ∃ q ∈ ([(⟨Rect.unit off S.size inb, p⟩ : View.Piece (Elt F) S e)]), y ∈ q.1.set := fun y =>
    ⟨_, List.mem_singleton.mpr rfl, (Rect.mem_set_unit (inb := inb)).mpr fun x =>
      ⟨by rw [h]; exact Nat.zero_le _, (y x).isLt.trans_le (Nat.le_add_left _ _)⟩⟩
  (View.read_writes_eq_canon v f _ hc).trans (View.canon_unit_zero h inb p)

/-- The four interleaved stores leave the interleaved rows, whatever was there. -/
theorem store_rows {κ : Kind} {sp : Space} (v : View sig κ sp S512x128 .f32) (f : v.ty.Contents (Elt F)) (p0 p1 p2 p3 : Vec F S128x128 .f32) :
    View.read (Elt F) v (v.writes (Elt F) f [⟨⟨(⟨![3, 0], S128x128.size, ![4, 1], inb_S512x128_S128x128_3_0_s_4_1⟩ : LoadRect S512x128), spos_4_1⟩, p3⟩,
      ⟨⟨(⟨![2, 0], S128x128.size, ![4, 1], inb_S512x128_S128x128_2_0_s_4_1⟩ : LoadRect S512x128), spos_4_1⟩, p2⟩,
      ⟨⟨(⟨![1, 0], S128x128.size, ![4, 1], inb_S512x128_S128x128_1_0_s_4_1⟩ : LoadRect S512x128), spos_4_1⟩, p1⟩,
      ⟨⟨(⟨![0, 0], S128x128.size, ![4, 1], inb_S512x128_S128x128_0_0_s_4_1⟩ : LoadRect S512x128), spos_4_1⟩, p0⟩]) = interleave p0 p1 p2 p3 := by
  refine View.read_writes_eq_canon _ _ _ fun y => ?_
  have h0 : (y 0).val < 512 := (y 0).isLt
  have h1 : (y 1).val < 128 := (y 1).isLt
  have hm : ∀ (k : Nat) (inb), (y 0).val % 4 = k →
      y ∈ (⟨(⟨![k, 0], S128x128.size, ![4, 1], inb⟩ : LoadRect S512x128), spos_4_1⟩ : Rect S512x128).set := fun k inb hk =>
    (LoadRect.mem_set _).mpr (Fin.forall_fin_two.mpr
      ⟨⟨(y 0).val / 4, Nat.div_lt_of_lt_mul h0, show (y 0).val = k + 4 * ((y 0).val / 4) by omega⟩,
        ⟨(y 1).val, h1, show (y 1).val = 0 + 1 * (y 1).val by omega⟩⟩)
  rcases (by omega : (y 0).val % 4 = 3 ∨ (y 0).val % 4 = 2 ∨ (y 0).val % 4 = 1 ∨ (y 0).val % 4 = 0) with h | h | h | h
  · exact ⟨_, .head _, hm 3 _ h⟩
  · exact ⟨_, .tail _ (.head _), hm 2 _ h⟩
  · exact ⟨_, .tail _ (.tail _ (.head _)), hm 1 _ h⟩
  · exact ⟨_, .tail _ (.tail _ (.tail _ (.head _))), hm 0 _ h⟩

/-- A buffer whose contents read as `x` is one owned at `x`. -/
theorem give (c : Dev nD) {s : Shape} {e : EltTy} (a : Memref sig .tc .vmem s e) (f : Buf (Elt F) (a.view.loc (c : Thread nD τ)))
    (x : s.Idx → Elt F e) (h : View.read (Elt F) a.view f = x) :
    iprop(a.view.loc (c : Thread nD τ) ↦[a.view.set]{fullShare} f) ⊢ (iprop(∃ f, ⌜View.read (Elt F) a.view f = x⌝ ∗ (a.view.loc (c : Thread nD τ) ↦[a.view.set]{fullShare} f)) : sProp 𝕄) := by
  iintro H; iexists f; isplitr; · ipureintro; exact h
  iexact H

/-! ## The steps -/

set_option maxHeartbeats 2000000 in
/-- The fox keys and values. -/
theorem step_keys (c : Dev nD) (M : Bufs) (xn : Vec F S128x2048 .bf16) (w : Vec F S1024x2048 .bf16) (g : Vec F S4x128 .f32) (K : PUnit → sProp 𝕄) :
    iprop(owns (c : Thread nD τ) M.a6 fullShare xn ∗ owns (c : Thread nD τ) M.a2 fullShare w ∗ owns (c : Thread nD τ) M.a4 fullShare g ∗ (∃ d, owns (c : Thread nD τ) M.a8 fullShare d) ∗ (∃ d, owns (c : Thread nD τ) M.a9 fullShare d) ∗ (∃ d, owns (c : Thread nD τ) M.a10 fullShare d) ∗ (∃ d, owns (c : Thread nD τ) M.a11 fullShare d)
        ∗ (iprop(owns (c : Thread nD τ) M.a6 fullShare xn ∗ owns (c : Thread nD τ) M.a2 fullShare w ∗ owns (c : Thread nD τ) M.a4 fullShare g ∗ owns (c : Thread nD τ) M.a8 fullShare (keys xn w (gainRow1 g)) ∗ owns (c : Thread nD τ) M.a9 fullShare (keys16 xn w (gainRow1 g)) ∗ owns (c : Thread nD τ) M.a10 fullShare (values xn w) ∗ owns (c : Thread nD τ) M.a11 fullShare (values16 xn w)) -∗ K ⟨⟩))
      ⊢ wp frame (wpE (defs₀ (F := F)) Variants.none c none) Set.univ (M.body (grid0.coords t0_1)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  simp only [k0_part3_eq_skeleton, k0_part4_eq_skeleton]
  unfold owns
  iintro ⟨⟨%f6, %e6, H6⟩, ⟨%f2, %e2, H2⟩, ⟨%f4, %e4, H4⟩, ⟨%d8, %f8, -, H8⟩, ⟨%d9, %f9, -, H9⟩, ⟨%d10, %f10, -, H10⟩, ⟨%d11, %f11, -, H11⟩, Hk⟩
  subst e6 e2 e4
  have l6 : View.readAt (Elt F) a6.view (Rect.unit (s := S128x2048) ![0, 0] S128x2048.size inb_S128x2048_S128x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H6]; · iapply (give _ _ _ _ rfl); iexact H6
  isplitl [H2]; · iapply (give _ _ _ _ rfl); iexact H2
  isplitl [H4]; · iapply (give _ _ _ _ rfl); iexact H4
  isplitl [H8]
  · iapply (give _ _ _ _ ?_)
    swap; · iexact H8
    exact (store_rows _ _ _ _ _ _).trans rfl
  isplitl [H9]
  · iapply (give _ _ _ _ ?_)
    swap; · iexact H9
    exact (store_all _ _ zeros2 _ _).trans rfl
  isplitl [H10]
  · iapply (give _ _ _ _ ?_)
    swap; · iexact H10
    exact (store_rows _ _ _ _ _ _).trans rfl
  iapply (give _ _ _ _ ?_)
  swap; · iexact H11
  exact (store_all _ _ zeros2 _ _).trans rfl

set_option maxHeartbeats 2000000 in
/-- The first step: the rows normalized, and the fox queries of the normalized rows. -/
theorem step_norm (c : Dev nD) (M : Bufs) (x : Vec F S128x2048 .f32) (nin : Vec F S1x2048 .f32) (w : Vec F S1024x2048 .bf16) (g : Vec F S4x128 .f32) (K : PUnit → sProp 𝕄) :
    iprop(owns (c : Thread nD τ) M.a0 fullShare x ∗ owns (c : Thread nD τ) M.a1 fullShare nin ∗ owns (c : Thread nD τ) M.a2 fullShare w ∗ owns (c : Thread nD τ) M.a4 fullShare g ∗ (∃ d, owns (c : Thread nD τ) M.a6 fullShare d) ∗ (∃ d, owns (c : Thread nD τ) M.a7 fullShare d)
        ∗ (iprop(owns (c : Thread nD τ) M.a0 fullShare x ∗ owns (c : Thread nD τ) M.a1 fullShare nin ∗ owns (c : Thread nD τ) M.a2 fullShare w ∗ owns (c : Thread nD τ) M.a4 fullShare g ∗ owns (c : Thread nD τ) M.a6 fullShare (k0_pay1 x nin) ∗ owns (c : Thread nD τ) M.a7 fullShare (queries (k0_pay1 x nin) w (gainRow0 g))) -∗ K ⟨⟩))
      ⊢ wp frame (wpE (defs₀ (F := F)) Variants.none c none) Set.univ (M.body (grid0.coords t0_0)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  simp only [k0_part1_eq_skeleton, k0_part2_eq_skeleton]
  unfold owns
  iintro ⟨⟨%f0, %e0, H0⟩, ⟨%f1, %e1, H1⟩, ⟨%f2, %e2, H2⟩, ⟨%f4, %e4, H4⟩, ⟨%d6, %f6, -, H6⟩, ⟨%d7, %f7, -, H7⟩, Hk⟩
  subst e0 e1 e2 e4
  have l0 : View.readAt (Elt F) a0.view (Rect.unit (s := S128x2048) ![0, 0] S128x2048.size inb_S128x2048_S128x2048_0_0).toLoadRect f0 = View.read (Elt F) a0.view f0 := load_all _ _ _
  have l1 : View.readAt (Elt F) a1.view (Rect.unit (s := S1x2048) ![0, 0] S1x2048.size inb_S1x2048_S1x2048_0_0).toLoadRect f1 = View.read (Elt F) a1.view f1 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H0]; · iapply (give _ _ _ _ rfl); iexact H0
  isplitl [H1]; · iapply (give _ _ _ _ rfl); iexact H1
  isplitl [H2]; · iapply (give _ _ _ _ rfl); iexact H2
  isplitl [H4]; · iapply (give _ _ _ _ rfl); iexact H4
  isplitl [H6]
  · iapply (give _ _ _ _ ?_)
    swap; · iexact H6
    exact (store_all _ _ zeros2 _ _).trans rfl
  iapply (give _ _ _ _ ?_)
  swap; · iexact H7
  refine (store_all _ _ zeros2 _ _).trans ?_
  have hv : step_norm.sl.v27 c a0 a1 a6 f0 f1 = k0_pay1 (View.read (Elt F) a0.view f0) (View.read (Elt F) a1.view f1) := by
    unfold step_norm.sl.v27 step_norm.sl.H6_1
    exact View.readCov_unit_zero _ zeros2 _ _
  show queries (step_norm.sl.v27 c a0 a1 a6 f0 f1) _ _ = _
  rw [hv]; rfl

set_option maxHeartbeats 2000000 in
/-- The dsa queries. -/
theorem step_dsa_queries (c : Dev nD) (M : Bufs) (xn : Vec F S128x2048 .bf16) (w : Vec F S1024x2048 .bf16) (g : Vec F S4x128 .f32) (K : PUnit → sProp 𝕄) :
    iprop(owns (c : Thread nD τ) M.a6 fullShare xn ∗ owns (c : Thread nD τ) M.a2 fullShare w ∗ owns (c : Thread nD τ) M.a4 fullShare g ∗ (∃ d, owns (c : Thread nD τ) M.a12 fullShare d)
        ∗ (iprop(owns (c : Thread nD τ) M.a6 fullShare xn ∗ owns (c : Thread nD τ) M.a2 fullShare w ∗ owns (c : Thread nD τ) M.a4 fullShare g ∗ owns (c : Thread nD τ) M.a12 fullShare (queries xn w (gainRow2 g))) -∗ K ⟨⟩))
      ⊢ wp frame (wpE (defs₀ (F := F)) Variants.none c none) Set.univ (M.body (grid0.coords t0_2)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  simp only [k0_part5_eq_skeleton, k0_part6_eq_skeleton]
  unfold owns
  iintro ⟨⟨%f6, %e6, H6⟩, ⟨%f2, %e2, H2⟩, ⟨%f4, %e4, H4⟩, ⟨%d12, %f12, -, H12⟩, Hk⟩
  subst e6 e2 e4
  have l6 : View.readAt (Elt F) a6.view (Rect.unit (s := S128x2048) ![0, 0] S128x2048.size inb_S128x2048_S128x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H6]; · iapply (give _ _ _ _ rfl); iexact H6
  isplitl [H2]; · iapply (give _ _ _ _ rfl); iexact H2
  isplitl [H4]; · iapply (give _ _ _ _ rfl); iexact H4
  iapply (give _ _ _ _ ?_)
  swap; · iexact H12
  exact (store_all _ _ zeros2 _ _).trans rfl

set_option maxHeartbeats 2000000 in
/-- The dsa keys and values. -/
theorem step_dsa_keys (c : Dev nD) (M : Bufs) (xn : Vec F S128x2048 .bf16) (w : Vec F S1024x2048 .bf16) (g : Vec F S4x128 .f32) (K : PUnit → sProp 𝕄) :
    iprop(owns (c : Thread nD τ) M.a6 fullShare xn ∗ owns (c : Thread nD τ) M.a2 fullShare w ∗ owns (c : Thread nD τ) M.a4 fullShare g ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d)
        ∗ (iprop(owns (c : Thread nD τ) M.a6 fullShare xn ∗ owns (c : Thread nD τ) M.a2 fullShare w ∗ owns (c : Thread nD τ) M.a4 fullShare g ∗ owns (c : Thread nD τ) M.a13 fullShare (keys xn w (gainRow3 g)) ∗ owns (c : Thread nD τ) M.a14 fullShare (keys16 xn w (gainRow3 g)) ∗ owns (c : Thread nD τ) M.a15 fullShare (values xn w) ∗ owns (c : Thread nD τ) M.a16 fullShare (values16 xn w)) -∗ K ⟨⟩))
      ⊢ wp frame (wpE (defs₀ (F := F)) Variants.none c none) Set.univ (M.body (grid0.coords t0_3)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  simp only [k0_part7_eq_skeleton, k0_part8_eq_skeleton]
  unfold owns
  iintro ⟨⟨%f6, %e6, H6⟩, ⟨%f2, %e2, H2⟩, ⟨%f4, %e4, H4⟩, ⟨%d13, %f13, -, H13⟩, ⟨%d14, %f14, -, H14⟩, ⟨%d15, %f15, -, H15⟩, ⟨%d16, %f16, -, H16⟩, Hk⟩
  subst e6 e2 e4
  have l6 : View.readAt (Elt F) a6.view (Rect.unit (s := S128x2048) ![0, 0] S128x2048.size inb_S128x2048_S128x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H6]; · iapply (give _ _ _ _ rfl); iexact H6
  isplitl [H2]; · iapply (give _ _ _ _ rfl); iexact H2
  isplitl [H4]; · iapply (give _ _ _ _ rfl); iexact H4
  isplitl [H13]
  · iapply (give _ _ _ _ ?_)
    swap; · iexact H13
    exact (store_rows _ _ _ _ _ _).trans rfl
  isplitl [H14]
  · iapply (give _ _ _ _ ?_)
    swap; · iexact H14
    exact (store_all _ _ zeros2 _ _).trans rfl
  isplitl [H15]
  · iapply (give _ _ _ _ ?_)
    swap; · iexact H15
    exact (store_rows _ _ _ _ _ _).trans rfl
  iapply (give _ _ _ _ ?_)
  swap; · iexact H16
  exact (store_all _ _ zeros2 _ _).trans rfl

set_option maxHeartbeats 2000000 in
/-- The fox gate. -/
theorem step_gate (c : Dev nD) (M : Bufs) (xn : Vec F S128x2048 .bf16) (w : Vec F S1024x2048 .bf16) (K : PUnit → sProp 𝕄) :
    iprop(owns (c : Thread nD τ) M.a6 fullShare xn ∗ owns (c : Thread nD τ) M.a2 fullShare w ∗ (∃ d, owns (c : Thread nD τ) M.a17 fullShare d)
        ∗ (iprop(owns (c : Thread nD τ) M.a6 fullShare xn ∗ owns (c : Thread nD τ) M.a2 fullShare w ∗ owns (c : Thread nD τ) M.a17 fullShare (k0_pay8 xn w)) -∗ K ⟨⟩))
      ⊢ wp frame (wpE (defs₀ (F := F)) Variants.none c none) Set.univ (M.body (grid0.coords t0_4)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  unfold owns
  iintro ⟨⟨%f6, %e6, H6⟩, ⟨%f2, %e2, H2⟩, ⟨%d17, %f17, -, H17⟩, Hk⟩
  subst e6 e2
  have l6 : View.readAt (Elt F) a6.view (Rect.unit (s := S128x2048) ![0, 0] S128x2048.size inb_S128x2048_S128x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H6]; · iapply (give _ _ _ _ rfl); iexact H6
  isplitl [H2]; · iapply (give _ _ _ _ rfl); iexact H2
  iapply (give _ _ _ _ ?_)
  swap; · iexact H17
  exact (store_all _ _ zeros2 _ _).trans rfl

set_option maxHeartbeats 2000000 in
/-- The dsa gate. -/
theorem step_dsa_gate (c : Dev nD) (M : Bufs) (xn : Vec F S128x2048 .bf16) (w : Vec F S1024x2048 .bf16) (K : PUnit → sProp 𝕄) :
    iprop(owns (c : Thread nD τ) M.a6 fullShare xn ∗ owns (c : Thread nD τ) M.a2 fullShare w ∗ (∃ d, owns (c : Thread nD τ) M.a18 fullShare d)
        ∗ (iprop(owns (c : Thread nD τ) M.a6 fullShare xn ∗ owns (c : Thread nD τ) M.a2 fullShare w ∗ owns (c : Thread nD τ) M.a18 fullShare (k0_pay8 xn w)) -∗ K ⟨⟩))
      ⊢ wp frame (wpE (defs₀ (F := F)) Variants.none c none) Set.univ (M.body (grid0.coords t0_5)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  unfold owns
  iintro ⟨⟨%f6, %e6, H6⟩, ⟨%f2, %e2, H2⟩, ⟨%d18, %f18, -, H18⟩, Hk⟩
  subst e6 e2
  have l6 : View.readAt (Elt F) a6.view (Rect.unit (s := S128x2048) ![0, 0] S128x2048.size inb_S128x2048_S128x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H6]; · iapply (give _ _ _ _ rfl); iexact H6
  isplitl [H2]; · iapply (give _ _ _ _ rfl); iexact H2
  iapply (give _ _ _ _ ?_)
  swap; · iexact H18
  exact (store_all _ _ zeros2 _ _).trans rfl

set_option maxHeartbeats 2000000 in
/-- The index queries. -/
theorem step_index (c : Dev nD) (M : Bufs) (xn : Vec F S128x2048 .bf16) (w : Vec F S1024x2048 .bf16) (K : PUnit → sProp 𝕄) :
    iprop(owns (c : Thread nD τ) M.a6 fullShare xn ∗ owns (c : Thread nD τ) M.a2 fullShare w ∗ (∃ d, owns (c : Thread nD τ) M.a19 fullShare d)
        ∗ (iprop(owns (c : Thread nD τ) M.a6 fullShare xn ∗ owns (c : Thread nD τ) M.a2 fullShare w ∗ owns (c : Thread nD τ) M.a19 fullShare (k0_pay10 xn w)) -∗ K ⟨⟩))
      ⊢ wp frame (wpE (defs₀ (F := F)) Variants.none c none) Set.univ (M.body (grid0.coords t0_6)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  unfold owns
  iintro ⟨⟨%f6, %e6, H6⟩, ⟨%f2, %e2, H2⟩, ⟨%d19, %f19, -, H19⟩, Hk⟩
  subst e6 e2
  have l6 : View.readAt (Elt F) a6.view (Rect.unit (s := S128x2048) ![0, 0] S128x2048.size inb_S128x2048_S128x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := decide +kernel)
  sl_step
  iapply Hk
  isplitl [H6]; · iapply (give _ _ _ _ rfl); iexact H6
  isplitl [H2]; · iapply (give _ _ _ _ rfl); iexact H2
  iapply (give _ _ _ _ ?_)
  swap; · iexact H19
  exact (store_all _ _ zeros2 _ _).trans rfl

set_option maxHeartbeats 2000000 in
/-- The narrow outputs: index keys, index weights and forget logits, and the logarithm of the forget gates. -/
theorem step_narrow (c : Dev nD) (M : Bufs) (xn : Vec F S128x2048 .bf16) (ws : Vec F S128x2048 .bf16) (b : Vec F S8x1 .f32) (K : PUnit → sProp 𝕄) :
    iprop(owns (c : Thread nD τ) M.a6 fullShare xn ∗ owns (c : Thread nD τ) M.a3 fullShare ws ∗ owns (c : Thread nD τ) M.a5 fullShare b ∗ (∃ d, owns (c : Thread nD τ) M.a20 fullShare d) ∗ (∃ d, owns (c : Thread nD τ) M.a21 fullShare d)
        ∗ (iprop(owns (c : Thread nD τ) M.a6 fullShare xn ∗ owns (c : Thread nD τ) M.a3 fullShare ws ∗ owns (c : Thread nD τ) M.a5 fullShare b ∗ owns (c : Thread nD τ) M.a20 fullShare (k0_pay11 xn ws) ∗ owns (c : Thread nD τ) M.a21 fullShare (k0_pay12 xn ws b)) -∗ K ⟨⟩))
      ⊢ wp frame (wpE (defs₀ (F := F)) Variants.none c none) Set.univ (M.body (grid0.coords t0_7)) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21⟩ := M
  dsimp only [Bufs.body]
  simp only [cc0_proj_fq_eq_skeleton]; unfold cc0_proj_fq_skel
  unfold owns
  iintro ⟨⟨%f6, %e6, H6⟩, ⟨%f3, %e3, H3⟩, ⟨%f5, %e5, H5⟩, ⟨%d20, %f20, -, H20⟩, ⟨%d21, %f21, -, H21⟩, Hk⟩
  subst e6 e3 e5
  have l6 : View.readAt (Elt F) a6.view (Rect.unit (s := S128x2048) ![0, 0] S128x2048.size inb_S128x2048_S128x2048_0_0).toLoadRect f6 = View.read (Elt F) a6.view f6 := load_all _ _ _
  have l3 : View.readAt (Elt F) a3.view (Rect.unit (s := S128x2048) ![0, 0] S128x2048.size inb_S128x2048_S128x2048_0_0).toLoadRect f3 = View.read (Elt F) a3.view f3 := load_all _ _ _
  have l5 : View.readAt (Elt F) a5.view (Rect.unit (s := S8x1) ![0, 0] S8x1.size inb_S8x1_S8x1_0_0).toLoadRect f5 = View.read (Elt F) a5.view f5 := load_all _ _ _
  sl_exec (disch := decide +kernel)
  sl_step
  iapply Hk
  isplitl [H6]; · iapply (give _ _ _ _ rfl); iexact H6
  isplitl [H3]; · iapply (give _ _ _ _ rfl); iexact H3
  isplitl [H5]; · iapply (give _ _ _ _ rfl); iexact H5
  isplitl [H20]
  · iapply (give _ _ _ _ ?_)
    swap; · iexact H20
    exact (store_all _ _ zeros2 _ _).trans rfl
  iapply (give _ _ _ _ ?_)
  swap; · iexact H21
  exact (store_all _ _ zeros2 _ _).trans rfl

end Cert.Kernel3Ideal.Proj
-- ==== Proof.ProjRun.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import proofs.«01_k».proof.Proof.ProjSteps

/-!
The sample's projection as a whole: what every buffer of the pipeline holds after each of the eight steps, the steps put
together over the grid, and the run of the whole program. An output block is filled at one step and carried to the last one,
where all of them are written back; so its contents are said once, from the step that fills it.
-/

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each output block ends with -/

/-- Output block 6: the normalized rows. -/
def o6 (c : Dev nD) : Vec F S128x2048 .bf16 := k0_pay1 (iblk m c 0 t0_0) (iblk m c 1 t0_0)
/-- Output block 7: fox queries. -/
def o7 (c : Dev nD) : Vec F S128x1024 .bf16 := queries (o6 m c) (iblk m c 2 t0_0) (gainRow0 (iblk m c 4 t0_0))
/-- Output block 8: fox keys. -/
def o8 (c : Dev nD) : Vec F S512x128 .f32 := keys (o6 m c) (iblk m c 2 t0_1) (gainRow1 (iblk m c 4 t0_1))
/-- Output block 9: fox keys, sixteen bits. -/
def o9 (c : Dev nD) : Vec F S128x512 .bf16 := keys16 (o6 m c) (iblk m c 2 t0_1) (gainRow1 (iblk m c 4 t0_1))
/-- Output block 10: fox values. -/
def o10 (c : Dev nD) : Vec F S512x128 .f32 := values (o6 m c) (iblk m c 2 t0_1)
/-- Output block 11: fox values, sixteen bits. -/
def o11 (c : Dev nD) : Vec F S128x512 .bf16 := values16 (o6 m c) (iblk m c 2 t0_1)
/-- Output block 12: dsa queries. -/
def o12 (c : Dev nD) : Vec F S128x1024 .bf16 := queries (o6 m c) (iblk m c 2 t0_2) (gainRow2 (iblk m c 4 t0_2))
/-- Output block 13: dsa keys. -/
def o13 (c : Dev nD) : Vec F S512x128 .f32 := keys (o6 m c) (iblk m c 2 t0_3) (gainRow3 (iblk m c 4 t0_3))
/-- Output block 14: dsa keys, sixteen bits. -/
def o14 (c : Dev nD) : Vec F S128x512 .bf16 := keys16 (o6 m c) (iblk m c 2 t0_3) (gainRow3 (iblk m c 4 t0_3))
/-- Output block 15: dsa values. -/
def o15 (c : Dev nD) : Vec F S512x128 .f32 := values (o6 m c) (iblk m c 2 t0_3)
/-- Output block 16: dsa values, sixteen bits. -/
def o16 (c : Dev nD) : Vec F S128x512 .bf16 := values16 (o6 m c) (iblk m c 2 t0_3)
/-- Output block 17: fox gate. -/
def o17 (c : Dev nD) : Vec F S128x1024 .bf16 := k0_pay8 (o6 m c) (iblk m c 2 t0_4)
/-- Output block 18: dsa gate. -/
def o18 (c : Dev nD) : Vec F S128x1024 .bf16 := k0_pay8 (o6 m c) (iblk m c 2 t0_5)
/-- Output block 19: index queries. -/
def o19 (c : Dev nD) : Vec F S128x1024 .bf16 := k0_pay10 (o6 m c) (iblk m c 2 t0_6)
/-- Output block 20: index keys, index weights and forget logits. -/
def o20 (c : Dev nD) : Vec F S128x128 .f32 := k0_pay11 (o6 m c) (iblk m c 3 t0_7)
/-- Output block 21: logarithm of the forget gates. -/
def o21 (c : Dev nD) : Vec F S8x128 .f32 := k0_pay12 (o6 m c) (iblk m c 3 t0_7) (iblk m c 5 t0_7)

/-- What the buffers hold after a step: an input's its block, an output's what it is filled with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c
    | ⟨7, _⟩ => o7 m c
    | ⟨8, _⟩ => o8 m c
    | ⟨9, _⟩ => o9 m c
    | ⟨10, _⟩ => o10 m c
    | ⟨11, _⟩ => o11 m c
    | ⟨12, _⟩ => o12 m c
    | ⟨13, _⟩ => o13 m c
    | ⟨14, _⟩ => o14 m c
    | ⟨15, _⟩ => o15 m c
    | ⟨16, _⟩ => o16 m c
    | ⟨17, _⟩ => o17 m c
    | ⟨18, _⟩ => o18 m c
    | ⟨19, _⟩ => o19 m c
    | ⟨20, _⟩ => o20 m c
    | ⟨21, _⟩ => o21 m c
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- An output's final contents do not depend on the step they are asked at. -/
theorem after_out (c : Dev nD) : ∀ w : Fin 22, 6 ≤ w.val → ∀ t t' : Fin cfg0.N, (dats m 0 c).after w t = (dats m 0 c).after w t'
  | ⟨0, _⟩, h, _, _ => absurd h (Nat.not_le.2 (show 0 < 6 by decide))
  | ⟨1, _⟩, h, _, _ => absurd h (Nat.not_le.2 (show 1 < 6 by decide))
  | ⟨2, _⟩, h, _, _ => absurd h (Nat.not_le.2 (show 2 < 6 by decide))
  | ⟨3, _⟩, h, _, _ => absurd h (Nat.not_le.2 (show 3 < 6 by decide))
  | ⟨4, _⟩, h, _, _ => absurd h (Nat.not_le.2 (show 4 < 6 by decide))
  | ⟨5, _⟩, h, _, _ => absurd h (Nat.not_le.2 (show 5 < 6 by decide))
  | ⟨6, _⟩, _, _, _ => rfl
  | ⟨7, _⟩, _, _, _ => rfl
  | ⟨8, _⟩, _, _, _ => rfl
  | ⟨9, _⟩, _, _, _ => rfl
  | ⟨10, _⟩, _, _, _ => rfl
  | ⟨11, _⟩, _, _, _ => rfl
  | ⟨12, _⟩, _, _, _ => rfl
  | ⟨13, _⟩, _, _, _ => rfl
  | ⟨14, _⟩, _, _, _ => rfl
  | ⟨15, _⟩, _, _, _ => rfl
  | ⟨16, _⟩, _, _, _ => rfl
  | ⟨17, _⟩, _, _, _ => rfl
  | ⟨18, _⟩, _, _, _ => rfl
  | ⟨19, _⟩, _, _, _ => rfl
  | ⟨20, _⟩, _, _, _ => rfl
  | ⟨21, _⟩, _, _, _ => rfl
  | ⟨_ + 22, h⟩, _, _, _ => absurd h (Nat.not_lt.2 (Nat.le_add_left _ _))

/-- What the body is handed of window `w` at step `t`. -/
def found (c : Dev nD) (w : Fin cfg0.W) (t : Fin cfg0.N) : sProp 𝕄 :=
  iprop(∃ d, owns (c : Thread nD τ) ((cfg0.win w).stage (cfg0.slots t w)) fullShare ((dats m 0 c).before w t d))

/-- An input is found at its block. -/
theorem found_0 (c : Dev nD) (t : Fin cfg0.N) : found m c 0 t ⊢ owns (c : Thread nD τ) (st0_0 t) fullShare (iblk m c 0 t) := by
  unfold found
  iintro ⟨%d, H⟩
  rw [before0_0_of m (dats m 0 c) (A_eq m c 0) (fun t => by dsimp only [dats]) t d]
  iexact H
theorem found_1 (c : Dev nD) (t : Fin cfg0.N) : found m c 1 t ⊢ owns (c : Thread nD τ) (st0_1 t) fullShare (iblk m c 1 t) := by
  unfold found
  iintro ⟨%d, H⟩
  rw [before0_1_of m (dats m 0 c) (A_eq m c 1) (fun t => by dsimp only [dats]) t d]
  iexact H
theorem found_2 (c : Dev nD) (t : Fin cfg0.N) : found m c 2 t ⊢ owns (c : Thread nD τ) (st0_2 t) fullShare (iblk m c 2 t) := by
  unfold found
  iintro ⟨%d, H⟩
  rw [before0_2_of m (dats m 0 c) (A_eq m c 2) (fun t => by dsimp only [dats]) t d]
  iexact H
theorem found_3 (c : Dev nD) (t : Fin cfg0.N) : found m c 3 t ⊢ owns (c : Thread nD τ) (st0_3 t) fullShare (iblk m c 3 t) := by
  unfold found
  iintro ⟨%d, H⟩
  rw [before0_3_of m (dats m 0 c) (A_eq m c 3) (fun t => by dsimp only [dats]) t d]
  iexact H
theorem found_4 (c : Dev nD) (t : Fin cfg0.N) : found m c 4 t ⊢ owns (c : Thread nD τ) (st0_4 t) fullShare (iblk m c 4 t) := by
  unfold found
  iintro ⟨%d, H⟩
  rw [before0_4_of m (dats m 0 c) (A_eq m c 4) (fun t => by dsimp only [dats]) t d]
  iexact H
theorem found_5 (c : Dev nD) (t : Fin cfg0.N) : found m c 5 t ⊢ owns (c : Thread nD τ) (st0_5 t) fullShare (iblk m c 5 t) := by
  unfold found
  iintro ⟨%d, H⟩
  rw [before0_5_of m (dats m 0 c) (A_eq m c 5) (fun t => by dsimp only [dats]) t d]
  iexact H

/-- Between the step that fills it and the last one an output is found as it was left. -/
theorem found_out (c : Dev nD) (w : Fin 22) (t : Fin cfg0.N) (hw : 6 ≤ w.val) (ho : (cfg0.win w).isOut = true)
    (hc : ∀ (i : cfg0.grid.Coords) a, (cfg0.win w).clip i a = none) (hf : cfg0.fresh w t.val = false) :
    found m c w t ⊢ owns (c : Thread nD τ) ((cfg0.win w).stage (cfg0.slots t w)) fullShare ((dats m 0 c).after w t) := by
  unfold found
  iintro ⟨%d, H⟩
  rw [(dats m 0 c).before_out_traj w ho hc (fun t _ _ _ => after_out m c w hw _ _) t.val t rfl d, hf,
    if_neg Bool.false_ne_true, after_out m c w hw _ t]
  iexact H

/-- An output no step has touched yet is anything. -/
theorem found_any (c : Dev nD) (w : Fin cfg0.W) (t : Fin cfg0.N) :
    found m c w t ⊢ (iprop(∃ d, owns (c : Thread nD τ) ((cfg0.win w).stage (cfg0.slots t w)) fullShare d) : sProp 𝕄) := by
  unfold found
  iintro ⟨%d, H⟩; iexists _; iexact H

/-- A window the step fills, or an input, is left at its contents. -/
theorem leave (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact; rw [hi]

/-- A window the step does not touch is left as it is found, -/
theorem pass (c : Dev nD) (w : Fin cfg0.W) (t : Fin cfg0.N) (hi : cfg0.idle w (cfg0.grid.coords t) = true)
    (hf : (cfg0.win w).flush t = false) : found m c w t ⊢ (dats m 0 c).leavesExact w t :=
  Entails.of_eq ((dats m 0 c).leavesExact_idle w t hi hf).symm

/-- and at the last step, where it is written back, that is what it was filled with. -/
theorem pass_last (c : Dev nD) (w : Fin 22) (t : Fin cfg0.N) (hw : 6 ≤ w.val) (ho : (cfg0.win w).isOut = true)
    (hc : ∀ (i : cfg0.grid.Coords) a, (cfg0.win w).clip i a = none) (hi : cfg0.idle w (cfg0.grid.coords t) = true)
    (hf : (cfg0.win w).flush t = true) (hn : cfg0.fresh w t.val = false) : found m c w t ⊢ (dats m 0 c).leavesExact w t := by
  refine (found_out m c w t hw ho hc hn).trans ?_
  unfold Dat.leavesExact; rw [hi, hf]

/-- The normalized rows, read by a step and not filled by it, are left as they are. -/
theorem pass_out (c : Dev nD) (w : Fin 22) (t : Fin cfg0.N) (hw : 6 ≤ w.val) (hi : cfg0.idle w (cfg0.grid.coords t) = true)
    (hs : (dats m 0 c).before w t ((dats m 0 c).after w t) = (dats m 0 c).after w t) :
    owns (c : Thread nD τ) ((cfg0.win w).stage (cfg0.slots t w)) fullShare ((dats m 0 c).after w t) ⊢ (dats m 0 c).leavesExact w t := by
  unfold Dat.leavesExact; rw [hi]
  cases (cfg0.win w).flush t
  · iintro H; iexists ((dats m 0 c).after w t); rw [hs]; iexact H
  · exact .rfl

theorem pass_out6 (c : Dev nD) (t : Fin cfg0.N) (hi : cfg0.idle 6 (cfg0.grid.coords t) = true) (hf : cfg0.fresh 6 t.val = false) :
    owns (c : Thread nD τ) ((cfg0.win 6).stage (cfg0.slots t 6)) fullShare ((dats m 0 c).after 6 t) ⊢ (dats m 0 c).leavesExact 6 t :=
  pass_out m c 6 t (by decide) hi (by
    rw [(dats m 0 c).before_out_traj 6 rfl (fun _ _ => rfl) (fun t _ _ _ => after_out m c 6 (by decide) _ _) t.val t rfl _, hf,
      if_neg Bool.false_ne_true]
    exact after_out m c 6 (by decide) _ t)

/-! ## The steps put together -/

/-- The staging buffers at step `t`. -/
abbrev bufs (t : Fin cfg0.N) : Bufs where
  a0 := st0_0 t
  h0 := hstage0_0 ((cfg0.slots t 0).cast nbuf0_0)
  a1 := st0_1 t
  h1 := hstage0_1 ((cfg0.slots t 1).cast nbuf0_1)
  a2 := st0_2 t
  h2 := hstage0_2 ((cfg0.slots t 2).cast nbuf0_2)
  a3 := st0_3 t
  h3 := hstage0_3 ((cfg0.slots t 3).cast nbuf0_3)
  a4 := st0_4 t
  h4 := hstage0_4 ((cfg0.slots t 4).cast nbuf0_4)
  a5 := st0_5 t
  h5 := hstage0_5 ((cfg0.slots t 5).cast nbuf0_5)
  a6 := st0_6 t
  h6 := hstage0_6 ((cfg0.slots t 6).cast nbuf0_6)
  a7 := st0_7 t
  h7 := hstage0_7 ((cfg0.slots t 7).cast nbuf0_7)
  a8 := st0_8 t
  h8 := hstage0_8 ((cfg0.slots t 8).cast nbuf0_8)
  a9 := st0_9 t
  h9 := hstage0_9 ((cfg0.slots t 9).cast nbuf0_9)
  a10 := st0_10 t
  h10 := hstage0_10 ((cfg0.slots t 10).cast nbuf0_10)
  a11 := st0_11 t
  h11 := hstage0_11 ((cfg0.slots t 11).cast nbuf0_11)
  a12 := st0_12 t
  h12 := hstage0_12 ((cfg0.slots t 12).cast nbuf0_12)
  a13 := st0_13 t
  h13 := hstage0_13 ((cfg0.slots t 13).cast nbuf0_13)
  a14 := st0_14 t
  h14 := hstage0_14 ((cfg0.slots t 14).cast nbuf0_14)
  a15 := st0_15 t
  h15 := hstage0_15 ((cfg0.slots t 15).cast nbuf0_15)
  a16 := st0_16 t
  h16 := hstage0_16 ((cfg0.slots t 16).cast nbuf0_16)
  a17 := st0_17 t
  h17 := hstage0_17 ((cfg0.slots t 17).cast nbuf0_17)
  a18 := st0_18 t
  h18 := hstage0_18 ((cfg0.slots t 18).cast nbuf0_18)
  a19 := st0_19 t
  h19 := hstage0_19 ((cfg0.slots t 19).cast nbuf0_19)
  a20 := st0_20 t
  h20 := hstage0_20 ((cfg0.slots t 20).cast nbuf0_20)
  a21 := st0_21 t
  h21 := hstage0_21 ((cfg0.slots t 21).cast nbuf0_21)

/-- What the body is called with at step `t`, window by window, -/
def bodyPre (c : Dev nD) (t : Fin cfg0.N) : sProp 𝕄 :=
  iprop((dats m 0 c).Φ t.castSucc ∗ (dats m 0 c).owesAt () t.castSucc
    ∗ found m c 0 t
    ∗ found m c 1 t
    ∗ found m c 2 t
    ∗ found m c 3 t
    ∗ found m c 4 t
    ∗ found m c 5 t
    ∗ found m c 6 t
    ∗ found m c 7 t
    ∗ found m c 8 t
    ∗ found m c 9 t
    ∗ found m c 10 t
    ∗ found m c 11 t
    ∗ found m c 12 t
    ∗ found m c 13 t
    ∗ found m c 14 t
    ∗ found m c 15 t
    ∗ found m c 16 t
    ∗ found m c 17 t
    ∗ found m c 18 t
    ∗ found m c 19 t
    ∗ found m c 20 t
    ∗ found m c 21 t)

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 2000000 in
theorem sound_0 (c : Dev nD) :
    bodyPre m c t0_0 ⊢ wp frame (wpE (defs₀ (F := F)) Variants.none c none) Set.univ ((bufs t0_0).body (grid0.coords t0_0)) (fun _ => bodyPost m c t0_0) := by
  unfold bodyPre bodyPost
  rw [show (dats m 0 c).Φ (t0_0).succ = (dats m 0 c).Φ (t0_0).castSucc from rfl,
    show (dats m 0 c).owesAt () (t0_0).succ = (dats m 0 c).owesAt () (t0_0).castSucc from rfl]
  iintro ⟨HΦ, Ho, H0, H1, H2, H3, H4, H5, H6, H7, H8, H9, H10, H11, H12, H13, H14, H15, H16, H17, H18, H19, H20, H21⟩
  iapply (step_norm c (bufs t0_0) (iblk m c 0 t0_0) (iblk m c 1 t0_0) (iblk m c 2 t0_0) (iblk m c 4 t0_0) _)
  isplitl [H0]; · iapply (found_0 m c t0_0); iexact H0
  isplitl [H1]; · iapply (found_1 m c t0_0); iexact H1
  isplitl [H2]; · iapply (found_2 m c t0_0); iexact H2
  isplitl [H4]; · iapply (found_4 m c t0_0); iexact H4
  isplitl [H6]; · iapply (found_any m c 6 t0_0); iexact H6
  isplitl [H7]; · iapply (found_any m c 7 t0_0); iexact H7
  iintro ⟨H0, H1, H2, H4, H6, H7⟩
  isplitl [HΦ]; · iexact HΦ
  isplitl [Ho]; · iexact Ho
  isplitl [H0]; · iapply (leave m c 0 t0_0 (by decide +kernel)); iexact H0
  isplitl [H1]; · iapply (leave m c 1 t0_0 (by decide +kernel)); iexact H1
  isplitl [H2]; · iapply (leave m c 2 t0_0 (by decide +kernel)); iexact H2
  isplitl [H3]; · iapply ((found_3 m c t0_0).trans (leave m c 3 t0_0 (by decide +kernel))); iexact H3
  isplitl [H4]; · iapply (leave m c 4 t0_0 (by decide +kernel)); iexact H4
  isplitl [H5]; · iapply ((found_5 m c t0_0).trans (leave m c 5 t0_0 (by decide +kernel))); iexact H5
  isplitl [H6]; · iapply (leave m c 6 t0_0 (by decide +kernel)); iexact H6
  isplitl [H7]; · iapply (leave m c 7 t0_0 (by decide +kernel)); iexact H7
  isplitl [H8]; · iapply (pass m c 8 t0_0 (by decide +kernel) (by decide +kernel)); iexact H8
  isplitl [H9]; · iapply (pass m c 9 t0_0 (by decide +kernel) (by decide +kernel)); iexact H9
  isplitl [H10]; · iapply (pass m c 10 t0_0 (by decide +kernel) (by decide +kernel)); iexact H10
  isplitl [H11]; · iapply (pass m c 11 t0_0 (by decide +kernel) (by decide +kernel)); iexact H11
  isplitl [H12]; · iapply (pass m c 12 t0_0 (by decide +kernel) (by decide +kernel)); iexact H12
  isplitl [H13]; · iapply (pass m c 13 t0_0 (by decide +kernel) (by decide +kernel)); iexact H13
  isplitl [H14]; · iapply (pass m c 14 t0_0 (by decide +kernel) (by decide +kernel)); iexact H14
  isplitl [H15]; · iapply (pass m c 15 t0_0 (by decide +kernel) (by decide +kernel)); iexact H15
  isplitl [H16]; · iapply (pass m c 16 t0_0 (by decide +kernel) (by decide +kernel)); iexact H16
  isplitl [H17]; · iapply (pass m c 17 t0_0 (by decide +kernel) (by decide +kernel)); iexact H17
  isplitl [H18]; · iapply (pass m c 18 t0_0 (by decide +kernel) (by decide +kernel)); iexact H18
  isplitl [H19]; · iapply (pass m c 19 t0_0 (by decide +kernel) (by decide +kernel)); iexact H19
  isplitl [H20]; · iapply (pass m c 20 t0_0 (by decide +kernel) (by decide +kernel)); iexact H20
  iapply (pass m c 21 t0_0 (by decide +kernel) (by decide +kernel)); iexact H21

set_option maxHeartbeats 2000000 in
theorem sound_1 (c : Dev nD) :
    bodyPre m c t0_1 ⊢ wp frame (wpE (defs₀ (F := F)) Variants.none c none) Set.univ ((bufs t0_1).body (grid0.coords t0_1)) (fun _ => bodyPost m c t0_1) := by
  unfold bodyPre bodyPost
  rw [show (dats m 0 c).Φ (t0_1).succ = (dats m 0 c).Φ (t0_1).castSucc from rfl,
    show (dats m 0 c).owesAt () (t0_1).succ = (dats m 0 c).owesAt () (t0_1).castSucc from rfl]
  iintro ⟨HΦ, Ho, H0, H1, H2, H3, H4, H5, H6, H7, H8, H9, H10, H11, H12, H13, H14, H15, H16, H17, H18, H19, H20, H21⟩
  iapply (step_keys c (bufs t0_1) (o6 m c) (iblk m c 2 t0_1) (iblk m c 4 t0_1) _)
  isplitl [H6]; · iapply (found_out m c 6 t0_1 (by decide) rfl (fun _ _ => rfl) (by decide +kernel)); iexact H6
  isplitl [H2]; · iapply (found_2 m c t0_1); iexact H2
  isplitl [H4]; · iapply (found_4 m c t0_1); iexact H4
  isplitl [H8]; · iapply (found_any m c 8 t0_1); iexact H8
  isplitl [H9]; · iapply (found_any m c 9 t0_1); iexact H9
  isplitl [H10]; · iapply (found_any m c 10 t0_1); iexact H10
  isplitl [H11]; · iapply (found_any m c 11 t0_1); iexact H11
  iintro ⟨H6, H2, H4, H8, H9, H10, H11⟩
  isplitl [HΦ]; · iexact HΦ
  isplitl [Ho]; · iexact Ho
  isplitl [H0]; · iapply ((found_0 m c t0_1).trans (leave m c 0 t0_1 (by decide +kernel))); iexact H0
  isplitl [H1]; · iapply ((found_1 m c t0_1).trans (leave m c 1 t0_1 (by decide +kernel))); iexact H1
  isplitl [H2]; · iapply (leave m c 2 t0_1 (by decide +kernel)); iexact H2
  isplitl [H3]; · iapply ((found_3 m c t0_1).trans (leave m c 3 t0_1 (by decide +kernel))); iexact H3
  isplitl [H4]; · iapply (leave m c 4 t0_1 (by decide +kernel)); iexact H4
  isplitl [H5]; · iapply ((found_5 m c t0_1).trans (leave m c 5 t0_1 (by decide +kernel))); iexact H5
  isplitl [H6]; · iapply (pass_out6 m c t0_1 (by decide +kernel) (by decide +kernel)); iexact H6
  isplitl [H7]; · iapply (pass m c 7 t0_1 (by decide +kernel) (by decide +kernel)); iexact H7
  isplitl [H8]; · iapply (leave m c 8 t0_1 (by decide +kernel)); iexact H8
  isplitl [H9]; · iapply (leave m c 9 t0_1 (by decide +kernel)); iexact H9
  isplitl [H10]; · iapply (leave m c 10 t0_1 (by decide +kernel)); iexact H10
  isplitl [H11]; · iapply (leave m c 11 t0_1 (by decide +kernel)); iexact H11
  isplitl [H12]; · iapply (pass m c 12 t0_1 (by decide +kernel) (by decide +kernel)); iexact H12
  isplitl [H13]; · iapply (pass m c 13 t0_1 (by decide +kernel) (by decide +kernel)); iexact H13
  isplitl [H14]; · iapply (pass m c 14 t0_1 (by decide +kernel) (by decide +kernel)); iexact H14
  isplitl [H15]; · iapply (pass m c 15 t0_1 (by decide +kernel) (by decide +kernel)); iexact H15
  isplitl [H16]; · iapply (pass m c 16 t0_1 (by decide +kernel) (by decide +kernel)); iexact H16
  isplitl [H17]; · iapply (pass m c 17 t0_1 (by decide +kernel) (by decide +kernel)); iexact H17
  isplitl [H18]; · iapply (pass m c 18 t0_1 (by decide +kernel) (by decide +kernel)); iexact H18
  isplitl [H19]; · iapply (pass m c 19 t0_1 (by decide +kernel) (by decide +kernel)); iexact H19
  isplitl [H20]; · iapply (pass m c 20 t0_1 (by decide +kernel) (by decide +kernel)); iexact H20
  iapply (pass m c 21 t0_1 (by decide +kernel) (by decide +kernel)); iexact H21

set_option maxHeartbeats 2000000 in
theorem sound_2 (c : Dev nD) :
    bodyPre m c t0_2 ⊢ wp frame (wpE (defs₀ (F := F)) Variants.none c none) Set.univ ((bufs t0_2).body (grid0.coords t0_2)) (fun _ => bodyPost m c t0_2) := by
  unfold bodyPre bodyPost
  rw [show (dats m 0 c).Φ (t0_2).succ = (dats m 0 c).Φ (t0_2).castSucc from rfl,
    show (dats m 0 c).owesAt () (t0_2).succ = (dats m 0 c).owesAt () (t0_2).castSucc from rfl]
  iintro ⟨HΦ, Ho, H0, H1, H2, H3, H4, H5, H6, H7, H8, H9, H10, H11, H12, H13, H14, H15, H16, H17, H18, H19, H20, H21⟩
  iapply (step_dsa_queries c (bufs t0_2) (o6 m c) (iblk m c 2 t0_2) (iblk m c 4 t0_2) _)
  isplitl [H6]; · iapply (found_out m c 6 t0_2 (by decide) rfl (fun _ _ => rfl) (by decide +kernel)); iexact H6
  isplitl [H2]; · iapply (found_2 m c t0_2); iexact H2
  isplitl [H4]; · iapply (found_4 m c t0_2); iexact H4
  isplitl [H12]; · iapply (found_any m c 12 t0_2); iexact H12
  iintro ⟨H6, H2, H4, H12⟩
  isplitl [HΦ]; · iexact HΦ
  isplitl [Ho]; · iexact Ho
  isplitl [H0]; · iapply ((found_0 m c t0_2).trans (leave m c 0 t0_2 (by decide +kernel))); iexact H0
  isplitl [H1]; · iapply ((found_1 m c t0_2).trans (leave m c 1 t0_2 (by decide +kernel))); iexact H1
  isplitl [H2]; · iapply (leave m c 2 t0_2 (by decide +kernel)); iexact H2
  isplitl [H3]; · iapply ((found_3 m c t0_2).trans (leave m c 3 t0_2 (by decide +kernel))); iexact H3
  isplitl [H4]; · iapply (leave m c 4 t0_2 (by decide +kernel)); iexact H4
  isplitl [H5]; · iapply ((found_5 m c t0_2).trans (leave m c 5 t0_2 (by decide +kernel))); iexact H5
  isplitl [H6]; · iapply (pass_out6 m c t0_2 (by decide +kernel) (by decide +kernel)); iexact H6
  isplitl [H7]; · iapply (pass m c 7 t0_2 (by decide +kernel) (by decide +kernel)); iexact H7
  isplitl [H8]; · iapply (pass m c 8 t0_2 (by decide +kernel) (by decide +kernel)); iexact H8
  isplitl [H9]; · iapply (pass m c 9 t0_2 (by decide +kernel) (by decide +kernel)); iexact H9
  isplitl [H10]; · iapply (pass m c 10 t0_2 (by decide +kernel) (by decide +kernel)); iexact H10
  isplitl [H11]; · iapply (pass m c 11 t0_2 (by decide +kernel) (by decide +kernel)); iexact H11
  isplitl [H12]; · iapply (leave m c 12 t0_2 (by decide +kernel)); iexact H12
  isplitl [H13]; · iapply (pass m c 13 t0_2 (by decide +kernel) (by decide +kernel)); iexact H13
  isplitl [H14]; · iapply (pass m c 14 t0_2 (by decide +kernel) (by decide +kernel)); iexact H14
  isplitl [H15]; · iapply (pass m c 15 t0_2 (by decide +kernel) (by decide +kernel)); iexact H15
  isplitl [H16]; · iapply (pass m c 16 t0_2 (by decide +kernel) (by decide +kernel)); iexact H16
  isplitl [H17]; · iapply (pass m c 17 t0_2 (by decide +kernel) (by decide +kernel)); iexact H17
  isplitl [H18]; · iapply (pass m c 18 t0_2 (by decide +kernel) (by decide +kernel)); iexact H18
  isplitl [H19]; · iapply (pass m c 19 t0_2 (by decide +kernel) (by decide +kernel)); iexact H19
  isplitl [H20]; · iapply (pass m c 20 t0_2 (by decide +kernel) (by decide +kernel)); iexact H20
  iapply (pass m c 21 t0_2 (by decide +kernel) (by decide +kernel)); iexact H21

set_option maxHeartbeats 2000000 in
theorem sound_3 (c : Dev nD) :
    bodyPre m c t0_3 ⊢ wp frame (wpE (defs₀ (F := F)) Variants.none c none) Set.univ ((bufs t0_3).body (grid0.coords t0_3)) (fun _ => bodyPost m c t0_3) := by
  unfold bodyPre bodyPost
  rw [show (dats m 0 c).Φ (t0_3).succ = (dats m 0 c).Φ (t0_3).castSucc from rfl,
    show (dats m 0 c).owesAt () (t0_3).succ = (dats m 0 c).owesAt () (t0_3).castSucc from rfl]
  iintro ⟨HΦ, Ho, H0, H1, H2, H3, H4, H5, H6, H7, H8, H9, H10, H11, H12, H13, H14, H15, H16, H17, H18, H19, H20, H21⟩
  iapply (step_dsa_keys c (bufs t0_3) (o6 m c) (iblk m c 2 t0_3) (iblk m c 4 t0_3) _)
  isplitl [H6]; · iapply (found_out m c 6 t0_3 (by decide) rfl (fun _ _ => rfl) (by decide +kernel)); iexact H6
  isplitl [H2]; · iapply (found_2 m c t0_3); iexact H2
  isplitl [H4]; · iapply (found_4 m c t0_3); iexact H4
  isplitl [H13]; · iapply (found_any m c 13 t0_3); iexact H13
  isplitl [H14]; · iapply (found_any m c 14 t0_3); iexact H14
  isplitl [H15]; · iapply (found_any m c 15 t0_3); iexact H15
  isplitl [H16]; · iapply (found_any m c 16 t0_3); iexact H16
  iintro ⟨H6, H2, H4, H13, H14, H15, H16⟩
  isplitl [HΦ]; · iexact HΦ
  isplitl [Ho]; · iexact Ho
  isplitl [H0]; · iapply ((found_0 m c t0_3).trans (leave m c 0 t0_3 (by decide +kernel))); iexact H0
  isplitl [H1]; · iapply ((found_1 m c t0_3).trans (leave m c 1 t0_3 (by decide +kernel))); iexact H1
  isplitl [H2]; · iapply (leave m c 2 t0_3 (by decide +kernel)); iexact H2
  isplitl [H3]; · iapply ((found_3 m c t0_3).trans (leave m c 3 t0_3 (by decide +kernel))); iexact H3
  isplitl [H4]; · iapply (leave m c 4 t0_3 (by decide +kernel)); iexact H4
  isplitl [H5]; · iapply ((found_5 m c t0_3).trans (leave m c 5 t0_3 (by decide +kernel))); iexact H5
  isplitl [H6]; · iapply (pass_out6 m c t0_3 (by decide +kernel) (by decide +kernel)); iexact H6
  isplitl [H7]; · iapply (pass m c 7 t0_3 (by decide +kernel) (by decide +kernel)); iexact H7
  isplitl [H8]; · iapply (pass m c 8 t0_3 (by decide +kernel) (by decide +kernel)); iexact H8
  isplitl [H9]; · iapply (pass m c 9 t0_3 (by decide +kernel) (by decide +kernel)); iexact H9
  isplitl [H10]; · iapply (pass m c 10 t0_3 (by decide +kernel) (by decide +kernel)); iexact H10
  isplitl [H11]; · iapply (pass m c 11 t0_3 (by decide +kernel) (by decide +kernel)); iexact H11
  isplitl [H12]; · iapply (pass m c 12 t0_3 (by decide +kernel) (by decide +kernel)); iexact H12
  isplitl [H13]; · iapply (leave m c 13 t0_3 (by decide +kernel)); iexact H13
  isplitl [H14]; · iapply (leave m c 14 t0_3 (by decide +kernel)); iexact H14
  isplitl [H15]; · iapply (leave m c 15 t0_3 (by decide +kernel)); iexact H15
  isplitl [H16]; · iapply (leave m c 16 t0_3 (by decide +kernel)); iexact H16
  isplitl [H17]; · iapply (pass m c 17 t0_3 (by decide +kernel) (by decide +kernel)); iexact H17
  isplitl [H18]; · iapply (pass m c 18 t0_3 (by decide +kernel) (by decide +kernel)); iexact H18
  isplitl [H19]; · iapply (pass m c 19 t0_3 (by decide +kernel) (by decide +kernel)); iexact H19
  isplitl [H20]; · iapply (pass m c 20 t0_3 (by decide +kernel) (by decide +kernel)); iexact H20
  iapply (pass m c 21 t0_3 (by decide +kernel) (by decide +kernel)); iexact H21

set_option maxHeartbeats 2000000 in
theorem sound_4 (c : Dev nD) :
    bodyPre m c t0_4 ⊢ wp frame (wpE (defs₀ (F := F)) Variants.none c none) Set.univ ((bufs t0_4).body (grid0.coords t0_4)) (fun _ => bodyPost m c t0_4) := by
  unfold bodyPre bodyPost
  rw [show (dats m 0 c).Φ (t0_4).succ = (dats m 0 c).Φ (t0_4).castSucc from rfl,
    show (dats m 0 c).owesAt () (t0_4).succ = (dats m 0 c).owesAt () (t0_4).castSucc from rfl]
  iintro ⟨HΦ, Ho, H0, H1, H2, H3, H4, H5, H6, H7, H8, H9, H10, H11, H12, H13, H14, H15, H16, H17, H18, H19, H20, H21⟩
  iapply (step_gate c (bufs t0_4) (o6 m c) (iblk m c 2 t0_4) _)
  isplitl [H6]; · iapply (found_out m c 6 t0_4 (by decide) rfl (fun _ _ => rfl) (by decide +kernel)); iexact H6
  isplitl [H2]; · iapply (found_2 m c t0_4); iexact H2
  isplitl [H17]; · iapply (found_any m c 17 t0_4); iexact H17
  iintro ⟨H6, H2, H17⟩
  isplitl [HΦ]; · iexact HΦ
  isplitl [Ho]; · iexact Ho
  isplitl [H0]; · iapply ((found_0 m c t0_4).trans (leave m c 0 t0_4 (by decide +kernel))); iexact H0
  isplitl [H1]; · iapply ((found_1 m c t0_4).trans (leave m c 1 t0_4 (by decide +kernel))); iexact H1
  isplitl [H2]; · iapply (leave m c 2 t0_4 (by decide +kernel)); iexact H2
  isplitl [H3]; · iapply ((found_3 m c t0_4).trans (leave m c 3 t0_4 (by decide +kernel))); iexact H3
  isplitl [H4]; · iapply ((found_4 m c t0_4).trans (leave m c 4 t0_4 (by decide +kernel))); iexact H4
  isplitl [H5]; · iapply ((found_5 m c t0_4).trans (leave m c 5 t0_4 (by decide +kernel))); iexact H5
  isplitl [H6]; · iapply (pass_out6 m c t0_4 (by decide +kernel) (by decide +kernel)); iexact H6
  isplitl [H7]; · iapply (pass m c 7 t0_4 (by decide +kernel) (by decide +kernel)); iexact H7
  isplitl [H8]; · iapply (pass m c 8 t0_4 (by decide +kernel) (by decide +kernel)); iexact H8
  isplitl [H9]; · iapply (pass m c 9 t0_4 (by decide +kernel) (by decide +kernel)); iexact H9
  isplitl [H10]; · iapply (pass m c 10 t0_4 (by decide +kernel) (by decide +kernel)); iexact H10
  isplitl [H11]; · iapply (pass m c 11 t0_4 (by decide +kernel) (by decide +kernel)); iexact H11
  isplitl [H12]; · iapply (pass m c 12 t0_4 (by decide +kernel) (by decide +kernel)); iexact H12
  isplitl [H13]; · iapply (pass m c 13 t0_4 (by decide +kernel) (by decide +kernel)); iexact H13
  isplitl [H14]; · iapply (pass m c 14 t0_4 (by decide +kernel) (by decide +kernel)); iexact H14
  isplitl [H15]; · iapply (pass m c 15 t0_4 (by decide +kernel) (by decide +kernel)); iexact H15
  isplitl [H16]; · iapply (pass m c 16 t0_4 (by decide +kernel) (by decide +kernel)); iexact H16
  isplitl [H17]; · iapply (leave m c 17 t0_4 (by decide +kernel)); iexact H17
  isplitl [H18]; · iapply (pass m c 18 t0_4 (by decide +kernel) (by decide +kernel)); iexact H18
  isplitl [H19]; · iapply (pass m c 19 t0_4 (by decide +kernel) (by decide +kernel)); iexact H19
  isplitl [H20]; · iapply (pass m c 20 t0_4 (by decide +kernel) (by decide +kernel)); iexact H20
  iapply (pass m c 21 t0_4 (by decide +kernel) (by decide +kernel)); iexact H21

set_option maxHeartbeats 2000000 in
theorem sound_5 (c : Dev nD) :
    bodyPre m c t0_5 ⊢ wp frame (wpE (defs₀ (F := F)) Variants.none c none) Set.univ ((bufs t0_5).body (grid0.coords t0_5)) (fun _ => bodyPost m c t0_5) := by
  unfold bodyPre bodyPost
  rw [show (dats m 0 c).Φ (t0_5).succ = (dats m 0 c).Φ (t0_5).castSucc from rfl,
    show (dats m 0 c).owesAt () (t0_5).succ = (dats m 0 c).owesAt () (t0_5).castSucc from rfl]
  iintro ⟨HΦ, Ho, H0, H1, H2, H3, H4, H5, H6, H7, H8, H9, H10, H11, H12, H13, H14, H15, H16, H17, H18, H19, H20, H21⟩
  iapply (step_dsa_gate c (bufs t0_5) (o6 m c) (iblk m c 2 t0_5) _)
  isplitl [H6]; · iapply (found_out m c 6 t0_5 (by decide) rfl (fun _ _ => rfl) (by decide +kernel)); iexact H6
  isplitl [H2]; · iapply (found_2 m c t0_5); iexact H2
  isplitl [H18]; · iapply (found_any m c 18 t0_5); iexact H18
  iintro ⟨H6, H2, H18⟩
  isplitl [HΦ]; · iexact HΦ
  isplitl [Ho]; · iexact Ho
  isplitl [H0]; · iapply ((found_0 m c t0_5).trans (leave m c 0 t0_5 (by decide +kernel))); iexact H0
  isplitl [H1]; · iapply ((found_1 m c t0_5).trans (leave m c 1 t0_5 (by decide +kernel))); iexact H1
  isplitl [H2]; · iapply (leave m c 2 t0_5 (by decide +kernel)); iexact H2
  isplitl [H3]; · iapply ((found_3 m c t0_5).trans (leave m c 3 t0_5 (by decide +kernel))); iexact H3
  isplitl [H4]; · iapply ((found_4 m c t0_5).trans (leave m c 4 t0_5 (by decide +kernel))); iexact H4
  isplitl [H5]; · iapply ((found_5 m c t0_5).trans (leave m c 5 t0_5 (by decide +kernel))); iexact H5
  isplitl [H6]; · iapply (pass_out6 m c t0_5 (by decide +kernel) (by decide +kernel)); iexact H6
  isplitl [H7]; · iapply (pass m c 7 t0_5 (by decide +kernel) (by decide +kernel)); iexact H7
  isplitl [H8]; · iapply (pass m c 8 t0_5 (by decide +kernel) (by decide +kernel)); iexact H8
  isplitl [H9]; · iapply (pass m c 9 t0_5 (by decide +kernel) (by decide +kernel)); iexact H9
  isplitl [H10]; · iapply (pass m c 10 t0_5 (by decide +kernel) (by decide +kernel)); iexact H10
  isplitl [H11]; · iapply (pass m c 11 t0_5 (by decide +kernel) (by decide +kernel)); iexact H11
  isplitl [H12]; · iapply (pass m c 12 t0_5 (by decide +kernel) (by decide +kernel)); iexact H12
  isplitl [H13]; · iapply (pass m c 13 t0_5 (by decide +kernel) (by decide +kernel)); iexact H13
  isplitl [H14]; · iapply (pass m c 14 t0_5 (by decide +kernel) (by decide +kernel)); iexact H14
  isplitl [H15]; · iapply (pass m c 15 t0_5 (by decide +kernel) (by decide +kernel)); iexact H15
  isplitl [H16]; · iapply (pass m c 16 t0_5 (by decide +kernel) (by decide +kernel)); iexact H16
  isplitl [H17]; · iapply (pass m c 17 t0_5 (by decide +kernel) (by decide +kernel)); iexact H17
  isplitl [H18]; · iapply (leave m c 18 t0_5 (by decide +kernel)); iexact H18
  isplitl [H19]; · iapply (pass m c 19 t0_5 (by decide +kernel) (by decide +kernel)); iexact H19
  isplitl [H20]; · iapply (pass m c 20 t0_5 (by decide +kernel) (by decide +kernel)); iexact H20
  iapply (pass m c 21 t0_5 (by decide +kernel) (by decide +kernel)); iexact H21

set_option maxHeartbeats 2000000 in
theorem sound_6 (c : Dev nD) :
    bodyPre m c t0_6 ⊢ wp frame (wpE (defs₀ (F := F)) Variants.none c none) Set.univ ((bufs t0_6).body (grid0.coords t0_6)) (fun _ => bodyPost m c t0_6) := by
  unfold bodyPre bodyPost
  rw [show (dats m 0 c).Φ (t0_6).succ = (dats m 0 c).Φ (t0_6).castSucc from rfl,
    show (dats m 0 c).owesAt () (t0_6).succ = (dats m 0 c).owesAt () (t0_6).castSucc from rfl]
  iintro ⟨HΦ, Ho, H0, H1, H2, H3, H4, H5, H6, H7, H8, H9, H10, H11, H12, H13, H14, H15, H16, H17, H18, H19, H20, H21⟩
  iapply (step_index c (bufs t0_6) (o6 m c) (iblk m c 2 t0_6) _)
  isplitl [H6]; · iapply (found_out m c 6 t0_6 (by decide) rfl (fun _ _ => rfl) (by decide +kernel)); iexact H6
  isplitl [H2]; · iapply (found_2 m c t0_6); iexact H2
  isplitl [H19]; · iapply (found_any m c 19 t0_6); iexact H19
  iintro ⟨H6, H2, H19⟩
  isplitl [HΦ]; · iexact HΦ
  isplitl [Ho]; · iexact Ho
  isplitl [H0]; · iapply ((found_0 m c t0_6).trans (leave m c 0 t0_6 (by decide +kernel))); iexact H0
  isplitl [H1]; · iapply ((found_1 m c t0_6).trans (leave m c 1 t0_6 (by decide +kernel))); iexact H1
  isplitl [H2]; · iapply (leave m c 2 t0_6 (by decide +kernel)); iexact H2
  isplitl [H3]; · iapply ((found_3 m c t0_6).trans (leave m c 3 t0_6 (by decide +kernel))); iexact H3
  isplitl [H4]; · iapply ((found_4 m c t0_6).trans (leave m c 4 t0_6 (by decide +kernel))); iexact H4
  isplitl [H5]; · iapply ((found_5 m c t0_6).trans (leave m c 5 t0_6 (by decide +kernel))); iexact H5
  isplitl [H6]; · iapply (pass_out6 m c t0_6 (by decide +kernel) (by decide +kernel)); iexact H6
  isplitl [H7]; · iapply (pass m c 7 t0_6 (by decide +kernel) (by decide +kernel)); iexact H7
  isplitl [H8]; · iapply (pass m c 8 t0_6 (by decide +kernel) (by decide +kernel)); iexact H8
  isplitl [H9]; · iapply (pass m c 9 t0_6 (by decide +kernel) (by decide +kernel)); iexact H9
  isplitl [H10]; · iapply (pass m c 10 t0_6 (by decide +kernel) (by decide +kernel)); iexact H10
  isplitl [H11]; · iapply (pass m c 11 t0_6 (by decide +kernel) (by decide +kernel)); iexact H11
  isplitl [H12]; · iapply (pass m c 12 t0_6 (by decide +kernel) (by decide +kernel)); iexact H12
  isplitl [H13]; · iapply (pass m c 13 t0_6 (by decide +kernel) (by decide +kernel)); iexact H13
  isplitl [H14]; · iapply (pass m c 14 t0_6 (by decide +kernel) (by decide +kernel)); iexact H14
  isplitl [H15]; · iapply (pass m c 15 t0_6 (by decide +kernel) (by decide +kernel)); iexact H15
  isplitl [H16]; · iapply (pass m c 16 t0_6 (by decide +kernel) (by decide +kernel)); iexact H16
  isplitl [H17]; · iapply (pass m c 17 t0_6 (by decide +kernel) (by decide +kernel)); iexact H17
  isplitl [H18]; · iapply (pass m c 18 t0_6 (by decide +kernel) (by decide +kernel)); iexact H18
  isplitl [H19]; · iapply (leave m c 19 t0_6 (by decide +kernel)); iexact H19
  isplitl [H20]; · iapply (pass m c 20 t0_6 (by decide +kernel) (by decide +kernel)); iexact H20
  iapply (pass m c 21 t0_6 (by decide +kernel) (by decide +kernel)); iexact H21

set_option maxHeartbeats 2000000 in
theorem sound_7 (c : Dev nD) :
    bodyPre m c t0_7 ⊢ wp frame (wpE (defs₀ (F := F)) Variants.none c none) Set.univ ((bufs t0_7).body (grid0.coords t0_7)) (fun _ => bodyPost m c t0_7) := by
  unfold bodyPre bodyPost
  rw [show (dats m 0 c).Φ (t0_7).succ = (dats m 0 c).Φ (t0_7).castSucc from rfl,
    show (dats m 0 c).owesAt () (t0_7).succ = (dats m 0 c).owesAt () (t0_7).castSucc from rfl]
  iintro ⟨HΦ, Ho, H0, H1, H2, H3, H4, H5, H6, H7, H8, H9, H10, H11, H12, H13, H14, H15, H16, H17, H18, H19, H20, H21⟩
  iapply (step_narrow c (bufs t0_7) (o6 m c) (iblk m c 3 t0_7) (iblk m c 5 t0_7) _)
  isplitl [H6]; · iapply (found_out m c 6 t0_7 (by decide) rfl (fun _ _ => rfl) (by decide +kernel)); iexact H6
  isplitl [H3]; · iapply (found_3 m c t0_7); iexact H3
  isplitl [H5]; · iapply (found_5 m c t0_7); iexact H5
  isplitl [H20]; · iapply (found_any m c 20 t0_7); iexact H20
  isplitl [H21]; · iapply (found_any m c 21 t0_7); iexact H21
  iintro ⟨H6, H3, H5, H20, H21⟩
  isplitl [HΦ]; · iexact HΦ
  isplitl [Ho]; · iexact Ho
  isplitl [H0]; · iapply ((found_0 m c t0_7).trans (leave m c 0 t0_7 (by decide +kernel))); iexact H0
  isplitl [H1]; · iapply ((found_1 m c t0_7).trans (leave m c 1 t0_7 (by decide +kernel))); iexact H1
  isplitl [H2]; · iapply ((found_2 m c t0_7).trans (leave m c 2 t0_7 (by decide +kernel))); iexact H2
  isplitl [H3]; · iapply (leave m c 3 t0_7 (by decide +kernel)); iexact H3
  isplitl [H4]; · iapply ((found_4 m c t0_7).trans (leave m c 4 t0_7 (by decide +kernel))); iexact H4
  isplitl [H5]; · iapply (leave m c 5 t0_7 (by decide +kernel)); iexact H5
  isplitl [H6]; · iapply (pass_out6 m c t0_7 (by decide +kernel) (by decide +kernel)); iexact H6
  isplitl [H7]; · iapply (pass_last m c 7 t0_7 (by decide) rfl (fun _ _ => rfl) (by decide +kernel) (by decide +kernel) (by decide +kernel)); iexact H7
  isplitl [H8]; · iapply (pass_last m c 8 t0_7 (by decide) rfl (fun _ _ => rfl) (by decide +kernel) (by decide +kernel) (by decide +kernel)); iexact H8
  isplitl [H9]; · iapply (pass_last m c 9 t0_7 (by decide) rfl (fun _ _ => rfl) (by decide +kernel) (by decide +kernel) (by decide +kernel)); iexact H9
  isplitl [H10]; · iapply (pass_last m c 10 t0_7 (by decide) rfl (fun _ _ => rfl) (by decide +kernel) (by decide +kernel) (by decide +kernel)); iexact H10
  isplitl [H11]; · iapply (pass_last m c 11 t0_7 (by decide) rfl (fun _ _ => rfl) (by decide +kernel) (by decide +kernel) (by decide +kernel)); iexact H11
  isplitl [H12]; · iapply (pass_last m c 12 t0_7 (by decide) rfl (fun _ _ => rfl) (by decide +kernel) (by decide +kernel) (by decide +kernel)); iexact H12
  isplitl [H13]; · iapply (pass_last m c 13 t0_7 (by decide) rfl (fun _ _ => rfl) (by decide +kernel) (by decide +kernel) (by decide +kernel)); iexact H13
  isplitl [H14]; · iapply (pass_last m c 14 t0_7 (by decide) rfl (fun _ _ => rfl) (by decide +kernel) (by decide +kernel) (by decide +kernel)); iexact H14
  isplitl [H15]; · iapply (pass_last m c 15 t0_7 (by decide) rfl (fun _ _ => rfl) (by decide +kernel) (by decide +kernel) (by decide +kernel)); iexact H15
  isplitl [H16]; · iapply (pass_last m c 16 t0_7 (by decide) rfl (fun _ _ => rfl) (by decide +kernel) (by decide +kernel) (by decide +kernel)); iexact H16
  isplitl [H17]; · iapply (pass_last m c 17 t0_7 (by decide) rfl (fun _ _ => rfl) (by decide +kernel) (by decide +kernel) (by decide +kernel)); iexact H17
  isplitl [H18]; · iapply (pass_last m c 18 t0_7 (by decide) rfl (fun _ _ => rfl) (by decide +kernel) (by decide +kernel) (by decide +kernel)); iexact H18
  isplitl [H19]; · iapply (pass_last m c 19 t0_7 (by decide) rfl (fun _ _ => rfl) (by decide +kernel) (by decide +kernel) (by decide +kernel)); iexact H19
  isplitl [H20]; · iapply (leave m c 20 t0_7 (by decide +kernel)); iexact H20
  iapply (leave m c 21 t0_7 (by decide +kernel)); iexact H21

theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl | rfl | rfl | rfl | rfl
  · exact sound_0 m c
  · exact sound_1 m c
  · exact sound_2 m c
  · exact sound_3 m c
  · exact sound_4 m c
  · exact sound_5 m c
  · exact sound_6 m c
  · exact sound_7 m c

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- The whole program ends with the pipeline's arrays at what the proof data says, and every semaphore back at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The same with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.Kernel3Ideal.Proj
-- ==== Proof.ProjRow.lean ====
/-
  The projection of one row, as plain formulas over the extended reals, and the reference's results read off at an index:
  each is a formula of the row's products with the columns of the weights.
-/
module

public import proofs.«01_k».proof.Proof.Gen.Reference3Ideal.Run
public import Idealize.ShloMosaic.Lib.Pointwise

@[expose] public section

noncomputable section

namespace Cert.ProjLayer

open Idealize.ShloMosaic

/-- A vector divided by the root of its mean square plus epsilon (`d` is its length, as the program writes it), times a gain. -/
def norm {n : ℕ} (d : EReal) (x g : Fin n → EReal) (k : Fin n) : EReal :=
  x k * Ideal.rsqrt (Ideal.div (∑ j, x j * x j) d + Ideal.ofBits FTy.f32 897988541#32) * g k

/-- A row of the input, normed, times one column of the weights. -/
def proj (x g w : Fin 2048 → EReal) : EReal := ∑ k, norm (Ideal.ofBits FTy.f32 1157627904#32) x g k * w k

/-- One head's vector, normed. -/
def head (x g : Fin 128 → EReal) (k : Fin 128) : EReal := norm (Ideal.ofBits FTy.f32 1124073472#32) x g k

/-- `s` times its sigmoid. -/
def silu (s : EReal) : EReal := s * Ideal.div 1 (1 + Ideal.exp (-s))

/-- The logarithm of the sigmoid of `z`. -/
def logSig (z : EReal) : EReal := -(max (-z) 0 + Ideal.log (1 + Ideal.exp (-max z (-z))))

/-- The row number `4 a + b` splits into. -/
def hi (r : Fin 128) : Fin 32 := ⟨r.val / 4, by omega⟩
def lo (r : Fin 128) : Fin 4 := ⟨r.val % 4, by omega⟩

section Ref
open Cert.Reference3Ideal Cert.Reference3Ideal.Gen
set_option maxRecDepth 16384

/-- The reference's product of the normed rows with all the weights. -/
def refProd (x : FVec Ideal S32x4x2048 .f32) (n : FVec Ideal S1x2048 .f32) (w : FVec Ideal S1x2048x7256 .f32) : FVec Ideal S32x4x7256 .f32 :=
  Host.dotGeneral dot_S32x4x2048_S2048x7256_S32x4x7256_2_0_01_1_n_n none (mulf (mulf x (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf x x) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 (shapeCast _ n shapeCasts_S1x2048_S2048)))) (shapeCast _ w shapeCasts_S1x2048x7256_S2048x7256)

theorem refProd_at (x : FVec Ideal S32x4x2048 .f32) (n : FVec Ideal S1x2048 .f32) (w : FVec Ideal S1x2048x7256 .f32) (a : Fin 32) (b : Fin 4) (j : Fin 7256) :
    refProd x n w (ix3 a b j) = proj (fun k => x (ix3 a b k)) (fun k => n (ix2 0 k)) (fun k => w (ix3 0 k j)) := by
  pointwise [refProd, proj, norm]

/-- The reference's queries, from their columns of the product and the gain. -/
def refQueries (s : FVec Ideal S32x4x1024 .f32) (g : FVec Ideal S1x128 .f32) : FVec Ideal S128x1024 .bf16 :=
  truncf .bf16 (shapeCast _ (mulf (mulf (mulf (shapeCast _ s shapeCasts_S32x4x1024_S32x4x8x128) (broadcastInDim S32x4x8x128 ![0, 1, 2, 3] bcast_S32x4x8x1_S32x4x8x128_0_1_2_3 (Host.rsqrt (addf (Host.divf (broadcastInDim S32x4x8x1 ![0, 1, 2] bcast_S32x4x8_S32x4x8x1_0_1_2 (Host.reduceAdd (mulf (shapeCast _ s shapeCasts_S32x4x1024_S32x4x8x128) (shapeCast _ s shapeCasts_S32x4x1024_S32x4x8x128)) (constant S_ .f32 0x00000000#32) reducesTo_S32x4x8x128_S32x4x8_d3 h_S_)) (broadcastInDim S32x4x8x1 ![] bcast_S_S32x4x8x1 (constant S_ .f32 0x43000000#32))) (broadcastInDim S32x4x8x1 ![] bcast_S_S32x4x8x1 (constant S_ .f32 0x358637BD#32)))))) (broadcastInDim S32x4x8x128 ![0, 1, 2, 3] bcast_S1x1x1x128_S32x4x8x128_0_1_2_3 (broadcastInDim S1x1x1x128 ![3] bcast_S128_S1x1x1x128_3 (shapeCast _ g shapeCasts_S1x128_S128)))) (broadcastInDim S32x4x8x128 ![] bcast_S_S32x4x8x128 (constant S_ .f32 0x3E0293EE#32))) shapeCasts_S32x4x8x128_S128x1024) bitsLt_bf16_f32

theorem ref_queries (s : FVec Ideal S32x4x1024 .f32) (g : FVec Ideal S1x128 .f32) (r : Fin 128) (j : Fin 1024) :
    refQueries s g (ix2 r j)
      = head (fun d => s (ix3 (hi r) (lo r) ⟨j.val / 128 * 128 + d.val, by omega⟩)) (fun d => g (ix2 0 d)) ⟨j.val % 128, by omega⟩ * Ideal.ofBits FTy.f32 1040356334#32 := by
  pointwise [refQueries, head, norm, hi, lo]
  have e : j.val / 128 * 128 + j.val % 128 = j.val := by omega
  simp only [e]

/-- Its keys. -/
def refKeys (s : FVec Ideal S32x4x512 .f32) (g : FVec Ideal S1x128 .f32) : FVec Ideal S512x128 .f32 :=
  shapeCast _ (mulf (mulf (shapeCast _ s shapeCasts_S32x4x512_S32x4x4x128) (broadcastInDim S32x4x4x128 ![0, 1, 2, 3] bcast_S32x4x4x1_S32x4x4x128_0_1_2_3 (Host.rsqrt (addf (Host.divf (broadcastInDim S32x4x4x1 ![0, 1, 2] bcast_S32x4x4_S32x4x4x1_0_1_2 (Host.reduceAdd (mulf (shapeCast _ s shapeCasts_S32x4x512_S32x4x4x128) (shapeCast _ s shapeCasts_S32x4x512_S32x4x4x128)) (constant S_ .f32 0x00000000#32) reducesTo_S32x4x4x128_S32x4x4_d3 h_S_)) (broadcastInDim S32x4x4x1 ![] bcast_S_S32x4x4x1 (constant S_ .f32 0x43000000#32))) (broadcastInDim S32x4x4x1 ![] bcast_S_S32x4x4x1 (constant S_ .f32 0x358637BD#32)))))) (broadcastInDim S32x4x4x128 ![0, 1, 2, 3] bcast_S1x1x1x128_S32x4x4x128_0_1_2_3 (broadcastInDim S1x1x1x128 ![3] bcast_S128_S1x1x1x128_3 (shapeCast _ g shapeCasts_S1x128_S128)))) shapeCasts_S32x4x4x128_S512x128

theorem ref_keys (s : FVec Ideal S32x4x512 .f32) (g : FVec Ideal S1x128 .f32) (i : Fin 512) (d : Fin 128) :
    refKeys s g (ix2 i d)
      = head (fun d => s (ix3 ⟨i.val / 16, by omega⟩ ⟨i.val / 4 % 4, by omega⟩ ⟨i.val % 4 * 128 + d.val, by omega⟩)) (fun d => g (ix2 0 d)) d := by
  pointwise [refKeys, head, norm]

/-- Its values. -/
def refValues (s : FVec Ideal S32x4x512 .f32) : FVec Ideal S512x128 .f32 :=
  shapeCast _ s shapeCasts_S32x4x512_S512x128

theorem ref_values (s : FVec Ideal S32x4x512 .f32) (i : Fin 512) (d : Fin 128) :
    refValues s (ix2 i d)
      = s (ix3 ⟨i.val / 16, by omega⟩ ⟨i.val / 4 % 4, by omega⟩ ⟨i.val % 4 * 128 + d.val, by omega⟩) := by
  pointwise [refValues]

/-- Its gates. -/
def refGate (s : FVec Ideal S32x4x1024 .f32) : FVec Ideal S128x1024 .bf16 :=
  truncf .bf16 (shapeCast _ (mulf s (Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf s))))) shapeCasts_S32x4x1024_S128x1024) bitsLt_bf16_f32

theorem ref_gate (s : FVec Ideal S32x4x1024 .f32) (r : Fin 128) (j : Fin 1024) :
    refGate s (ix2 r j) = silu (s (ix3 (hi r) (lo r) j)) := by
  pointwise [refGate, silu, hi, lo]

/-- Its index queries. -/
def refIndex (s : FVec Ideal S32x4x1024 .f32) : FVec Ideal S128x1024 .bf16 :=
  truncf .bf16 (shapeCast _ (mulf s (broadcastInDim S32x4x1024 ![] bcast_S_S32x4x1024 (constant S_ .f32 0x3E000000#32))) shapeCasts_S32x4x1024_S128x1024) bitsLt_bf16_f32

theorem ref_index (s : FVec Ideal S32x4x1024 .f32) (r : Fin 128) (j : Fin 1024) :
    refIndex s (ix2 r j) = s (ix3 (hi r) (lo r) j) * Ideal.ofBits FTy.f32 1040187392#32 := by
  pointwise [refIndex, hi, lo]

/-- A row of the narrow results: index keys, index weights, forget logits, and zeros behind them. -/
def narrow {n : ℕ} (ik : Fin 64 → EReal) (iw : Fin 16 → EReal) (ff : Fin 8 → EReal) (j : Fin n) : EReal :=
  if h : j.val < 64 then ik ⟨j.val, h⟩ else if h : j.val - 64 < 16 then iw ⟨j.val - 64, h⟩ else if h : j.val - 64 - 16 < 8 then ff ⟨j.val - 64 - 16, h⟩ else 0

/-- Its index keys, index weights and forget logits side by side. -/
def refNarrow (ik : FVec Ideal S32x4x64 .f32) (iw : FVec Ideal S32x4x16 .f32) (ff : FVec Ideal S32x4x8 .f32) : FVec Ideal S128x128 .f32 :=
  shapeCast _ ((concatenate S32x4x128 2 [⟨S32x4x64, (ik : (⟨S32x4x64, .f32⟩ : BufTy).Contents (Elt Ideal))⟩, ⟨S32x4x16, (iw : (⟨S32x4x16, .f32⟩ : BufTy).Contents (Elt Ideal))⟩, ⟨S32x4x8, (ff : (⟨S32x4x8, .f32⟩ : BufTy).Contents (Elt Ideal))⟩, ⟨S32x4x40, ((broadcastInDim S32x4x40 ![] bcast_S_S32x4x40 (constant (F := Ideal) S_ .f32 0x00000000#32)) : (⟨S32x4x40, .f32⟩ : BufTy).Contents (Elt Ideal))⟩] concatenates_S32x4x64_S32x4x16_S32x4x8_S32x4x40_S32x4x128_d2 : (⟨S32x4x128, .f32⟩ : BufTy).Contents (Elt Ideal))) shapeCasts_S32x4x128_S128x128

theorem ref_narrow (ik : FVec Ideal S32x4x64 .f32) (iw : FVec Ideal S32x4x16 .f32) (ff : FVec Ideal S32x4x8 .f32) (r j : Fin 128) :
    refNarrow ik iw ff (ix2 r j)
      = narrow (fun k => ik (ix3 (hi r) (lo r) k)) (fun k => iw (ix3 (hi r) (lo r) k)) (fun k => ff (ix3 (hi r) (lo r) k)) j := by
  pointwise [refNarrow, narrow, hi, lo]

/-- Its logarithms of the forget gates. -/
def refLog (z : FVec Ideal S32x4x8 .f32) : FVec Ideal S8x128 .f32 :=
  transpose S8x128 [1, 0] (shapeCast _ (Host.negf (select (cmpf .une (subf (Host.negf z) (broadcastInDim S32x4x8 ![] bcast_S_S32x4x8 (constant S_ .f32 0x00000000#32))) (subf (Host.negf z) (broadcastInDim S32x4x8 ![] bcast_S_S32x4x8 (constant S_ .f32 0x00000000#32)))) (addf (Host.negf z) (broadcastInDim S32x4x8 ![] bcast_S_S32x4x8 (constant S_ .f32 0x00000000#32))) (addf (maximumf (Host.negf z) (broadcastInDim S32x4x8 ![] bcast_S_S32x4x8 (constant S_ .f32 0x00000000#32))) (Host.log1p (Host.exp (Host.negf (Host.absf (subf (Host.negf z) (broadcastInDim S32x4x8 ![] bcast_S_S32x4x8 (constant S_ .f32 0x00000000#32)))))))))) shapeCasts_S32x4x8_S128x8) transposes_S128x8_S8x128_1_0

theorem ref_log (z : FVec Ideal S32x4x8 .f32) (h : Fin 8) (r : Fin 128) :
    refLog z (ix2 h r) = logSig (z (ix3 (hi r) (lo r) h)) := by
  pointwise [refLog, logSig, hi, lo]
  simp only [ne_eq, not_true, if_false, Ideal.absf_def, neg_neg]
  rw [max_comm (-z _) (z _)]
  rfl

end Ref

end Cert.ProjLayer

end
-- ==== Proof.ProjCols.lean ====
/-
  The reference's results from the columns of its product: each is a stretch of columns, normed head by head, scaled,
  gated or laid side by side.
-/
module

public import proofs.«01_k».proof.Proof.ProjRow

@[expose] public section

noncomputable section

namespace Cert.ProjLayer

open Idealize.ShloMosaic Cert.Reference3Ideal Cert.Reference3Ideal.Gen
set_option maxRecDepth 16384

variable (x : FVec Ideal S32x4x2048 .f32) (n : FVec Ideal S1x2048 .f32) (w : FVec Ideal S1x2048x7256 .f32)

/-- Column `q` of row `r`'s projection. -/
def col (r : Fin 128) (q : Fin 7256) : EReal :=
  proj (fun k => x (ix3 (hi r) (lo r) k)) (fun k => n (ix2 0 k)) (fun k => w (ix3 0 k q))

/-- A stretch of `M` columns of the reference's product, from column `o`. -/
theorem cut_at {M : ℕ} (o : ℕ) (h : S32x4x7256.Slices ![0, 0, o] ⟨3, ![32, 4, M]⟩) (r : Fin 128) (a : Fin 32) (b : Fin 4) (j : Fin M)
    (ha : a = hi r) (hb : b = lo r) (hj : o + j.val < 7256) :
    extractStridedSlice ⟨3, ![32, 4, M]⟩ ![0, 0, o] (refProd x n w) h (ix3 a b j) = col x n w r ⟨o + j.val, hj⟩ := by
  subst ha hb
  exact (congrArg (refProd x n w) (funext fun i => Fin.ext (by
    match i with
    | ⟨0, _⟩ => show 0 + (hi r).val = (hi r).val; omega
    | ⟨1, _⟩ => show 0 + (lo r).val = (lo r).val; omega
    | ⟨2, _⟩ => show o + j.val = o + j.val; rfl))).trans (refProd_at x n w (hi r) (lo r) ⟨o + j.val, hj⟩)

theorem queries_of (o : ℕ) (h) (ho : o + 1024 ≤ 7256) (g : FVec Ideal S1x128 .f32) (r : Fin 128) (j : Fin 1024) :
    refQueries (extractStridedSlice S32x4x1024 ![0, 0, o] (refProd x n w) h) g (ix2 r j)
      = head (fun d => col x n w r ⟨o + (j.val / 128 * 128 + d.val), by omega⟩) (fun d => g (ix2 0 d)) ⟨j.val % 128, by omega⟩
        * Ideal.ofBits FTy.f32 1040356334#32 := by
  rw [ref_queries]
  exact congrArg (fun f => head f _ _ * _) (funext fun d => cut_at x n w o h r _ _ ⟨j.val / 128 * 128 + d.val, by omega⟩ rfl rfl _)

theorem keys_of (o : ℕ) (h) (ho : o + 512 ≤ 7256) (g : FVec Ideal S1x128 .f32) (i : Fin 512) (d : Fin 128) :
    refKeys (extractStridedSlice S32x4x512 ![0, 0, o] (refProd x n w) h) g (ix2 i d)
      = head (fun d => col x n w ⟨i.val / 4, by omega⟩ ⟨o + (i.val % 4 * 128 + d.val), by omega⟩) (fun d => g (ix2 0 d)) d := by
  rw [ref_keys]
  exact congrArg (fun f => head f _ _) (funext fun d => cut_at x n w o h ⟨i.val / 4, by omega⟩ _ _ ⟨i.val % 4 * 128 + d.val, by omega⟩
    (Fin.ext (show i.val / 16 = i.val / 4 / 4 by omega)) rfl _)

theorem values_of (o : ℕ) (h) (ho : o + 512 ≤ 7256) (i : Fin 512) (d : Fin 128) :
    refValues (extractStridedSlice S32x4x512 ![0, 0, o] (refProd x n w) h) (ix2 i d)
      = col x n w ⟨i.val / 4, by omega⟩ ⟨o + (i.val % 4 * 128 + d.val), by omega⟩ := by
  rw [ref_values]
  exact cut_at x n w o h ⟨i.val / 4, by omega⟩ _ _ ⟨i.val % 4 * 128 + d.val, by omega⟩
    (Fin.ext (show i.val / 16 = i.val / 4 / 4 by omega)) rfl _

theorem gate_of (o : ℕ) (h) (ho : o + 1024 ≤ 7256) (r : Fin 128) (j : Fin 1024) :
    refGate (extractStridedSlice S32x4x1024 ![0, 0, o] (refProd x n w) h) (ix2 r j) = silu (col x n w r ⟨o + j.val, by omega⟩) := by
  rw [ref_gate]
  exact congrArg silu (cut_at x n w o h r _ _ j rfl rfl _)

theorem index_of (o : ℕ) (h) (ho : o + 1024 ≤ 7256) (r : Fin 128) (j : Fin 1024) :
    refIndex (extractStridedSlice S32x4x1024 ![0, 0, o] (refProd x n w) h) (ix2 r j)
      = col x n w r ⟨o + j.val, by omega⟩ * Ideal.ofBits FTy.f32 1040187392#32 := by
  rw [ref_index]
  exact congrArg (· * _) (cut_at x n w o h r _ _ j rfl rfl _)

theorem narrow_of (h h' h'') (r j : Fin 128) :
    refNarrow (extractStridedSlice S32x4x64 ![0, 0, 7176] (refProd x n w) h) (extractStridedSlice S32x4x16 ![0, 0, 7240] (refProd x n w) h')
        (extractStridedSlice S32x4x8 ![0, 0, 2048] (refProd x n w) h'') (ix2 r j)
      = narrow (fun k => col x n w r ⟨7176 + k.val, by omega⟩) (fun k => col x n w r ⟨7240 + k.val, by omega⟩)
          (fun k => col x n w r ⟨2048 + k.val, by omega⟩) j := by
  rw [ref_narrow]
  congr 1 <;> funext k <;> exact cut_at x n w _ _ r _ _ k rfl rfl _

/-- The forget logits with their biases, as the reference adds them. -/
def refLogits (b : FVec Ideal S1x8 .f32) : FVec Ideal S32x4x8 .f32 :=
  addf (extractStridedSlice S32x4x8 ![0, 0, 2048] (refProd x n w) slices_S32x4x7256_S32x4x8_0_0_2048)
    (broadcastInDim S32x4x8 ![0, 1, 2] bcast_S1x1x8_S32x4x8_0_1_2 (broadcastInDim S1x1x8 ![2] bcast_S8_S1x1x8_2 (shapeCast _ b shapeCasts_S1x8_S8)))

theorem log_of (b : FVec Ideal S1x8 .f32) (h : Fin 8) (r : Fin 128) :
    refLog (refLogits x n w b) (ix2 h r) = logSig (col x n w r ⟨2048 + h.val, by omega⟩ + b (ix2 0 h)) := by
  have e : refLogits x n w b (ix3 (hi r) (lo r) h)
      = extractStridedSlice S32x4x8 ![0, 0, 2048] (refProd x n w) slices_S32x4x7256_S32x4x8_0_0_2048 (ix3 (hi r) (lo r) h) + b (ix2 0 h) := by
    unfold refLogits
    generalize extractStridedSlice S32x4x8 ![0, 0, 2048] (refProd x n w) slices_S32x4x7256_S32x4x8_0_0_2048 = s
    pointwise
  rw [ref_log, e]
  exact congrArg (fun z => logSig (z + _)) (cut_at x n w 2048 _ r _ _ h rfl rfl _)

end Cert.ProjLayer

end
-- ==== Proof.ProjBlock.lean ====
/-
  What each step of the projection leaves in its block, at an index, from the normed rows and the rows of weights it is
  given.
-/
module

public import proofs.«01_k».proof.Proof.ProjRow
public import proofs.«01_k».proof.Proof.ProjSteps

@[expose] public section

noncomputable section

namespace Cert.ProjLayer

open Idealize.ShloMosaic Cert.Kernel3Ideal Cert.Kernel3Ideal.Gen Cert.Kernel3Ideal.Proj
set_option maxRecDepth 16384

/-- Row `r` of the normed block times row `n` of the weights' block. -/
def dotAt {N : ℕ} (xn : Vec Ideal S128x2048 .bf16) (w : Vec Ideal ⟨2, ![N, 2048]⟩ .bf16) (r : Fin 128) (n : Fin N) : EReal :=
  ∑ k, xn (ix2 r k) * w (ix2 n k)

variable (xn : Vec Ideal S128x2048 .bf16) (w : Vec Ideal S1024x2048 .bf16) (v : Vec Ideal S128x2048 .bf16) (g : Vec Ideal S1x128 .f32)

theorem norm_at (x : Vec Ideal S128x2048 .f32) (n : Vec Ideal S1x2048 .f32) (r : Fin 128) (k : Fin 2048) :
    k0_pay1 x n (ix2 r k) = norm (Ideal.ofBits FTy.f32 1157627904#32) (fun k => x (ix2 r k)) (fun k => n (ix2 0 k)) k := by
  pointwise [k0_pay1, norm]

theorem dot_at (r : Fin 128) (n : Fin 1024) : k0_pay13 xn w (ix2 r n) = dotAt xn w r n := by
  pointwise [k0_pay13, dotAt]

theorem dot_at' (r : Fin 128) (n : Fin 1024) : k0_pay24 xn w (ix2 r n) = dotAt xn w r n := by
  pointwise [k0_pay24, dotAt]

theorem gate_at (r : Fin 128) (n : Fin 1024) : k0_pay8 xn w (ix2 r n) = silu (dotAt xn w r n) := by
  pointwise [k0_pay8, dotAt, silu]
  simp only [zero_sub]

theorem index_at (r : Fin 128) (n : Fin 1024) : k0_pay10 xn w (ix2 r n) = dotAt xn w r n * Ideal.ofBits FTy.f32 1040187392#32 := by
  pointwise [k0_pay10, dotAt]

theorem narrow_at (r n : Fin 128) : k0_pay11 xn v (ix2 r n) = dotAt xn v r n := by
  pointwise [k0_pay11, dotAt]

theorem log_at (b : Vec Ideal S8x1 .f32) (h : Fin 8) (r : Fin 128) :
    k0_pay12 xn v b (ix2 h r) = logSig (dotAt xn v r ⟨80 + h.val, by omega⟩ + b (ix2 h 0)) := by
  pointwise [k0_pay12, k0_pay11, dotAt, logSig]
  simp only [zero_sub, Ideal.absf_def]

/-- One head, from where its vector starts (`o`) and the place within it (`k`), as the head of column `j = o + k`. -/
theorem head_cut {N : ℕ} (f : Fin N → EReal) (g : Fin 128 → EReal) (o k j : ℕ) (hk : k < 128) (hO : o % 128 = 0) (hN : o + 128 ≤ N) (hj : j = o + k) :
    f ⟨o + k, by omega⟩ * Ideal.rsqrt (Ideal.div (∑ x : Fin 128, f ⟨o + x.val, by omega⟩ * f ⟨o + x.val, by omega⟩) (Ideal.ofBits FTy.f32 1124073472#32) + Ideal.ofBits FTy.f32 897988541#32) * g ⟨k, hk⟩
      = head (fun d => f ⟨j / 128 * 128 + d.val, by omega⟩) g ⟨j % 128, by omega⟩ := by
  subst hj
  have e1 : (o + k) / 128 * 128 = o := by omega
  have e2 : (o + k) % 128 = k := by omega
  simp only [head, norm, e1, e2]

theorem queries_at (r : Fin 128) (j : Fin 1024) :
    queries xn w g (ix2 r j) = head (fun d => dotAt xn w r ⟨j.val / 128 * 128 + d.val, by omega⟩) (fun d => g (ix2 0 d)) ⟨j.val % 128, by omega⟩
      * Ideal.ofBits FTy.f32 1040356334#32 := by
  pointwise [queries, k0_pay2, k0_pay14, k0_pay15, k0_pay16, k0_pay17, k0_pay18, k0_pay19, k0_pay20, k0_pay21, k0_pay22, k0_pay23]
  simp only [dot_at]
  have c := fun o k hk hO hN hj => head_cut (fun n => dotAt xn w r n) (fun d => g (ix2 0 d)) o k j.val hk hO hN hj
  split_ifs <;> refine congrArg (· * Ideal.ofBits FTy.f32 1040356334#32) ?_
  all_goals first
    | exact c _ _ (by omega) rfl (by omega) (by omega)
    | simpa only [Nat.zero_add] using c 0 j.val (by omega) rfl (by omega) (by omega)

/-- The four key heads side by side. -/
theorem heads_at (r : Fin 128) (j : Fin 512) :
    onKeys k0_pay31 xn w g (ix2 r j) = head (fun d => dotAt xn w r ⟨j.val / 128 * 128 + d.val, by omega⟩) (fun d => g (ix2 0 d)) ⟨j.val % 128, by omega⟩ := by
  pointwise [onKeys, k0_pay25, k0_pay26, k0_pay27, k0_pay28, k0_pay29, k0_pay30, k0_pay31]
  simp only [dot_at']
  have c := fun o k hk hO hN hj => head_cut (fun n => dotAt xn w r n) (fun d => g (ix2 0 d)) o k j.val hk hO hN hj
  split_ifs
  all_goals first
    | exact c _ _ (by omega) rfl (by omega) (by omega)
    | simpa only [Nat.zero_add] using c 0 j.val (by omega) rfl (by omega) (by omega)

/-- Row `4 r + h` of the four interleaved blocks is row `r` of block `h`. -/
theorem interleave_at (p0 p1 p2 p3 : Vec Ideal S128x128 .f32) (G : Fin 512 → Fin 128 → EReal)
    (h0 : ∀ (r d : Fin 128), p0 (ix2 r d) = G ⟨0 + 4 * r.val, by omega⟩ d) (h1 : ∀ (r d : Fin 128), p1 (ix2 r d) = G ⟨1 + 4 * r.val, by omega⟩ d)
    (h2 : ∀ (r d : Fin 128), p2 (ix2 r d) = G ⟨2 + 4 * r.val, by omega⟩ d) (h3 : ∀ (r d : Fin 128), p3 (ix2 r d) = G ⟨3 + 4 * r.val, by omega⟩ d)
    (i : Fin 512) (d : Fin 128) : interleave p0 p1 p2 p3 (ix2 i d) = G i d := by
  unfold interleave
  refine View.canon_apply_of_pieces (Val := Elt Ideal) (e := .f32) (S := S512x128) (fun y => G ⟨(y 0).val, (y 0).isLt⟩ ⟨(y 1).val, (y 1).isLt⟩) _ ?_ (ix2 i d) ?_
  · intro p hp
    simp only [List.mem_cons, List.not_mem_nil, or_false] at hp
    rcases hp with rfl | rfl | rfl | rfl <;> intro x
    · refine (congrArg p3 (eq_ix2 x)).trans ((h3 (x 0) (x 1)).trans ?_)
      exact congrArg (G _) (Fin.ext (by show (x 1).val = 0 + 1 * (x 1).val; omega))
    · refine (congrArg p2 (eq_ix2 x)).trans ((h2 (x 0) (x 1)).trans ?_)
      exact congrArg (G _) (Fin.ext (by show (x 1).val = 0 + 1 * (x 1).val; omega))
    · refine (congrArg p1 (eq_ix2 x)).trans ((h1 (x 0) (x 1)).trans ?_)
      exact congrArg (G _) (Fin.ext (by show (x 1).val = 0 + 1 * (x 1).val; omega))
    · refine (congrArg p0 (eq_ix2 x)).trans ((h0 (x 0) (x 1)).trans ?_)
      exact congrArg (G _) (Fin.ext (by show (x 1).val = 0 + 1 * (x 1).val; omega))
  · have hm : i.val % 4 = 3 ∨ i.val % 4 = 2 ∨ i.val % 4 = 1 ∨ i.val % 4 = 0 := by omega
    have here : ∀ (o : ℕ) (ho : i.val % 4 = o) (inb) (sp), ix2 i d ∈ (⟨(⟨![o, 0], S128x128.size, ![4, 1], inb⟩ : LoadRect S512x128), sp⟩ : Rect S512x128).set := fun o ho inb sp => by
      have := (⟨(⟨![o, 0], S128x128.size, ![4, 1], inb⟩ : LoadRect S512x128), sp⟩ : Rect S512x128).idx_mem (ix2 ⟨i.val / 4, by omega⟩ d)
      refine (congrArg (· ∈ _) (funext fun a => Fin.ext ?_)).mp this
      match a with
      | ⟨0, _⟩ => show o + 4 * (i.val / 4) = i.val; omega
      | ⟨1, _⟩ => show 0 + 1 * d.val = d.val; omega
    rcases hm with hm | hm | hm | hm
    · exact ⟨_, List.mem_cons_self, here 3 hm _ _⟩
    · exact ⟨_, List.mem_cons_of_mem _ List.mem_cons_self, here 2 hm _ _⟩
    · exact ⟨_, List.mem_cons_of_mem _ (List.mem_cons_of_mem _ List.mem_cons_self), here 1 hm _ _⟩
    · exact ⟨_, List.mem_cons_of_mem _ (List.mem_cons_of_mem _ (List.mem_cons_of_mem _ List.mem_cons_self)), here 0 hm _ _⟩

theorem values_at (i : Fin 512) (d : Fin 128) :
    values xn w (ix2 i d) = dotAt xn w ⟨i.val / 4, by omega⟩ ⟨512 + (i.val % 4 * 128 + d.val), by omega⟩ := by
  unfold values
  refine interleave_at _ _ _ _ (fun i d => dotAt xn w ⟨i.val / 4, by omega⟩ ⟨512 + (i.val % 4 * 128 + d.val), by omega⟩) ?_ ?_ ?_ ?_ i d
  all_goals
    intro r d
    pointwise [k0_pay38, k0_pay39, k0_pay40, k0_pay37, k0_pay3]
    rw [dot_at']
    congr 1 <;> exact Fin.ext (by dsimp only; omega)

/-- A place in the four heads side by side, as a place of key row `i`. -/
theorem heads_as (r d : Fin 128) (n i : Fin 512) (hn : n.val = i.val % 4 * 128 + d.val) (hr : i.val / 4 = r.val) :
    onKeys k0_pay31 xn w g (ix2 r n) = head (fun d => dotAt xn w ⟨i.val / 4, by omega⟩ ⟨i.val % 4 * 128 + d.val, by omega⟩) (fun d => g (ix2 0 d)) d := by
  have er : (⟨i.val / 4, by omega⟩ : Fin 128) = r := Fin.ext hr
  have e1 : n.val / 128 * 128 = i.val % 4 * 128 := by omega
  have e2 : n.val % 128 = d.val := by omega
  rw [heads_at, er]
  simp only [e1, e2]

theorem keys_at (i : Fin 512) (d : Fin 128) :
    keys xn w g (ix2 i d) = head (fun d => dotAt xn w ⟨i.val / 4, by omega⟩ ⟨i.val % 4 * 128 + d.val, by omega⟩) (fun d => g (ix2 0 d)) d := by
  unfold keys
  refine interleave_at _ _ _ _ (fun i d => head (fun d => dotAt xn w ⟨i.val / 4, by omega⟩ ⟨i.val % 4 * 128 + d.val, by omega⟩) (fun d => g (ix2 0 d)) d) ?_ ?_ ?_ ?_ i d
  all_goals
    intro r d
    pointwise [onKeys, k0_pay32, k0_pay33, k0_pay34, k0_pay35]
  · exact heads_as xn w g r d ⟨d.val, by omega⟩ ⟨4 * r.val, by omega⟩ (show d.val = 4 * r.val % 4 * 128 + d.val by omega) (show 4 * r.val / 4 = r.val by omega)
  · exact heads_as xn w g r d ⟨128 + d.val, by omega⟩ ⟨1 + 4 * r.val, by omega⟩ (show 128 + d.val = (1 + 4 * r.val) % 4 * 128 + d.val by omega) (show (1 + 4 * r.val) / 4 = r.val by omega)
  · exact heads_as xn w g r d ⟨256 + d.val, by omega⟩ ⟨2 + 4 * r.val, by omega⟩ (show 256 + d.val = (2 + 4 * r.val) % 4 * 128 + d.val by omega) (show (2 + 4 * r.val) / 4 = r.val by omega)
  · exact heads_as xn w g r d ⟨384 + d.val, by omega⟩ ⟨3 + 4 * r.val, by omega⟩ (show 384 + d.val = (3 + 4 * r.val) % 4 * 128 + d.val by omega) (show (3 + 4 * r.val) / 4 = r.val by omega)

end Cert.ProjLayer

end
-- ==== Proof.ProjHost.lean ====
/-
  What the host hands the projection: the input as rows, the weights turned and their columns put in the order of the
  steps, the narrow columns by themselves with zeros behind them, and the four norm gains as one table.
-/
module

public import proofs.«01_k».proof.Proof.Gen.Kernel3Ideal.Frame
public import Idealize.ShloMosaic.Lib.Claim
public import Idealize.ShloMosaic.Lib.StableHlo.Run
public import Idealize.ShloMosaic.Lib.Pointwise

@[expose] public section

noncomputable section

namespace Cert.ProjLayer

open Idealize.ShloMosaic Idealize.ShloMosaic.TcCoe Idealize.SL.Sem
open Cert.Kernel3Ideal Cert.Kernel3Ideal.Gen
set_option maxRecDepth 16384

/-- The weights with a row for each output column. -/
def turned (w : FVec Ideal S1x2048x7256 .f32) : FVec Ideal S7256x2048 .bf16 :=
  truncf .bf16 (transpose S7256x2048 [1, 0] (shapeCast S2048x7256 w shapeCasts_S1x2048x7256_S2048x7256) transposes_S2048x7256_S7256x2048_1_0) bitsLt_bf16_f32

theorem turned_at (w : FVec Ideal S1x2048x7256 .f32) (n : Fin 7256) (k : Fin 2048) : turned w (ix2 n k) = w (ix3 0 k n) := by
  pointwise [turned]

/-- The wide columns in the order of the steps. -/
def wide (w : FVec Ideal S1x2048x7256 .f32) : FVec Ideal S7168x2048 .bf16 :=
  concatenate S7168x2048 0 [⟨S1024x2048, extractStridedSlice S1024x2048 ![0, 0] (turned w) slices_S7256x2048_S1024x2048_0_0⟩, ⟨S512x2048, extractStridedSlice S512x2048 ![1024, 0] (turned w) slices_S7256x2048_S512x2048_1024_0⟩, ⟨S512x2048, extractStridedSlice S512x2048 ![1536, 0] (turned w) slices_S7256x2048_S512x2048_1536_0⟩, ⟨S1024x2048, extractStridedSlice S1024x2048 ![3080, 0] (turned w) slices_S7256x2048_S1024x2048_3080_0⟩, ⟨S512x2048, extractStridedSlice S512x2048 ![4104, 0] (turned w) slices_S7256x2048_S512x2048_4104_0⟩, ⟨S512x2048, extractStridedSlice S512x2048 ![4616, 0] (turned w) slices_S7256x2048_S512x2048_4616_0⟩, ⟨S1024x2048, extractStridedSlice S1024x2048 ![2056, 0] (turned w) slices_S7256x2048_S1024x2048_2056_0⟩, ⟨S1024x2048, extractStridedSlice S1024x2048 ![5128, 0] (turned w) slices_S7256x2048_S1024x2048_5128_0⟩, ⟨S1024x2048, extractStridedSlice S1024x2048 ![6152, 0] (turned w) slices_S7256x2048_S1024x2048_6152_0⟩] concatenates_S1024x2048_S512x2048_S512x2048_S1024x2048_S512x2048_S512x2048_S1024x2048_S1024x2048_S1024x2048_S7168x2048_d0

/-- The narrow columns: index keys, index weights, forget logits, then zeros. -/
def slim (w : FVec Ideal S1x2048x7256 .f32) : FVec Ideal S128x2048 .bf16 :=
  concatenate S128x2048 0 [⟨S64x2048, extractStridedSlice S64x2048 ![7176, 0] (turned w) slices_S7256x2048_S64x2048_7176_0⟩, ⟨S16x2048, extractStridedSlice S16x2048 ![7240, 0] (turned w) slices_S7256x2048_S16x2048_7240_0⟩, ⟨S8x2048, extractStridedSlice S8x2048 ![2048, 0] (turned w) slices_S7256x2048_S8x2048_2048_0⟩, ⟨S40x2048, broadcastInDim S40x2048 ![] bcast_S_S40x2048 (constant (F := Ideal) S_ .bf16 0x0000#16)⟩] concatenates_S64x2048_S16x2048_S8x2048_S40x2048_S128x2048_d0

/-- The column of the weights that is row `q` of the wide table. -/
def colOf (q : ℕ) : ℕ := if q < 2048 then q else if q < 4096 then q + 1032 else if q < 5120 then q - 2040 else q + 8

theorem colOf_lt (q : Fin 7168) : colOf q.val < 7256 := by unfold colOf; split_ifs <;> omega

theorem wide_at (w : FVec Ideal S1x2048x7256 .f32) (q : Fin 7168) (k : Fin 2048) : wide w (ix2 q k) = w (ix3 0 k ⟨colOf q.val, colOf_lt q⟩) := by
  pointwise [wide]
  simp only [turned_at]
  split_ifs <;> refine congrArg w (congrArg (ix3 0 k) (Fin.ext ?_)) <;> (show _ = colOf q.val; unfold colOf; dsimp only; split_ifs <;> omega)

/-- The narrow table's row `q` against any row of numbers. -/
theorem slim_at (w : FVec Ideal S1x2048x7256 .f32) (q : Fin 128) (k : Fin 2048) :
    slim w (ix2 q k) = if h : q.val < 64 then w (ix3 0 k ⟨7176 + q.val, by omega⟩) else if h : q.val - 64 < 16 then w (ix3 0 k ⟨7240 + (q.val - 64), by omega⟩)
      else if h : q.val - 64 - 16 < 8 then w (ix3 0 k ⟨2048 + (q.val - 64 - 16), by omega⟩) else 0 := by
  pointwise [slim]
  simp only [turned_at]

variable (m : (ℓ : Loc nD τ sig) → Buf (Elt Ideal) ℓ) (c : Dev nD)

theorem V_x : V m c main_v23 = shapeCast S128x2048 (m ((c : Thread nD τ).loc main_arg0)) shapeCasts_S32x4x2048_S128x2048 := by
  unfold_abbrev_sides; after_results <;> rfl
theorem V_n : V m c main_v19 = shapeCast S1x2048 (shapeCast S2048 (m ((c : Thread nD τ).loc main_arg1)) shapeCasts_S1x2048_S2048) shapeCasts_S2048_S1x2048 := by
  unfold_abbrev_sides; after_results <;> rfl
theorem V_b : V m c main_v22 = shapeCast S8x1 (shapeCast S8 (m ((c : Thread nD τ).loc main_arg3)) shapeCasts_S1x8_S8) shapeCasts_S8_S8x1 := by
  unfold_abbrev_sides; after_results <;> rfl
theorem V_wide : V m c main_v15 = wide (m ((c : Thread nD τ).loc main_arg2)) := by
  unfold_abbrev_sides; after_results <;> rfl
theorem V_slim : V m c main_v17 = slim (m ((c : Thread nD τ).loc main_arg2)) := by
  unfold_abbrev_sides; after_results <;> rfl
theorem V_gains : V m c main_v20 = concatenate S4x128 0 [⟨S1x128, (m ((c : Thread nD τ).loc main_arg4) : FVec Ideal S1x128 .f32)⟩, ⟨S1x128, (m ((c : Thread nD τ).loc main_arg5) : FVec Ideal S1x128 .f32)⟩,
    ⟨S1x128, (m ((c : Thread nD τ).loc main_arg6) : FVec Ideal S1x128 .f32)⟩, ⟨S1x128, (m ((c : Thread nD τ).loc main_arg7) : FVec Ideal S1x128 .f32)⟩] concatenates_S1x128_S1x128_S1x128_S1x128_S4x128_d0 := by
  unfold_abbrev_sides; after_results <;> rfl

end Cert.ProjLayer

end
-- ==== Proof.ProjArray.lean ====
/-
  What the projection leaves in its result arrays. Each is one block, written back at the last step with what the step
  that fills it computed; here it is that computation, at an index, from the program's arguments.
-/
module

public import proofs.«01_k».proof.Proof.ProjRun
public import proofs.«01_k».proof.Proof.ProjCols
public import proofs.«01_k».proof.Proof.ProjBlock
public import proofs.«01_k».proof.Proof.ProjHost
public import proofs.«01_k».proof.Proof.Gen.Kernel3Ideal.Points

@[expose] public section

noncomputable section

namespace Cert.ProjLayer

open Idealize.ShloMosaic Idealize.ShloMosaic.TcCoe Idealize.SL.Sem
open Cert.Kernel3Ideal Cert.Kernel3Ideal.Gen Cert.Kernel3Ideal.Proj
set_option maxRecDepth 16384

section Final
variable {F : FTy → Type} [FloatOps F] (m : (ℓ : Loc nD τ sig) → Buf (Elt F) ℓ) (c : Dev nD)

/-- An output is written back at the last step only. -/
theorem flush_last : ∀ w : Fin 22, 6 ≤ w.val → ∀ t : Fin cfg0.N, (cfg0.win w).flush t = true → t = t0_7 := by
  decide +kernel

theorem flush_at : ∀ w : Fin 22, 6 ≤ w.val → (cfg0.win w).flush t0_7 = true := by
  decide +kernel

/-- So its array holds what the last step writes back. -/
theorem last_block (w : Fin 22) (hw : 6 ≤ w.val) :
    ((cfg0.win w).blk t0_7).view.read (Elt F) ((dats m 0 c).arrAt w cfg0.N) = (dats m 0 c).flushed w t0_7 :=
  (dats m 0 c).read_blk_arrAt_eq_flushed w
    (fun t t' h h' hne => absurd ((flush_last w hw t h).trans (flush_last w hw t' h').symm) hne) cfg0.N t0_7 t0_7.isLt (flush_at w hw)

theorem fin7 : (dats m 0 c).arrAt 7 cfg0.N = o7 m c := funext fun i =>
  (congrArg ((dats m 0 c).arrAt 7 cfg0.N) (funext fun a => Fin.ext (by
    match a with
    | ⟨0, _⟩ => show (i 0).val = 0 * 128 + 1 * (i 0).val; omega
    | ⟨1, _⟩ => show (i 1).val = 0 * 1024 + 1 * (i 1).val; omega))).trans (congrFun (last_block m c 7 (by decide)) i)

theorem fin8 : (dats m 0 c).arrAt 8 cfg0.N = o8 m c := funext fun i =>
  (congrArg ((dats m 0 c).arrAt 8 cfg0.N) (funext fun a => Fin.ext (by
    match a with
    | ⟨0, _⟩ => show (i 0).val = 0 * 512 + 1 * (i 0).val; omega
    | ⟨1, _⟩ => show (i 1).val = 0 * 128 + 1 * (i 1).val; omega))).trans (congrFun (last_block m c 8 (by decide)) i)

theorem fin10 : (dats m 0 c).arrAt 10 cfg0.N = o10 m c := funext fun i =>
  (congrArg ((dats m 0 c).arrAt 10 cfg0.N) (funext fun a => Fin.ext (by
    match a with
    | ⟨0, _⟩ => show (i 0).val = 0 * 512 + 1 * (i 0).val; omega
    | ⟨1, _⟩ => show (i 1).val = 0 * 128 + 1 * (i 1).val; omega))).trans (congrFun (last_block m c 10 (by decide)) i)

theorem fin12 : (dats m 0 c).arrAt 12 cfg0.N = o12 m c := funext fun i =>
  (congrArg ((dats m 0 c).arrAt 12 cfg0.N) (funext fun a => Fin.ext (by
    match a with
    | ⟨0, _⟩ => show (i 0).val = 0 * 128 + 1 * (i 0).val; omega
    | ⟨1, _⟩ => show (i 1).val = 0 * 1024 + 1 * (i 1).val; omega))).trans (congrFun (last_block m c 12 (by decide)) i)

theorem fin13 : (dats m 0 c).arrAt 13 cfg0.N = o13 m c := funext fun i =>
  (congrArg ((dats m 0 c).arrAt 13 cfg0.N) (funext fun a => Fin.ext (by
    match a with
    | ⟨0, _⟩ => show (i 0).val = 0 * 512 + 1 * (i 0).val; omega
    | ⟨1, _⟩ => show (i 1).val = 0 * 128 + 1 * (i 1).val; omega))).trans (congrFun (last_block m c 13 (by decide)) i)

theorem fin15 : (dats m 0 c).arrAt 15 cfg0.N = o15 m c := funext fun i =>
  (congrArg ((dats m 0 c).arrAt 15 cfg0.N) (funext fun a => Fin.ext (by
    match a with
    | ⟨0, _⟩ => show (i 0).val = 0 * 512 + 1 * (i 0).val; omega
    | ⟨1, _⟩ => show (i 1).val = 0 * 128 + 1 * (i 1).val; omega))).trans (congrFun (last_block m c 15 (by decide)) i)

theorem fin17 : (dats m 0 c).arrAt 17 cfg0.N = o17 m c := funext fun i =>
  (congrArg ((dats m 0 c).arrAt 17 cfg0.N) (funext fun a => Fin.ext (by
    match a with
    | ⟨0, _⟩ => show (i 0).val = 0 * 128 + 1 * (i 0).val; omega
    | ⟨1, _⟩ => show (i 1).val = 0 * 1024 + 1 * (i 1).val; omega))).trans (congrFun (last_block m c 17 (by decide)) i)

theorem fin18 : (dats m 0 c).arrAt 18 cfg0.N = o18 m c := funext fun i =>
  (congrArg ((dats m 0 c).arrAt 18 cfg0.N) (funext fun a => Fin.ext (by
    match a with
    | ⟨0, _⟩ => show (i 0).val = 0 * 128 + 1 * (i 0).val; omega
    | ⟨1, _⟩ => show (i 1).val = 0 * 1024 + 1 * (i 1).val; omega))).trans (congrFun (last_block m c 18 (by decide)) i)

theorem fin19 : (dats m 0 c).arrAt 19 cfg0.N = o19 m c := funext fun i =>
  (congrArg ((dats m 0 c).arrAt 19 cfg0.N) (funext fun a => Fin.ext (by
    match a with
    | ⟨0, _⟩ => show (i 0).val = 0 * 128 + 1 * (i 0).val; omega
    | ⟨1, _⟩ => show (i 1).val = 0 * 1024 + 1 * (i 1).val; omega))).trans (congrFun (last_block m c 19 (by decide)) i)

theorem fin20 : (dats m 0 c).arrAt 20 cfg0.N = o20 m c := funext fun i =>
  (congrArg ((dats m 0 c).arrAt 20 cfg0.N) (funext fun a => Fin.ext (by
    match a with
    | ⟨0, _⟩ => show (i 0).val = 0 * 128 + 1 * (i 0).val; omega
    | ⟨1, _⟩ => show (i 1).val = 0 * 128 + 1 * (i 1).val; omega))).trans (congrFun (last_block m c 20 (by decide)) i)

theorem fin21 : (dats m 0 c).arrAt 21 cfg0.N = o21 m c := funext fun i =>
  (congrArg ((dats m 0 c).arrAt 21 cfg0.N) (funext fun a => Fin.ext (by
    match a with
    | ⟨0, _⟩ => show (i 0).val = 0 * 8 + 1 * (i 0).val; omega
    | ⟨1, _⟩ => show (i 1).val = 0 * 128 + 1 * (i 1).val; omega))).trans (congrFun (last_block m c 21 (by decide)) i)

end Final

variable (m : (ℓ : Loc nD τ sig) → Buf (Elt Ideal) ℓ) (c : Dev nD)

theorem blk0 (r : Fin 128) (k : Fin 2048) : iblk m c 0 t0_0 (ix2 r k) = V m c main_v23 (ix2 r k) :=
  congrArg (V m c main_v23) (funext fun a => Fin.ext (by
    match a with
    | ⟨0, _⟩ => show 0 * 128 + 1 * r.val = r.val; omega
    | ⟨1, _⟩ => show 0 * 2048 + 1 * k.val = k.val; omega))

theorem step_of : win0_2.index t0_0 0 = 0 ∧ win0_2.index t0_1 0 = 1 ∧ win0_2.index t0_2 0 = 2 ∧ win0_2.index t0_3 0 = 3
    ∧ win0_2.index t0_4 0 = 4 ∧ win0_2.index t0_5 0 = 5 ∧ win0_2.index t0_6 0 = 6 := by decide +kernel

theorem blk2 (t : Fin cfg0.N) (j : ℕ) (hj : win0_2.index t 0 = j) (h7 : j < 7) (n : Fin 1024) (k : Fin 2048) :
    iblk m c 2 t (ix2 n k) = V m c main_v15 (ix2 ⟨1024 * j + n.val, by omega⟩ k) :=
  congrArg (V m c main_v15) (funext fun a => Fin.ext (by
    match a with
    | ⟨0, _⟩ => show win0_2.index t 0 * 1024 + 1 * n.val = 1024 * j + n.val; omega
    | ⟨1, _⟩ => show 0 * 2048 + 1 * k.val = k.val; omega))

theorem blk1 (k : Fin 2048) : iblk m c 1 t0_0 (ix2 0 k) = V m c main_v19 (ix2 0 k) :=
  congrArg (V m c main_v19) (funext fun a => Fin.ext (by
    match a with
    | ⟨0, _⟩ => rfl
    | ⟨1, _⟩ => show 0 * 2048 + 1 * k.val = k.val; omega))

theorem blk3 (n : Fin 128) (k : Fin 2048) : iblk m c 3 t0_7 (ix2 n k) = V m c main_v17 (ix2 n k) :=
  congrArg (V m c main_v17) (funext fun a => Fin.ext (by
    match a with
    | ⟨0, _⟩ => show 0 * 128 + 1 * n.val = n.val; omega
    | ⟨1, _⟩ => show 0 * 2048 + 1 * k.val = k.val; omega))

theorem blk4 (t : Fin cfg0.N) (a : Fin 4) (d : Fin 128) : iblk m c 4 t (ix2 a d) = V m c main_v20 (ix2 a d) :=
  congrArg (V m c main_v20) (funext fun i => Fin.ext (by
    match i with
    | ⟨0, _⟩ => show 0 * 4 + 1 * a.val = a.val; omega
    | ⟨1, _⟩ => show 0 * 128 + 1 * d.val = d.val; omega))

theorem blk5 (h : Fin 8) : iblk m c 5 t0_7 (ix2 h 0) = V m c main_v22 (ix2 h 0) :=
  congrArg (V m c main_v22) (funext fun a => Fin.ext (by
    match a with
    | ⟨0, _⟩ => show 0 * 8 + 1 * h.val = h.val; omega
    | ⟨1, _⟩ => rfl))

/-- The program's arguments as they begin. -/
abbrev aX : FVec Ideal S32x4x2048 .f32 := m ((c : Thread nD τ).loc main_arg0)
abbrev aN : FVec Ideal S1x2048 .f32 := m ((c : Thread nD τ).loc main_arg1)
abbrev aW : FVec Ideal S1x2048x7256 .f32 := m ((c : Thread nD τ).loc main_arg2)
abbrev aB : FVec Ideal S1x8 .f32 := m ((c : Thread nD τ).loc main_arg3)
abbrev aG0 : FVec Ideal S1x128 .f32 := m ((c : Thread nD τ).loc main_arg4)
abbrev aG1 : FVec Ideal S1x128 .f32 := m ((c : Thread nD τ).loc main_arg5)
abbrev aG2 : FVec Ideal S1x128 .f32 := m ((c : Thread nD τ).loc main_arg6)
abbrev aG3 : FVec Ideal S1x128 .f32 := m ((c : Thread nD τ).loc main_arg7)

theorem rows_at (f : FVec Ideal S32x4x2048 .f32) (r : Fin 128) (k : Fin 2048) :
    shapeCast S128x2048 f shapeCasts_S32x4x2048_S128x2048 (ix2 r k) = f (ix3 (hi r) (lo r) k) := by
  pointwise [hi, lo]

theorem x_at (r : Fin 128) (k : Fin 2048) : iblk m c 0 t0_0 (ix2 r k) = aX m c (ix3 (hi r) (lo r) k) := by
  rw [blk0, V_x]; exact rows_at _ r k

theorem n_at (k : Fin 2048) : iblk m c 1 t0_0 (ix2 0 k) = aN m c (ix2 0 k) := by
  rw [blk1, V_n]; pointwise

theorem b_at (h : Fin 8) : iblk m c 5 t0_7 (ix2 h 0) = aB m c (ix2 0 h) := by
  rw [blk5, V_b]; pointwise

theorem concat4_at (g0 g1 g2 g3 : FVec Ideal S1x128 .f32) (d : Fin 128) (f : S4x128.Idx → EReal)
    (hf : f = concatenate S4x128 0 [⟨S1x128, g0⟩, ⟨S1x128, g1⟩, ⟨S1x128, g2⟩, ⟨S1x128, g3⟩] concatenates_S1x128_S1x128_S1x128_S1x128_S4x128_d0) :
    f (ix2 0 d) = g0 (ix2 0 d) ∧ f (ix2 1 d) = g1 (ix2 0 d) ∧ f (ix2 2 d) = g2 (ix2 0 d) ∧ f (ix2 3 d) = g3 (ix2 0 d) := by
  subst hf
  refine ⟨?_, ?_, ?_, ?_⟩ <;> pointwise

theorem gain_at (t : Fin cfg0.N) (d : Fin 128) :
    gainRow0 (iblk m c 4 t) (ix2 0 d) = aG0 m c (ix2 0 d) ∧ gainRow1 (iblk m c 4 t) (ix2 0 d) = aG1 m c (ix2 0 d)
    ∧ gainRow2 (iblk m c 4 t) (ix2 0 d) = aG2 m c (ix2 0 d) ∧ gainRow3 (iblk m c 4 t) (ix2 0 d) = aG3 m c (ix2 0 d) := by
  have row (a : Fin 4) (i : S4x128.Idx) (h0 : (i 0).val = a.val) (h1 : (i 1).val = d.val) : iblk m c 4 t i = V m c main_v20 (ix2 a d) :=
    (congrArg (iblk m c 4 t) (funext fun e => Fin.ext (by
      match e with
      | ⟨0, _⟩ => exact h0
      | ⟨1, _⟩ => exact h1))).trans (blk4 m c t a d)
  have e1 : 0 + 1 * d.val = d.val := by omega
  obtain ⟨c0, c1, c2, c3⟩ := concat4_at (aG0 m c) (aG1 m c) (aG2 m c) (aG3 m c) d (V m c main_v20) (V_gains m c)
  exact ⟨(row 0 _ rfl e1).trans c0, (row 1 _ rfl e1).trans c1, (row 2 _ rfl e1).trans c2, (row 3 _ rfl e1).trans c3⟩

/-- The normed rows. -/
theorem normed_at (r : Fin 128) (k : Fin 2048) :
    o6 m c (ix2 r k) = norm (Ideal.ofBits FTy.f32 1157627904#32) (fun k => aX m c (ix3 (hi r) (lo r) k)) (fun k => aN m c (ix2 0 k)) k := by
  refine (norm_at _ _ r k).trans ?_
  simp only [x_at, n_at]

/-- Row `r`'s projection onto column `q`, as the program's arguments have it. -/
abbrev colAt (r : Fin 128) (q : Fin 7256) : EReal := col (aX m c) (aN m c) (aW m c) r q

/-- The product of one step with a wide block: columns `o` and on. -/
theorem dot_step (t : Fin cfg0.N) (j o : ℕ) (hj : win0_2.index t 0 = j) (h7 : j < 7) (ho : ∀ n, n < 1024 → colOf (1024 * j + n) = o + n)
    (hO : o + 1024 ≤ 7256) (r : Fin 128) (n : Fin 1024) : dotAt (o6 m c) (iblk m c 2 t) r n = colAt m c r ⟨o + n.val, by omega⟩ := by
  unfold dotAt colAt col proj
  refine Finset.sum_congr rfl fun k _ => ?_
  rw [normed_at, blk2 m c t j hj h7 n k, V_wide, wide_at]
  refine congrArg (_ * ·) (congrArg (aW m c) (congrArg (ix3 0 k) (Fin.ext ?_)))
  exact ho n.val n.isLt

theorem slim_row (n : Fin 128) (k : Fin 2048) : iblk m c 3 t0_7 (ix2 n k)
    = if h : n.val < 64 then aW m c (ix3 0 k ⟨7176 + n.val, by omega⟩) else if h : n.val - 64 < 16 then aW m c (ix3 0 k ⟨7240 + (n.val - 64), by omega⟩)
      else if h : n.val - 64 - 16 < 8 then aW m c (ix3 0 k ⟨2048 + (n.val - 64 - 16), by omega⟩) else 0 := by
  rw [blk3, V_slim, slim_at]

/-- The product of the last step, with the narrow block. -/
theorem dot_slim (r n : Fin 128) : dotAt (o6 m c) (iblk m c 3 t0_7) r n
    = narrow (fun k => colAt m c r ⟨7176 + k.val, by omega⟩) (fun k => colAt m c r ⟨7240 + k.val, by omega⟩)
        (fun k => colAt m c r ⟨2048 + k.val, by omega⟩) n := by
  unfold dotAt narrow
  simp only [normed_at, slim_row]
  split_ifs
  · rfl
  · rfl
  · rfl
  · simp only [mul_zero, Finset.sum_const_zero]

theorem dot0 (r : Fin 128) (n : Fin 1024) : dotAt (o6 m c) (iblk m c 2 t0_0) r n = colAt m c r ⟨0 + n.val, by omega⟩ :=
  dot_step m c t0_0 0 0 step_of.1 (by omega) (by intro n hn; unfold colOf; split_ifs <;> omega) (by omega) r n
theorem dot1 (r : Fin 128) (n : Fin 1024) : dotAt (o6 m c) (iblk m c 2 t0_1) r n = colAt m c r ⟨1024 + n.val, by omega⟩ :=
  dot_step m c t0_1 1 1024 step_of.2.1 (by omega) (by intro n hn; unfold colOf; split_ifs <;> omega) (by omega) r n
theorem dot2 (r : Fin 128) (n : Fin 1024) : dotAt (o6 m c) (iblk m c 2 t0_2) r n = colAt m c r ⟨3080 + n.val, by omega⟩ :=
  dot_step m c t0_2 2 3080 step_of.2.2.1 (by omega) (by intro n hn; unfold colOf; split_ifs <;> omega) (by omega) r n
theorem dot3 (r : Fin 128) (n : Fin 1024) : dotAt (o6 m c) (iblk m c 2 t0_3) r n = colAt m c r ⟨4104 + n.val, by omega⟩ :=
  dot_step m c t0_3 3 4104 step_of.2.2.2.1 (by omega) (by intro n hn; unfold colOf; split_ifs <;> omega) (by omega) r n
theorem dot4 (r : Fin 128) (n : Fin 1024) : dotAt (o6 m c) (iblk m c 2 t0_4) r n = colAt m c r ⟨2056 + n.val, by omega⟩ :=
  dot_step m c t0_4 4 2056 step_of.2.2.2.2.1 (by omega) (by intro n hn; unfold colOf; split_ifs <;> omega) (by omega) r n
theorem dot5 (r : Fin 128) (n : Fin 1024) : dotAt (o6 m c) (iblk m c 2 t0_5) r n = colAt m c r ⟨5128 + n.val, by omega⟩ :=
  dot_step m c t0_5 5 5128 step_of.2.2.2.2.2.1 (by omega) (by intro n hn; unfold colOf; split_ifs <;> omega) (by omega) r n
theorem dot6 (r : Fin 128) (n : Fin 1024) : dotAt (o6 m c) (iblk m c 2 t0_6) r n = colAt m c r ⟨6152 + n.val, by omega⟩ :=
  dot_step m c t0_6 6 6152 step_of.2.2.2.2.2.2 (by omega) (by intro n hn; unfold colOf; split_ifs <;> omega) (by omega) r n

/-- The results at an index, by the formulas of the columns. -/
theorem o7_at (r : Fin 128) (j : Fin 1024) : o7 m c (ix2 r j)
    = head (fun d => colAt m c r ⟨0 + (j.val / 128 * 128 + d.val), by omega⟩) (fun d => aG0 m c (ix2 0 d)) ⟨j.val % 128, by omega⟩
      * Ideal.ofBits FTy.f32 1040356334#32 := by
  refine (queries_at _ _ _ r j).trans ?_
  simp only [dot0, (gain_at m c _ _).1]

theorem o12_at (r : Fin 128) (j : Fin 1024) : o12 m c (ix2 r j)
    = head (fun d => colAt m c r ⟨3080 + (j.val / 128 * 128 + d.val), by omega⟩) (fun d => aG2 m c (ix2 0 d)) ⟨j.val % 128, by omega⟩
      * Ideal.ofBits FTy.f32 1040356334#32 := by
  refine (queries_at _ _ _ r j).trans ?_
  simp only [dot2, (gain_at m c _ _).2.2.1]

theorem o8_at (i : Fin 512) (d : Fin 128) : o8 m c (ix2 i d)
    = head (fun d => colAt m c ⟨i.val / 4, by omega⟩ ⟨1024 + (i.val % 4 * 128 + d.val), by omega⟩) (fun d => aG1 m c (ix2 0 d)) d := by
  refine (keys_at _ _ _ i d).trans ?_
  simp only [dot1, (gain_at m c _ _).2.1]

theorem o13_at (i : Fin 512) (d : Fin 128) : o13 m c (ix2 i d)
    = head (fun d => colAt m c ⟨i.val / 4, by omega⟩ ⟨4104 + (i.val % 4 * 128 + d.val), by omega⟩) (fun d => aG3 m c (ix2 0 d)) d := by
  refine (keys_at _ _ _ i d).trans ?_
  simp only [dot3, (gain_at m c _ _).2.2.2]

theorem o10_at (i : Fin 512) (d : Fin 128) : o10 m c (ix2 i d) = colAt m c ⟨i.val / 4, by omega⟩ ⟨1536 + (i.val % 4 * 128 + d.val), by omega⟩ := by
  refine (values_at _ _ i d).trans ((dot1 m c _ _).trans (congrArg (colAt m c _) (Fin.ext ?_)))
  show 1024 + (512 + (i.val % 4 * 128 + d.val)) = 1536 + (i.val % 4 * 128 + d.val)
  omega

theorem o15_at (i : Fin 512) (d : Fin 128) : o15 m c (ix2 i d) = colAt m c ⟨i.val / 4, by omega⟩ ⟨4616 + (i.val % 4 * 128 + d.val), by omega⟩ := by
  refine (values_at _ _ i d).trans ((dot3 m c _ _).trans (congrArg (colAt m c _) (Fin.ext ?_)))
  show 4104 + (512 + (i.val % 4 * 128 + d.val)) = 4616 + (i.val % 4 * 128 + d.val)
  omega

theorem o17_at (r : Fin 128) (j : Fin 1024) : o17 m c (ix2 r j) = silu (colAt m c r ⟨2056 + j.val, by omega⟩) :=
  (gate_at _ _ r j).trans (congrArg silu (dot4 m c r j))

theorem o18_at (r : Fin 128) (j : Fin 1024) : o18 m c (ix2 r j) = silu (colAt m c r ⟨5128 + j.val, by omega⟩) :=
  (gate_at _ _ r j).trans (congrArg silu (dot5 m c r j))

theorem o19_at (r : Fin 128) (j : Fin 1024) : o19 m c (ix2 r j) = colAt m c r ⟨6152 + j.val, by omega⟩ * Ideal.ofBits FTy.f32 1040187392#32 :=
  (index_at _ _ r j).trans (congrArg (· * _) (dot6 m c r j))

theorem o20_at (r j : Fin 128) : o20 m c (ix2 r j)
    = narrow (fun k => colAt m c r ⟨7176 + k.val, by omega⟩) (fun k => colAt m c r ⟨7240 + k.val, by omega⟩)
        (fun k => colAt m c r ⟨2048 + k.val, by omega⟩) j :=
  (narrow_at _ _ r j).trans (dot_slim m c r j)

theorem o21_at (h : Fin 8) (r : Fin 128) : o21 m c (ix2 h r) = logSig (colAt m c r ⟨2048 + h.val, by omega⟩ + aB m c (ix2 0 h)) := by
  refine (log_at _ _ _ h r).trans ?_
  rw [dot_slim, b_at]
  refine congrArg (fun z => logSig (z + _)) ?_
  unfold narrow
  rw [dif_neg (show ¬ 80 + h.val < 64 by omega), dif_neg (show ¬ 80 + h.val - 64 < 16 by omega), dif_pos (show 80 + h.val - 64 - 16 < 8 by omega)]
  exact congrArg (colAt m c r) (Fin.ext (show 2048 + (80 + h.val - 64 - 16) = 2048 + h.val by omega))

end Cert.ProjLayer

end
-- ==== Proof.ProjClaim.lean ====
/-
  The claims about the projection call: its frames at both instances and the equality with the plain reference.
-/
module

public import proofs.«01_k».proof.Defs
public import proofs.«01_k».proof.Proof.ProjArray
public import proofs.«01_k».proof.Proof.Gen.Kernel3
public import proofs.«01_k».proof.Proof.Gen.Reference3Ideal

@[expose] public section

noncomputable section

namespace Cert.ProjLayer

open Idealize.ShloMosaic Idealize.ShloMosaic.TcCoe Idealize.SL.Sem

set_option maxHeartbeats 4000000 in
/-- The two printed programs run the same body at their one label. -/
theorem bodies_eq : Cert.Kernel3.defs₀ (F := Bits) = Cert.Kernel3Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel3.defs (F := Bits) = Cert.Kernel3Ideal.defs (F := Bits) :=
  congrArg (Pipeline.defs Cert.Kernel3Ideal.pcfgs) bodies_eq

set_option maxHeartbeats 4000000 in
theorem frame_kernel : Cert.quiescent_Kernel3 := fun m ρ _ => by
  rw [defs_eq]
  exact Cert.Kernel3Ideal.Proj.frame (F := Bits) m ρ

set_option maxHeartbeats 4000000 in
theorem frame_ideal : Cert.quiescent_Kernel3Ideal := fun m ρ _ => Cert.Kernel3Ideal.Proj.frame m ρ
set_option maxHeartbeats 4000000 in
theorem frame_refIdeal : Cert.quiescent_Reference3Ideal := fun m ρ _ =>
  (θ_run Cert.Reference3Ideal.defs _ _).mono
    (fun r hr => ⟨fun c => (hr c).2.2.2.2.2.2.2.2.2.2.2, sem_eq_zero_of_no_sems (by decide) r.2⟩)
    (Cert.Reference3Ideal.Value.run (F := Ideal) m ρ)

section Agree
open Cert.Kernel3Ideal Cert.Kernel3Ideal.Gen Cert.Kernel3Ideal.Proj

variable (m : (ℓ : Loc nD τ sig) → Buf (Elt Ideal) ℓ) (c : Dev nD)

/-- The reference's product at the kernel's arguments. -/
abbrev prod : FVec Ideal Cert.Reference3Ideal.S32x4x7256 .f32 := refProd (aX m c) (aN m c) (aW m c)

theorem agree_q0 (h) : refQueries (extractStridedSlice Cert.Reference3Ideal.S32x4x1024 ![0, 0, 0] (prod m c) h) (aG0 m c) = o7 m c := by
  funext i; rw [eq_ix2 i]; exact (queries_of _ _ _ 0 h (by omega) _ _ _).trans (o7_at m c _ _).symm
theorem agree_q1 (h) : refQueries (extractStridedSlice Cert.Reference3Ideal.S32x4x1024 ![0, 0, 3080] (prod m c) h) (aG2 m c) = o12 m c := by
  funext i; rw [eq_ix2 i]; exact (queries_of _ _ _ 3080 h (by omega) _ _ _).trans (o12_at m c _ _).symm
theorem agree_k0 (h) : refKeys (extractStridedSlice Cert.Reference3Ideal.S32x4x512 ![0, 0, 1024] (prod m c) h) (aG1 m c) = o8 m c := by
  funext i; rw [eq_ix2 i]; exact (keys_of _ _ _ 1024 h (by omega) _ _ _).trans (o8_at m c _ _).symm
theorem agree_k1 (h) : refKeys (extractStridedSlice Cert.Reference3Ideal.S32x4x512 ![0, 0, 4104] (prod m c) h) (aG3 m c) = o13 m c := by
  funext i; rw [eq_ix2 i]; exact (keys_of _ _ _ 4104 h (by omega) _ _ _).trans (o13_at m c _ _).symm
theorem agree_v0 (h) : refValues (extractStridedSlice Cert.Reference3Ideal.S32x4x512 ![0, 0, 1536] (prod m c) h) = o10 m c := by
  funext i; rw [eq_ix2 i]; exact (values_of _ _ _ 1536 h (by omega) _ _).trans (o10_at m c _ _).symm
theorem agree_v1 (h) : refValues (extractStridedSlice Cert.Reference3Ideal.S32x4x512 ![0, 0, 4616] (prod m c) h) = o15 m c := by
  funext i; rw [eq_ix2 i]; exact (values_of _ _ _ 4616 h (by omega) _ _).trans (o15_at m c _ _).symm
theorem agree_g0 (h) : refGate (extractStridedSlice Cert.Reference3Ideal.S32x4x1024 ![0, 0, 2056] (prod m c) h) = o17 m c := by
  funext i; rw [eq_ix2 i]; exact (gate_of _ _ _ 2056 h (by omega) _ _).trans (o17_at m c _ _).symm
theorem agree_g1 (h) : refGate (extractStridedSlice Cert.Reference3Ideal.S32x4x1024 ![0, 0, 5128] (prod m c) h) = o18 m c := by
  funext i; rw [eq_ix2 i]; exact (gate_of _ _ _ 5128 h (by omega) _ _).trans (o18_at m c _ _).symm
theorem agree_iq (h) : refIndex (extractStridedSlice Cert.Reference3Ideal.S32x4x1024 ![0, 0, 6152] (prod m c) h) = o19 m c := by
  funext i; rw [eq_ix2 i]; exact (index_of _ _ _ 6152 h (by omega) _ _).trans (o19_at m c _ _).symm
theorem agree_small (h h' h'') : refNarrow (extractStridedSlice Cert.Reference3Ideal.S32x4x64 ![0, 0, 7176] (prod m c) h)
    (extractStridedSlice Cert.Reference3Ideal.S32x4x16 ![0, 0, 7240] (prod m c) h')
    (extractStridedSlice Cert.Reference3Ideal.S32x4x8 ![0, 0, 2048] (prod m c) h'') = o20 m c := by
  funext i; rw [eq_ix2 i]; exact (narrow_of _ _ _ h h' h'' _ _).trans (o20_at m c _ _).symm
theorem agree_log : refLog (refLogits (aX m c) (aN m c) (aW m c) (aB m c)) = o21 m c := by
  funext i; rw [eq_ix2 i]; exact (log_of _ _ _ _ _ _).trans (o21_at m c _ _).symm

set_option maxHeartbeats 4000000 in
/-- The kernel's run, with its results and its arguments. -/
theorem run_values (g : Dev nD → PrngReg) : θ_run defs (onTc (τ := τ) (main (F := Ideal))) ⟨m, fun _ => 0, g⟩ (fun r => ∀ c : Dev nD,
      (r.2.mem ((c.tc : Thread nD τ).loc main_v24_1) = o7 m c ∧ r.2.mem ((c.tc : Thread nD τ).loc main_v24_2) = o8 m c
      ∧ r.2.mem ((c.tc : Thread nD τ).loc main_v24_4) = o10 m c ∧ r.2.mem ((c.tc : Thread nD τ).loc main_v24_11) = o17 m c
      ∧ r.2.mem ((c.tc : Thread nD τ).loc main_v24_6) = o12 m c ∧ r.2.mem ((c.tc : Thread nD τ).loc main_v24_7) = o13 m c
      ∧ r.2.mem ((c.tc : Thread nD τ).loc main_v24_9) = o15 m c ∧ r.2.mem ((c.tc : Thread nD τ).loc main_v24_12) = o18 m c
      ∧ r.2.mem ((c.tc : Thread nD τ).loc main_v24_13) = o19 m c ∧ r.2.mem ((c.tc : Thread nD τ).loc main_v24_14) = o20 m c
      ∧ r.2.mem ((c.tc : Thread nD τ).loc main_v24_15) = o21 m c)) :=
  (θ_run defs _ _).mono (fun _ h c => ⟨((h c).1 7).trans (fin7 m c), ((h c).1 8).trans (fin8 m c), ((h c).1 10).trans (fin10 m c),
    ((h c).1 17).trans (fin17 m c), ((h c).1 12).trans (fin12 m c), ((h c).1 13).trans (fin13 m c), ((h c).1 15).trans (fin15 m c),
    ((h c).1 18).trans (fin18 m c), ((h c).1 19).trans (fin19 m c), ((h c).1 20).trans (fin20 m c), ((h c).1 21).trans (fin21 m c)⟩) (run_main m g)

end Agree

theorem algebraic : Cert.algebraic_Kernel3Ideal_Reference3Ideal := by
  intro m g m' g' _ h
  refine ⟨fun c => Cert.Kernel3Ideal.Proj.o7 m c, fun c => Cert.Kernel3Ideal.Proj.o8 m c, fun c => Cert.Kernel3Ideal.Proj.o10 m c,
    fun c => Cert.Kernel3Ideal.Proj.o17 m c, fun c => Cert.Kernel3Ideal.Proj.o12 m c, fun c => Cert.Kernel3Ideal.Proj.o13 m c,
    fun c => Cert.Kernel3Ideal.Proj.o15 m c, fun c => Cert.Kernel3Ideal.Proj.o18 m c, fun c => Cert.Kernel3Ideal.Proj.o19 m c,
    fun c => Cert.Kernel3Ideal.Proj.o20 m c, fun c => Cert.Kernel3Ideal.Proj.o21 m c, ?_, ?_⟩
  · refine (θ_run Cert.Kernel3Ideal.defs _ _).mono (fun r hr c => ?_) (θ_run_and (run_values m g) (Cert.Kernel3Ideal.Proj.unchanged m g))
    obtain ⟨a0, a1, a2, a3, a4, a5, a6, a7, a8, a9, a10⟩ := hr.1 c
    exact ⟨a0, a1, a2, a3, a4, a5, a6, a7, a8, a9, a10, hr.2 c⟩
  · refine (θ_run Cert.Reference3Ideal.defs _ _).mono (fun r hr c => ?_) (Cert.Reference3Ideal.Value.run (F := Ideal) m' g')
    obtain ⟨h0, h1, h2, h3, h4, h5, h6, h7⟩ := h c
    obtain ⟨a0, a1, a2, a3, a4, a5, a6, a7, a8, a9, a10, a⟩ := hr c
    refine ⟨a0.trans ?_, a1.trans ?_, a2.trans ?_, a3.trans ?_, a4.trans ?_, a5.trans ?_, a6.trans ?_, a7.trans ?_, a8.trans ?_, a9.trans ?_, a10.trans ?_, a⟩
    · rw [h0, h1, h2, h4]; exact agree_q0 m c _
    · rw [h0, h1, h2, h5]; exact agree_k0 m c _
    · rw [h0, h1, h2]; exact agree_v0 m c _
    · rw [h0, h1, h2]; exact agree_g0 m c _
    · rw [h0, h1, h2, h6]; exact agree_q1 m c _
    · rw [h0, h1, h2, h7]; exact agree_k1 m c _
    · rw [h0, h1, h2]; exact agree_v1 m c _
    · rw [h0, h1, h2]; exact agree_g1 m c _
    · rw [h0, h1, h2]; exact agree_iq m c _
    · rw [h0, h1, h2]; exact agree_small m c _ _ _
    · unfold Cert.Reference3Ideal.Value.res_main_v119; rw [h0, h1, h2, h3]; exact agree_log m c

end Cert.ProjLayer

end
-- ==== Proof.OutSample.lean ====
/-
  The output layer of the sample batch: the same call on 128 rows, which one grid point takes whole. The formulas of a
  row are those of the prompt batch.
-/
module

public import proofs.«01_k».proof.Defs
public import proofs.«01_k».proof.Proof.OutArray
public import proofs.«01_k».proof.Proof.Gen.Kernel4
public import proofs.«01_k».proof.Proof.Gen.Kernel4Ideal.Value
public import proofs.«01_k».proof.Proof.Gen.Reference4Ideal.Run

@[expose] public section

noncomputable section

namespace Cert.OutSample

open Idealize.ShloMosaic Idealize.ShloMosaic.TcCoe Idealize.SL.Sem
open Cert.OutLayer (mul hid gate normed low high outAt hz)

section Block
open Cert.Kernel4Ideal Cert.Kernel4Ideal.Gen

variable (x0 : Vec Ideal S128x2048 .f32) (x1 x2 : Vec Ideal S128x1024 .bf16) (x3 : Vec Ideal S128x256 .f32)
  (x4 x5 : Vec Ideal S2048x2048 .bf16) (x6 : Vec Ideal S256x2048 .bf16) (x7 : Vec Ideal S1x2048 .f32)

set_option maxRecDepth 16384 in
theorem pay2_at (P2 P4 : Vec Ideal S1024x2048 .bf16) (r : Fin 128) (c : Fin 2048) :
    k0_pay2 x0 x1 P2 x2 P4 (ix2 r c) = hid (x0 (ix2 r c)) (fun k => x1 (ix2 r k)) (fun k => x2 (ix2 r k)) (fun k => P2 (ix2 k c)) (fun k => P4 (ix2 k c)) := by
  pointwise [k0_pay2, hid, mul]

set_option maxRecDepth 16384 in
theorem pay3_at (P2 P4 : Vec Ideal S1024x2048 .bf16) (r : Fin 128) (c : Fin 2048) :
    k0_pay3 x0 x1 P2 x2 P4 x5 (ix2 r c) = gate (mul (fun k => k0_pay2 x0 x1 P2 x2 P4 (ix2 r k)) (fun k => x5 (ix2 k c))) := by
  pointwise [k0_pay3, gate, mul]
  rw [zero_sub]

set_option maxRecDepth 16384 in
theorem pay4_at (r : Fin 128) (c : Fin 2048) :
    k0_pay4 x3 x6 (ix2 r c) = mul (fun k => x3 (ix2 r k)) (fun k => x6 (ix2 k c)) := by
  pointwise [k0_pay4, mul]

theorem low_idx (k : Fin 1024) (c : Fin 2048) : r0_2.idx (ix2 k c) = ix2 (low k) c :=
  funext fun a => Fin.ext (by match a with | ⟨0, _⟩ => show 0 + 1 * k.val = k.val; omega | ⟨1, _⟩ => show 0 + 1 * c.val = c.val; omega)

theorem high_idx (k : Fin 1024) (c : Fin 2048) : r0_3.idx (ix2 k c) = ix2 (high k) c :=
  funext fun a => Fin.ext (by match a with | ⟨0, _⟩ => show 1024 + 1 * k.val = 1024 + k.val; omega | ⟨1, _⟩ => show 0 + 1 * c.val = c.val; omega)

set_option maxRecDepth 16384 in
/-- What the body leaves in its result block, from its eight input blocks. -/
theorem block_at (r : Fin 128) (c : Fin 2048) :
    out0_8 x0 x1 x2 x3 x4 x5 x6 x7 (ix2 r c) = outAt (fun k => x0 (ix2 r k)) (fun k => x1 (ix2 r k)) (fun k => x2 (ix2 r k))
      (fun k => x3 (ix2 r k)) (fun k j => x4 (ix2 k j)) (fun k j => x5 (ix2 k j)) (fun k j => x6 (ix2 k j)) (fun k => x7 (ix2 0 k)) c := by
  unfold out0_8
  rw [View.canon_unit_zero (S := S128x2048) hz]
  simp only [View.ld_unit_zero (S := S128x2048) hz, View.ld_unit_zero (S := S128x1024) hz, View.ld_unit_zero (S := S2048x2048) hz,
    View.ld_unit_zero (S := S128x256) hz, View.ld_unit_zero (S := S256x2048) hz, View.ld_unit_zero (S := S1x2048) hz]
  pointwise [k0_pay1, k0_pay5]
  simp only [pay2_at, pay3_at, pay4_at]
  have e2 : ∀ k j, View.ld x4 r0_2 (ix2 k j) = x4 (ix2 (low k) j) := fun k j => congrArg x4 (low_idx k j)
  have e3 : ∀ k j, View.ld x4 r0_3 (ix2 k j) = x4 (ix2 (high k) j) := fun k j => congrArg x4 (high_idx k j)
  simp only [e2, e3]
  rfl

end Block

/-! ## The reference, at one element -/

section Ref
open Cert.Reference4Ideal Cert.Reference4Ideal.Gen

set_option maxRecDepth 16384 in
set_option maxHeartbeats 1000000 in
theorem ref_at (x : FVec Ideal S32x4x2048 .f32) (gf gd : FVec Ideal S128x1024 .bf16) (p : FVec Ideal S1x32x4x256 .f32) (wo : FVec Ideal S1x2048x2048 .f32) (wp : FVec Ideal S1x256x2048 .f32) (g : FVec Ideal S1x2048 .f32) (wg : FVec Ideal S1x2048x2048 .f32) (r : Fin 128) (c : Fin 2048) :
    (show FVec Ideal S128x2048 .f32 from shapeCast _ (addf (addf x (Host.dotGeneral dot_S32x4x2048_S2048x2048_S32x4x2048_2_0_01_1_n_n none (shapeCast _ (extf .f32 (concatenate S128x2048 1 [⟨S128x1024, gf⟩, ⟨S128x1024, gd⟩] concatenates_S128x1024_S128x1024_S128x2048_d1) bitsLt_bf16_f32) shapeCasts_S128x2048_S32x4x2048) (shapeCast _ wo shapeCasts_S1x2048x2048_S2048x2048))) (mulf (Host.divf (broadcastInDim S32x4x2048 ![] bcast_S_S32x4x2048 (constant S_ .f32 0x3F800000#32)) (addf (broadcastInDim S32x4x2048 ![] bcast_S_S32x4x2048 (constant S_ .f32 0x3F800000#32)) (Host.exp (Host.negf (Host.dotGeneral dot_S32x4x2048_S2048x2048_S32x4x2048_2_0_01_1_n_n none (addf x (Host.dotGeneral dot_S32x4x2048_S2048x2048_S32x4x2048_2_0_01_1_n_n none (shapeCast _ (extf .f32 (concatenate S128x2048 1 [⟨S128x1024, gf⟩, ⟨S128x1024, gd⟩] concatenates_S128x1024_S128x1024_S128x2048_d1) bitsLt_bf16_f32) shapeCasts_S128x2048_S32x4x2048) (shapeCast _ wo shapeCasts_S1x2048x2048_S2048x2048))) (shapeCast _ wg shapeCasts_S1x2048x2048_S2048x2048)))))) (mulf (mulf (Host.dotGeneral dot_S32x4x256_S256x2048_S32x4x2048_2_0_01_1_n_n none (shapeCast _ p shapeCasts_S1x32x4x256_S32x4x256) (shapeCast _ wp shapeCasts_S1x256x2048_S256x2048)) (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf (Host.dotGeneral dot_S32x4x256_S256x2048_S32x4x2048_2_0_01_1_n_n none (shapeCast _ p shapeCasts_S1x32x4x256_S32x4x256) (shapeCast _ wp shapeCasts_S1x256x2048_S256x2048)) (Host.dotGeneral dot_S32x4x256_S256x2048_S32x4x2048_2_0_01_1_n_n none (shapeCast _ p shapeCasts_S1x32x4x256_S32x4x256) (shapeCast _ wp shapeCasts_S1x256x2048_S256x2048))) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 (shapeCast _ g shapeCasts_S1x2048_S2048)))))) shapeCasts_S32x4x2048_S128x2048) (ix2 r c) = outAt (fun k => x (ix3 ⟨r.val / 4, by omega⟩ ⟨r.val % 4, by omega⟩ k)) (fun k => gf (ix2 r k)) (fun k => gd (ix2 r k))
      (fun k => p (ix4 0 ⟨r.val / 4, by omega⟩ ⟨r.val % 4, by omega⟩ k)) (fun k j => wo (ix3 0 k j)) (fun k j => wg (ix3 0 k j)) (fun k j => wp (ix3 0 k j)) (fun k => g (ix2 0 k)) c := by
  pointwise [outAt, hid, mul, gate, normed, low, high]
  simp only [add_assoc]

end Ref

section Array
open Cert.Kernel4Ideal Cert.Kernel4Ideal.Gen

variable (m : (ℓ : Loc nD τ sig) → Buf (Elt Ideal) ℓ) (c : Dev nD)

/-- The one grid point: every block is its whole array. -/
abbrev pt : Fin cfg0.N := ⟨0, by decide⟩

theorem whole {a b : ℕ} (i : Shape.Idx ⟨2, ![a, b]⟩) (j : Shape.Idx ⟨2, ![a, b]⟩) (h0 : (j 0).val = 0 * a + 1 * (i 0).val) (h1 : (j 1).val = 0 * b + 1 * (i 1).val) : j = i :=
  funext fun e => Fin.ext (by
    match e with
    | ⟨0, _⟩ => show (j 0).val = (i 0).val; omega
    | ⟨1, _⟩ => show (j 1).val = (i 1).val; omega)

theorem blk0 : iblk m c 0 pt = V m c main_v8 := funext fun i => congrArg (V m c main_v8) (whole (a := 128) (b := 2048) i _ rfl rfl)
theorem blk1 : iblk m c 1 pt = V m c main_arg1 := funext fun i => congrArg (V m c main_arg1) (whole (a := 128) (b := 1024) i _ rfl rfl)
theorem blk2 : iblk m c 2 pt = V m c main_arg2 := funext fun i => congrArg (V m c main_arg2) (whole (a := 128) (b := 1024) i _ rfl rfl)
theorem blk3 : iblk m c 3 pt = V m c main_v10 := funext fun i => congrArg (V m c main_v10) (whole (a := 128) (b := 256) i _ rfl rfl)
theorem blk4 : iblk m c 4 pt = V m c main_v1 := funext fun i => congrArg (V m c main_v1) (whole (a := 2048) (b := 2048) i _ rfl rfl)
theorem blk5 : iblk m c 5 pt = V m c main_v3 := funext fun i => congrArg (V m c main_v3) (whole (a := 2048) (b := 2048) i _ rfl rfl)
theorem blk6 : iblk m c 6 pt = V m c main_v5 := funext fun i => congrArg (V m c main_v5) (whole (a := 256) (b := 2048) i _ rfl rfl)
theorem blk7 : iblk m c 7 pt = V m c main_v7 := funext fun i => congrArg (V m c main_v7) (whole (a := 1) (b := 2048) i _ rfl rfl)

theorem arr : (dats m 0 c).arrAt 8 cfg0.N = out0_8 (V m c main_v8) (V m c main_arg1) (V m c main_arg2) (V m c main_v10) (V m c main_v1) (V m c main_v3)
    (V m c main_v5) (V m c main_v7) := by
  funext i
  have h := congrFun (Value.blocks8 m c pt (flush0_8 pt)) i
  rw [Value.flushed8] at h
  have e : ((cfg0.win 8).blk pt).view.read (Elt Ideal) ((dats m 0 c).arrAt 8 cfg0.N) i = (dats m 0 c).arrAt 8 cfg0.N i :=
    congrArg ((dats m 0 c).arrAt 8 cfg0.N) (whole (a := 128) (b := 2048) i _ rfl rfl)
  rw [← e, h, blk0, blk1, blk2, blk3, blk4, blk5, blk6, blk7]
  rfl

/-! ## The host's casts and reshapes before the call -/

theorem V_v8 : V m c main_v8 = shapeCast S128x2048 (m ((c : Thread nD τ).loc main_arg0)) shapeCasts_S32x4x2048_S128x2048 := by
  unfold_abbrev_sides; after_results <;> rfl
theorem V_v10 : V m c main_v10 = shapeCast S128x256 (shapeCast S32x4x256 (m ((c : Thread nD τ).loc main_arg3)) shapeCasts_S1x32x4x256_S32x4x256) shapeCasts_S32x4x256_S128x256 := by
  unfold_abbrev_sides; after_results <;> rfl
theorem V_v1 : V m c main_v1 = truncf (F := Ideal) .bf16 (shapeCast S2048x2048 (m ((c : Thread nD τ).loc main_arg4)) shapeCasts_S1x2048x2048_S2048x2048) bitsLt_bf16_f32 := by
  unfold_abbrev_sides; after_results <;> rfl
theorem V_v3 : V m c main_v3 = truncf (F := Ideal) .bf16 (shapeCast S2048x2048 (m ((c : Thread nD τ).loc main_arg7)) shapeCasts_S1x2048x2048_S2048x2048) bitsLt_bf16_f32 := by
  unfold_abbrev_sides; after_results <;> rfl
theorem V_v5 : V m c main_v5 = truncf (F := Ideal) .bf16 (shapeCast S256x2048 (m ((c : Thread nD τ).loc main_arg5)) shapeCasts_S1x256x2048_S256x2048) bitsLt_bf16_f32 := by
  unfold_abbrev_sides; after_results <;> rfl
theorem V_v7 : V m c main_v7 = shapeCast S1x2048 (shapeCast S2048 (m ((c : Thread nD τ).loc main_arg6)) shapeCasts_S1x2048_S2048) shapeCasts_S2048_S1x2048 := by
  unfold_abbrev_sides; after_results <;> rfl

set_option maxRecDepth 16384

theorem cast_x (a : FVec Ideal S32x4x2048 .f32) (r : Fin 128) (k : Fin 2048) :
    shapeCast S128x2048 a shapeCasts_S32x4x2048_S128x2048 (ix2 r k) = a (ix3 ⟨r.val / 4, by omega⟩ ⟨r.val % 4, by omega⟩ k) := by
  pointwise
theorem cast_p (a : FVec Ideal S1x32x4x256 .f32) (r : Fin 128) (k : Fin 256) :
    shapeCast S128x256 (shapeCast S32x4x256 a shapeCasts_S1x32x4x256_S32x4x256) shapeCasts_S32x4x256_S128x256 (ix2 r k)
      = a (ix4 0 ⟨r.val / 4, by omega⟩ ⟨r.val % 4, by omega⟩ k) := by
  pointwise
/-- Element `(r, j)` of the result array after the run, from the call's arguments. -/
theorem ker_at (r : Fin 128) (j : Fin 2048) :
    (dats m 0 c).arrAt 8 cfg0.N (ix2 r j) = outAt
      (fun k => (m ((c : Thread nD τ).loc main_arg0) : FVec Ideal S32x4x2048 .f32) (ix3 ⟨r.val / 4, by omega⟩ ⟨r.val % 4, by omega⟩ k))
      (fun k => (m ((c : Thread nD τ).loc main_arg1) : FVec Ideal S128x1024 .bf16) (ix2 r k)) (fun k => (m ((c : Thread nD τ).loc main_arg2) : FVec Ideal S128x1024 .bf16) (ix2 r k))
      (fun k => (m ((c : Thread nD τ).loc main_arg3) : FVec Ideal S1x32x4x256 .f32) (ix4 0 ⟨r.val / 4, by omega⟩ ⟨r.val % 4, by omega⟩ k))
      (fun k l => (m ((c : Thread nD τ).loc main_arg4) : FVec Ideal S1x2048x2048 .f32) (ix3 0 k l)) (fun k l => (m ((c : Thread nD τ).loc main_arg7) : FVec Ideal S1x2048x2048 .f32) (ix3 0 k l))
      (fun k l => (m ((c : Thread nD τ).loc main_arg5) : FVec Ideal S1x256x2048 .f32) (ix3 0 k l)) (fun k => (m ((c : Thread nD τ).loc main_arg6) : FVec Ideal S1x2048 .f32) (ix2 0 k)) j := by
  rw [arr, V_main_arg1, V_main_arg2, V_v8, V_v10, V_v1, V_v3, V_v5, V_v7]
  refine (block_at _ _ _ _ _ _ _ _ r j).trans ?_
  simp only [Cert.OutLayer.cast_w, Cert.OutLayer.cast_e]
  congr 1 <;> funext k
  · exact cast_x _ r k
  · exact cast_p _ r k
  · exact Cert.OutLayer.cast_g _ k

end Array

/-! ## The claims -/

/-- The two printed programs run the same body at their one label. -/
theorem bodies_eq : Cert.Kernel4.defs₀ (F := Bits) = Cert.Kernel4Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel4.defs (F := Bits) = Cert.Kernel4Ideal.defs (F := Bits) :=
  congrArg (Pipeline.defs Cert.Kernel4Ideal.pcfgs) bodies_eq

theorem frame_kernel : Cert.quiescent_Kernel4 := fun m ρ _ => by
  rw [defs_eq]
  exact Cert.Kernel4Ideal.Gen.frame (F := Bits) m ρ

theorem frame_ideal : Cert.quiescent_Kernel4Ideal := fun m ρ _ => Cert.Kernel4Ideal.Gen.frame m ρ
theorem frame_refIdeal : Cert.quiescent_Reference4Ideal := fun m ρ _ =>
  (θ_run Cert.Reference4Ideal.defs _ _).mono (fun r hr => ⟨fun c => (hr c).2, sem_eq_zero_of_no_sems (by decide) r.2⟩)
    (Cert.Reference4Ideal.Value.run (F := Ideal) m ρ)

theorem algebraic : Cert.algebraic_Kernel4Ideal_Reference4Ideal := by
  intro m g m' g' _ h
  refine ⟨fun c => (Cert.Kernel4Ideal.Gen.dats m 0 c).arrAt 8 Cert.Kernel4Ideal.cfg0.N, Cert.Kernel4Ideal.Value.run_blocks m g, ?_⟩
  refine (θ_run Cert.Reference4Ideal.defs _ _).mono (fun r hr c => ⟨(hr c).1.trans ?_, (hr c).2⟩)
    (Cert.Reference4Ideal.Value.run (F := Ideal) m' g')
  obtain ⟨h0, h1, h2, h3, h4, h5, h6, h7⟩ := h c
  rw [h0, h1, h2, h3, h4, h5, h6, h7]
  funext i
  obtain ⟨r, j, rfl⟩ : ∃ (r : Fin 128) (j : Fin 2048), i = ix2 r j := ⟨i 0, i 1, eq_ix2 i⟩
  exact (ref_at _ _ _ _ _ _ _ _ r j).trans (ker_at m c r j).symm

end Cert.OutSample

end
-- ==== Proof.PromptSteps.lean ====
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Basic
public import Idealize.ShloMosaic.Lib.Pipeline.Value

/-!
The prompt's first projection runs its body three times over each block of rows: the first time it normalizes the rows and
makes the fox queries, then come the fox keys and values, and last the narrow outputs. Here each of the three is run once, on
buffers and at a grid position that are left general: a step is told which of the body's branches its position takes, is given
the buffers it touches and hands them back, the ones it fills holding a named function of what it read.
-/

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- The staging buffers the projection's body is called with: six blocks of inputs, then the eight blocks it fills. -/
structure Bufs where
  a0 : Memref sig .tc .vmem S1024x2048 .f32
  h0 : a0.IsWhole
  a1 : Memref sig .tc .vmem S1x2048 .f32
  h1 : a1.IsWhole
  a2 : Memref sig .tc .vmem S1024x2048 .bf16
  h2 : a2.IsWhole
  a3 : Memref sig .tc .vmem S128x2048 .bf16
  h3 : a3.IsWhole
  a4 : Memref sig .tc .vmem S4x128 .f32
  h4 : a4.IsWhole
  a5 : Memref sig .tc .vmem S8x1 .f32
  h5 : a5.IsWhole
  a6 : Memref sig .tc .vmem S1024x2048 .bf16
  h6 : a6.IsWhole
  a7 : Memref sig .tc .vmem S1024x1024 .bf16
  h7 : a7.IsWhole
  a8 : Memref sig .tc .vmem S4096x128 .f32
  h8 : a8.IsWhole
  a9 : Memref sig .tc .vmem S1024x512 .bf16
  h9 : a9.IsWhole
  a10 : Memref sig .tc .vmem S4096x128 .f32
  h10 : a10.IsWhole
  a11 : Memref sig .tc .vmem S1024x512 .bf16
  h11 : a11.IsWhole
  a12 : Memref sig .tc .vmem S1024x128 .f32
  h12 : a12.IsWhole
  a13 : Memref sig .tc .vmem S8x1024 .f32
  h13 : a13.IsWhole

/-- The body at the grid position `i` on the buffers `M`. -/
abbrev Bufs.body (M : Bufs) (i : grid0.Coords) : Prog (TpuEff nD τ sig (Elt F) Λ₀ .tc) PUnit :=
  cc0_proj_fq i M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13

/-! ## What each step computes -/

/-- Row `k` of the table of norm gains, as the body loads it. -/
def gainRow0 (g : Vec F S4x128 .f32) : Vec F S1x128 .f32 := View.ld g (Rect.unit (s := S4x128) ![0, 0] S1x128.size inb_S4x128_S1x128_0_0)
def gainRow1 (g : Vec F S4x128 .f32) : Vec F S1x128 .f32 := View.ld g (Rect.unit (s := S4x128) ![1, 0] S1x128.size inb_S4x128_S1x128_1_0)

/-- The eight query heads of the rows `xn` under the weight block `w`, normalized with the gain `g` and scaled. -/
def queries (xn : Vec F S1024x2048 .bf16) (w : Vec F S1024x2048 .bf16) (g : Vec F S1x128 .f32) : Vec F S1024x1024 .bf16 :=
  k0_pay2 (k0_pay7 xn w) (k0_pay8 g) (k0_pay9 xn w g) (k0_pay10 xn w g) (k0_pay13 (k0_pay8 g) (k0_pay11 xn w) (k0_pay12 xn w))
    (k0_pay14 (k0_pay7 xn w) (k0_pay8 g)) (k0_pay15 (k0_pay7 xn w) (k0_pay8 g)) (k0_pay16 (k0_pay7 xn w)) (k0_pay17 (k0_pay7 xn w))

/-- The rows of the four heads' blocks, row `4 r + h` of the result being row `r` of head `h`. -/
def interleave (p0 p1 p2 p3 : Vec F S1024x128 .f32) : Vec F S4096x128 .f32 :=
  View.canon [⟨⟨(⟨![3, 0], S1024x128.size, ![4, 1], inb_S4096x128_S1024x128_3_0_s_4_1⟩ : LoadRect S4096x128), spos_4_1⟩, p3⟩,
    ⟨⟨(⟨![2, 0], S1024x128.size, ![4, 1], inb_S4096x128_S1024x128_2_0_s_4_1⟩ : LoadRect S4096x128), spos_4_1⟩, p2⟩,
    ⟨⟨(⟨![1, 0], S1024x128.size, ![4, 1], inb_S4096x128_S1024x128_1_0_s_4_1⟩ : LoadRect S4096x128), spos_4_1⟩, p1⟩,
    ⟨⟨(⟨![0, 0], S1024x128.size, ![4, 1], inb_S4096x128_S1024x128_0_0_s_4_1⟩ : LoadRect S4096x128), spos_4_1⟩, p0⟩]

/-- A per-head function applied to what the keys' half of the step hands on. -/
def onKeys {α : Type} (f : FVec F S1024x512 .f32 → FVec F S1x128 .f32 → FVec F S1024x128 .f32 → FVec F S1024x128 .f32 → FVec F S1024x128 .f32
    → FVec F S1024x128 .f32 → α) (xn : Vec F S1024x2048 .bf16) (w : Vec F S1024x2048 .bf16) (g : Vec F S1x128 .f32) : α :=
  f (k0_pay19 xn w) (k0_pay20 g) (k0_pay21 xn w g) (k0_pay22 xn w g) (k0_pay23 xn w) (k0_pay24 xn w)

/-- The four key heads, normalized, one row for each row and head. -/
def keys (xn : Vec F S1024x2048 .bf16) (w : Vec F S1024x2048 .bf16) (g : Vec F S1x128 .f32) : Vec F S4096x128 .f32 :=
  interleave (onKeys k0_pay26 xn w g) (onKeys k0_pay27 xn w g) (onKeys k0_pay28 xn w g) (onKeys k0_pay29 xn w g)

/-- The four value heads, one row for each row and head. -/
def values (xn : Vec F S1024x2048 .bf16) (w : Vec F S1024x2048 .bf16) : Vec F S4096x128 .f32 :=
  interleave (k0_pay32 (k0_pay18 xn w)) (k0_pay33 (k0_pay18 xn w)) (k0_pay34 (k0_pay18 xn w)) (k0_pay3 (k0_pay31 (k0_pay18 xn w)))

/-- The sixteen bit copies of the keys and of the values, the heads side by side. -/
def keys16 (xn : Vec F S1024x2048 .bf16) (w : Vec F S1024x2048 .bf16) (g : Vec F S1x128 .f32) : Vec F S1024x512 .bf16 := onKeys k0_pay30 xn w g
def values16 (xn : Vec F S1024x2048 .bf16) (w : Vec F S1024x2048 .bf16) : Vec F S1024x512 .bf16 := k0_pay4 (k0_pay18 xn w)

/-! ## Whole buffers, of any program's -/

theorem zeros2 : (![0, 0] : Fin 2 → Nat) = fun _ => 0 := by decide

/-- A load of a whole buffer reads all of it. -/
theorem load_all {sig : RefSig} {κ : Kind} {sp : Space} {a b : Nat} {e : EltTy} (v : View sig κ sp ⟨2, ![a, b]⟩ e) (f : v.ty.Contents (Elt F))
    (inb : ∀ x, (![0, 0] : Fin 2 → Nat) x + (⟨2, ![a, b]⟩ : Shape).size x ≤ (⟨2, ![a, b]⟩ : Shape).size x) :
    View.readAt (Elt F) v (Rect.unit (s := ⟨2, ![a, b]⟩) ![0, 0] (⟨2, ![a, b]⟩ : Shape).size inb).toLoadRect f = View.read (Elt F) v f :=
  View.ld_unit_zero (S := ⟨2, ![a, b]⟩) zeros2 inb (View.read (Elt F) v f)

/-- A store over a whole buffer leaves what it stored, whatever was there. -/
theorem store_all {sig : RefSig} {κ : Kind} {sp : Space} {S : Shape} {e : EltTy} (v : View sig κ sp S e) (f : v.ty.Contents (Elt F))
    {off : Fin S.rank → Nat} (h : off = fun _ => 0) (inb : ∀ x, off x + S.size x ≤ S.size x) (p : S.Idx → Elt F e) :
    View.read (Elt F) v (v.writes (Elt F) f [(⟨Rect.unit off S.size inb, p⟩ : View.Piece (Elt F) S e)]) = p :=
  have hc : ∀ y, ∃ q ∈ ([(⟨Rect.unit off S.size inb, p⟩ : View.Piece (Elt F) S e)]), y ∈ q.1.set := fun y =>
    ⟨_, List.mem_singleton.mpr rfl, (Rect.mem_set_unit (inb := inb)).mpr fun x =>
      ⟨by rw [h]; exact Nat.zero_le _, (y x).isLt.trans_le (Nat.le_add_left _ _)⟩⟩
  (View.read_writes_eq_canon v f _ hc).trans (View.canon_unit_zero h inb p)

/-- The four interleaved stores leave the interleaved rows, whatever was there. -/
theorem store_rows {sig : RefSig} {κ : Kind} {sp : Space} (v : View sig κ sp S4096x128 .f32) (f : v.ty.Contents (Elt F)) (p0 p1 p2 p3 : Vec F S1024x128 .f32) :
    View.read (Elt F) v (v.writes (Elt F) f [⟨⟨(⟨![3, 0], S1024x128.size, ![4, 1], inb_S4096x128_S1024x128_3_0_s_4_1⟩ : LoadRect S4096x128), spos_4_1⟩, p3⟩,
      ⟨⟨(⟨![2, 0], S1024x128.size, ![4, 1], inb_S4096x128_S1024x128_2_0_s_4_1⟩ : LoadRect S4096x128), spos_4_1⟩, p2⟩,
      ⟨⟨(⟨![1, 0], S1024x128.size, ![4, 1], inb_S4096x128_S1024x128_1_0_s_4_1⟩ : LoadRect S4096x128), spos_4_1⟩, p1⟩,
      ⟨⟨(⟨![0, 0], S1024x128.size, ![4, 1], inb_S4096x128_S1024x128_0_0_s_4_1⟩ : LoadRect S4096x128), spos_4_1⟩, p0⟩]) = interleave p0 p1 p2 p3 := by
  refine View.read_writes_eq_canon _ _ _ fun y => ?_
  have h0 : (y 0).val < 4096 := (y 0).isLt
  have h1 : (y 1).val < 128 := (y 1).isLt
  have hm : ∀ (k : Nat) (inb), (y 0).val % 4 = k →
      y ∈ (⟨(⟨![k, 0], S1024x128.size, ![4, 1], inb⟩ : LoadRect S4096x128), spos_4_1⟩ : Rect S4096x128).set := fun k inb hk =>
    (LoadRect.mem_set _).mpr (Fin.forall_fin_two.mpr
      ⟨⟨(y 0).val / 4, Nat.div_lt_of_lt_mul h0, show (y 0).val = k + 4 * ((y 0).val / 4) by omega⟩,
        ⟨(y 1).val, h1, show (y 1).val = 0 + 1 * (y 1).val by omega⟩⟩)
  rcases (by omega : (y 0).val % 4 = 3 ∨ (y 0).val % 4 = 2 ∨ (y 0).val % 4 = 1 ∨ (y 0).val % 4 = 0) with h | h | h | h
  · exact ⟨_, .head _, hm 3 _ h⟩
  · exact ⟨_, .tail _ (.head _), hm 2 _ h⟩
  · exact ⟨_, .tail _ (.tail _ (.head _)), hm 1 _ h⟩
  · exact ⟨_, .tail _ (.tail _ (.tail _ (.head _))), hm 0 _ h⟩

/-- A buffer whose contents read as `x` is one owned at `x`. -/
theorem give (c : Dev nD) {s : Shape} {e : EltTy} (a : Memref sig .tc .vmem s e) (f : Buf (Elt F) (a.view.loc (c : Thread nD τ)))
    (x : s.Idx → Elt F e) (h : View.read (Elt F) a.view f = x) :
    iprop(a.view.loc (c : Thread nD τ) ↦[a.view.set]{fullShare} f) ⊢ (iprop(∃ f, ⌜View.read (Elt F) a.view f = x⌝ ∗ (a.view.loc (c : Thread nD τ) ↦[a.view.set]{fullShare} f)) : sProp 𝕄) := by
  iintro H; iexists f; isplitr; · ipureintro; exact h
  iexact H

/-! ## The steps -/

set_option maxHeartbeats 2000000 in
/-- The fox keys and values. -/
theorem step_keys (c : Dev nD) (M : Bufs) (i : grid0.Coords) (c1 : ¬ k0_cond1 i = 1#1) (c2 : ¬ k0_cond2 i = 1#1) (c3 : k0_cond3 i = 1#1) (c4 : ¬ k0_cond4 i = 1#1) (xn : Vec F S1024x2048 .bf16) (w : Vec F S1024x2048 .bf16) (g : Vec F S4x128 .f32) (K : PUnit → sProp 𝕄) :
    iprop(owns (c : Thread nD τ) M.a6 fullShare xn ∗ owns (c : Thread nD τ) M.a2 fullShare w ∗ owns (c : Thread nD τ) M.a4 fullShare g ∗ (∃ d, owns (c : Thread nD τ) M.a8 fullShare d) ∗ (∃ d, owns (c : Thread nD τ) M.a9 fullShare d) ∗ (∃ d, owns (c : Thread nD τ) M.a10 fullShare d) ∗ (∃ d, owns (c : Thread nD τ) M.a11 fullShare d)
        ∗ (iprop(owns (c : Thread nD τ) M.a6 fullShare xn ∗ owns (c : Thread nD τ) M.a2 fullShare w ∗ owns (c : Thread nD τ) M.a4 fullShare g ∗ owns (c : Thread nD τ) M.a8 fullShare (keys xn w (gainRow1 g)) ∗ owns (c : Thread nD τ) M.a9 fullShare (keys16 xn w (gainRow1 g)) ∗ owns (c : Thread nD τ) M.a10 fullShare (values xn w) ∗ owns (c : Thread nD τ) M.a11 fullShare (values16 xn w)) -∗ K ⟨⟩))
      ⊢ wp frame (wpE (defs₀ (F := F)) Variants.none c none) Set.univ (M.body i) K := by
  obtain ⟨a0, h0, a1, h1, a2, h2, a3, h3, a4, h4, a5, h5, a6, h6, a7, h7, a8, h8, a9, h9, a10, h10, a11, h11, a12, h12, a13, h13⟩ := M
  dsimp only [Bufs.body]
  simp only [cc0_proj_fq_eq_skeleton]; unfold cc0_proj_fq_skel
  simp only [k0_part3_eq_skeleton, k0_part4_eq_skeleton]
  unfold owns
  iintro ⟨⟨%f6, %e6, H6⟩, ⟨%f2, %e2, H2⟩, ⟨%f4, %e4, H4⟩, ⟨%d8, %f8, -, H8⟩, ⟨%d9, %f9, -, H9⟩, ⟨%d10, %f10, -, H10⟩, ⟨%d11, %f11, -, H11⟩, Hk⟩
  subst e6 e2 e4
  have l6 : View.readAt (Elt F) a6.view (Rect.unit (s := S1024x2048) ![0, 0] S1024x2048.size inb_S1024x2048_S1024x2048_0_0).toLoadRect f6 = View.read (Elt F) a6.view f6 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := assumption)
  sl_step
  iapply Hk
  isplitl [H6]; · iapply (give _ _ _ _ rfl); iexact H6
  isplitl [H2]; · iapply (give _ _ _ _ rfl); iexact H2
  isplitl [H4]; · iapply (give _ _ _ _ rfl); iexact H4
  isplitl [H8]
  · iapply (give _ _ _ _ ?_)
    swap; · iexact H8
    exact (store_rows _ _ _ _ _ _).trans rfl
  isplitl [H9]
  · iapply (give _ _ _ _ ?_)
    swap; · iexact H9
    exact (store_all _ _ zeros2 _ _).trans rfl
  isplitl [H10]
  · iapply (give _ _ _ _ ?_)
    swap; · iexact H10
    exact (store_rows _ _ _ _ _ _).trans rfl
  iapply (give _ _ _ _ ?_)
  swap; · iexact H11
  exact (store_all _ _ zeros2 _ _).trans rfl

set_option maxHeartbeats 2000000 in
/-- The first step: the rows normalized, and the fox queries of the normalized rows. -/
theorem step_norm (c : Dev nD) (M : Bufs) (i : grid0.Coords) (c1 : k0_cond1 i = 1#1) (c2 : k0_cond2 i = 1#1) (c3 : ¬ k0_cond3 i = 1#1) (c4 : ¬ k0_cond4 i = 1#1) (x : Vec F S1024x2048 .f32) (nin : Vec F S1x2048 .f32) (w : Vec F S1024x2048 .bf16) (g : Vec F S4x128 .f32) (K : PUnit → sProp 𝕄) :
    iprop(owns (c : Thread nD τ) M.a0 fullShare x ∗ owns (c : Thread nD τ) M.a1 fullShare nin ∗ owns (c : Thread nD τ) M.a2 fullShare w ∗ owns (c : Thread nD τ) M.a4 fullShare g ∗ (∃ d, owns (c : Thread nD τ) M.a6 fullShare d) ∗ (∃ d, owns (c : Thread nD τ) M.a7 fullShare d)
        ∗ (iprop(owns (c : Thread nD τ) M.a0 fullShare x ∗ owns (c : Thread nD τ) M.a1 fullShare nin ∗ owns (c : Thread nD τ) M.a2 fullShare w ∗ owns (c : Thread nD τ) M.a4 fullShare g ∗ owns (c : Thread nD τ) M.a6 fullShare (k0_pay1 x nin) ∗ owns (c : Thread nD τ) M.a7 fullShare (queries (k0_pay1 x nin) w (gainRow0 g))) -∗ K ⟨⟩))
      ⊢ wp frame (wpE (defs₀ (F := F)) Variants.none c none) Set.univ (M.body i) K := by
  obtain ⟨a0, h0, a1, h1, a2, h2, a3, h3, a4, h4, a5, h5, a6, h6, a7, h7, a8, h8, a9, h9, a10, h10, a11, h11, a12, h12, a13, h13⟩ := M
  dsimp only [Bufs.body]
  simp only [cc0_proj_fq_eq_skeleton]; unfold cc0_proj_fq_skel
  simp only [k0_part1_eq_skeleton, k0_part2_eq_skeleton]
  unfold owns
  iintro ⟨⟨%f0, %e0, H0⟩, ⟨%f1, %e1, H1⟩, ⟨%f2, %e2, H2⟩, ⟨%f4, %e4, H4⟩, ⟨%d6, %f6, -, H6⟩, ⟨%d7, %f7, -, H7⟩, Hk⟩
  subst e0 e1 e2 e4
  have l0 : View.readAt (Elt F) a0.view (Rect.unit (s := S1024x2048) ![0, 0] S1024x2048.size inb_S1024x2048_S1024x2048_0_0).toLoadRect f0 = View.read (Elt F) a0.view f0 := load_all _ _ _
  have l1 : View.readAt (Elt F) a1.view (Rect.unit (s := S1x2048) ![0, 0] S1x2048.size inb_S1x2048_S1x2048_0_0).toLoadRect f1 = View.read (Elt F) a1.view f1 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := assumption)
  sl_step
  iapply Hk
  isplitl [H0]; · iapply (give _ _ _ _ rfl); iexact H0
  isplitl [H1]; · iapply (give _ _ _ _ rfl); iexact H1
  isplitl [H2]; · iapply (give _ _ _ _ rfl); iexact H2
  isplitl [H4]; · iapply (give _ _ _ _ rfl); iexact H4
  isplitl [H6]
  · iapply (give _ _ _ _ ?_)
    swap; · iexact H6
    exact (store_all _ _ zeros2 _ _).trans rfl
  iapply (give _ _ _ _ ?_)
  swap; · iexact H7
  refine (store_all _ _ zeros2 _ _).trans ?_
  have hv : step_norm.sl.v12 c a0 a1 a6 f0 f1 = k0_pay1 (View.read (Elt F) a0.view f0) (View.read (Elt F) a1.view f1) := by
    unfold step_norm.sl.v12 step_norm.sl.H6_1
    exact View.readCov_unit_zero _ zeros2 _ _
  show queries (step_norm.sl.v12 c a0 a1 a6 f0 f1) _ _ = _
  rw [hv]; rfl

set_option maxHeartbeats 2000000 in
/-- The narrow outputs: index keys, index weights and forget logits, and the logarithm of the forget gates. -/
theorem step_narrow (c : Dev nD) (M : Bufs) (i : grid0.Coords) (c1 : ¬ k0_cond1 i = 1#1) (c2 : ¬ k0_cond2 i = 1#1) (c3 : ¬ k0_cond3 i = 1#1) (c4 : k0_cond4 i = 1#1) (xn : Vec F S1024x2048 .bf16) (ws : Vec F S128x2048 .bf16) (b : Vec F S8x1 .f32) (K : PUnit → sProp 𝕄) :
    iprop(owns (c : Thread nD τ) M.a6 fullShare xn ∗ owns (c : Thread nD τ) M.a3 fullShare ws ∗ owns (c : Thread nD τ) M.a5 fullShare b ∗ (∃ d, owns (c : Thread nD τ) M.a12 fullShare d) ∗ (∃ d, owns (c : Thread nD τ) M.a13 fullShare d)
        ∗ (iprop(owns (c : Thread nD τ) M.a6 fullShare xn ∗ owns (c : Thread nD τ) M.a3 fullShare ws ∗ owns (c : Thread nD τ) M.a5 fullShare b ∗ owns (c : Thread nD τ) M.a12 fullShare (k0_pay5 xn ws) ∗ owns (c : Thread nD τ) M.a13 fullShare (k0_pay6 xn ws b)) -∗ K ⟨⟩))
      ⊢ wp frame (wpE (defs₀ (F := F)) Variants.none c none) Set.univ (M.body i) K := by
  obtain ⟨a0, h0, a1, h1, a2, h2, a3, h3, a4, h4, a5, h5, a6, h6, a7, h7, a8, h8, a9, h9, a10, h10, a11, h11, a12, h12, a13, h13⟩ := M
  dsimp only [Bufs.body]
  simp only [cc0_proj_fq_eq_skeleton]; unfold cc0_proj_fq_skel
  unfold owns
  iintro ⟨⟨%f6, %e6, H6⟩, ⟨%f3, %e3, H3⟩, ⟨%f5, %e5, H5⟩, ⟨%d12, %f12, -, H12⟩, ⟨%d13, %f13, -, H13⟩, Hk⟩
  subst e6 e3 e5
  have l6 : View.readAt (Elt F) a6.view (Rect.unit (s := S1024x2048) ![0, 0] S1024x2048.size inb_S1024x2048_S1024x2048_0_0).toLoadRect f6 = View.read (Elt F) a6.view f6 := load_all _ _ _
  have l3 : View.readAt (Elt F) a3.view (Rect.unit (s := S128x2048) ![0, 0] S128x2048.size inb_S128x2048_S128x2048_0_0).toLoadRect f3 = View.read (Elt F) a3.view f3 := load_all _ _ _
  have l5 : View.readAt (Elt F) a5.view (Rect.unit (s := S8x1) ![0, 0] S8x1.size inb_S8x1_S8x1_0_0).toLoadRect f5 = View.read (Elt F) a5.view f5 := load_all _ _ _
  sl_exec (disch := assumption)
  sl_step
  iapply Hk
  isplitl [H6]; · iapply (give _ _ _ _ rfl); iexact H6
  isplitl [H3]; · iapply (give _ _ _ _ rfl); iexact H3
  isplitl [H5]; · iapply (give _ _ _ _ rfl); iexact H5
  isplitl [H12]
  · iapply (give _ _ _ _ ?_)
    swap; · iexact H12
    exact (store_all _ _ zeros2 _ _).trans rfl
  iapply (give _ _ _ _ ?_)
  swap; · iexact H13
  exact (store_all _ _ zeros2 _ _).trans rfl

end Cert.Kernel5Ideal.Proj
-- ==== Proof.PromptRun.lean ====
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import proofs.«01_k».proof.Proof.PromptSteps

/-!
The prompt's first projection as a whole: what every buffer of the pipeline holds after each step, the steps put together
over the grid, and the run of the whole program. The grid has three steps for each block of rows. An output block is filled
at one of the three and carried to the last, where all of them are written back; so its contents are said once, from the
step that fills it.
-/

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each output block ends with -/

/-- Step `k` of the three that the block of rows of step `t` goes through. -/
def at_ (k : Fin 3) (t : Fin cfg0.N) : Fin cfg0.N := ⟨t.val / 3 * 3 + k.val, by have h : t.val < 48 := t.isLt; show _ < 48; omega⟩

theorem at_self (k : Fin 3) (t : Fin cfg0.N) (h : t.val % 3 = k.val) : at_ k t = t := Fin.ext (by show t.val / 3 * 3 + k.val = t.val; omega)

theorem at_same (k : Fin 3) (t t' : Fin cfg0.N) (h : t.val / 3 = t'.val / 3) : at_ k t = at_ k t' := Fin.ext (by show t.val / 3 * 3 + k.val = t'.val / 3 * 3 + k.val; rw [h])

/-- Output block 6 as step `s` fills it: the normalized rows. -/
def f6 (c : Dev nD) (s : Fin cfg0.N) : Vec F S1024x2048 .bf16 := k0_pay1 (iblk m c 0 s) (iblk m c 1 s)
/-- What it holds when step `t`, of the same rows, is through. -/
def o6 (c : Dev nD) (t : Fin cfg0.N) : Vec F S1024x2048 .bf16 := f6 m c (at_ 0 t)
theorem o6_same (c : Dev nD) (t t' : Fin cfg0.N) (h : t.val / 3 = t'.val / 3) : o6 m c t = o6 m c t' := congrArg (f6 m c) (at_same 0 t t' h)
/-- Output block 7 as step `s` fills it: fox queries. -/
def f7 (c : Dev nD) (xn : Vec F S1024x2048 .bf16) (s : Fin cfg0.N) : Vec F S1024x1024 .bf16 := queries xn (iblk m c 2 s) (gainRow0 (iblk m c 4 s))
/-- What it holds when step `t`, of the same rows, is through. -/
def o7 (c : Dev nD) (t : Fin cfg0.N) : Vec F S1024x1024 .bf16 := f7 m c (o6 m c t) (at_ 0 t)
/-- Output block 8 as step `s` fills it: fox keys. -/
def f8 (c : Dev nD) (xn : Vec F S1024x2048 .bf16) (s : Fin cfg0.N) : Vec F S4096x128 .f32 := keys xn (iblk m c 2 s) (gainRow1 (iblk m c 4 s))
/-- What it holds when step `t`, of the same rows, is through. -/
def o8 (c : Dev nD) (t : Fin cfg0.N) : Vec F S4096x128 .f32 := f8 m c (o6 m c t) (at_ 1 t)
/-- Output block 9 as step `s` fills it: fox keys, sixteen bits. -/
def f9 (c : Dev nD) (xn : Vec F S1024x2048 .bf16) (s : Fin cfg0.N) : Vec F S1024x512 .bf16 := keys16 xn (iblk m c 2 s) (gainRow1 (iblk m c 4 s))
/-- What it holds when step `t`, of the same rows, is through. -/
def o9 (c : Dev nD) (t : Fin cfg0.N) : Vec F S1024x512 .bf16 := f9 m c (o6 m c t) (at_ 1 t)
/-- Output block 10 as step `s` fills it: fox values. -/
def f10 (c : Dev nD) (xn : Vec F S1024x2048 .bf16) (s : Fin cfg0.N) : Vec F S4096x128 .f32 := values xn (iblk m c 2 s)
/-- What it holds when step `t`, of the same rows, is through. -/
def o10 (c : Dev nD) (t : Fin cfg0.N) : Vec F S4096x128 .f32 := f10 m c (o6 m c t) (at_ 1 t)
/-- Output block 11 as step `s` fills it: fox values, sixteen bits. -/
def f11 (c : Dev nD) (xn : Vec F S1024x2048 .bf16) (s : Fin cfg0.N) : Vec F S1024x512 .bf16 := values16 xn (iblk m c 2 s)
/-- What it holds when step `t`, of the same rows, is through. -/
def o11 (c : Dev nD) (t : Fin cfg0.N) : Vec F S1024x512 .bf16 := f11 m c (o6 m c t) (at_ 1 t)
/-- Output block 12 as step `s` fills it: index keys, index weights and forget logits. -/
def f12 (c : Dev nD) (xn : Vec F S1024x2048 .bf16) (s : Fin cfg0.N) : Vec F S1024x128 .f32 := k0_pay5 xn (iblk m c 3 s)
/-- What it holds when step `t`, of the same rows, is through. -/
def o12 (c : Dev nD) (t : Fin cfg0.N) : Vec F S1024x128 .f32 := f12 m c (o6 m c t) (at_ 2 t)
/-- Output block 13 as step `s` fills it: logarithm of the forget gates. -/
def f13 (c : Dev nD) (xn : Vec F S1024x2048 .bf16) (s : Fin cfg0.N) : Vec F S8x1024 .f32 := k0_pay6 xn (iblk m c 3 s) (iblk m c 5 s)
/-- What it holds when step `t`, of the same rows, is through. -/
def o13 (c : Dev nD) (t : Fin cfg0.N) : Vec F S8x1024 .f32 := f13 m c (o6 m c t) (at_ 2 t)

/-- What the buffers hold after a step: an input's its block, an output's what it is filled with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
    | ⟨7, _⟩ => o7 m c t
    | ⟨8, _⟩ => o8 m c t
    | ⟨9, _⟩ => o9 m c t
    | ⟨10, _⟩ => o10 m c t
    | ⟨11, _⟩ => o11 m c t
    | ⟨12, _⟩ => o12 m c t
    | ⟨13, _⟩ => o13 m c t
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem o7_same (c : Dev nD) (t t' : Fin cfg0.N) (h : t.val / 3 = t'.val / 3) : o7 m c t = o7 m c t' := by
  unfold o7; rw [o6_same m c t t' h, at_same 0 t t' h]
theorem o8_same (c : Dev nD) (t t' : Fin cfg0.N) (h : t.val / 3 = t'.val / 3) : o8 m c t = o8 m c t' := by
  unfold o8; rw [o6_same m c t t' h, at_same 1 t t' h]
theorem o9_same (c : Dev nD) (t t' : Fin cfg0.N) (h : t.val / 3 = t'.val / 3) : o9 m c t = o9 m c t' := by
  unfold o9; rw [o6_same m c t t' h, at_same 1 t t' h]
theorem o10_same (c : Dev nD) (t t' : Fin cfg0.N) (h : t.val / 3 = t'.val / 3) : o10 m c t = o10 m c t' := by
  unfold o10; rw [o6_same m c t t' h, at_same 1 t t' h]
theorem o11_same (c : Dev nD) (t t' : Fin cfg0.N) (h : t.val / 3 = t'.val / 3) : o11 m c t = o11 m c t' := by
  unfold o11; rw [o6_same m c t t' h, at_same 1 t t' h]
theorem o12_same (c : Dev nD) (t t' : Fin cfg0.N) (h : t.val / 3 = t'.val / 3) : o12 m c t = o12 m c t' := by
  unfold o12; rw [o6_same m c t t' h, at_same 2 t t' h]
theorem o13_same (c : Dev nD) (t t' : Fin cfg0.N) (h : t.val / 3 = t'.val / 3) : o13 m c t = o13 m c t' := by
  unfold o13; rw [o6_same m c t t' h, at_same 2 t t' h]

set_option maxHeartbeats 4000000 in
/-- An output's final contents are the same at the three steps of a block of rows. -/
theorem after_out (c : Dev nD) (w : Fin 14) (hw : 6 ≤ w.val) (t t' : Fin cfg0.N) (e : t.val / 3 = t'.val / 3) : (dats m 0 c).after w t = (dats m 0 c).after w t' := by
  match w, hw with
  | ⟨0, _⟩, h => exact absurd h (Nat.not_le.2 (show 0 < 6 by decide))
  | ⟨1, _⟩, h => exact absurd h (Nat.not_le.2 (show 1 < 6 by decide))
  | ⟨2, _⟩, h => exact absurd h (Nat.not_le.2 (show 2 < 6 by decide))
  | ⟨3, _⟩, h => exact absurd h (Nat.not_le.2 (show 3 < 6 by decide))
  | ⟨4, _⟩, h => exact absurd h (Nat.not_le.2 (show 4 < 6 by decide))
  | ⟨5, _⟩, h => exact absurd h (Nat.not_le.2 (show 5 < 6 by decide))
  | ⟨6, _⟩, _ => dsimp only [dats]; exact o6_same m c t t' e
  | ⟨7, _⟩, _ => dsimp only [dats]; exact o7_same m c t t' e
  | ⟨8, _⟩, _ => dsimp only [dats]; exact o8_same m c t t' e
  | ⟨9, _⟩, _ => dsimp only [dats]; exact o9_same m c t t' e
  | ⟨10, _⟩, _ => dsimp only [dats]; exact o10_same m c t t' e
  | ⟨11, _⟩, _ => dsimp only [dats]; exact o11_same m c t t' e
  | ⟨12, _⟩, _ => dsimp only [dats]; exact o12_same m c t t' e
  | ⟨13, _⟩, _ => dsimp only [dats]; exact o13_same m c t t' e
  | ⟨_ + 14, h⟩, _ => exact absurd h (Nat.not_lt.2 (Nat.le_add_left _ _))

/-- The step that fills each output. -/
def fills (w : Fin 14) : ℕ := if w.val < 8 then 0 else if w.val < 12 then 1 else 2

theorem idle_in : ∀ w : Fin 14, w.val < 6 → ∀ t : Fin cfg0.N, cfg0.idle w (cfg0.grid.coords t) = false := by decide +kernel
theorem idle_here : ∀ w : Fin 14, 6 ≤ w.val → ∀ t : Fin cfg0.N, t.val % 3 = fills w → cfg0.idle w (cfg0.grid.coords t) = false := by decide +kernel
theorem idle_away : ∀ w : Fin 14, 6 ≤ w.val → ∀ t : Fin cfg0.N, t.val % 3 ≠ fills w → cfg0.idle w (cfg0.grid.coords t) = true := by decide +kernel
theorem flush_early : ∀ w : Fin 14, 6 ≤ w.val → ∀ t : Fin cfg0.N, t.val % 3 ≠ 2 → (cfg0.win w).flush t = false := by decide +kernel
theorem flush_end : ∀ w : Fin 14, 6 ≤ w.val → ∀ t : Fin cfg0.N, t.val % 3 = 2 → (cfg0.win w).flush t = true := by decide +kernel
theorem fresh_later : ∀ w : Fin 14, 6 ≤ w.val → ∀ t : Fin cfg0.N, fills w < t.val % 3 → cfg0.fresh w t.val = false := by decide +kernel
theorem fresh_first : ∀ w : Fin 14, 6 ≤ w.val → ∀ t : Fin cfg0.N, t.val % 3 = 0 → cfg0.fresh w t.val = true := by decide +kernel
theorem out_all : ∀ w : Fin 14, 6 ≤ w.val → (cfg0.win w).isOut = true := by decide +kernel

/-- Which branches of the body a step takes. -/
theorem cond_at : ∀ t : Fin cfg0.N, (t.val % 3 = 0 → k0_cond1 (grid0.coords t) = 1#1 ∧ k0_cond2 (grid0.coords t) = 1#1 ∧ k0_cond3 (grid0.coords t) ≠ 1#1 ∧ k0_cond4 (grid0.coords t) ≠ 1#1)
    ∧ (t.val % 3 = 1 → k0_cond1 (grid0.coords t) ≠ 1#1 ∧ k0_cond2 (grid0.coords t) ≠ 1#1 ∧ k0_cond3 (grid0.coords t) = 1#1 ∧ k0_cond4 (grid0.coords t) ≠ 1#1)
    ∧ (t.val % 3 = 2 → k0_cond1 (grid0.coords t) ≠ 1#1 ∧ k0_cond2 (grid0.coords t) ≠ 1#1 ∧ k0_cond3 (grid0.coords t) ≠ 1#1 ∧ k0_cond4 (grid0.coords t) = 1#1) := by decide +kernel

/-- What the body is handed of window `w` at step `t`. -/
def found (c : Dev nD) (w : Fin cfg0.W) (t : Fin cfg0.N) : sProp 𝕄 :=
  iprop(∃ d, owns (c : Thread nD τ) ((cfg0.win w).stage (cfg0.slots t w)) fullShare ((dats m 0 c).before w t d))

/-- An input is found at its block. -/
theorem found_0 (c : Dev nD) (t : Fin cfg0.N) : found m c 0 t ⊢ owns (c : Thread nD τ) (st0_0 t) fullShare (iblk m c 0 t) := by
  unfold found
  iintro ⟨%d, H⟩
  rw [before0_0_of m (dats m 0 c) (A_eq m c 0) (fun t => by dsimp only [dats]) t d]
  iexact H
theorem found_1 (c : Dev nD) (t : Fin cfg0.N) : found m c 1 t ⊢ owns (c : Thread nD τ) (st0_1 t) fullShare (iblk m c 1 t) := by
  unfold found
  iintro ⟨%d, H⟩
  rw [before0_1_of m (dats m 0 c) (A_eq m c 1) (fun t => by dsimp only [dats]) t d]
  iexact H
theorem found_2 (c : Dev nD) (t : Fin cfg0.N) : found m c 2 t ⊢ owns (c : Thread nD τ) (st0_2 t) fullShare (iblk m c 2 t) := by
  unfold found
  iintro ⟨%d, H⟩
  rw [before0_2_of m (dats m 0 c) (A_eq m c 2) (fun t => by dsimp only [dats]) t d]
  iexact H
theorem found_3 (c : Dev nD) (t : Fin cfg0.N) : found m c 3 t ⊢ owns (c : Thread nD τ) (st0_3 t) fullShare (iblk m c 3 t) := by
  unfold found
  iintro ⟨%d, H⟩
  rw [before0_3_of m (dats m 0 c) (A_eq m c 3) (fun t => by dsimp only [dats]) t d]
  iexact H
theorem found_4 (c : Dev nD) (t : Fin cfg0.N) : found m c 4 t ⊢ owns (c : Thread nD τ) (st0_4 t) fullShare (iblk m c 4 t) := by
  unfold found
  iintro ⟨%d, H⟩
  rw [before0_4_of m (dats m 0 c) (A_eq m c 4) (fun t => by dsimp only [dats]) t d]
  iexact H
theorem found_5 (c : Dev nD) (t : Fin cfg0.N) : found m c 5 t ⊢ owns (c : Thread nD τ) (st0_5 t) fullShare (iblk m c 5 t) := by
  unfold found
  iintro ⟨%d, H⟩
  rw [before0_5_of m (dats m 0 c) (A_eq m c 5) (fun t => by dsimp only [dats]) t d]
  iexact H

/-- An output is carried from step to step of a block of rows. -/
theorem before_out (c : Dev nD) (w : Fin 14) (t : Fin cfg0.N) (hw : 6 ≤ w.val) (hc : ∀ (i : cfg0.grid.Coords) a, (cfg0.win w).clip i a = none)
    (ht : fills w < t.val % 3) (d) : (dats m 0 c).before w t d = (dats m 0 c).after w t := by
  have carry : ∀ (t : Fin cfg0.N) (_ : t.val ≠ 0), cfg0.idle w (cfg0.grid.coords t) = true → cfg0.fresh w t.val = false →
      (dats m 0 c).after w t = (dats m 0 c).after w ⟨t.val - 1, by omega⟩ := fun t _ _ hf => by
    have h3 : t.val % 3 ≠ 0 := fun h => absurd (hf.symm.trans (fresh_first w hw t h)) Bool.false_ne_true
    exact after_out m c w hw _ _ (by show t.val / 3 = (t.val - 1) / 3; omega)
  rw [(dats m 0 c).before_out_traj w (out_all w hw) hc carry t.val t rfl d, fresh_later w hw t ht, if_neg Bool.false_ne_true]
  exact after_out m c w hw _ _ (by have := Nat.zero_le (fills w); show (t.val - 1) / 3 = t.val / 3; omega)

/-- Between the step that fills it and the last one an output is found as it was left. -/
theorem found_out (c : Dev nD) (w : Fin 14) (t : Fin cfg0.N) (hw : 6 ≤ w.val) (hc : ∀ (i : cfg0.grid.Coords) a, (cfg0.win w).clip i a = none)
    (ht : fills w < t.val % 3) : found m c w t ⊢ owns (c : Thread nD τ) ((cfg0.win w).stage (cfg0.slots t w)) fullShare ((dats m 0 c).after w t) := by
  unfold found
  iintro ⟨%d, H⟩
  rw [before_out m c w t hw hc ht d]
  iexact H

/-- An output no step has touched yet is anything. -/
theorem found_any (c : Dev nD) (w : Fin cfg0.W) (t : Fin cfg0.N) :
    found m c w t ⊢ (iprop(∃ d, owns (c : Thread nD τ) ((cfg0.win w).stage (cfg0.slots t w)) fullShare d) : sProp 𝕄) := by
  unfold found
  iintro ⟨%d, H⟩; iexists _; iexact H

/-- A window the step fills, or an input, is left at its contents. -/
theorem leave (c : Dev nD) (w : Fin cfg0.W) (t : Fin cfg0.N) (hi : cfg0.idle w (cfg0.grid.coords t) = false)
    (x : (cfg0.win w).block.Idx → Elt F (cfg0.win w).elt) (hx : x = (dats m 0 c).after w t) :
    owns (c : Thread nD τ) ((cfg0.win w).stage (cfg0.slots t w)) fullShare x ⊢ (dats m 0 c).leavesExact w t := by
  subst hx; unfold Dat.leavesExact; rw [hi]

/-- A window the step does not touch is left as it is found, -/
theorem pass (c : Dev nD) (w : Fin 14) (t : Fin cfg0.N) (hw : 6 ≤ w.val) (hi : t.val % 3 ≠ fills w)
    (hf : t.val % 3 ≠ 2) : found m c w t ⊢ (dats m 0 c).leavesExact w t :=
  Entails.of_eq ((dats m 0 c).leavesExact_idle w t (idle_away w hw t hi) (flush_early w hw t hf)).symm

/-- and at the last step, where it is written back, that is what it was filled with. -/
theorem pass_last (c : Dev nD) (w : Fin 14) (t : Fin cfg0.N) (hw : 6 ≤ w.val) (hc : ∀ (i : cfg0.grid.Coords) a, (cfg0.win w).clip i a = none)
    (hi : fills w < 2) (hf : t.val % 3 = 2) : found m c w t ⊢ (dats m 0 c).leavesExact w t := by
  refine (found_out m c w t hw hc (by omega)).trans ?_
  unfold Dat.leavesExact; rw [idle_away w hw t (by omega), flush_end w hw t hf]

/-- The normalized rows, read by a step and not filled by it, are left as they are. -/
theorem pass_rows (c : Dev nD) (t : Fin cfg0.N) (ht : t.val % 3 ≠ 0) :
    owns (c : Thread nD τ) ((cfg0.win 6).stage (cfg0.slots t 6)) fullShare ((dats m 0 c).after 6 t) ⊢ (dats m 0 c).leavesExact 6 t := by
  unfold Dat.leavesExact; rw [idle_away 6 (by decide) t ht]
  cases (cfg0.win 6).flush t
  · iintro H; iexists ((dats m 0 c).after 6 t); rw [before_out m c 6 t (by decide) (fun _ _ => rfl) (Nat.pos_of_ne_zero ht)]; iexact H
  · exact .rfl

/-! ## The steps put together -/

/-- The staging buffers at step `t`. -/
abbrev bufs (t : Fin cfg0.N) : Bufs where
  a0 := st0_0 t
  h0 := hstage0_0 ((cfg0.slots t 0).cast nbuf0_0)
  a1 := st0_1 t
  h1 := hstage0_1 ((cfg0.slots t 1).cast nbuf0_1)
  a2 := st0_2 t
  h2 := hstage0_2 ((cfg0.slots t 2).cast nbuf0_2)
  a3 := st0_3 t
  h3 := hstage0_3 ((cfg0.slots t 3).cast nbuf0_3)
  a4 := st0_4 t
  h4 := hstage0_4 ((cfg0.slots t 4).cast nbuf0_4)
  a5 := st0_5 t
  h5 := hstage0_5 ((cfg0.slots t 5).cast nbuf0_5)
  a6 := st0_6 t
  h6 := hstage0_6 ((cfg0.slots t 6).cast nbuf0_6)
  a7 := st0_7 t
  h7 := hstage0_7 ((cfg0.slots t 7).cast nbuf0_7)
  a8 := st0_8 t
  h8 := hstage0_8 ((cfg0.slots t 8).cast nbuf0_8)
  a9 := st0_9 t
  h9 := hstage0_9 ((cfg0.slots t 9).cast nbuf0_9)
  a10 := st0_10 t
  h10 := hstage0_10 ((cfg0.slots t 10).cast nbuf0_10)
  a11 := st0_11 t
  h11 := hstage0_11 ((cfg0.slots t 11).cast nbuf0_11)
  a12 := st0_12 t
  h12 := hstage0_12 ((cfg0.slots t 12).cast nbuf0_12)
  a13 := st0_13 t
  h13 := hstage0_13 ((cfg0.slots t 13).cast nbuf0_13)

/-- What the body is called with at step `t`, window by window, -/
def bodyPre (c : Dev nD) (t : Fin cfg0.N) : sProp 𝕄 :=
  iprop((dats m 0 c).Φ t.castSucc ∗ (dats m 0 c).owesAt () t.castSucc
    ∗ found m c 0 t
    ∗ found m c 1 t
    ∗ found m c 2 t
    ∗ found m c 3 t
    ∗ found m c 4 t
    ∗ found m c 5 t
    ∗ found m c 6 t
    ∗ found m c 7 t
    ∗ found m c 8 t
    ∗ found m c 9 t
    ∗ found m c 10 t
    ∗ found m c 11 t
    ∗ found m c 12 t
    ∗ found m c 13 t)

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2000000 in
/-- The first step of a block of rows, -/
theorem sound_0 (c : Dev nD) (t : Fin cfg0.N) (ht : t.val % 3 = 0) :
    bodyPre m c t ⊢ wp frame (wpE (defs₀ (F := F)) Variants.none c none) Set.univ ((bufs t).body (grid0.coords t)) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  have e : at_ 0 t = t := at_self 0 t ht
  obtain ⟨c1, c2, c3, c4⟩ := (cond_at t).1 ht
  iintro ⟨HΦ, Ho, H0, H1, H2, H3, H4, H5, H6, H7, H8, H9, H10, H11, H12, H13⟩
  iapply (step_norm c (bufs t) (grid0.coords t) c1 c2 c3 c4 (iblk m c 0 t) (iblk m c 1 t) (iblk m c 2 t) (iblk m c 4 t) _)
  isplitl [H0]; · iapply (found_0 m c t); iexact H0
  isplitl [H1]; · iapply (found_1 m c t); iexact H1
  isplitl [H2]; · iapply (found_2 m c t); iexact H2
  isplitl [H4]; · iapply (found_4 m c t); iexact H4
  isplitl [H6]; · iapply (found_any m c 6 t); iexact H6
  isplitl [H7]; · iapply (found_any m c 7 t); iexact H7
  iintro ⟨H0, H1, H2, H4, H6, H7⟩
  isplitl [HΦ]; · iexact HΦ
  isplitl [Ho]; · iexact Ho
  isplitl [H0]; · iapply (leave m c 0 t (idle_in 0 (by decide) t) _ rfl); iexact H0
  isplitl [H1]; · iapply (leave m c 1 t (idle_in 1 (by decide) t) _ rfl); iexact H1
  isplitl [H2]; · iapply (leave m c 2 t (idle_in 2 (by decide) t) _ rfl); iexact H2
  isplitl [H3]; · iapply ((found_3 m c t).trans (leave m c 3 t (idle_in 3 (by decide) t) _ rfl)); iexact H3
  isplitl [H4]; · iapply (leave m c 4 t (idle_in 4 (by decide) t) _ rfl); iexact H4
  isplitl [H5]; · iapply ((found_5 m c t).trans (leave m c 5 t (idle_in 5 (by decide) t) _ rfl)); iexact H5
  isplitl [H6]; · iapply (leave m c 6 t (idle_here 6 (by decide) t ht) _ (congrArg (f6 m c) e).symm); iexact H6
  isplitl [H7]; · iapply (leave m c 7 t (idle_here 7 (by decide) t ht) _ (congrArg (fun s => f7 m c (f6 m c s) s) e).symm); iexact H7
  isplitl [H8]; · iapply (pass m c 8 t (by decide) (by rw [ht]; decide) (by omega)); iexact H8
  isplitl [H9]; · iapply (pass m c 9 t (by decide) (by rw [ht]; decide) (by omega)); iexact H9
  isplitl [H10]; · iapply (pass m c 10 t (by decide) (by rw [ht]; decide) (by omega)); iexact H10
  isplitl [H11]; · iapply (pass m c 11 t (by decide) (by rw [ht]; decide) (by omega)); iexact H11
  isplitl [H12]; · iapply (pass m c 12 t (by decide) (by rw [ht]; decide) (by omega)); iexact H12
  iapply (pass m c 13 t (by decide) (by rw [ht]; decide) (by omega)); iexact H13

set_option maxHeartbeats 2000000 in
/-- the second, -/
theorem sound_1 (c : Dev nD) (t : Fin cfg0.N) (ht : t.val % 3 = 1) :
    bodyPre m c t ⊢ wp frame (wpE (defs₀ (F := F)) Variants.none c none) Set.univ ((bufs t).body (grid0.coords t)) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  have e : at_ 1 t = t := at_self 1 t ht
  obtain ⟨c1, c2, c3, c4⟩ := (cond_at t).2.1 ht
  iintro ⟨HΦ, Ho, H0, H1, H2, H3, H4, H5, H6, H7, H8, H9, H10, H11, H12, H13⟩
  iapply (step_keys c (bufs t) (grid0.coords t) c1 c2 c3 c4 (o6 m c t) (iblk m c 2 t) (iblk m c 4 t) _)
  isplitl [H6]; · iapply (found_out m c 6 t (by decide) (fun _ _ => rfl) (show 0 < t.val % 3 by omega)); iexact H6
  isplitl [H2]; · iapply (found_2 m c t); iexact H2
  isplitl [H4]; · iapply (found_4 m c t); iexact H4
  isplitl [H8]; · iapply (found_any m c 8 t); iexact H8
  isplitl [H9]; · iapply (found_any m c 9 t); iexact H9
  isplitl [H10]; · iapply (found_any m c 10 t); iexact H10
  isplitl [H11]; · iapply (found_any m c 11 t); iexact H11
  iintro ⟨H6, H2, H4, H8, H9, H10, H11⟩
  isplitl [HΦ]; · iexact HΦ
  isplitl [Ho]; · iexact Ho
  isplitl [H0]; · iapply ((found_0 m c t).trans (leave m c 0 t (idle_in 0 (by decide) t) _ rfl)); iexact H0
  isplitl [H1]; · iapply ((found_1 m c t).trans (leave m c 1 t (idle_in 1 (by decide) t) _ rfl)); iexact H1
  isplitl [H2]; · iapply (leave m c 2 t (idle_in 2 (by decide) t) _ rfl); iexact H2
  isplitl [H3]; · iapply ((found_3 m c t).trans (leave m c 3 t (idle_in 3 (by decide) t) _ rfl)); iexact H3
  isplitl [H4]; · iapply (leave m c 4 t (idle_in 4 (by decide) t) _ rfl); iexact H4
  isplitl [H5]; · iapply ((found_5 m c t).trans (leave m c 5 t (idle_in 5 (by decide) t) _ rfl)); iexact H5
  isplitl [H6]; · iapply (pass_rows m c t (by omega)); iexact H6
  isplitl [H7]; · iapply (pass m c 7 t (by decide) (by rw [ht]; decide) (by omega)); iexact H7
  isplitl [H8]; · iapply (leave m c 8 t (idle_here 8 (by decide) t ht) _ (congrArg (f8 m c (o6 m c t)) e).symm); iexact H8
  isplitl [H9]; · iapply (leave m c 9 t (idle_here 9 (by decide) t ht) _ (congrArg (f9 m c (o6 m c t)) e).symm); iexact H9
  isplitl [H10]; · iapply (leave m c 10 t (idle_here 10 (by decide) t ht) _ (congrArg (f10 m c (o6 m c t)) e).symm); iexact H10
  isplitl [H11]; · iapply (leave m c 11 t (idle_here 11 (by decide) t ht) _ (congrArg (f11 m c (o6 m c t)) e).symm); iexact H11
  isplitl [H12]; · iapply (pass m c 12 t (by decide) (by rw [ht]; decide) (by omega)); iexact H12
  iapply (pass m c 13 t (by decide) (by rw [ht]; decide) (by omega)); iexact H13

set_option maxHeartbeats 2000000 in
/-- and the last. -/
theorem sound_2 (c : Dev nD) (t : Fin cfg0.N) (ht : t.val % 3 = 2) :
    bodyPre m c t ⊢ wp frame (wpE (defs₀ (F := F)) Variants.none c none) Set.univ ((bufs t).body (grid0.coords t)) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  have e : at_ 2 t = t := at_self 2 t ht
  obtain ⟨c1, c2, c3, c4⟩ := (cond_at t).2.2 ht
  iintro ⟨HΦ, Ho, H0, H1, H2, H3, H4, H5, H6, H7, H8, H9, H10, H11, H12, H13⟩
  iapply (step_narrow c (bufs t) (grid0.coords t) c1 c2 c3 c4 (o6 m c t) (iblk m c 3 t) (iblk m c 5 t) _)
  isplitl [H6]; · iapply (found_out m c 6 t (by decide) (fun _ _ => rfl) (show 0 < t.val % 3 by omega)); iexact H6
  isplitl [H3]; · iapply (found_3 m c t); iexact H3
  isplitl [H5]; · iapply (found_5 m c t); iexact H5
  isplitl [H12]; · iapply (found_any m c 12 t); iexact H12
  isplitl [H13]; · iapply (found_any m c 13 t); iexact H13
  iintro ⟨H6, H3, H5, H12, H13⟩
  isplitl [HΦ]; · iexact HΦ
  isplitl [Ho]; · iexact Ho
  isplitl [H0]; · iapply ((found_0 m c t).trans (leave m c 0 t (idle_in 0 (by decide) t) _ rfl)); iexact H0
  isplitl [H1]; · iapply ((found_1 m c t).trans (leave m c 1 t (idle_in 1 (by decide) t) _ rfl)); iexact H1
  isplitl [H2]; · iapply ((found_2 m c t).trans (leave m c 2 t (idle_in 2 (by decide) t) _ rfl)); iexact H2
  isplitl [H3]; · iapply (leave m c 3 t (idle_in 3 (by decide) t) _ rfl); iexact H3
  isplitl [H4]; · iapply ((found_4 m c t).trans (leave m c 4 t (idle_in 4 (by decide) t) _ rfl)); iexact H4
  isplitl [H5]; · iapply (leave m c 5 t (idle_in 5 (by decide) t) _ rfl); iexact H5
  isplitl [H6]; · iapply (pass_rows m c t (by omega)); iexact H6
  isplitl [H7]; · iapply (pass_last m c 7 t (by decide) (fun _ _ => rfl) (by decide) ht); iexact H7
  isplitl [H8]; · iapply (pass_last m c 8 t (by decide) (fun _ _ => rfl) (by decide) ht); iexact H8
  isplitl [H9]; · iapply (pass_last m c 9 t (by decide) (fun _ _ => rfl) (by decide) ht); iexact H9
  isplitl [H10]; · iapply (pass_last m c 10 t (by decide) (fun _ _ => rfl) (by decide) ht); iexact H10
  isplitl [H11]; · iapply (pass_last m c 11 t (by decide) (fun _ _ => rfl) (by decide) ht); iexact H11
  isplitl [H12]; · iapply (leave m c 12 t (idle_here 12 (by decide) t ht) _ (congrArg (f12 m c (o6 m c t)) e).symm); iexact H12
  iapply (leave m c 13 t (idle_here 13 (by decide) t ht) _ (congrArg (f13 m c (o6 m c t)) e).symm); iexact H13

theorem sound_body (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact sound_0 m c t h
  · exact sound_1 m c t h
  · exact sound_2 m c t h

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- The whole program ends with the pipeline's arrays at what the proof data says, and every semaphore back at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The same with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.Kernel5Ideal.Proj
-- ==== Proof.PromptCols.lean ====
/-
  The reference of the prompt's projection at an index, for the sixteen thousand rows of the prompt: each result is one of
  the row formulas of the projection, on a stretch of the columns of its product.
-/
module

public import proofs.«01_k».proof.Proof.Gen.Reference5Ideal.Run
public import proofs.«01_k».proof.Proof.ProjRow

@[expose] public section

noncomputable section

namespace Cert.PromptLayer

open Idealize.ShloMosaic
open Cert.ProjLayer (norm proj head logSig narrow)

/-- The row number `2048 a + b` splits into. -/
def hi (r : Fin 16384) : Fin 8 := ⟨r.val / 2048, by omega⟩
def lo (r : Fin 16384) : Fin 2048 := ⟨r.val % 2048, by omega⟩

open Cert.Reference5Ideal Cert.Reference5Ideal.Gen
set_option maxRecDepth 16384

/-- The reference's product of the normed rows with all the weights. -/
def refProd (x : FVec Ideal S8x2048x2048 .f32) (n : FVec Ideal S1x2048 .f32) (w : FVec Ideal S1x2048x7256 .f32) : FVec Ideal S8x2048x7256 .f32 :=
  Host.dotGeneral dot_S8x2048x2048_S2048x7256_S8x2048x7256_2_0_01_1_n_n none (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ n shapeCasts_S1x2048_S2048)))) (shapeCast _ w shapeCasts_S1x2048x7256_S2048x7256)

theorem refProd_at (x : FVec Ideal S8x2048x2048 .f32) (n : FVec Ideal S1x2048 .f32) (w : FVec Ideal S1x2048x7256 .f32) (a : Fin 8) (b : Fin 2048) (j : Fin 7256) :
    refProd x n w (ix3 a b j) = proj (fun k => x (ix3 a b k)) (fun k => n (ix2 0 k)) (fun k => w (ix3 0 k j)) := by
  pointwise [refProd, proj, Cert.ProjLayer.norm]

/-- The reference's queries, from their columns of the product and the gain. -/
def refQueries (s : FVec Ideal S8x2048x1024 .f32) (g : FVec Ideal S1x128 .f32) : FVec Ideal S16384x1024 .bf16 :=
  truncf .bf16 (shapeCast _ (mulf (mulf (mulf (shapeCast _ s shapeCasts_S8x2048x1024_S8x2048x8x128) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (shapeCast _ s shapeCasts_S8x2048x1024_S8x2048x8x128) (shapeCast _ s shapeCasts_S8x2048x1024_S8x2048x8x128)) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast _ g shapeCasts_S1x128_S128)))) (broadcastInDim S8x2048x8x128 ![] bcast_S_S8x2048x8x128 (constant S_ .f32 0x3E0293EE#32))) shapeCasts_S8x2048x8x128_S16384x1024) bitsLt_bf16_f32

theorem ref_queries (s : FVec Ideal S8x2048x1024 .f32) (g : FVec Ideal S1x128 .f32) (r : Fin 16384) (j : Fin 1024) :
    refQueries s g (ix2 r j)
      = head (fun d => s (ix3 (hi r) (lo r) ⟨j.val / 128 * 128 + d.val, by omega⟩)) (fun d => g (ix2 0 d)) ⟨j.val % 128, by omega⟩ * Ideal.ofBits FTy.f32 1040356334#32 := by
  pointwise [refQueries, head, Cert.ProjLayer.norm, hi, lo]
  have e : j.val / 128 * 128 + j.val % 128 = j.val := by omega
  simp only [e]

/-- Its keys. -/
def refKeys (s : FVec Ideal S8x2048x512 .f32) (g : FVec Ideal S1x128 .f32) : FVec Ideal S65536x128 .f32 :=
  shapeCast _ (mulf (mulf (shapeCast _ s shapeCasts_S8x2048x512_S8x2048x4x128) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (shapeCast _ s shapeCasts_S8x2048x512_S8x2048x4x128) (shapeCast _ s shapeCasts_S8x2048x512_S8x2048x4x128)) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 (shapeCast _ g shapeCasts_S1x128_S128)))) shapeCasts_S8x2048x4x128_S65536x128

theorem ref_keys (s : FVec Ideal S8x2048x512 .f32) (g : FVec Ideal S1x128 .f32) (i : Fin 65536) (d : Fin 128) :
    refKeys s g (ix2 i d)
      = head (fun d => s (ix3 ⟨i.val / 8192, by omega⟩ ⟨i.val / 4 % 2048, by omega⟩ ⟨i.val % 4 * 128 + d.val, by omega⟩)) (fun d => g (ix2 0 d)) d := by
  pointwise [refKeys, head, Cert.ProjLayer.norm]

/-- Its values. -/
def refValues (s : FVec Ideal S8x2048x512 .f32) : FVec Ideal S65536x128 .f32 :=
  shapeCast _ s shapeCasts_S8x2048x512_S65536x128

theorem ref_values (s : FVec Ideal S8x2048x512 .f32) (i : Fin 65536) (d : Fin 128) :
    refValues s (ix2 i d)
      = s (ix3 ⟨i.val / 8192, by omega⟩ ⟨i.val / 4 % 2048, by omega⟩ ⟨i.val % 4 * 128 + d.val, by omega⟩) := by
  pointwise [refValues]

/-- Its index keys, index weights and forget logits side by side. -/
def refNarrow (ik : FVec Ideal S8x2048x64 .f32) (iw : FVec Ideal S8x2048x16 .f32) (ff : FVec Ideal S8x2048x8 .f32) : FVec Ideal S16384x128 .f32 :=
  shapeCast _ ((concatenate S8x2048x128 2 [⟨S8x2048x64, (ik : (⟨S8x2048x64, .f32⟩ : BufTy).Contents (Elt Ideal))⟩, ⟨S8x2048x16, (iw : (⟨S8x2048x16, .f32⟩ : BufTy).Contents (Elt Ideal))⟩, ⟨S8x2048x8, (ff : (⟨S8x2048x8, .f32⟩ : BufTy).Contents (Elt Ideal))⟩, ⟨S8x2048x40, ((broadcastInDim S8x2048x40 ![] bcast_S_S8x2048x40 (constant (F := Ideal) S_ .f32 0x00000000#32)) : (⟨S8x2048x40, .f32⟩ : BufTy).Contents (Elt Ideal))⟩] concatenates_S8x2048x64_S8x2048x16_S8x2048x8_S8x2048x40_S8x2048x128_d2 : (⟨S8x2048x128, .f32⟩ : BufTy).Contents (Elt Ideal))) shapeCasts_S8x2048x128_S16384x128

theorem ref_narrow (ik : FVec Ideal S8x2048x64 .f32) (iw : FVec Ideal S8x2048x16 .f32) (ff : FVec Ideal S8x2048x8 .f32) (r : Fin 16384) (j : Fin 128) :
    refNarrow ik iw ff (ix2 r j)
      = narrow (fun k => ik (ix3 (hi r) (lo r) k)) (fun k => iw (ix3 (hi r) (lo r) k)) (fun k => ff (ix3 (hi r) (lo r) k)) j := by
  pointwise [refNarrow, narrow, hi, lo]

/-- Its logarithms of the forget gates. -/
def refLog (z : FVec Ideal S8x2048x8 .f32) : FVec Ideal S8x16384 .f32 :=
  transpose S8x16384 [1, 0] (shapeCast _ (Host.negf (select (cmpf .une (subf (Host.negf z) (broadcastInDim S8x2048x8 ![] bcast_S_S8x2048x8 (constant S_ .f32 0x00000000#32))) (subf (Host.negf z) (broadcastInDim S8x2048x8 ![] bcast_S_S8x2048x8 (constant S_ .f32 0x00000000#32)))) (addf (Host.negf z) (broadcastInDim S8x2048x8 ![] bcast_S_S8x2048x8 (constant S_ .f32 0x00000000#32))) (addf (maximumf (Host.negf z) (broadcastInDim S8x2048x8 ![] bcast_S_S8x2048x8 (constant S_ .f32 0x00000000#32))) (Host.log1p (Host.exp (Host.negf (Host.absf (subf (Host.negf z) (broadcastInDim S8x2048x8 ![] bcast_S_S8x2048x8 (constant S_ .f32 0x00000000#32)))))))))) shapeCasts_S8x2048x8_S16384x8) transposes_S16384x8_S8x16384_1_0

theorem ref_log (z : FVec Ideal S8x2048x8 .f32) (h : Fin 8) (r : Fin 16384) :
    refLog z (ix2 h r) = logSig (z (ix3 (hi r) (lo r) h)) := by
  pointwise [refLog, logSig, hi, lo]
  simp only [ne_eq, not_true, if_false, Ideal.absf_def, neg_neg]
  rw [max_comm (-z _) (z _)]
  rfl

variable (x : FVec Ideal S8x2048x2048 .f32) (n : FVec Ideal S1x2048 .f32) (w : FVec Ideal S1x2048x7256 .f32)

/-- Column `q` of row `r`'s projection. -/
def col (r : Fin 16384) (q : Fin 7256) : EReal :=
  proj (fun k => x (ix3 (hi r) (lo r) k)) (fun k => n (ix2 0 k)) (fun k => w (ix3 0 k q))

/-- A stretch of `M` columns of the reference's product, from column `o`. -/
theorem cut_at {M : ℕ} (o : ℕ) (h : S8x2048x7256.Slices ![0, 0, o] ⟨3, ![8, 2048, M]⟩) (r : Fin 16384) (a : Fin 8) (b : Fin 2048) (j : Fin M)
    (ha : a = hi r) (hb : b = lo r) (hj : o + j.val < 7256) :
    extractStridedSlice ⟨3, ![8, 2048, M]⟩ ![0, 0, o] (refProd x n w) h (ix3 a b j) = col x n w r ⟨o + j.val, hj⟩ := by
  subst ha hb
  exact (congrArg (refProd x n w) (funext fun i => Fin.ext (by
    match i with
    | ⟨0, _⟩ => show 0 + (hi r).val = (hi r).val; omega
    | ⟨1, _⟩ => show 0 + (lo r).val = (lo r).val; omega
    | ⟨2, _⟩ => show o + j.val = o + j.val; rfl))).trans (refProd_at x n w (hi r) (lo r) ⟨o + j.val, hj⟩)

theorem queries_of (o : ℕ) (h) (ho : o + 1024 ≤ 7256) (g : FVec Ideal S1x128 .f32) (r : Fin 16384) (j : Fin 1024) :
    refQueries (extractStridedSlice S8x2048x1024 ![0, 0, o] (refProd x n w) h) g (ix2 r j)
      = head (fun d => col x n w r ⟨o + (j.val / 128 * 128 + d.val), by omega⟩) (fun d => g (ix2 0 d)) ⟨j.val % 128, by omega⟩
        * Ideal.ofBits FTy.f32 1040356334#32 := by
  rw [ref_queries]
  exact congrArg (fun f => head f _ _ * _) (funext fun d => cut_at x n w o h r _ _ ⟨j.val / 128 * 128 + d.val, by omega⟩ rfl rfl _)

theorem keys_of (o : ℕ) (h) (ho : o + 512 ≤ 7256) (g : FVec Ideal S1x128 .f32) (i : Fin 65536) (d : Fin 128) :
    refKeys (extractStridedSlice S8x2048x512 ![0, 0, o] (refProd x n w) h) g (ix2 i d)
      = head (fun d => col x n w ⟨i.val / 4, by omega⟩ ⟨o + (i.val % 4 * 128 + d.val), by omega⟩) (fun d => g (ix2 0 d)) d := by
  rw [ref_keys]
  exact congrArg (fun f => head f _ _) (funext fun d => cut_at x n w o h ⟨i.val / 4, by omega⟩ _ _ ⟨i.val % 4 * 128 + d.val, by omega⟩
    (Fin.ext (show i.val / 8192 = i.val / 4 / 2048 by omega)) rfl _)

theorem values_of (o : ℕ) (h) (ho : o + 512 ≤ 7256) (i : Fin 65536) (d : Fin 128) :
    refValues (extractStridedSlice S8x2048x512 ![0, 0, o] (refProd x n w) h) (ix2 i d)
      = col x n w ⟨i.val / 4, by omega⟩ ⟨o + (i.val % 4 * 128 + d.val), by omega⟩ := by
  rw [ref_values]
  exact cut_at x n w o h ⟨i.val / 4, by omega⟩ _ _ ⟨i.val % 4 * 128 + d.val, by omega⟩
    (Fin.ext (show i.val / 8192 = i.val / 4 / 2048 by omega)) rfl _

theorem narrow_of (h h' h'') (r : Fin 16384) (j : Fin 128) :
    refNarrow (extractStridedSlice S8x2048x64 ![0, 0, 7176] (refProd x n w) h) (extractStridedSlice S8x2048x16 ![0, 0, 7240] (refProd x n w) h')
        (extractStridedSlice S8x2048x8 ![0, 0, 2048] (refProd x n w) h'') (ix2 r j)
      = narrow (fun k => col x n w r ⟨7176 + k.val, by omega⟩) (fun k => col x n w r ⟨7240 + k.val, by omega⟩)
          (fun k => col x n w r ⟨2048 + k.val, by omega⟩) j := by
  rw [ref_narrow]
  congr 1 <;> funext k <;> exact cut_at x n w _ _ r _ _ k rfl rfl _

/-- The forget logits with their biases, as the reference adds them. -/
def refLogits (b : FVec Ideal S1x8 .f32) : FVec Ideal S8x2048x8 .f32 :=
  addf (extractStridedSlice S8x2048x8 ![0, 0, 2048] (refProd x n w) slices_S8x2048x7256_S8x2048x8_0_0_2048)
    (broadcastInDim S8x2048x8 ![0, 1, 2] bcast_S1x1x8_S8x2048x8_0_1_2 (broadcastInDim S1x1x8 ![2] bcast_S8_S1x1x8_2 (shapeCast _ b shapeCasts_S1x8_S8)))

theorem log_of (b : FVec Ideal S1x8 .f32) (h : Fin 8) (r : Fin 16384) :
    refLog (refLogits x n w b) (ix2 h r) = logSig (col x n w r ⟨2048 + h.val, by omega⟩ + b (ix2 0 h)) := by
  have e : refLogits x n w b (ix3 (hi r) (lo r) h)
      = extractStridedSlice S8x2048x8 ![0, 0, 2048] (refProd x n w) slices_S8x2048x7256_S8x2048x8_0_0_2048 (ix3 (hi r) (lo r) h) + b (ix2 0 h) := by
    unfold refLogits
    generalize extractStridedSlice S8x2048x8 ![0, 0, 2048] (refProd x n w) slices_S8x2048x7256_S8x2048x8_0_0_2048 = s
    pointwise
  rw [ref_log, e]
  exact congrArg (fun z => logSig (z + _)) (cut_at x n w 2048 _ r _ _ h rfl rfl _)

end Cert.PromptLayer

end
-- ==== Proof.PromptBlock.lean ====
/-
  What each step of the prompt's projection leaves in its block, at an index, from the normed rows and the rows of weights
  it is given: the row formulas of the projection, on blocks of 1024 rows.
-/
module

public import proofs.«01_k».proof.Proof.ProjBlock
public import proofs.«01_k».proof.Proof.PromptSteps

@[expose] public section

noncomputable section

namespace Cert.PromptLayer

open Cert.ProjLayer (norm proj head logSig narrow head_cut)
open Idealize.ShloMosaic Cert.Kernel5Ideal Cert.Kernel5Ideal.Gen Cert.Kernel5Ideal.Proj
set_option maxRecDepth 16384

/-- Row `r` of the normed block times row `n` of the weights' block. -/
def dotAt {N : ℕ} (xn : Vec Ideal S1024x2048 .bf16) (w : Vec Ideal ⟨2, ![N, 2048]⟩ .bf16) (r : Fin 1024) (n : Fin N) : EReal :=
  ∑ k, xn (ix2 r k) * w (ix2 n k)

variable (xn : Vec Ideal S1024x2048 .bf16) (w : Vec Ideal S1024x2048 .bf16) (v : Vec Ideal S128x2048 .bf16) (g : Vec Ideal S1x128 .f32)

theorem norm_at (x : Vec Ideal S1024x2048 .f32) (n : Vec Ideal S1x2048 .f32) (r : Fin 1024) (k : Fin 2048) :
    k0_pay1 x n (ix2 r k) = norm (Ideal.ofBits FTy.f32 1157627904#32) (fun k => x (ix2 r k)) (fun k => n (ix2 0 k)) k := by
  pointwise [k0_pay1, Cert.ProjLayer.norm]

theorem dot_at (r : Fin 1024) (n : Fin 1024) : k0_pay7 xn w (ix2 r n) = dotAt xn w r n := by
  pointwise [k0_pay7, dotAt]

theorem dot_at' (r : Fin 1024) (n : Fin 1024) : k0_pay18 xn w (ix2 r n) = dotAt xn w r n := by
  pointwise [k0_pay18, dotAt]

theorem narrow_at (r : Fin 1024) (n : Fin 128) : k0_pay5 xn v (ix2 r n) = dotAt xn v r n := by
  pointwise [k0_pay5, dotAt]

theorem log_at (b : Vec Ideal S8x1 .f32) (h : Fin 8) (r : Fin 1024) :
    k0_pay6 xn v b (ix2 h r) = logSig (dotAt xn v r ⟨80 + h.val, by omega⟩ + b (ix2 h 0)) := by
  pointwise [k0_pay6, k0_pay5, dotAt, logSig]
  simp only [zero_sub, Ideal.absf_def]

theorem queries_at (r : Fin 1024) (j : Fin 1024) :
    queries xn w g (ix2 r j) = head (fun d => dotAt xn w r ⟨j.val / 128 * 128 + d.val, by omega⟩) (fun d => g (ix2 0 d)) ⟨j.val % 128, by omega⟩
      * Ideal.ofBits FTy.f32 1040356334#32 := by
  pointwise [queries, k0_pay2, k0_pay8, k0_pay9, k0_pay10, k0_pay11, k0_pay12, k0_pay13, k0_pay14, k0_pay15, k0_pay16, k0_pay17]
  simp only [dot_at]
  have c := fun o k hk hO hN hj => head_cut (fun n => dotAt xn w r n) (fun d => g (ix2 0 d)) o k j.val hk hO hN hj
  split_ifs <;> refine congrArg (· * Ideal.ofBits FTy.f32 1040356334#32) ?_
  all_goals first
    | exact c _ _ (by omega) rfl (by omega) (by omega)
    | simpa only [Nat.zero_add] using c 0 j.val (by omega) rfl (by omega) (by omega)

/-- The four key heads side by side. -/
theorem heads_at (r : Fin 1024) (j : Fin 512) :
    onKeys k0_pay25 xn w g (ix2 r j) = head (fun d => dotAt xn w r ⟨j.val / 128 * 128 + d.val, by omega⟩) (fun d => g (ix2 0 d)) ⟨j.val % 128, by omega⟩ := by
  pointwise [onKeys, k0_pay19, k0_pay20, k0_pay21, k0_pay22, k0_pay23, k0_pay24, k0_pay25]
  simp only [dot_at']
  have c := fun o k hk hO hN hj => head_cut (fun n => dotAt xn w r n) (fun d => g (ix2 0 d)) o k j.val hk hO hN hj
  split_ifs
  all_goals first
    | exact c _ _ (by omega) rfl (by omega) (by omega)
    | simpa only [Nat.zero_add] using c 0 j.val (by omega) rfl (by omega) (by omega)

/-- Row `4 r + h` of the four interleaved blocks is row `r` of block `h`. -/
theorem interleave_at (p0 p1 p2 p3 : Vec Ideal S1024x128 .f32) (G : Fin 4096 → Fin 128 → EReal)
    (h0 : ∀ (r : Fin 1024) (d : Fin 128), p0 (ix2 r d) = G ⟨0 + 4 * r.val, by omega⟩ d) (h1 : ∀ (r : Fin 1024) (d : Fin 128), p1 (ix2 r d) = G ⟨1 + 4 * r.val, by omega⟩ d)
    (h2 : ∀ (r : Fin 1024) (d : Fin 128), p2 (ix2 r d) = G ⟨2 + 4 * r.val, by omega⟩ d) (h3 : ∀ (r : Fin 1024) (d : Fin 128), p3 (ix2 r d) = G ⟨3 + 4 * r.val, by omega⟩ d)
    (i : Fin 4096) (d : Fin 128) : interleave p0 p1 p2 p3 (ix2 i d) = G i d := by
  unfold interleave
  refine View.canon_apply_of_pieces (Val := Elt Ideal) (e := .f32) (S := S4096x128) (fun y => G ⟨(y 0).val, (y 0).isLt⟩ ⟨(y 1).val, (y 1).isLt⟩) _ ?_ (ix2 i d) ?_
  · intro p hp
    simp only [List.mem_cons, List.not_mem_nil, or_false] at hp
    rcases hp with rfl | rfl | rfl | rfl <;> intro x
    · refine (congrArg p3 (eq_ix2 x)).trans ((h3 (x 0) (x 1)).trans ?_)
      exact congrArg (G _) (Fin.ext (by show (x 1).val = 0 + 1 * (x 1).val; omega))
    · refine (congrArg p2 (eq_ix2 x)).trans ((h2 (x 0) (x 1)).trans ?_)
      exact congrArg (G _) (Fin.ext (by show (x 1).val = 0 + 1 * (x 1).val; omega))
    · refine (congrArg p1 (eq_ix2 x)).trans ((h1 (x 0) (x 1)).trans ?_)
      exact congrArg (G _) (Fin.ext (by show (x 1).val = 0 + 1 * (x 1).val; omega))
    · refine (congrArg p0 (eq_ix2 x)).trans ((h0 (x 0) (x 1)).trans ?_)
      exact congrArg (G _) (Fin.ext (by show (x 1).val = 0 + 1 * (x 1).val; omega))
  · have hm : i.val % 4 = 3 ∨ i.val % 4 = 2 ∨ i.val % 4 = 1 ∨ i.val % 4 = 0 := by omega
    have here : ∀ (o : ℕ) (ho : i.val % 4 = o) (inb) (sp), ix2 i d ∈ (⟨(⟨![o, 0], S1024x128.size, ![4, 1], inb⟩ : LoadRect S4096x128), sp⟩ : Rect S4096x128).set := fun o ho inb sp => by
      have := (⟨(⟨![o, 0], S1024x128.size, ![4, 1], inb⟩ : LoadRect S4096x128), sp⟩ : Rect S4096x128).idx_mem (ix2 ⟨i.val / 4, by omega⟩ d)
      refine (congrArg (· ∈ _) (funext fun a => Fin.ext ?_)).mp this
      match a with
      | ⟨0, _⟩ => show o + 4 * (i.val / 4) = i.val; omega
      | ⟨1, _⟩ => show 0 + 1 * d.val = d.val; omega
    rcases hm with hm | hm | hm | hm
    · exact ⟨_, List.mem_cons_self, here 3 hm _ _⟩
    · exact ⟨_, List.mem_cons_of_mem _ List.mem_cons_self, here 2 hm _ _⟩
    · exact ⟨_, List.mem_cons_of_mem _ (List.mem_cons_of_mem _ List.mem_cons_self), here 1 hm _ _⟩
    · exact ⟨_, List.mem_cons_of_mem _ (List.mem_cons_of_mem _ (List.mem_cons_of_mem _ List.mem_cons_self)), here 0 hm _ _⟩

theorem values_at (i : Fin 4096) (d : Fin 128) :
    values xn w (ix2 i d) = dotAt xn w ⟨i.val / 4, by omega⟩ ⟨512 + (i.val % 4 * 128 + d.val), by omega⟩ := by
  unfold values
  refine interleave_at _ _ _ _ (fun i d => dotAt xn w ⟨i.val / 4, by omega⟩ ⟨512 + (i.val % 4 * 128 + d.val), by omega⟩) ?_ ?_ ?_ ?_ i d
  all_goals
    intro r d
    pointwise [k0_pay32, k0_pay33, k0_pay34, k0_pay31, k0_pay3]
    rw [dot_at']
    congr 1 <;> exact Fin.ext (by dsimp only; omega)

/-- A place in the four heads side by side, as a place of key row `i`. -/
theorem heads_as (r : Fin 1024) (d : Fin 128) (n : Fin 512) (i : Fin 4096) (hn : n.val = i.val % 4 * 128 + d.val) (hr : i.val / 4 = r.val) :
    onKeys k0_pay25 xn w g (ix2 r n) = head (fun d => dotAt xn w ⟨i.val / 4, by omega⟩ ⟨i.val % 4 * 128 + d.val, by omega⟩) (fun d => g (ix2 0 d)) d := by
  have er : (⟨i.val / 4, by omega⟩ : Fin 1024) = r := Fin.ext hr
  have e1 : n.val / 128 * 128 = i.val % 4 * 128 := by omega
  have e2 : n.val % 128 = d.val := by omega
  rw [heads_at, er]
  simp only [e1, e2]

theorem keys_at (i : Fin 4096) (d : Fin 128) :
    keys xn w g (ix2 i d) = head (fun d => dotAt xn w ⟨i.val / 4, by omega⟩ ⟨i.val % 4 * 128 + d.val, by omega⟩) (fun d => g (ix2 0 d)) d := by
  unfold keys
  refine interleave_at _ _ _ _ (fun i d => head (fun d => dotAt xn w ⟨i.val / 4, by omega⟩ ⟨i.val % 4 * 128 + d.val, by omega⟩) (fun d => g (ix2 0 d)) d) ?_ ?_ ?_ ?_ i d
  all_goals
    intro r d
    pointwise [onKeys, k0_pay26, k0_pay27, k0_pay28, k0_pay29]
  · exact heads_as xn w g r d ⟨d.val, by omega⟩ ⟨4 * r.val, by omega⟩ (show d.val = 4 * r.val % 4 * 128 + d.val by omega) (show 4 * r.val / 4 = r.val by omega)
  · exact heads_as xn w g r d ⟨128 + d.val, by omega⟩ ⟨1 + 4 * r.val, by omega⟩ (show 128 + d.val = (1 + 4 * r.val) % 4 * 128 + d.val by omega) (show (1 + 4 * r.val) / 4 = r.val by omega)
  · exact heads_as xn w g r d ⟨256 + d.val, by omega⟩ ⟨2 + 4 * r.val, by omega⟩ (show 256 + d.val = (2 + 4 * r.val) % 4 * 128 + d.val by omega) (show (2 + 4 * r.val) / 4 = r.val by omega)
  · exact heads_as xn w g r d ⟨384 + d.val, by omega⟩ ⟨3 + 4 * r.val, by omega⟩ (show 384 + d.val = (3 + 4 * r.val) % 4 * 128 + d.val by omega) (show (3 + 4 * r.val) / 4 = r.val by omega)

end Cert.PromptLayer

end
-- ==== Proof.PromptHost.lean ====
/-
  What the host hands the prompt's projection: the input as rows, and the same weights, narrow columns, gains and biases
  as it hands the sample's.
-/
module

public import proofs.«01_k».proof.Proof.Gen.Kernel5Ideal.Frame
public import proofs.«01_k».proof.Proof.ProjHost

@[expose] public section

noncomputable section

namespace Cert.PromptLayer

open Idealize.ShloMosaic Idealize.ShloMosaic.TcCoe Idealize.SL.Sem
open Cert.ProjLayer (wide slim)
open Cert.Kernel5Ideal Cert.Kernel5Ideal.Gen
set_option maxRecDepth 16384

variable (m : (ℓ : Loc nD τ sig) → Buf (Elt Ideal) ℓ) (c : Dev nD)

theorem V_x : V m c main_v23 = shapeCast S16384x2048 (m ((c : Thread nD τ).loc main_arg0)) shapeCasts_S8x2048x2048_S16384x2048 := by
  unfold_abbrev_sides; after_results <;> rfl
theorem V_n : V m c main_v19 = shapeCast S1x2048 (shapeCast S2048 (m ((c : Thread nD τ).loc main_arg1)) shapeCasts_S1x2048_S2048) shapeCasts_S2048_S1x2048 := by
  unfold_abbrev_sides; after_results <;> rfl
theorem V_b : V m c main_v22 = shapeCast S8x1 (shapeCast S8 (m ((c : Thread nD τ).loc main_arg3)) shapeCasts_S1x8_S8) shapeCasts_S8_S8x1 := by
  unfold_abbrev_sides; after_results <;> rfl
theorem V_wide : V m c main_v15 = wide (m ((c : Thread nD τ).loc main_arg2)) := by
  unfold_abbrev_sides; after_results <;> rfl
theorem V_slim : V m c main_v17 = slim (m ((c : Thread nD τ).loc main_arg2)) := by
  unfold_abbrev_sides; after_results <;> rfl
theorem V_gains : V m c main_v20 = concatenate S4x128 0 [⟨S1x128, (m ((c : Thread nD τ).loc main_arg4) : FVec Ideal S1x128 .f32)⟩, ⟨S1x128, (m ((c : Thread nD τ).loc main_arg5) : FVec Ideal S1x128 .f32)⟩,
    ⟨S1x128, (m ((c : Thread nD τ).loc main_arg6) : FVec Ideal S1x128 .f32)⟩, ⟨S1x128, (m ((c : Thread nD τ).loc main_arg7) : FVec Ideal S1x128 .f32)⟩] concatenates_S1x128_S1x128_S1x128_S1x128_S4x128_d0 := by
  unfold_abbrev_sides; after_results <;> rfl

end Cert.PromptLayer

end
-- ==== Proof.PromptArray.lean ====
/-
  What the prompt's projection leaves in its result arrays. Sixteen blocks of 1024 rows, each written back when the three
  steps of its rows are through; here every element, from the program's arguments.
-/
module

public import proofs.«01_k».proof.Proof.PromptRun
public import proofs.«01_k».proof.Proof.PromptCols
public import proofs.«01_k».proof.Proof.PromptBlock
public import proofs.«01_k».proof.Proof.PromptHost
public import proofs.«01_k».proof.Proof.Gen.Kernel5Ideal.Points
public import Idealize.ShloMosaic.Lib.Pipeline.ValueKit.Geometry

@[expose] public section

noncomputable section

namespace Cert.PromptLayer

open Idealize.ShloMosaic Idealize.ShloMosaic.TcCoe Idealize.SL.Sem
open Cert.ProjLayer (proj head logSig narrow colOf colOf_lt wide wide_at slim slim_at)
open Cert.Kernel5Ideal Cert.Kernel5Ideal.Gen Cert.Kernel5Ideal.Proj
set_option maxRecDepth 16384

/-! ## Where a block sits -/

/-- Row `r` of the block of step `t`, as a row of the whole arrays. -/
def row (t : Fin cfg0.N) (r : Fin 1024) : Fin 16384 := ⟨1024 * (t.val / 3) + r.val, by have : t.val < 48 := t.isLt; omega⟩
/-- The same for the arrays with a row for each of the four heads. -/
def row4 (t : Fin cfg0.N) (i : Fin 4096) : Fin 65536 := ⟨4096 * (t.val / 3) + i.val, by have : t.val < 48 := t.isLt; omega⟩

/-- The last step of the block of rows that `n` of them reach to. -/
def stepOf (n : ℕ) (h : n < 16) : Fin cfg0.N := ⟨n * 3 + 2, by show _ < 48; omega⟩

theorem apart (t t' : Fin cfg0.N) (h : t.val % 3 = 2) (h' : t'.val % 3 = 2) (e : t.val / 3 = t'.val / 3) : t = t' := Fin.ext (by omega)

theorem row_at (k : Fin 3) (t : Fin cfg0.N) (r : Fin 1024) : row (at_ k t) r = row t r := Fin.ext (by
  show 1024 * ((t.val / 3 * 3 + k.val) / 3) + r.val = 1024 * (t.val / 3) + r.val; have := k.isLt; omega)

theorem ind0 (t : Fin cfg0.N) : win0_0.index t 0 = t.val / 3 := (by decide +kernel : ∀ t : Fin grid0.N, win0_0.index t 0 = t.val / 3) t
theorem ind7 (t : Fin cfg0.N) : win0_7.index t 0 = t.val / 3 := (by decide +kernel : ∀ t : Fin grid0.N, win0_7.index t 0 = t.val / 3) t
theorem ind8 (t : Fin cfg0.N) : win0_8.index t 0 = t.val / 3 := (by decide +kernel : ∀ t : Fin grid0.N, win0_8.index t 0 = t.val / 3) t
theorem ind10 (t : Fin cfg0.N) : win0_10.index t 0 = t.val / 3 := (by decide +kernel : ∀ t : Fin grid0.N, win0_10.index t 0 = t.val / 3) t
theorem ind12 (t : Fin cfg0.N) : win0_12.index t 0 = t.val / 3 := (by decide +kernel : ∀ t : Fin grid0.N, win0_12.index t 0 = t.val / 3) t
theorem ind13 (t : Fin cfg0.N) : win0_13.index t 1 = t.val / 3 := (by decide +kernel : ∀ t : Fin grid0.N, win0_13.index t 1 = t.val / 3) t
theorem ind2 (t : Fin cfg0.N) : win0_2.index (at_ 0 t) 0 = 0 ∧ win0_2.index (at_ 1 t) 0 = 1 :=
  (by decide +kernel : ∀ t : Fin cfg0.N, win0_2.index (at_ 0 t) 0 = 0 ∧ win0_2.index (at_ 1 t) 0 = 1) t

section Final
variable {F : FTy → Type} [FloatOps F] (m : (ℓ : Loc nD τ sig) → Buf (Elt F) ℓ) (c : Dev nD)

/-! The block of a step that ends its rows is, in the array after the run, what that step leaves. -/

set_option maxHeartbeats 4000000 in
theorem out7 (t : Fin cfg0.N) (ht : t.val % 3 = 2) : ((cfg0.win 7).blk t).view.read (Elt F) ((dats m 0 c).arrAt 7 cfg0.N) = o7 m c t :=
  (dats m 0 c).read_blk_arrAt_eq_flushed 7 (Pipeline.Window.hdisj_of_index_inj _ (fun t t' h h' e =>
    apart t t' ((flush0_7 t).1 h) ((flush0_7 t').1 h') ((ind7 t).symm.trans ((congrFun e 0).trans (ind7 t'))))) cfg0.N t t.isLt ((flush0_7 t).2 ht)

set_option maxHeartbeats 4000000 in
theorem out8 (t : Fin cfg0.N) (ht : t.val % 3 = 2) : ((cfg0.win 8).blk t).view.read (Elt F) ((dats m 0 c).arrAt 8 cfg0.N) = o8 m c t :=
  (dats m 0 c).read_blk_arrAt_eq_flushed 8 (Pipeline.Window.hdisj_of_index_inj _ (fun t t' h h' e =>
    apart t t' ((flush0_8 t).1 h) ((flush0_8 t').1 h') ((ind8 t).symm.trans ((congrFun e 0).trans (ind8 t'))))) cfg0.N t t.isLt ((flush0_8 t).2 ht)

set_option maxHeartbeats 4000000 in
theorem out10 (t : Fin cfg0.N) (ht : t.val % 3 = 2) : ((cfg0.win 10).blk t).view.read (Elt F) ((dats m 0 c).arrAt 10 cfg0.N) = o10 m c t :=
  (dats m 0 c).read_blk_arrAt_eq_flushed 10 (Pipeline.Window.hdisj_of_index_inj _ (fun t t' h h' e =>
    apart t t' ((flush0_10 t).1 h) ((flush0_10 t').1 h') ((ind10 t).symm.trans ((congrFun e 0).trans (ind10 t'))))) cfg0.N t t.isLt ((flush0_10 t).2 ht)

set_option maxHeartbeats 4000000 in
theorem out12 (t : Fin cfg0.N) (ht : t.val % 3 = 2) : ((cfg0.win 12).blk t).view.read (Elt F) ((dats m 0 c).arrAt 12 cfg0.N) = o12 m c t :=
  (dats m 0 c).read_blk_arrAt_eq_flushed 12 (Pipeline.Window.hdisj_of_index_inj _ (fun t t' h h' e =>
    apart t t' ((flush0_12 t).1 h) ((flush0_12 t').1 h') ((ind12 t).symm.trans ((congrFun e 0).trans (ind12 t'))))) cfg0.N t t.isLt ((flush0_12 t).2 ht)

set_option maxHeartbeats 4000000 in
theorem out13 (t : Fin cfg0.N) (ht : t.val % 3 = 2) : ((cfg0.win 13).blk t).view.read (Elt F) ((dats m 0 c).arrAt 13 cfg0.N) = o13 m c t :=
  (dats m 0 c).read_blk_arrAt_eq_flushed 13 (Pipeline.Window.hdisj_of_index_inj _ (fun t t' h h' e =>
    apart t t' ((flush0_13 t).1 h) ((flush0_13 t').1 h') ((ind13 t).symm.trans ((congrFun e 1).trans (ind13 t'))))) cfg0.N t t.isLt ((flush0_13 t).2 ht)

theorem arr7 (t : Fin cfg0.N) (ht : t.val % 3 = 2) (r : Fin 1024) (j : Fin 1024) : (dats m 0 c).arrAt 7 cfg0.N (ix2 (row t r) j) = o7 m c t (ix2 r j) :=
  (congrArg ((dats m 0 c).arrAt 7 cfg0.N) (funext fun a => Fin.ext (by
    match a with
    | ⟨0, _⟩ => show 1024 * (t.val / 3) + r.val = win0_7.index t 0 * 1024 + 1 * r.val; rw [ind7]; omega
    | ⟨1, _⟩ => show j.val = 0 * 1024 + 1 * j.val; omega))).trans (congrFun (out7 m c t ht) (ix2 r j))

theorem arr8 (t : Fin cfg0.N) (ht : t.val % 3 = 2) (r : Fin 4096) (j : Fin 128) : (dats m 0 c).arrAt 8 cfg0.N (ix2 (row4 t r) j) = o8 m c t (ix2 r j) :=
  (congrArg ((dats m 0 c).arrAt 8 cfg0.N) (funext fun a => Fin.ext (by
    match a with
    | ⟨0, _⟩ => show 4096 * (t.val / 3) + r.val = win0_8.index t 0 * 4096 + 1 * r.val; rw [ind8]; omega
    | ⟨1, _⟩ => show j.val = 0 * 128 + 1 * j.val; omega))).trans (congrFun (out8 m c t ht) (ix2 r j))

theorem arr10 (t : Fin cfg0.N) (ht : t.val % 3 = 2) (r : Fin 4096) (j : Fin 128) : (dats m 0 c).arrAt 10 cfg0.N (ix2 (row4 t r) j) = o10 m c t (ix2 r j) :=
  (congrArg ((dats m 0 c).arrAt 10 cfg0.N) (funext fun a => Fin.ext (by
    match a with
    | ⟨0, _⟩ => show 4096 * (t.val / 3) + r.val = win0_10.index t 0 * 4096 + 1 * r.val; rw [ind10]; omega
    | ⟨1, _⟩ => show j.val = 0 * 128 + 1 * j.val; omega))).trans (congrFun (out10 m c t ht) (ix2 r j))

theorem arr12 (t : Fin cfg0.N) (ht : t.val % 3 = 2) (r : Fin 1024) (j : Fin 128) : (dats m 0 c).arrAt 12 cfg0.N (ix2 (row t r) j) = o12 m c t (ix2 r j) :=
  (congrArg ((dats m 0 c).arrAt 12 cfg0.N) (funext fun a => Fin.ext (by
    match a with
    | ⟨0, _⟩ => show 1024 * (t.val / 3) + r.val = win0_12.index t 0 * 1024 + 1 * r.val; rw [ind12]; omega
    | ⟨1, _⟩ => show j.val = 0 * 128 + 1 * j.val; omega))).trans (congrFun (out12 m c t ht) (ix2 r j))

theorem arr13 (t : Fin cfg0.N) (ht : t.val % 3 = 2) (h : Fin 8) (r : Fin 1024) : (dats m 0 c).arrAt 13 cfg0.N (ix2 h (row t r)) = o13 m c t (ix2 h r) :=
  (congrArg ((dats m 0 c).arrAt 13 cfg0.N) (funext fun a => Fin.ext (by
    match a with
    | ⟨0, _⟩ => show h.val = 0 * 8 + 1 * h.val; omega
    | ⟨1, _⟩ => show 1024 * (t.val / 3) + r.val = win0_13.index t 1 * 1024 + 1 * r.val; rw [ind13]; omega))).trans (congrFun (out13 m c t ht) (ix2 h r))

end Final

variable (m : (ℓ : Loc nD τ sig) → Buf (Elt Ideal) ℓ) (c : Dev nD)

/-! ## The input blocks -/

theorem blk0 (s : Fin cfg0.N) (r : Fin 1024) (k : Fin 2048) : iblk m c 0 s (ix2 r k) = V m c main_v23 (ix2 (row s r) k) :=
  congrArg (V m c main_v23) (funext fun a => Fin.ext (by
    match a with
    | ⟨0, _⟩ => show win0_0.index s 0 * 1024 + 1 * r.val = 1024 * (s.val / 3) + r.val; rw [ind0]; omega
    | ⟨1, _⟩ => show 0 * 2048 + 1 * k.val = k.val; omega))

theorem blk1 (s : Fin cfg0.N) (k : Fin 2048) : iblk m c 1 s (ix2 0 k) = V m c main_v19 (ix2 0 k) :=
  congrArg (V m c main_v19) (funext fun a => Fin.ext (by
    match a with
    | ⟨0, _⟩ => rfl
    | ⟨1, _⟩ => show 0 * 2048 + 1 * k.val = k.val; omega))

theorem blk2 (s : Fin cfg0.N) (j : ℕ) (hj : win0_2.index s 0 = j) (h7 : j < 7) (n : Fin 1024) (k : Fin 2048) :
    iblk m c 2 s (ix2 n k) = V m c main_v15 (ix2 ⟨1024 * j + n.val, by omega⟩ k) :=
  congrArg (V m c main_v15) (funext fun a => Fin.ext (by
    match a with
    | ⟨0, _⟩ => show win0_2.index s 0 * 1024 + 1 * n.val = 1024 * j + n.val; omega
    | ⟨1, _⟩ => show 0 * 2048 + 1 * k.val = k.val; omega))

theorem blk3 (s : Fin cfg0.N) (n : Fin 128) (k : Fin 2048) : iblk m c 3 s (ix2 n k) = V m c main_v17 (ix2 n k) :=
  congrArg (V m c main_v17) (funext fun a => Fin.ext (by
    match a with
    | ⟨0, _⟩ => show 0 * 128 + 1 * n.val = n.val; omega
    | ⟨1, _⟩ => show 0 * 2048 + 1 * k.val = k.val; omega))

theorem blk4 (s : Fin cfg0.N) (a : Fin 4) (d : Fin 128) : iblk m c 4 s (ix2 a d) = V m c main_v20 (ix2 a d) :=
  congrArg (V m c main_v20) (funext fun i => Fin.ext (by
    match i with
    | ⟨0, _⟩ => show 0 * 4 + 1 * a.val = a.val; omega
    | ⟨1, _⟩ => show 0 * 128 + 1 * d.val = d.val; omega))

theorem blk5 (s : Fin cfg0.N) (h : Fin 8) : iblk m c 5 s (ix2 h 0) = V m c main_v22 (ix2 h 0) :=
  congrArg (V m c main_v22) (funext fun a => Fin.ext (by
    match a with
    | ⟨0, _⟩ => show 0 * 8 + 1 * h.val = h.val; omega
    | ⟨1, _⟩ => rfl))

/-- The program's arguments as they begin. -/
abbrev aX : FVec Ideal S8x2048x2048 .f32 := m ((c : Thread nD τ).loc main_arg0)
abbrev aN : FVec Ideal S1x2048 .f32 := m ((c : Thread nD τ).loc main_arg1)
abbrev aW : FVec Ideal S1x2048x7256 .f32 := m ((c : Thread nD τ).loc main_arg2)
abbrev aB : FVec Ideal S1x8 .f32 := m ((c : Thread nD τ).loc main_arg3)
abbrev aG0 : FVec Ideal S1x128 .f32 := m ((c : Thread nD τ).loc main_arg4)
abbrev aG1 : FVec Ideal S1x128 .f32 := m ((c : Thread nD τ).loc main_arg5)
abbrev aG2 : FVec Ideal S1x128 .f32 := m ((c : Thread nD τ).loc main_arg6)
abbrev aG3 : FVec Ideal S1x128 .f32 := m ((c : Thread nD τ).loc main_arg7)

theorem rows_at (f : FVec Ideal S8x2048x2048 .f32) (r : Fin 16384) (k : Fin 2048) :
    shapeCast S16384x2048 f shapeCasts_S8x2048x2048_S16384x2048 (ix2 r k) = f (ix3 (hi r) (lo r) k) := by
  pointwise [hi, lo]

theorem gain_row (f : FVec Ideal S1x2048 .f32) (k : Fin 2048) :
    shapeCast S1x2048 (shapeCast S2048 f shapeCasts_S1x2048_S2048) shapeCasts_S2048_S1x2048 (ix2 0 k) = f (ix2 0 k) := by
  pointwise

theorem bias_row (f : FVec Ideal S1x8 .f32) (h : Fin 8) :
    shapeCast S8x1 (shapeCast S8 f shapeCasts_S1x8_S8) shapeCasts_S8_S8x1 (ix2 h 0) = f (ix2 0 h) := by
  pointwise

theorem x_at (t : Fin cfg0.N) (r : Fin 1024) (k : Fin 2048) : iblk m c 0 (at_ 0 t) (ix2 r k) = aX m c (ix3 (hi (row t r)) (lo (row t r)) k) := by
  rw [blk0, V_x, row_at]; exact rows_at _ _ k

theorem n_at (s : Fin cfg0.N) (k : Fin 2048) : iblk m c 1 s (ix2 0 k) = aN m c (ix2 0 k) := by
  rw [blk1, V_n]; exact gain_row _ k

theorem b_at (s : Fin cfg0.N) (h : Fin 8) : iblk m c 5 s (ix2 h 0) = aB m c (ix2 0 h) := by
  rw [blk5, V_b]; exact bias_row _ h

theorem concat4_at (g0 g1 g2 g3 : FVec Ideal S1x128 .f32) (d : Fin 128) (f : S4x128.Idx → EReal)
    (hf : f = concatenate S4x128 0 [⟨S1x128, g0⟩, ⟨S1x128, g1⟩, ⟨S1x128, g2⟩, ⟨S1x128, g3⟩] concatenates_S1x128_S1x128_S1x128_S1x128_S4x128_d0) :
    f (ix2 0 d) = g0 (ix2 0 d) ∧ f (ix2 1 d) = g1 (ix2 0 d) := by
  subst hf
  refine ⟨?_, ?_⟩ <;> pointwise

theorem gain_at (s : Fin cfg0.N) (d : Fin 128) :
    gainRow0 (iblk m c 4 s) (ix2 0 d) = aG0 m c (ix2 0 d) ∧ gainRow1 (iblk m c 4 s) (ix2 0 d) = aG1 m c (ix2 0 d) := by
  have row (a : Fin 4) (i : S4x128.Idx) (h0 : (i 0).val = a.val) (h1 : (i 1).val = d.val) : iblk m c 4 s i = V m c main_v20 (ix2 a d) :=
    (congrArg (iblk m c 4 s) (funext fun e => Fin.ext (by
      match e with
      | ⟨0, _⟩ => exact h0
      | ⟨1, _⟩ => exact h1))).trans (blk4 m c s a d)
  have e1 : 0 + 1 * d.val = d.val := by omega
  obtain ⟨c0, c1⟩ := concat4_at (aG0 m c) (aG1 m c) (aG2 m c) (aG3 m c) d (V m c main_v20) (V_gains m c)
  exact ⟨(row 0 _ rfl e1).trans c0, (row 1 _ rfl e1).trans c1⟩

/-- The normed rows. -/
theorem normed_at (t : Fin cfg0.N) (r : Fin 1024) (k : Fin 2048) : o6 m c t (ix2 r k)
    = Cert.ProjLayer.norm (Ideal.ofBits FTy.f32 1157627904#32) (fun k => aX m c (ix3 (hi (row t r)) (lo (row t r)) k)) (fun k => aN m c (ix2 0 k)) k := by
  refine (norm_at _ _ r k).trans ?_
  simp only [x_at, n_at]

/-- Row `r`'s projection onto column `q`, as the program's arguments have it. -/
abbrev colAt (r : Fin 16384) (q : Fin 7256) : EReal := col (aX m c) (aN m c) (aW m c) r q

/-- The product of one step with a wide block: columns `o` and on. -/
theorem dot_step (t s : Fin cfg0.N) (j o : ℕ) (hj : win0_2.index s 0 = j) (h7 : j < 7) (ho : ∀ n, n < 1024 → colOf (1024 * j + n) = o + n)
    (hO : o + 1024 ≤ 7256) (r : Fin 1024) (n : Fin 1024) : dotAt (o6 m c t) (iblk m c 2 s) r n = colAt m c (row t r) ⟨o + n.val, by omega⟩ := by
  unfold dotAt colAt col proj
  refine Finset.sum_congr rfl fun k _ => ?_
  rw [normed_at, blk2 m c s j hj h7 n k, V_wide, wide_at]
  refine congrArg (_ * ·) (congrArg (aW m c) (congrArg (ix3 0 k) (Fin.ext ?_)))
  exact ho n.val n.isLt

theorem slim_row (s : Fin cfg0.N) (n : Fin 128) (k : Fin 2048) : iblk m c 3 s (ix2 n k)
    = if h : n.val < 64 then aW m c (ix3 0 k ⟨7176 + n.val, by omega⟩) else if h : n.val - 64 < 16 then aW m c (ix3 0 k ⟨7240 + (n.val - 64), by omega⟩)
      else if h : n.val - 64 - 16 < 8 then aW m c (ix3 0 k ⟨2048 + (n.val - 64 - 16), by omega⟩) else 0 := by
  rw [blk3, V_slim, slim_at]

/-- The product of the last step, with the narrow block. -/
theorem dot_slim (t s : Fin cfg0.N) (r : Fin 1024) (n : Fin 128) : dotAt (o6 m c t) (iblk m c 3 s) r n
    = narrow (fun k => colAt m c (row t r) ⟨7176 + k.val, by omega⟩) (fun k => colAt m c (row t r) ⟨7240 + k.val, by omega⟩)
        (fun k => colAt m c (row t r) ⟨2048 + k.val, by omega⟩) n := by
  unfold dotAt narrow
  simp only [normed_at, slim_row]
  split_ifs
  · rfl
  · rfl
  · rfl
  · simp only [mul_zero, Finset.sum_const_zero]

theorem dot0 (t : Fin cfg0.N) (r : Fin 1024) (n : Fin 1024) : dotAt (o6 m c t) (iblk m c 2 (at_ 0 t)) r n = colAt m c (row t r) ⟨0 + n.val, by omega⟩ :=
  dot_step m c t _ 0 0 (ind2 t).1 (by omega) (by intro n hn; unfold colOf; split_ifs <;> omega) (by omega) r n
theorem dot1 (t : Fin cfg0.N) (r : Fin 1024) (n : Fin 1024) : dotAt (o6 m c t) (iblk m c 2 (at_ 1 t)) r n = colAt m c (row t r) ⟨1024 + n.val, by omega⟩ :=
  dot_step m c t _ 1 1024 (ind2 t).2 (by omega) (by intro n hn; unfold colOf; split_ifs <;> omega) (by omega) r n

/-! ## The blocks, then the arrays, at an index -/

theorem o7_at (t : Fin cfg0.N) (r : Fin 1024) (j : Fin 1024) : o7 m c t (ix2 r j)
    = head (fun d => colAt m c (row t r) ⟨0 + (j.val / 128 * 128 + d.val), by omega⟩) (fun d => aG0 m c (ix2 0 d)) ⟨j.val % 128, by omega⟩
      * Ideal.ofBits FTy.f32 1040356334#32 := by
  refine (queries_at _ _ _ r j).trans ?_
  simp only [dot0, (gain_at m c _ _).1]

theorem o8_at (t : Fin cfg0.N) (i : Fin 4096) (d : Fin 128) : o8 m c t (ix2 i d)
    = head (fun d => colAt m c (row t ⟨i.val / 4, by omega⟩) ⟨1024 + (i.val % 4 * 128 + d.val), by omega⟩) (fun d => aG1 m c (ix2 0 d)) d := by
  refine (keys_at _ _ _ i d).trans ?_
  simp only [dot1, (gain_at m c _ _).2]

theorem o10_at (t : Fin cfg0.N) (i : Fin 4096) (d : Fin 128) :
    o10 m c t (ix2 i d) = colAt m c (row t ⟨i.val / 4, by omega⟩) ⟨1536 + (i.val % 4 * 128 + d.val), by omega⟩ := by
  refine (values_at _ _ i d).trans ((dot1 m c t _ _).trans (congrArg (colAt m c _) (Fin.ext ?_)))
  show 1024 + (512 + (i.val % 4 * 128 + d.val)) = 1536 + (i.val % 4 * 128 + d.val)
  omega

theorem o12_at (t : Fin cfg0.N) (r : Fin 1024) (j : Fin 128) : o12 m c t (ix2 r j)
    = narrow (fun k => colAt m c (row t r) ⟨7176 + k.val, by omega⟩) (fun k => colAt m c (row t r) ⟨7240 + k.val, by omega⟩)
        (fun k => colAt m c (row t r) ⟨2048 + k.val, by omega⟩) j :=
  (narrow_at _ _ r j).trans (dot_slim m c t _ r j)

theorem o13_at (t : Fin cfg0.N) (h : Fin 8) (r : Fin 1024) : o13 m c t (ix2 h r) = logSig (colAt m c (row t r) ⟨2048 + h.val, by omega⟩ + aB m c (ix2 0 h)) := by
  refine (log_at _ _ _ h r).trans ?_
  rw [dot_slim, b_at]
  refine congrArg (fun z => logSig (z + _)) ?_
  unfold narrow
  rw [dif_neg (show ¬ 80 + h.val < 64 by omega), dif_neg (show ¬ 80 + h.val - 64 < 16 by omega), dif_pos (show 80 + h.val - 64 - 16 < 8 by omega)]
  exact congrArg (colAt m c (row t r)) (Fin.ext (show 2048 + (80 + h.val - 64 - 16) = 2048 + h.val by omega))

theorem row_of (r : Fin 16384) : row (stepOf (r.val / 1024) (by omega)) ⟨r.val % 1024, by omega⟩ = r := Fin.ext (by
  show 1024 * ((r.val / 1024 * 3 + 2) / 3) + r.val % 1024 = r.val; omega)
theorem row4_of (i : Fin 65536) : row4 (stepOf (i.val / 4096) (by omega)) ⟨i.val % 4096, by omega⟩ = i := Fin.ext (by
  show 4096 * ((i.val / 4096 * 3 + 2) / 3) + i.val % 4096 = i.val; omega)
theorem row_of4 (i : Fin 65536) : row (stepOf (i.val / 4096) (by omega)) ⟨i.val % 4096 / 4, by omega⟩ = ⟨i.val / 4, by omega⟩ := Fin.ext (by
  show 1024 * ((i.val / 4096 * 3 + 2) / 3) + i.val % 4096 / 4 = i.val / 4; omega)
theorem ends (n : ℕ) (h : n < 16) : (stepOf n h).val % 3 = 2 := by show (n * 3 + 2) % 3 = 2; omega
theorem head_of (i : Fin 65536) : i.val % 4096 % 4 = i.val % 4 := by omega

theorem fin7_at (r : Fin 16384) (j : Fin 1024) : (dats m 0 c).arrAt 7 cfg0.N (ix2 r j)
    = head (fun d => colAt m c r ⟨0 + (j.val / 128 * 128 + d.val), by omega⟩) (fun d => aG0 m c (ix2 0 d)) ⟨j.val % 128, by omega⟩
      * Ideal.ofBits FTy.f32 1040356334#32 := by
  have h := (arr7 m c _ (ends (r.val / 1024) (by omega)) ⟨r.val % 1024, by omega⟩ j).trans (o7_at m c _ _ j)
  rw [row_of] at h; exact h

theorem fin8_at (i : Fin 65536) (d : Fin 128) : (dats m 0 c).arrAt 8 cfg0.N (ix2 i d)
    = head (fun d => colAt m c ⟨i.val / 4, by omega⟩ ⟨1024 + (i.val % 4 * 128 + d.val), by omega⟩) (fun d => aG1 m c (ix2 0 d)) d := by
  have h := (arr8 m c _ (ends (i.val / 4096) (by omega)) ⟨i.val % 4096, by omega⟩ d).trans (o8_at m c _ _ d)
  rw [row4_of, row_of4] at h; simp only [head_of] at h; exact h

theorem fin10_at (i : Fin 65536) (d : Fin 128) :
    (dats m 0 c).arrAt 10 cfg0.N (ix2 i d) = colAt m c ⟨i.val / 4, by omega⟩ ⟨1536 + (i.val % 4 * 128 + d.val), by omega⟩ := by
  have h := (arr10 m c _ (ends (i.val / 4096) (by omega)) ⟨i.val % 4096, by omega⟩ d).trans (o10_at m c _ _ d)
  rw [row4_of, row_of4] at h; simp only [head_of] at h; exact h

theorem fin12_at (r : Fin 16384) (j : Fin 128) : (dats m 0 c).arrAt 12 cfg0.N (ix2 r j)
    = narrow (fun k => colAt m c r ⟨7176 + k.val, by omega⟩) (fun k => colAt m c r ⟨7240 + k.val, by omega⟩)
        (fun k => colAt m c r ⟨2048 + k.val, by omega⟩) j := by
  have h := (arr12 m c _ (ends (r.val / 1024) (by omega)) ⟨r.val % 1024, by omega⟩ j).trans (o12_at m c _ _ j)
  rw [row_of] at h; exact h

theorem fin13_at (h : Fin 8) (r : Fin 16384) : (dats m 0 c).arrAt 13 cfg0.N (ix2 h r) = logSig (colAt m c r ⟨2048 + h.val, by omega⟩ + aB m c (ix2 0 h)) := by
  have e := (arr13 m c _ (ends (r.val / 1024) (by omega)) h ⟨r.val % 1024, by omega⟩).trans (o13_at m c _ h _)
  rw [row_of] at e; exact e

end Cert.PromptLayer

end
-- ==== Proof.PromptClaim.lean ====
/-
  The claims about the prompt's first projection call: its frames at both instances and the equality with the plain
  reference.
-/
module

public import proofs.«01_k».proof.Defs
public import proofs.«01_k».proof.Proof.PromptArray
public import proofs.«01_k».proof.Proof.Gen.Kernel5
public import proofs.«01_k».proof.Proof.Gen.Reference5Ideal

@[expose] public section

noncomputable section

namespace Cert.PromptLayer

open Idealize.ShloMosaic Idealize.ShloMosaic.TcCoe Idealize.SL.Sem

set_option maxHeartbeats 4000000 in
/-- The two printed programs run the same body at their one label. -/
theorem bodies_eq : Cert.Kernel5.defs₀ (F := Bits) = Cert.Kernel5Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel5.defs (F := Bits) = Cert.Kernel5Ideal.defs (F := Bits) :=
  congrArg (Pipeline.defs Cert.Kernel5Ideal.pcfgs) bodies_eq

set_option maxHeartbeats 4000000 in
theorem frame_kernel : Cert.quiescent_Kernel5 := fun m ρ _ => by
  rw [defs_eq]
  exact Cert.Kernel5Ideal.Proj.frame (F := Bits) m ρ

set_option maxHeartbeats 4000000 in
theorem frame_ideal : Cert.quiescent_Kernel5Ideal := fun m ρ _ => Cert.Kernel5Ideal.Proj.frame m ρ
set_option maxHeartbeats 4000000 in
theorem frame_refIdeal : Cert.quiescent_Reference5Ideal := fun m ρ _ =>
  (θ_run Cert.Reference5Ideal.defs _ _).mono
    (fun r hr => ⟨fun c => (hr c).2.2.2.2.2, sem_eq_zero_of_no_sems (by decide) r.2⟩)
    (Cert.Reference5Ideal.Value.run (F := Ideal) m ρ)

section Agree
open Cert.Kernel5Ideal Cert.Kernel5Ideal.Gen Cert.Kernel5Ideal.Proj

variable (m : (ℓ : Loc nD τ sig) → Buf (Elt Ideal) ℓ) (c : Dev nD)

/-- The reference's product at the kernel's arguments. -/
abbrev prod : FVec Ideal Cert.Reference5Ideal.S8x2048x7256 .f32 := refProd (aX m c) (aN m c) (aW m c)

theorem agree_q (h) : refQueries (extractStridedSlice Cert.Reference5Ideal.S8x2048x1024 ![0, 0, 0] (prod m c) h) (aG0 m c) = (dats m 0 c).arrAt 7 cfg0.N := by
  funext i; rw [eq_ix2 i]; exact (queries_of _ _ _ 0 h (by omega) _ _ _).trans (fin7_at m c _ _).symm
theorem agree_k (h) : refKeys (extractStridedSlice Cert.Reference5Ideal.S8x2048x512 ![0, 0, 1024] (prod m c) h) (aG1 m c) = (dats m 0 c).arrAt 8 cfg0.N := by
  funext i; rw [eq_ix2 i]; exact (keys_of _ _ _ 1024 h (by omega) _ _ _).trans (fin8_at m c _ _).symm
theorem agree_v (h) : refValues (extractStridedSlice Cert.Reference5Ideal.S8x2048x512 ![0, 0, 1536] (prod m c) h) = (dats m 0 c).arrAt 10 cfg0.N := by
  funext i; rw [eq_ix2 i]; exact (values_of _ _ _ 1536 h (by omega) _ _).trans (fin10_at m c _ _).symm
theorem agree_small (h h' h'') : refNarrow (extractStridedSlice Cert.Reference5Ideal.S8x2048x64 ![0, 0, 7176] (prod m c) h)
    (extractStridedSlice Cert.Reference5Ideal.S8x2048x16 ![0, 0, 7240] (prod m c) h')
    (extractStridedSlice Cert.Reference5Ideal.S8x2048x8 ![0, 0, 2048] (prod m c) h'') = (dats m 0 c).arrAt 12 cfg0.N := by
  funext i; rw [eq_ix2 i]; exact (narrow_of _ _ _ h h' h'' _ _).trans (fin12_at m c _ _).symm
theorem agree_log : refLog (refLogits (aX m c) (aN m c) (aW m c) (aB m c)) = (dats m 0 c).arrAt 13 cfg0.N := by
  funext i; rw [eq_ix2 i]; exact (log_of _ _ _ _ _ _).trans (fin13_at m c _ _).symm

set_option maxHeartbeats 4000000 in
/-- The kernel's run, with its results and its arguments. -/
theorem run_values (g : Dev nD → PrngReg) : θ_run defs (onTc (τ := τ) (main (F := Ideal))) ⟨m, fun _ => 0, g⟩ (fun r => ∀ c : Dev nD,
      (r.2.mem ((c.tc : Thread nD τ).loc main_v24_1) = (dats m 0 c).arrAt 7 cfg0.N ∧ r.2.mem ((c.tc : Thread nD τ).loc main_v24_2) = (dats m 0 c).arrAt 8 cfg0.N
      ∧ r.2.mem ((c.tc : Thread nD τ).loc main_v24_4) = (dats m 0 c).arrAt 10 cfg0.N ∧ r.2.mem ((c.tc : Thread nD τ).loc main_v24_6) = (dats m 0 c).arrAt 12 cfg0.N
      ∧ r.2.mem ((c.tc : Thread nD τ).loc main_v24_7) = (dats m 0 c).arrAt 13 cfg0.N)) :=
  (θ_run defs _ _).mono (fun _ h c => ⟨(h c).1 7, (h c).1 8, (h c).1 10, (h c).1 12, (h c).1 13⟩) (run_main m g)

end Agree

theorem algebraic : Cert.algebraic_Kernel5Ideal_Reference5Ideal := by
  intro m g m' g' _ h
  refine ⟨fun c => (Cert.Kernel5Ideal.Proj.dats m 0 c).arrAt 7 Cert.Kernel5Ideal.cfg0.N, fun c => (Cert.Kernel5Ideal.Proj.dats m 0 c).arrAt 8 Cert.Kernel5Ideal.cfg0.N,
    fun c => (Cert.Kernel5Ideal.Proj.dats m 0 c).arrAt 10 Cert.Kernel5Ideal.cfg0.N, fun c => (Cert.Kernel5Ideal.Proj.dats m 0 c).arrAt 12 Cert.Kernel5Ideal.cfg0.N,
    fun c => (Cert.Kernel5Ideal.Proj.dats m 0 c).arrAt 13 Cert.Kernel5Ideal.cfg0.N, ?_, ?_⟩
  · refine (θ_run Cert.Kernel5Ideal.defs _ _).mono (fun r hr c => ?_) (θ_run_and (run_values m g) (Cert.Kernel5Ideal.Proj.unchanged m g))
    obtain ⟨a0, a1, a2, a3, a4⟩ := hr.1 c
    exact ⟨a0, a1, a2, a3, a4, hr.2 c⟩
  · refine (θ_run Cert.Reference5Ideal.defs _ _).mono (fun r hr c => ?_) (Cert.Reference5Ideal.Value.run (F := Ideal) m' g')
    obtain ⟨h0, h1, h2, h3, h4, h5, h6, h7⟩ := h c
    obtain ⟨a0, a1, a2, a3, a4, a⟩ := hr c
    refine ⟨a0.trans ?_, a1.trans ?_, a2.trans ?_, a3.trans ?_, a4.trans ?_, a⟩
    · unfold Cert.Reference5Ideal.Value.res_main_v68; rw [h0, h1, h2, h4]; exact agree_q m c _
    · unfold Cert.Reference5Ideal.Value.res_main_v69; rw [h0, h1, h2, h5]; exact agree_k m c _
    · rw [h0, h1, h2]; exact agree_v m c _
    · rw [h0, h1, h2]; exact agree_small m c _ _ _
    · unfold Cert.Reference5Ideal.Value.res_main_v73; rw [h0, h1, h2, h3]; exact agree_log m c

end Cert.PromptLayer

end
-- ==== Proof.SecondSteps.lean ====
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Basic
public import Idealize.ShloMosaic.Lib.Pipeline.Value
public import proofs.«01_k».proof.Proof.PromptSteps

/-!
The prompt's second projection runs its body twice over each block of normed rows: it makes the sparse queries, then the
sparse keys and values. What it makes of the rows and the weights is what the first projection makes of them, so the two
steps are stated with the first's functions; each is run once, on buffers and at a grid position that are left general.
-/

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen
open Cert.Kernel5Ideal.Proj (queries keys values keys16 values16 interleave zeros2 load_all store_all store_rows)

variable {F : FTy → Type} [FloatOps F]

local notation "𝕄" => MT nD τ sig Unit (Elt F) ℕ (UR sig nD τ) ℕ

/-- The staging buffers the body is called with: six blocks of inputs, then the five blocks it fills. -/
structure Bufs where
  a0 : Memref sig .tc .vmem S1024x2048 .bf16
  h0 : a0.IsWhole
  a1 : Memref sig .tc .vmem S1x2048 .f32
  h1 : a1.IsWhole
  a2 : Memref sig .tc .vmem S1024x2048 .bf16
  h2 : a2.IsWhole
  a3 : Memref sig .tc .vmem S128x2048 .bf16
  h3 : a3.IsWhole
  a4 : Memref sig .tc .vmem S4x128 .f32
  h4 : a4.IsWhole
  a5 : Memref sig .tc .vmem S8x1 .f32
  h5 : a5.IsWhole
  a6 : Memref sig .tc .vmem S1024x1024 .bf16
  h6 : a6.IsWhole
  a7 : Memref sig .tc .vmem S4096x128 .f32
  h7 : a7.IsWhole
  a8 : Memref sig .tc .vmem S1024x512 .bf16
  h8 : a8.IsWhole
  a9 : Memref sig .tc .vmem S4096x128 .f32
  h9 : a9.IsWhole
  a10 : Memref sig .tc .vmem S1024x512 .bf16
  h10 : a10.IsWhole

/-- The body at the grid position `i` on the buffers `M`. -/
abbrev Bufs.body (M : Bufs) (i : grid0.Coords) : Prog (TpuEff nD τ sig (Elt F) Λ₀ .tc) PUnit :=
  cc0_proj_dq i M.a0 M.h0 M.a1 M.h1 M.a2 M.h2 M.a3 M.h3 M.a4 M.h4 M.a5 M.h5 M.a6 M.h6 M.a7 M.h7 M.a8 M.h8 M.a9 M.h9 M.a10 M.h10

/-! ## What each step computes -/

/-- Row `k` of the table of norm gains, as the body loads it. -/
def gainRow2 (g : Vec F S4x128 .f32) : Vec F S1x128 .f32 := View.ld g (Rect.unit (s := S4x128) ![2, 0] S1x128.size inb_S4x128_S1x128_2_0)
def gainRow3 (g : Vec F S4x128 .f32) : Vec F S1x128 .f32 := View.ld g (Rect.unit (s := S4x128) ![3, 0] S1x128.size inb_S4x128_S1x128_3_0)

variable (xn : Vec F S1024x2048 .bf16) (w : Vec F S1024x2048 .bf16) (g : Vec F S1x128 .f32)

/-- The first projection casts its rows to the shape they have, the second does not. -/
theorem dot_same : k0_pay4 xn w = Cert.Kernel5Ideal.Gen.k0_pay7 xn w := by
  unfold k0_pay4 Cert.Kernel5Ideal.Gen.k0_pay7; simp only [shapeCast_self]; rfl
theorem dot_same' : k0_pay15 xn w = Cert.Kernel5Ideal.Gen.k0_pay18 xn w := by
  unfold k0_pay15 Cert.Kernel5Ideal.Gen.k0_pay18; simp only [shapeCast_self]; rfl

/-- Its queries are the first projection's, -/
theorem queries_same : k0_pay1 (k0_pay4 xn w) (k0_pay5 g) (k0_pay6 xn w g) (k0_pay7 xn w g) (k0_pay10 (k0_pay5 g) (k0_pay8 xn w) (k0_pay9 xn w) (Scalar.ofBits .f32 0x358637BD#32))
    (k0_pay11 (k0_pay4 xn w) (k0_pay5 g)) (k0_pay12 (k0_pay4 xn w) (k0_pay5 g)) (k0_pay13 (k0_pay4 xn w)) (k0_pay14 (k0_pay4 xn w)) = queries xn w g := by
  unfold queries k0_pay6 k0_pay7 k0_pay9 k0_pay8
  unfold Cert.Kernel5Ideal.Gen.k0_pay9 Cert.Kernel5Ideal.Gen.k0_pay10 Cert.Kernel5Ideal.Gen.k0_pay12 Cert.Kernel5Ideal.Gen.k0_pay11
  rw [dot_same]; rfl

/-- A per-head function applied to what the keys' half of the step hands on. -/
abbrev handed {α : Type} (f : FVec F S1024x512 .f32 → FVec F S1x128 .f32 → FVec F S1024x128 .f32 → FVec F S1024x128 .f32 → FVec F S1024x128 .f32 → α) : α :=
  f (k0_pay16 xn w) (k0_pay17 g) (k0_pay18 xn w g) (k0_pay19 xn w g) (k0_pay20 xn w)

/-- and so are its keys and values. -/
theorem keys_same : interleave (handed xn w g k0_pay22) (handed xn w g k0_pay23) (handed xn w g k0_pay24) (handed xn w g k0_pay25) = keys xn w g := by
  unfold keys Cert.Kernel5Ideal.Proj.onKeys handed k0_pay18 k0_pay19 k0_pay20 k0_pay16
  unfold Cert.Kernel5Ideal.Gen.k0_pay21 Cert.Kernel5Ideal.Gen.k0_pay22 Cert.Kernel5Ideal.Gen.k0_pay24 Cert.Kernel5Ideal.Gen.k0_pay23 Cert.Kernel5Ideal.Gen.k0_pay19
  rw [dot_same']; rfl
theorem keys16_same : handed xn w g k0_pay26 = keys16 xn w g := by
  unfold keys16 Cert.Kernel5Ideal.Proj.onKeys handed k0_pay18 k0_pay19 k0_pay20 k0_pay16
  unfold Cert.Kernel5Ideal.Gen.k0_pay21 Cert.Kernel5Ideal.Gen.k0_pay22 Cert.Kernel5Ideal.Gen.k0_pay24 Cert.Kernel5Ideal.Gen.k0_pay23 Cert.Kernel5Ideal.Gen.k0_pay19
  rw [dot_same']; rfl
theorem values_same : interleave (k0_pay28 (k0_pay15 xn w)) (k0_pay29 (k0_pay15 xn w)) (k0_pay30 (k0_pay15 xn w)) (k0_pay2 (k0_pay27 (k0_pay15 xn w))) = values xn w := by
  rw [dot_same']; rfl
theorem values16_same : k0_pay3 (k0_pay15 xn w) = values16 xn w := by
  rw [dot_same']; rfl

/-- A buffer whose contents read as `x` is one owned at `x`. -/
theorem give (c : Dev nD) {s : Shape} {e : EltTy} (a : Memref sig .tc .vmem s e) (f : Buf (Elt F) (a.view.loc (c : Thread nD τ)))
    (x : s.Idx → Elt F e) (h : View.read (Elt F) a.view f = x) :
    iprop(a.view.loc (c : Thread nD τ) ↦[a.view.set]{fullShare} f) ⊢ (iprop(∃ f, ⌜View.read (Elt F) a.view f = x⌝ ∗ (a.view.loc (c : Thread nD τ) ↦[a.view.set]{fullShare} f)) : sProp 𝕄) := by
  iintro H; iexists f; isplitr; · ipureintro; exact h
  iexact H

/-! ## The steps -/

set_option maxHeartbeats 2000000 in
/-- The sparse queries. -/
theorem step_queries (c : Dev nD) (M : Bufs) (i : grid0.Coords) (c1 : k0_cond1 i = 1#1) (c2 : ¬ k0_cond2 i = 1#1) (xn : Vec F S1024x2048 .bf16) (w : Vec F S1024x2048 .bf16) (g : Vec F S4x128 .f32) (K : PUnit → sProp 𝕄) :
    iprop(owns (c : Thread nD τ) M.a0 fullShare xn ∗ owns (c : Thread nD τ) M.a2 fullShare w ∗ owns (c : Thread nD τ) M.a4 fullShare g ∗ (∃ d, owns (c : Thread nD τ) M.a6 fullShare d)
        ∗ (iprop(owns (c : Thread nD τ) M.a0 fullShare xn ∗ owns (c : Thread nD τ) M.a2 fullShare w ∗ owns (c : Thread nD τ) M.a4 fullShare g ∗ owns (c : Thread nD τ) M.a6 fullShare (queries xn w (gainRow2 g))) -∗ K ⟨⟩))
      ⊢ wp frame (wpE (defs₀ (F := F)) Variants.none c none) Set.univ (M.body i) K := by
  obtain ⟨a0, h0, a1, h1, a2, h2, a3, h3, a4, h4, a5, h5, a6, h6, a7, h7, a8, h8, a9, h9, a10, h10⟩ := M
  dsimp only [Bufs.body]
  simp only [cc0_proj_dq_eq_skeleton]; unfold cc0_proj_dq_skel
  simp only [k0_part1_eq_skeleton, k0_part2_eq_skeleton]
  unfold owns
  iintro ⟨⟨%f0, %e0, H0⟩, ⟨%f2, %e2, H2⟩, ⟨%f4, %e4, H4⟩, ⟨%d6, %f6, -, H6⟩, Hk⟩
  subst e0 e2 e4
  have l0 : View.readAt (Elt F) a0.view (Rect.unit (s := S1024x2048) ![0, 0] S1024x2048.size inb_S1024x2048_S1024x2048_0_0).toLoadRect f0 = View.read (Elt F) a0.view f0 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := assumption)
  sl_step
  iapply Hk
  isplitl [H0]; · iapply (give _ _ _ _ rfl); iexact H0
  isplitl [H2]; · iapply (give _ _ _ _ rfl); iexact H2
  isplitl [H4]; · iapply (give _ _ _ _ rfl); iexact H4
  iapply (give _ _ _ _ ?_)
  swap; · iexact H6
  exact (store_all _ _ zeros2 _ _).trans (queries_same _ _ _)

set_option maxHeartbeats 2000000 in
/-- The sparse keys and values. -/
theorem step_keys (c : Dev nD) (M : Bufs) (i : grid0.Coords) (c1 : ¬ k0_cond1 i = 1#1) (c2 : k0_cond2 i = 1#1) (xn : Vec F S1024x2048 .bf16) (w : Vec F S1024x2048 .bf16) (g : Vec F S4x128 .f32) (K : PUnit → sProp 𝕄) :
    iprop(owns (c : Thread nD τ) M.a0 fullShare xn ∗ owns (c : Thread nD τ) M.a2 fullShare w ∗ owns (c : Thread nD τ) M.a4 fullShare g ∗ (∃ d, owns (c : Thread nD τ) M.a7 fullShare d) ∗ (∃ d, owns (c : Thread nD τ) M.a8 fullShare d) ∗ (∃ d, owns (c : Thread nD τ) M.a9 fullShare d) ∗ (∃ d, owns (c : Thread nD τ) M.a10 fullShare d)
        ∗ (iprop(owns (c : Thread nD τ) M.a0 fullShare xn ∗ owns (c : Thread nD τ) M.a2 fullShare w ∗ owns (c : Thread nD τ) M.a4 fullShare g ∗ owns (c : Thread nD τ) M.a7 fullShare (keys xn w (gainRow3 g)) ∗ owns (c : Thread nD τ) M.a8 fullShare (keys16 xn w (gainRow3 g)) ∗ owns (c : Thread nD τ) M.a9 fullShare (values xn w) ∗ owns (c : Thread nD τ) M.a10 fullShare (values16 xn w)) -∗ K ⟨⟩))
      ⊢ wp frame (wpE (defs₀ (F := F)) Variants.none c none) Set.univ (M.body i) K := by
  obtain ⟨a0, h0, a1, h1, a2, h2, a3, h3, a4, h4, a5, h5, a6, h6, a7, h7, a8, h8, a9, h9, a10, h10⟩ := M
  dsimp only [Bufs.body]
  simp only [cc0_proj_dq_eq_skeleton]; unfold cc0_proj_dq_skel
  simp only [k0_part3_eq_skeleton, k0_part4_eq_skeleton]
  unfold owns
  iintro ⟨⟨%f0, %e0, H0⟩, ⟨%f2, %e2, H2⟩, ⟨%f4, %e4, H4⟩, ⟨%d7, %f7, -, H7⟩, ⟨%d8, %f8, -, H8⟩, ⟨%d9, %f9, -, H9⟩, ⟨%d10, %f10, -, H10⟩, Hk⟩
  subst e0 e2 e4
  have l0 : View.readAt (Elt F) a0.view (Rect.unit (s := S1024x2048) ![0, 0] S1024x2048.size inb_S1024x2048_S1024x2048_0_0).toLoadRect f0 = View.read (Elt F) a0.view f0 := load_all _ _ _
  have l2 : View.readAt (Elt F) a2.view (Rect.unit (s := S1024x2048) ![0, 0] S1024x2048.size inb_S1024x2048_S1024x2048_0_0).toLoadRect f2 = View.read (Elt F) a2.view f2 := load_all _ _ _
  sl_exec (disch := assumption)
  sl_step
  iapply Hk
  isplitl [H0]; · iapply (give _ _ _ _ rfl); iexact H0
  isplitl [H2]; · iapply (give _ _ _ _ rfl); iexact H2
  isplitl [H4]; · iapply (give _ _ _ _ rfl); iexact H4
  isplitl [H7]
  · iapply (give _ _ _ _ ?_)
    swap; · iexact H7
    exact (store_rows _ _ _ _ _ _).trans (keys_same _ _ _)
  isplitl [H8]
  · iapply (give _ _ _ _ ?_)
    swap; · iexact H8
    exact (store_all _ _ zeros2 _ _).trans (keys16_same _ _ _)
  isplitl [H9]
  · iapply (give _ _ _ _ ?_)
    swap; · iexact H9
    exact (store_rows _ _ _ _ _ _).trans (values_same _ _)
  iapply (give _ _ _ _ ?_)
  swap; · iexact H10
  exact (store_all _ _ zeros2 _ _).trans (values16_same _ _)

end Cert.Kernel6Ideal.Proj
-- ==== Proof.SecondRun.lean ====
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import proofs.«01_k».proof.Proof.SecondSteps

/-!
The prompt's second projection as a whole: what every buffer of the pipeline holds after each step, the two steps put together
over the grid, and the run of the whole program. The queries are filled at the first step of a block of rows and carried to the
second, where all the outputs are written back; so an output's contents are said once, from the step that fills it.
-/

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen
open Cert.Kernel5Ideal.Proj (queries keys values keys16 values16)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each output block ends with -/

/-- Step `k` of the two that the block of rows of step `t` goes through. -/
def at_ (k : Fin 2) (t : Fin cfg0.N) : Fin cfg0.N := ⟨t.val / 2 * 2 + k.val, by have h : t.val < 32 := t.isLt; show _ < 32; omega⟩

theorem at_self (k : Fin 2) (t : Fin cfg0.N) (h : t.val % 2 = k.val) : at_ k t = t := Fin.ext (by show t.val / 2 * 2 + k.val = t.val; omega)

theorem at_same (k : Fin 2) (t t' : Fin cfg0.N) (h : t.val / 2 = t'.val / 2) : at_ k t = at_ k t' := Fin.ext (by show t.val / 2 * 2 + k.val = t'.val / 2 * 2 + k.val; rw [h])

/-- Output block 6 as step `s` fills it: sparse queries. -/
def f6 (c : Dev nD) (s : Fin cfg0.N) : Vec F S1024x1024 .bf16 := queries (iblk m c 0 s) (iblk m c 2 s) (gainRow2 (iblk m c 4 s))
/-- What it holds when step `t`, of the same rows, is through. -/
def o6 (c : Dev nD) (t : Fin cfg0.N) : Vec F S1024x1024 .bf16 := f6 m c (at_ 0 t)
theorem o6_same (c : Dev nD) (t t' : Fin cfg0.N) (h : t.val / 2 = t'.val / 2) : o6 m c t = o6 m c t' := congrArg (f6 m c) (at_same 0 t t' h)
/-- Output block 7 as step `s` fills it: sparse keys. -/
def f7 (c : Dev nD) (s : Fin cfg0.N) : Vec F S4096x128 .f32 := keys (iblk m c 0 s) (iblk m c 2 s) (gainRow3 (iblk m c 4 s))
/-- What it holds when step `t`, of the same rows, is through. -/
def o7 (c : Dev nD) (t : Fin cfg0.N) : Vec F S4096x128 .f32 := f7 m c (at_ 1 t)
theorem o7_same (c : Dev nD) (t t' : Fin cfg0.N) (h : t.val / 2 = t'.val / 2) : o7 m c t = o7 m c t' := congrArg (f7 m c) (at_same 1 t t' h)
/-- Output block 8 as step `s` fills it: sparse keys, sixteen bits. -/
def f8 (c : Dev nD) (s : Fin cfg0.N) : Vec F S1024x512 .bf16 := keys16 (iblk m c 0 s) (iblk m c 2 s) (gainRow3 (iblk m c 4 s))
/-- What it holds when step `t`, of the same rows, is through. -/
def o8 (c : Dev nD) (t : Fin cfg0.N) : Vec F S1024x512 .bf16 := f8 m c (at_ 1 t)
theorem o8_same (c : Dev nD) (t t' : Fin cfg0.N) (h : t.val / 2 = t'.val / 2) : o8 m c t = o8 m c t' := congrArg (f8 m c) (at_same 1 t t' h)
/-- Output block 9 as step `s` fills it: sparse values. -/
def f9 (c : Dev nD) (s : Fin cfg0.N) : Vec F S4096x128 .f32 := values (iblk m c 0 s) (iblk m c 2 s)
/-- What it holds when step `t`, of the same rows, is through. -/
def o9 (c : Dev nD) (t : Fin cfg0.N) : Vec F S4096x128 .f32 := f9 m c (at_ 1 t)
theorem o9_same (c : Dev nD) (t t' : Fin cfg0.N) (h : t.val / 2 = t'.val / 2) : o9 m c t = o9 m c t' := congrArg (f9 m c) (at_same 1 t t' h)
/-- Output block 10 as step `s` fills it: sparse values, sixteen bits. -/
def f10 (c : Dev nD) (s : Fin cfg0.N) : Vec F S1024x512 .bf16 := values16 (iblk m c 0 s) (iblk m c 2 s)
/-- What it holds when step `t`, of the same rows, is through. -/
def o10 (c : Dev nD) (t : Fin cfg0.N) : Vec F S1024x512 .bf16 := f10 m c (at_ 1 t)
theorem o10_same (c : Dev nD) (t t' : Fin cfg0.N) (h : t.val / 2 = t'.val / 2) : o10 m c t = o10 m c t' := congrArg (f10 m c) (at_same 1 t t' h)

/-- What the buffers hold after a step: an input's its block, an output's what it is filled with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
    | ⟨7, _⟩ => o7 m c t
    | ⟨8, _⟩ => o8 m c t
    | ⟨9, _⟩ => o9 m c t
    | ⟨10, _⟩ => o10 m c t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

set_option maxHeartbeats 4000000 in
/-- An output's final contents are the same at the two steps of a block of rows. -/
theorem after_out (c : Dev nD) (w : Fin 11) (hw : 6 ≤ w.val) (t t' : Fin cfg0.N) (e : t.val / 2 = t'.val / 2) : (dats m 0 c).after w t = (dats m 0 c).after w t' := by
  match w, hw with
  | ⟨0, _⟩, h => exact absurd h (Nat.not_le.2 (show 0 < 6 by decide))
  | ⟨1, _⟩, h => exact absurd h (Nat.not_le.2 (show 1 < 6 by decide))
  | ⟨2, _⟩, h => exact absurd h (Nat.not_le.2 (show 2 < 6 by decide))
  | ⟨3, _⟩, h => exact absurd h (Nat.not_le.2 (show 3 < 6 by decide))
  | ⟨4, _⟩, h => exact absurd h (Nat.not_le.2 (show 4 < 6 by decide))
  | ⟨5, _⟩, h => exact absurd h (Nat.not_le.2 (show 5 < 6 by decide))
  | ⟨6, _⟩, _ => dsimp only [dats]; exact o6_same m c t t' e
  | ⟨7, _⟩, _ => dsimp only [dats]; exact o7_same m c t t' e
  | ⟨8, _⟩, _ => dsimp only [dats]; exact o8_same m c t t' e
  | ⟨9, _⟩, _ => dsimp only [dats]; exact o9_same m c t t' e
  | ⟨10, _⟩, _ => dsimp only [dats]; exact o10_same m c t t' e
  | ⟨_ + 11, h⟩, _ => exact absurd h (Nat.not_lt.2 (Nat.le_add_left _ _))

/-- The step that fills each output. -/
def fills (w : Fin 11) : ℕ := if w.val < 7 then 0 else 1

theorem idle_in : ∀ w : Fin 11, w.val < 6 → ∀ t : Fin cfg0.N, cfg0.idle w (cfg0.grid.coords t) = false := by decide +kernel
theorem idle_here : ∀ w : Fin 11, 6 ≤ w.val → ∀ t : Fin cfg0.N, t.val % 2 = fills w → cfg0.idle w (cfg0.grid.coords t) = false := by decide +kernel
theorem idle_away : ∀ w : Fin 11, 6 ≤ w.val → ∀ t : Fin cfg0.N, t.val % 2 ≠ fills w → cfg0.idle w (cfg0.grid.coords t) = true := by decide +kernel
theorem flush_early : ∀ w : Fin 11, 6 ≤ w.val → ∀ t : Fin cfg0.N, t.val % 2 ≠ 1 → (cfg0.win w).flush t = false := by decide +kernel
theorem flush_end : ∀ w : Fin 11, 6 ≤ w.val → ∀ t : Fin cfg0.N, t.val % 2 = 1 → (cfg0.win w).flush t = true := by decide +kernel
theorem fresh_later : ∀ w : Fin 11, 6 ≤ w.val → ∀ t : Fin cfg0.N, fills w < t.val % 2 → cfg0.fresh w t.val = false := by decide +kernel
theorem fresh_first : ∀ w : Fin 11, 6 ≤ w.val → ∀ t : Fin cfg0.N, t.val % 2 = 0 → cfg0.fresh w t.val = true := by decide +kernel
theorem out_all : ∀ w : Fin 11, 6 ≤ w.val → (cfg0.win w).isOut = true := by decide +kernel

/-- Which branches of the body a step takes. -/
theorem cond_at : ∀ t : Fin cfg0.N, (t.val % 2 = 0 → k0_cond1 (grid0.coords t) = 1#1 ∧ k0_cond2 (grid0.coords t) ≠ 1#1)
    ∧ (t.val % 2 = 1 → k0_cond1 (grid0.coords t) ≠ 1#1 ∧ k0_cond2 (grid0.coords t) = 1#1) := by decide +kernel

/-- What the body is handed of window `w` at step `t`. -/
def found (c : Dev nD) (w : Fin cfg0.W) (t : Fin cfg0.N) : sProp 𝕄 :=
  iprop(∃ d, owns (c : Thread nD τ) ((cfg0.win w).stage (cfg0.slots t w)) fullShare ((dats m 0 c).before w t d))

/-- An input is found at its block. -/
theorem found_0 (c : Dev nD) (t : Fin cfg0.N) : found m c 0 t ⊢ owns (c : Thread nD τ) (st0_0 t) fullShare (iblk m c 0 t) := by
  unfold found
  iintro ⟨%d, H⟩
  rw [before0_0_of m (dats m 0 c) (A_eq m c 0) (fun t => by dsimp only [dats]) t d]
  iexact H
theorem found_1 (c : Dev nD) (t : Fin cfg0.N) : found m c 1 t ⊢ owns (c : Thread nD τ) (st0_1 t) fullShare (iblk m c 1 t) := by
  unfold found
  iintro ⟨%d, H⟩
  rw [before0_1_of m (dats m 0 c) (A_eq m c 1) (fun t => by dsimp only [dats]) t d]
  iexact H
theorem found_2 (c : Dev nD) (t : Fin cfg0.N) : found m c 2 t ⊢ owns (c : Thread nD τ) (st0_2 t) fullShare (iblk m c 2 t) := by
  unfold found
  iintro ⟨%d, H⟩
  rw [before0_2_of m (dats m 0 c) (A_eq m c 2) (fun t => by dsimp only [dats]) t d]
  iexact H
theorem found_3 (c : Dev nD) (t : Fin cfg0.N) : found m c 3 t ⊢ owns (c : Thread nD τ) (st0_3 t) fullShare (iblk m c 3 t) := by
  unfold found
  iintro ⟨%d, H⟩
  rw [before0_3_of m (dats m 0 c) (A_eq m c 3) (fun t => by dsimp only [dats]) t d]
  iexact H
theorem found_4 (c : Dev nD) (t : Fin cfg0.N) : found m c 4 t ⊢ owns (c : Thread nD τ) (st0_4 t) fullShare (iblk m c 4 t) := by
  unfold found
  iintro ⟨%d, H⟩
  rw [before0_4_of m (dats m 0 c) (A_eq m c 4) (fun t => by dsimp only [dats]) t d]
  iexact H
theorem found_5 (c : Dev nD) (t : Fin cfg0.N) : found m c 5 t ⊢ owns (c : Thread nD τ) (st0_5 t) fullShare (iblk m c 5 t) := by
  unfold found
  iintro ⟨%d, H⟩
  rw [before0_5_of m (dats m 0 c) (A_eq m c 5) (fun t => by dsimp only [dats]) t d]
  iexact H

/-- An output is carried from step to step of a block of rows. -/
theorem before_out (c : Dev nD) (w : Fin 11) (t : Fin cfg0.N) (hw : 6 ≤ w.val) (hc : ∀ (i : cfg0.grid.Coords) a, (cfg0.win w).clip i a = none)
    (ht : fills w < t.val % 2) (d) : (dats m 0 c).before w t d = (dats m 0 c).after w t := by
  have carry : ∀ (t : Fin cfg0.N) (_ : t.val ≠ 0), cfg0.idle w (cfg0.grid.coords t) = true → cfg0.fresh w t.val = false →
      (dats m 0 c).after w t = (dats m 0 c).after w ⟨t.val - 1, by omega⟩ := fun t _ _ hf => by
    have h3 : t.val % 2 ≠ 0 := fun h => absurd (hf.symm.trans (fresh_first w hw t h)) Bool.false_ne_true
    exact after_out m c w hw _ _ (by show t.val / 2 = (t.val - 1) / 2; omega)
  rw [(dats m 0 c).before_out_traj w (out_all w hw) hc carry t.val t rfl d, fresh_later w hw t ht, if_neg Bool.false_ne_true]
  exact after_out m c w hw _ _ (by have := Nat.zero_le (fills w); show (t.val - 1) / 2 = t.val / 2; omega)

/-- Between the step that fills it and the last one an output is found as it was left. -/
theorem found_out (c : Dev nD) (w : Fin 11) (t : Fin cfg0.N) (hw : 6 ≤ w.val) (hc : ∀ (i : cfg0.grid.Coords) a, (cfg0.win w).clip i a = none)
    (ht : fills w < t.val % 2) : found m c w t ⊢ owns (c : Thread nD τ) ((cfg0.win w).stage (cfg0.slots t w)) fullShare ((dats m 0 c).after w t) := by
  unfold found
  iintro ⟨%d, H⟩
  rw [before_out m c w t hw hc ht d]
  iexact H

/-- An output no step has touched yet is anything. -/
theorem found_any (c : Dev nD) (w : Fin cfg0.W) (t : Fin cfg0.N) :
    found m c w t ⊢ (iprop(∃ d, owns (c : Thread nD τ) ((cfg0.win w).stage (cfg0.slots t w)) fullShare d) : sProp 𝕄) := by
  unfold found
  iintro ⟨%d, H⟩; iexists _; iexact H

/-- A window the step fills, or an input, is left at its contents. -/
theorem leave (c : Dev nD) (w : Fin cfg0.W) (t : Fin cfg0.N) (hi : cfg0.idle w (cfg0.grid.coords t) = false)
    (x : (cfg0.win w).block.Idx → Elt F (cfg0.win w).elt) (hx : x = (dats m 0 c).after w t) :
    owns (c : Thread nD τ) ((cfg0.win w).stage (cfg0.slots t w)) fullShare x ⊢ (dats m 0 c).leavesExact w t := by
  subst hx; unfold Dat.leavesExact; rw [hi]

/-- A window the step does not touch is left as it is found, -/
theorem pass (c : Dev nD) (w : Fin 11) (t : Fin cfg0.N) (hw : 6 ≤ w.val) (hi : t.val % 2 ≠ fills w)
    (hf : t.val % 2 ≠ 1) : found m c w t ⊢ (dats m 0 c).leavesExact w t :=
  Entails.of_eq ((dats m 0 c).leavesExact_idle w t (idle_away w hw t hi) (flush_early w hw t hf)).symm

/-- and at the last step, where it is written back, that is what it was filled with. -/
theorem pass_last (c : Dev nD) (w : Fin 11) (t : Fin cfg0.N) (hw : 6 ≤ w.val) (hc : ∀ (i : cfg0.grid.Coords) a, (cfg0.win w).clip i a = none)
    (hi : fills w < 1) (hf : t.val % 2 = 1) : found m c w t ⊢ (dats m 0 c).leavesExact w t := by
  refine (found_out m c w t hw hc (by omega)).trans ?_
  unfold Dat.leavesExact; rw [idle_away w hw t (by omega), flush_end w hw t hf]

/-! ## The steps put together -/

/-- The staging buffers at step `t`. -/
abbrev bufs (t : Fin cfg0.N) : Bufs where
  a0 := st0_0 t
  h0 := hstage0_0 ((cfg0.slots t 0).cast nbuf0_0)
  a1 := st0_1 t
  h1 := hstage0_1 ((cfg0.slots t 1).cast nbuf0_1)
  a2 := st0_2 t
  h2 := hstage0_2 ((cfg0.slots t 2).cast nbuf0_2)
  a3 := st0_3 t
  h3 := hstage0_3 ((cfg0.slots t 3).cast nbuf0_3)
  a4 := st0_4 t
  h4 := hstage0_4 ((cfg0.slots t 4).cast nbuf0_4)
  a5 := st0_5 t
  h5 := hstage0_5 ((cfg0.slots t 5).cast nbuf0_5)
  a6 := st0_6 t
  h6 := hstage0_6 ((cfg0.slots t 6).cast nbuf0_6)
  a7 := st0_7 t
  h7 := hstage0_7 ((cfg0.slots t 7).cast nbuf0_7)
  a8 := st0_8 t
  h8 := hstage0_8 ((cfg0.slots t 8).cast nbuf0_8)
  a9 := st0_9 t
  h9 := hstage0_9 ((cfg0.slots t 9).cast nbuf0_9)
  a10 := st0_10 t
  h10 := hstage0_10 ((cfg0.slots t 10).cast nbuf0_10)

/-- What the body is called with at step `t`, window by window, -/
def bodyPre (c : Dev nD) (t : Fin cfg0.N) : sProp 𝕄 :=
  iprop((dats m 0 c).Φ t.castSucc ∗ (dats m 0 c).owesAt () t.castSucc
    ∗ found m c 0 t
    ∗ found m c 1 t
    ∗ found m c 2 t
    ∗ found m c 3 t
    ∗ found m c 4 t
    ∗ found m c 5 t
    ∗ found m c 6 t
    ∗ found m c 7 t
    ∗ found m c 8 t
    ∗ found m c 9 t
    ∗ found m c 10 t)

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2000000 in
/-- The first step of a block of rows, -/
theorem sound_0 (c : Dev nD) (t : Fin cfg0.N) (ht : t.val % 2 = 0) :
    bodyPre m c t ⊢ wp frame (wpE (defs₀ (F := F)) Variants.none c none) Set.univ ((bufs t).body (grid0.coords t)) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  have e : at_ 0 t = t := at_self 0 t ht
  obtain ⟨c1, c2⟩ := (cond_at t).1 ht
  iintro ⟨HΦ, Ho, H0, H1, H2, H3, H4, H5, H6, H7, H8, H9, H10⟩
  iapply (step_queries c (bufs t) (grid0.coords t) c1 c2 (iblk m c 0 t) (iblk m c 2 t) (iblk m c 4 t) _)
  isplitl [H0]; · iapply (found_0 m c t); iexact H0
  isplitl [H2]; · iapply (found_2 m c t); iexact H2
  isplitl [H4]; · iapply (found_4 m c t); iexact H4
  isplitl [H6]; · iapply (found_any m c 6 t); iexact H6
  iintro ⟨H0, H2, H4, H6⟩
  isplitl [HΦ]; · iexact HΦ
  isplitl [Ho]; · iexact Ho
  isplitl [H0]; · iapply (leave m c 0 t (idle_in 0 (by decide) t) _ rfl); iexact H0
  isplitl [H1]; · iapply ((found_1 m c t).trans (leave m c 1 t (idle_in 1 (by decide) t) _ rfl)); iexact H1
  isplitl [H2]; · iapply (leave m c 2 t (idle_in 2 (by decide) t) _ rfl); iexact H2
  isplitl [H3]; · iapply ((found_3 m c t).trans (leave m c 3 t (idle_in 3 (by decide) t) _ rfl)); iexact H3
  isplitl [H4]; · iapply (leave m c 4 t (idle_in 4 (by decide) t) _ rfl); iexact H4
  isplitl [H5]; · iapply ((found_5 m c t).trans (leave m c 5 t (idle_in 5 (by decide) t) _ rfl)); iexact H5
  isplitl [H6]; · iapply (leave m c 6 t (idle_here 6 (by decide) t ht) _ (congrArg (f6 m c) e).symm); iexact H6
  isplitl [H7]; · iapply (pass m c 7 t (by decide) (by rw [ht]; decide) (by omega)); iexact H7
  isplitl [H8]; · iapply (pass m c 8 t (by decide) (by rw [ht]; decide) (by omega)); iexact H8
  isplitl [H9]; · iapply (pass m c 9 t (by decide) (by rw [ht]; decide) (by omega)); iexact H9
  iapply (pass m c 10 t (by decide) (by rw [ht]; decide) (by omega)); iexact H10

set_option maxHeartbeats 2000000 in
/-- and the second. -/
theorem sound_1 (c : Dev nD) (t : Fin cfg0.N) (ht : t.val % 2 = 1) :
    bodyPre m c t ⊢ wp frame (wpE (defs₀ (F := F)) Variants.none c none) Set.univ ((bufs t).body (grid0.coords t)) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  have e : at_ 1 t = t := at_self 1 t ht
  obtain ⟨c1, c2⟩ := (cond_at t).2 ht
  iintro ⟨HΦ, Ho, H0, H1, H2, H3, H4, H5, H6, H7, H8, H9, H10⟩
  iapply (step_keys c (bufs t) (grid0.coords t) c1 c2 (iblk m c 0 t) (iblk m c 2 t) (iblk m c 4 t) _)
  isplitl [H0]; · iapply (found_0 m c t); iexact H0
  isplitl [H2]; · iapply (found_2 m c t); iexact H2
  isplitl [H4]; · iapply (found_4 m c t); iexact H4
  isplitl [H7]; · iapply (found_any m c 7 t); iexact H7
  isplitl [H8]; · iapply (found_any m c 8 t); iexact H8
  isplitl [H9]; · iapply (found_any m c 9 t); iexact H9
  isplitl [H10]; · iapply (found_any m c 10 t); iexact H10
  iintro ⟨H0, H2, H4, H7, H8, H9, H10⟩
  isplitl [HΦ]; · iexact HΦ
  isplitl [Ho]; · iexact Ho
  isplitl [H0]; · iapply (leave m c 0 t (idle_in 0 (by decide) t) _ rfl); iexact H0
  isplitl [H1]; · iapply ((found_1 m c t).trans (leave m c 1 t (idle_in 1 (by decide) t) _ rfl)); iexact H1
  isplitl [H2]; · iapply (leave m c 2 t (idle_in 2 (by decide) t) _ rfl); iexact H2
  isplitl [H3]; · iapply ((found_3 m c t).trans (leave m c 3 t (idle_in 3 (by decide) t) _ rfl)); iexact H3
  isplitl [H4]; · iapply (leave m c 4 t (idle_in 4 (by decide) t) _ rfl); iexact H4
  isplitl [H5]; · iapply ((found_5 m c t).trans (leave m c 5 t (idle_in 5 (by decide) t) _ rfl)); iexact H5
  isplitl [H6]; · iapply (pass_last m c 6 t (by decide) (fun _ _ => rfl) (by decide) ht); iexact H6
  isplitl [H7]; · iapply (leave m c 7 t (idle_here 7 (by decide) t ht) _ (congrArg (f7 m c) e).symm); iexact H7
  isplitl [H8]; · iapply (leave m c 8 t (idle_here 8 (by decide) t ht) _ (congrArg (f8 m c) e).symm); iexact H8
  isplitl [H9]; · iapply (leave m c 9 t (idle_here 9 (by decide) t ht) _ (congrArg (f9 m c) e).symm); iexact H9
  iapply (leave m c 10 t (idle_here 10 (by decide) t ht) _ (congrArg (f10 m c) e).symm); iexact H10

theorem sound_body (c : Dev nD) (t : Fin cfg0.N) :
    bodyPre m c t ⊢ wp frame (wpE (defs₀ (F := F)) Variants.none c none) Set.univ (bodyAt0 t) (fun _ => bodyPost m c t) := by
  rcases (by omega : t.val % 2 = 0 ∨ t.val % 2 = 1) with h | h
  · exact sound_0 m c t h
  · exact sound_1 m c t h

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- The whole program ends with the pipeline's arrays at what the proof data says, and every semaphore back at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The same with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.Kernel6Ideal.Proj
-- ==== Proof.SecondCols.lean ====
/-
  The reference of the prompt's second projection at an index. Its results are the row formulas of the first projection's, on
  other stretches of columns, of a product whose rows come normed already.
-/
module

public import proofs.«01_k».proof.Proof.Gen.Reference6Ideal.Run
public import proofs.«01_k».proof.Proof.PromptCols

@[expose] public section

noncomputable section

namespace Cert.SecondLayer

open Idealize.ShloMosaic
open Cert.ProjLayer (head)
open Cert.PromptLayer (hi lo refQueries refKeys refValues ref_queries ref_keys ref_values)
open Cert.Reference6Ideal Cert.Reference6Ideal.Gen
set_option maxRecDepth 16384

/-- The reference's product of the rows it is given with all the weights. -/
def refProd (xn : FVec Ideal S16384x2048 .bf16) (w : FVec Ideal S1x2048x7256 .f32) : FVec Ideal S8x2048x7256 .f32 :=
  Host.dotGeneral dot_S8x2048x2048_S2048x7256_S8x2048x7256_2_0_01_1_n_n none (shapeCast _ (extf .f32 xn bitsLt_bf16_f32) shapeCasts_S16384x2048_S8x2048x2048) (shapeCast _ w shapeCasts_S1x2048x7256_S2048x7256)

theorem refProd_at (xn : FVec Ideal S16384x2048 .bf16) (w : FVec Ideal S1x2048x7256 .f32) (a : Fin 8) (b : Fin 2048) (j : Fin 7256) :
    refProd xn w (ix3 a b j) = ∑ k, xn (ix2 ⟨a.val * 2048 + b.val, by omega⟩ k) * w (ix3 0 k j) := by
  pointwise [refProd]

variable (xn : FVec Ideal S16384x2048 .bf16) (w : FVec Ideal S1x2048x7256 .f32)

/-- Column `q` of row `r`'s projection. -/
def col (r : Fin 16384) (q : Fin 7256) : EReal := ∑ k, xn (ix2 r k) * w (ix3 0 k q)

/-- A stretch of `M` columns of the reference's product, from column `o`. -/
theorem cut_at {M : ℕ} (o : ℕ) (h : S8x2048x7256.Slices ![0, 0, o] ⟨3, ![8, 2048, M]⟩) (r : Fin 16384) (a : Fin 8) (b : Fin 2048) (j : Fin M)
    (e : a.val * 2048 + b.val = r.val) (hj : o + j.val < 7256) :
    extractStridedSlice ⟨3, ![8, 2048, M]⟩ ![0, 0, o] (refProd xn w) h (ix3 a b j) = col xn w r ⟨o + j.val, hj⟩ :=
  (congrArg (refProd xn w) (funext fun i => Fin.ext (by
    match i with
    | ⟨0, _⟩ => show 0 + a.val = a.val; omega
    | ⟨1, _⟩ => show 0 + b.val = b.val; omega
    | ⟨2, _⟩ => show o + j.val = o + j.val; rfl))).trans ((refProd_at xn w a b ⟨o + j.val, hj⟩).trans
      (Finset.sum_congr rfl fun k _ => congrArg (fun r => xn (ix2 r k) * w (ix3 0 k ⟨o + j.val, hj⟩)) (Fin.ext e)))

theorem queries_of (o : ℕ) (h) (ho : o + 1024 ≤ 7256) (g : FVec Ideal S1x128 .f32) (r : Fin 16384) (j : Fin 1024) :
    refQueries (extractStridedSlice S8x2048x1024 ![0, 0, o] (refProd xn w) h) g (ix2 r j)
      = head (fun d => col xn w r ⟨o + (j.val / 128 * 128 + d.val), by omega⟩) (fun d => g (ix2 0 d)) ⟨j.val % 128, by omega⟩
        * Ideal.ofBits FTy.f32 1040356334#32 := by
  rw [ref_queries]
  exact congrArg (fun f => head f _ _ * _) (funext fun d => cut_at xn w o h r (hi r) (lo r) ⟨j.val / 128 * 128 + d.val, by omega⟩
    (show r.val / 2048 * 2048 + r.val % 2048 = r.val by omega) _)

theorem keys_of (o : ℕ) (h) (ho : o + 512 ≤ 7256) (g : FVec Ideal S1x128 .f32) (i : Fin 65536) (d : Fin 128) :
    refKeys (extractStridedSlice S8x2048x512 ![0, 0, o] (refProd xn w) h) g (ix2 i d)
      = head (fun d => col xn w ⟨i.val / 4, by omega⟩ ⟨o + (i.val % 4 * 128 + d.val), by omega⟩) (fun d => g (ix2 0 d)) d := by
  rw [ref_keys]
  exact congrArg (fun f => head f _ _) (funext fun d => cut_at xn w o h ⟨i.val / 4, by omega⟩ ⟨i.val / 8192, by omega⟩ ⟨i.val / 4 % 2048, by omega⟩ ⟨i.val % 4 * 128 + d.val, by omega⟩
    (show i.val / 8192 * 2048 + i.val / 4 % 2048 = i.val / 4 by omega) _)

theorem values_of (o : ℕ) (h) (ho : o + 512 ≤ 7256) (i : Fin 65536) (d : Fin 128) :
    refValues (extractStridedSlice S8x2048x512 ![0, 0, o] (refProd xn w) h) (ix2 i d)
      = col xn w ⟨i.val / 4, by omega⟩ ⟨o + (i.val % 4 * 128 + d.val), by omega⟩ := by
  rw [ref_values]
  exact cut_at xn w o h ⟨i.val / 4, by omega⟩ ⟨i.val / 8192, by omega⟩ ⟨i.val / 4 % 2048, by omega⟩ ⟨i.val % 4 * 128 + d.val, by omega⟩
    (show i.val / 8192 * 2048 + i.val / 4 % 2048 = i.val / 4 by omega) _

end Cert.SecondLayer

end
-- ==== Proof.SecondArray.lean ====
/-
  What the prompt's second projection leaves in its result arrays. Sixteen blocks of 1024 rows, each written back when the two
  steps of its rows are through; here every element, from the program's arguments.
-/
module

public import proofs.«01_k».proof.Proof.SecondRun
public import proofs.«01_k».proof.Proof.SecondCols
public import proofs.«01_k».proof.Proof.PromptBlock
public import proofs.«01_k».proof.Proof.ProjHost
public import proofs.«01_k».proof.Proof.Gen.Kernel6Ideal.Points
public import Idealize.ShloMosaic.Lib.Pipeline.ValueKit.Geometry

@[expose] public section

noncomputable section

namespace Cert.SecondLayer

open Idealize.ShloMosaic Idealize.ShloMosaic.TcCoe Idealize.SL.Sem
open Cert.ProjLayer (head colOf wide wide_at)
open Cert.PromptLayer (dotAt queries_at keys_at values_at)
open Cert.Kernel6Ideal Cert.Kernel6Ideal.Gen Cert.Kernel6Ideal.Proj
set_option maxRecDepth 16384

/-! ## Where a block sits -/

/-- Row `r` of the block of step `t`, as a row of the whole arrays. -/
def row (t : Fin cfg0.N) (r : Fin 1024) : Fin 16384 := ⟨1024 * (t.val / 2) + r.val, by have : t.val < 32 := t.isLt; omega⟩
/-- The same for the arrays with a row for each of the four heads. -/
def row4 (t : Fin cfg0.N) (i : Fin 4096) : Fin 65536 := ⟨4096 * (t.val / 2) + i.val, by have : t.val < 32 := t.isLt; omega⟩

/-- The last step of the block of rows that `n` of them reach to. -/
def stepOf (n : ℕ) (h : n < 16) : Fin cfg0.N := ⟨n * 2 + 1, by show _ < 32; omega⟩

theorem apart (t t' : Fin cfg0.N) (h : t.val % 2 = 1) (h' : t'.val % 2 = 1) (e : t.val / 2 = t'.val / 2) : t = t' := Fin.ext (by omega)

theorem row_at (k : Fin 2) (t : Fin cfg0.N) (r : Fin 1024) : row (at_ k t) r = row t r := Fin.ext (by
  show 1024 * ((t.val / 2 * 2 + k.val) / 2) + r.val = 1024 * (t.val / 2) + r.val; have := k.isLt; omega)

theorem ind0 (t : Fin cfg0.N) : win0_0.index t 0 = t.val / 2 := (by decide +kernel : ∀ t : Fin grid0.N, win0_0.index t 0 = t.val / 2) t
theorem ind6 (t : Fin cfg0.N) : win0_6.index t 0 = t.val / 2 := (by decide +kernel : ∀ t : Fin grid0.N, win0_6.index t 0 = t.val / 2) t
theorem ind7 (t : Fin cfg0.N) : win0_7.index t 0 = t.val / 2 := (by decide +kernel : ∀ t : Fin grid0.N, win0_7.index t 0 = t.val / 2) t
theorem ind9 (t : Fin cfg0.N) : win0_9.index t 0 = t.val / 2 := (by decide +kernel : ∀ t : Fin grid0.N, win0_9.index t 0 = t.val / 2) t
theorem ind2 (t : Fin cfg0.N) : win0_2.index (at_ 0 t) 0 = 2 ∧ win0_2.index (at_ 1 t) 0 = 3 :=
  (by decide +kernel : ∀ t : Fin cfg0.N, win0_2.index (at_ 0 t) 0 = 2 ∧ win0_2.index (at_ 1 t) 0 = 3) t

section Final
variable {F : FTy → Type} [FloatOps F] (m : (ℓ : Loc nD τ sig) → Buf (Elt F) ℓ) (c : Dev nD)

/-! The block of a step that ends its rows is, in the array after the run, what that step leaves. -/

set_option maxHeartbeats 4000000 in
theorem out6 (t : Fin cfg0.N) (ht : t.val % 2 = 1) : ((cfg0.win 6).blk t).view.read (Elt F) ((dats m 0 c).arrAt 6 cfg0.N) = o6 m c t :=
  (dats m 0 c).read_blk_arrAt_eq_flushed 6 (Pipeline.Window.hdisj_of_index_inj _ (fun t t' h h' e =>
    apart t t' ((flush0_6 t).1 h) ((flush0_6 t').1 h') ((ind6 t).symm.trans ((congrFun e 0).trans (ind6 t'))))) cfg0.N t t.isLt ((flush0_6 t).2 ht)

set_option maxHeartbeats 4000000 in
theorem out7 (t : Fin cfg0.N) (ht : t.val % 2 = 1) : ((cfg0.win 7).blk t).view.read (Elt F) ((dats m 0 c).arrAt 7 cfg0.N) = o7 m c t :=
  (dats m 0 c).read_blk_arrAt_eq_flushed 7 (Pipeline.Window.hdisj_of_index_inj _ (fun t t' h h' e =>
    apart t t' ((flush0_7 t).1 h) ((flush0_7 t').1 h') ((ind7 t).symm.trans ((congrFun e 0).trans (ind7 t'))))) cfg0.N t t.isLt ((flush0_7 t).2 ht)

set_option maxHeartbeats 4000000 in
theorem out9 (t : Fin cfg0.N) (ht : t.val % 2 = 1) : ((cfg0.win 9).blk t).view.read (Elt F) ((dats m 0 c).arrAt 9 cfg0.N) = o9 m c t :=
  (dats m 0 c).read_blk_arrAt_eq_flushed 9 (Pipeline.Window.hdisj_of_index_inj _ (fun t t' h h' e =>
    apart t t' ((flush0_9 t).1 h) ((flush0_9 t').1 h') ((ind9 t).symm.trans ((congrFun e 0).trans (ind9 t'))))) cfg0.N t t.isLt ((flush0_9 t).2 ht)

theorem arr6 (t : Fin cfg0.N) (ht : t.val % 2 = 1) (r : Fin 1024) (j : Fin 1024) : (dats m 0 c).arrAt 6 cfg0.N (ix2 (row t r) j) = o6 m c t (ix2 r j) :=
  (congrArg ((dats m 0 c).arrAt 6 cfg0.N) (funext fun a => Fin.ext (by
    match a with
    | ⟨0, _⟩ => show 1024 * (t.val / 2) + r.val = win0_6.index t 0 * 1024 + 1 * r.val; rw [ind6]; omega
    | ⟨1, _⟩ => show j.val = 0 * 1024 + 1 * j.val; omega))).trans (congrFun (out6 m c t ht) (ix2 r j))

theorem arr7 (t : Fin cfg0.N) (ht : t.val % 2 = 1) (r : Fin 4096) (j : Fin 128) : (dats m 0 c).arrAt 7 cfg0.N (ix2 (row4 t r) j) = o7 m c t (ix2 r j) :=
  (congrArg ((dats m 0 c).arrAt 7 cfg0.N) (funext fun a => Fin.ext (by
    match a with
    | ⟨0, _⟩ => show 4096 * (t.val / 2) + r.val = win0_7.index t 0 * 4096 + 1 * r.val; rw [ind7]; omega
    | ⟨1, _⟩ => show j.val = 0 * 128 + 1 * j.val; omega))).trans (congrFun (out7 m c t ht) (ix2 r j))

theorem arr9 (t : Fin cfg0.N) (ht : t.val % 2 = 1) (r : Fin 4096) (j : Fin 128) : (dats m 0 c).arrAt 9 cfg0.N (ix2 (row4 t r) j) = o9 m c t (ix2 r j) :=
  (congrArg ((dats m 0 c).arrAt 9 cfg0.N) (funext fun a => Fin.ext (by
    match a with
    | ⟨0, _⟩ => show 4096 * (t.val / 2) + r.val = win0_9.index t 0 * 4096 + 1 * r.val; rw [ind9]; omega
    | ⟨1, _⟩ => show j.val = 0 * 128 + 1 * j.val; omega))).trans (congrFun (out9 m c t ht) (ix2 r j))

end Final

variable (m : (ℓ : Loc nD τ sig) → Buf (Elt Ideal) ℓ) (c : Dev nD)

/-! ## The input blocks -/

theorem V_wide : V m c main_v15 = wide (m ((c : Thread nD τ).loc main_arg2)) := by
  unfold_abbrev_sides; after_results <;> rfl
theorem V_gains : V m c main_v20 = concatenate S4x128 0 [⟨S1x128, (m ((c : Thread nD τ).loc main_arg4) : FVec Ideal S1x128 .f32)⟩, ⟨S1x128, (m ((c : Thread nD τ).loc main_arg5) : FVec Ideal S1x128 .f32)⟩,
    ⟨S1x128, (m ((c : Thread nD τ).loc main_arg6) : FVec Ideal S1x128 .f32)⟩, ⟨S1x128, (m ((c : Thread nD τ).loc main_arg7) : FVec Ideal S1x128 .f32)⟩] concatenates_S1x128_S1x128_S1x128_S1x128_S4x128_d0 := by
  unfold_abbrev_sides; after_results <;> rfl

theorem blk0 (s : Fin cfg0.N) (r : Fin 1024) (k : Fin 2048) : iblk m c 0 s (ix2 r k) = V m c main_arg0 (ix2 (row s r) k) :=
  congrArg (V m c main_arg0) (funext fun a => Fin.ext (by
    match a with
    | ⟨0, _⟩ => show win0_0.index s 0 * 1024 + 1 * r.val = 1024 * (s.val / 2) + r.val; rw [ind0]; omega
    | ⟨1, _⟩ => show 0 * 2048 + 1 * k.val = k.val; omega))

theorem blk2 (s : Fin cfg0.N) (j : ℕ) (hj : win0_2.index s 0 = j) (h7 : j < 7) (n : Fin 1024) (k : Fin 2048) :
    iblk m c 2 s (ix2 n k) = V m c main_v15 (ix2 ⟨1024 * j + n.val, by omega⟩ k) :=
  congrArg (V m c main_v15) (funext fun a => Fin.ext (by
    match a with
    | ⟨0, _⟩ => show win0_2.index s 0 * 1024 + 1 * n.val = 1024 * j + n.val; omega
    | ⟨1, _⟩ => show 0 * 2048 + 1 * k.val = k.val; omega))

theorem blk4 (s : Fin cfg0.N) (a : Fin 4) (d : Fin 128) : iblk m c 4 s (ix2 a d) = V m c main_v20 (ix2 a d) :=
  congrArg (V m c main_v20) (funext fun i => Fin.ext (by
    match i with
    | ⟨0, _⟩ => show 0 * 4 + 1 * a.val = a.val; omega
    | ⟨1, _⟩ => show 0 * 128 + 1 * d.val = d.val; omega))

/-- The program's arguments as they begin: the normed rows, the weights, and the gains of the queries and of the keys. -/
abbrev aX : FVec Ideal S16384x2048 .bf16 := m ((c : Thread nD τ).loc main_arg0)
abbrev aW : FVec Ideal S1x2048x7256 .f32 := m ((c : Thread nD τ).loc main_arg2)
abbrev aG0 : FVec Ideal S1x128 .f32 := m ((c : Thread nD τ).loc main_arg4)
abbrev aG1 : FVec Ideal S1x128 .f32 := m ((c : Thread nD τ).loc main_arg5)
abbrev aG2 : FVec Ideal S1x128 .f32 := m ((c : Thread nD τ).loc main_arg6)
abbrev aG3 : FVec Ideal S1x128 .f32 := m ((c : Thread nD τ).loc main_arg7)

theorem x_at (k' : Fin 2) (t : Fin cfg0.N) (r : Fin 1024) (k : Fin 2048) : iblk m c 0 (at_ k' t) (ix2 r k) = aX m c (ix2 (row t r) k) := by
  rw [blk0, V_main_arg0, row_at]

theorem concat4_at (g0 g1 g2 g3 : FVec Ideal S1x128 .f32) (d : Fin 128) (f : S4x128.Idx → EReal)
    (hf : f = concatenate S4x128 0 [⟨S1x128, g0⟩, ⟨S1x128, g1⟩, ⟨S1x128, g2⟩, ⟨S1x128, g3⟩] concatenates_S1x128_S1x128_S1x128_S1x128_S4x128_d0) :
    f (ix2 2 d) = g2 (ix2 0 d) ∧ f (ix2 3 d) = g3 (ix2 0 d) := by
  subst hf
  refine ⟨?_, ?_⟩ <;> pointwise

theorem gain_at (s : Fin cfg0.N) (d : Fin 128) :
    gainRow2 (iblk m c 4 s) (ix2 0 d) = aG2 m c (ix2 0 d) ∧ gainRow3 (iblk m c 4 s) (ix2 0 d) = aG3 m c (ix2 0 d) := by
  have row (a : Fin 4) (i : S4x128.Idx) (h0 : (i 0).val = a.val) (h1 : (i 1).val = d.val) : iblk m c 4 s i = V m c main_v20 (ix2 a d) :=
    (congrArg (iblk m c 4 s) (funext fun e => Fin.ext (by
      match e with
      | ⟨0, _⟩ => exact h0
      | ⟨1, _⟩ => exact h1))).trans (blk4 m c s a d)
  have e1 : 0 + 1 * d.val = d.val := by omega
  obtain ⟨c0, c1⟩ := concat4_at (aG0 m c) (aG1 m c) (aG2 m c) (aG3 m c) d (V m c main_v20) (V_gains m c)
  exact ⟨(row 2 _ rfl e1).trans c0, (row 3 _ rfl e1).trans c1⟩

/-- Row `r`'s projection onto column `q`, as the program's arguments have it. -/
abbrev colAt (r : Fin 16384) (q : Fin 7256) : EReal := col (aX m c) (aW m c) r q

/-- The product of one step: columns `o` and on. -/
theorem dot_step (t : Fin cfg0.N) (k' : Fin 2) (j o : ℕ) (hj : win0_2.index (at_ k' t) 0 = j) (h7 : j < 7) (ho : ∀ n, n < 1024 → colOf (1024 * j + n) = o + n)
    (hO : o + 1024 ≤ 7256) (r : Fin 1024) (n : Fin 1024) :
    dotAt (iblk m c 0 (at_ k' t)) (iblk m c 2 (at_ k' t)) r n = colAt m c (row t r) ⟨o + n.val, by omega⟩ := by
  unfold dotAt colAt col
  refine Finset.sum_congr rfl fun k _ => ?_
  rw [x_at, blk2 m c (at_ k' t) j hj h7 n k, V_wide, wide_at]
  refine congrArg (_ * ·) (congrArg (aW m c) (congrArg (ix3 0 k) (Fin.ext ?_)))
  exact ho n.val n.isLt

theorem dot0 (t : Fin cfg0.N) (r : Fin 1024) (n : Fin 1024) : dotAt (iblk m c 0 (at_ 0 t)) (iblk m c 2 (at_ 0 t)) r n = colAt m c (row t r) ⟨3080 + n.val, by omega⟩ :=
  dot_step m c t 0 2 3080 (ind2 t).1 (by omega) (by intro n hn; unfold colOf; split_ifs <;> omega) (by omega) r n
theorem dot1 (t : Fin cfg0.N) (r : Fin 1024) (n : Fin 1024) : dotAt (iblk m c 0 (at_ 1 t)) (iblk m c 2 (at_ 1 t)) r n = colAt m c (row t r) ⟨4104 + n.val, by omega⟩ :=
  dot_step m c t 1 3 4104 (ind2 t).2 (by omega) (by intro n hn; unfold colOf; split_ifs <;> omega) (by omega) r n

/-! ## The blocks, then the arrays, at an index -/

theorem o6_at (t : Fin cfg0.N) (r : Fin 1024) (j : Fin 1024) : o6 m c t (ix2 r j)
    = head (fun d => colAt m c (row t r) ⟨3080 + (j.val / 128 * 128 + d.val), by omega⟩) (fun d => aG2 m c (ix2 0 d)) ⟨j.val % 128, by omega⟩
      * Ideal.ofBits FTy.f32 1040356334#32 := by
  refine (queries_at _ _ _ r j).trans ?_
  simp only [dot0, (gain_at m c _ _).1]

theorem o7_at (t : Fin cfg0.N) (i : Fin 4096) (d : Fin 128) : o7 m c t (ix2 i d)
    = head (fun d => colAt m c (row t ⟨i.val / 4, by omega⟩) ⟨4104 + (i.val % 4 * 128 + d.val), by omega⟩) (fun d => aG3 m c (ix2 0 d)) d := by
  refine (keys_at _ _ _ i d).trans ?_
  simp only [dot1, (gain_at m c _ _).2]

theorem o9_at (t : Fin cfg0.N) (i : Fin 4096) (d : Fin 128) :
    o9 m c t (ix2 i d) = colAt m c (row t ⟨i.val / 4, by omega⟩) ⟨4616 + (i.val % 4 * 128 + d.val), by omega⟩ := by
  refine (values_at _ _ i d).trans ((dot1 m c t _ _).trans (congrArg (colAt m c _) (Fin.ext ?_)))
  show 4104 + (512 + (i.val % 4 * 128 + d.val)) = 4616 + (i.val % 4 * 128 + d.val)
  omega

theorem row_of (r : Fin 16384) : row (stepOf (r.val / 1024) (by omega)) ⟨r.val % 1024, by omega⟩ = r := Fin.ext (by
  show 1024 * ((r.val / 1024 * 2 + 1) / 2) + r.val % 1024 = r.val; omega)
theorem row4_of (i : Fin 65536) : row4 (stepOf (i.val / 4096) (by omega)) ⟨i.val % 4096, by omega⟩ = i := Fin.ext (by
  show 4096 * ((i.val / 4096 * 2 + 1) / 2) + i.val % 4096 = i.val; omega)
theorem row_of4 (i : Fin 65536) : row (stepOf (i.val / 4096) (by omega)) ⟨i.val % 4096 / 4, by omega⟩ = ⟨i.val / 4, by omega⟩ := Fin.ext (by
  show 1024 * ((i.val / 4096 * 2 + 1) / 2) + i.val % 4096 / 4 = i.val / 4; omega)
theorem ends (n : ℕ) (h : n < 16) : (stepOf n h).val % 2 = 1 := by show (n * 2 + 1) % 2 = 1; omega
theorem head_of (i : Fin 65536) : i.val % 4096 % 4 = i.val % 4 := by omega

theorem fin6_at (r : Fin 16384) (j : Fin 1024) : (dats m 0 c).arrAt 6 cfg0.N (ix2 r j)
    = head (fun d => colAt m c r ⟨3080 + (j.val / 128 * 128 + d.val), by omega⟩) (fun d => aG2 m c (ix2 0 d)) ⟨j.val % 128, by omega⟩
      * Ideal.ofBits FTy.f32 1040356334#32 := by
  have h := (arr6 m c _ (ends (r.val / 1024) (by omega)) ⟨r.val % 1024, by omega⟩ j).trans (o6_at m c _ _ j)
  rw [row_of] at h; exact h

theorem fin7_at (i : Fin 65536) (d : Fin 128) : (dats m 0 c).arrAt 7 cfg0.N (ix2 i d)
    = head (fun d => colAt m c ⟨i.val / 4, by omega⟩ ⟨4104 + (i.val % 4 * 128 + d.val), by omega⟩) (fun d => aG3 m c (ix2 0 d)) d := by
  have h := (arr7 m c _ (ends (i.val / 4096) (by omega)) ⟨i.val % 4096, by omega⟩ d).trans (o7_at m c _ _ d)
  rw [row4_of, row_of4] at h; simp only [head_of] at h; exact h

theorem fin9_at (i : Fin 65536) (d : Fin 128) :
    (dats m 0 c).arrAt 9 cfg0.N (ix2 i d) = colAt m c ⟨i.val / 4, by omega⟩ ⟨4616 + (i.val % 4 * 128 + d.val), by omega⟩ := by
  have h := (arr9 m c _ (ends (i.val / 4096) (by omega)) ⟨i.val % 4096, by omega⟩ d).trans (o9_at m c _ _ d)
  rw [row4_of, row_of4] at h; simp only [head_of] at h; exact h

end Cert.SecondLayer

end
-- ==== Proof.SecondClaim.lean ====
/-
  The claims about the prompt's second projection call: its frames at both instances and the equality with the plain
  reference.
-/
module

public import proofs.«01_k».proof.Defs
public import proofs.«01_k».proof.Proof.SecondArray
public import proofs.«01_k».proof.Proof.Gen.Kernel6
public import proofs.«01_k».proof.Proof.Gen.Reference6Ideal

@[expose] public section

noncomputable section

namespace Cert.SecondLayer

open Idealize.ShloMosaic Idealize.ShloMosaic.TcCoe Idealize.SL.Sem

set_option maxHeartbeats 4000000 in
/-- The two printed programs run the same body at their one label. -/
theorem bodies_eq : Cert.Kernel6.defs₀ (F := Bits) = Cert.Kernel6Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel6.defs (F := Bits) = Cert.Kernel6Ideal.defs (F := Bits) :=
  congrArg (Pipeline.defs Cert.Kernel6Ideal.pcfgs) bodies_eq

set_option maxHeartbeats 4000000 in
theorem frame_kernel : Cert.quiescent_Kernel6 := fun m ρ _ => by
  rw [defs_eq]
  exact Cert.Kernel6Ideal.Proj.frame (F := Bits) m ρ

set_option maxHeartbeats 4000000 in
theorem frame_ideal : Cert.quiescent_Kernel6Ideal := fun m ρ _ => Cert.Kernel6Ideal.Proj.frame m ρ
set_option maxHeartbeats 4000000 in
theorem frame_refIdeal : Cert.quiescent_Reference6Ideal := fun m ρ _ =>
  (θ_run Cert.Reference6Ideal.defs _ _).mono
    (fun r hr => ⟨fun c => (hr c).2.2.2, sem_eq_zero_of_no_sems (by decide) r.2⟩)
    (Cert.Reference6Ideal.Value.run (F := Ideal) m ρ)

section Agree
open Cert.PromptLayer (refQueries refKeys refValues)
open Cert.Kernel6Ideal Cert.Kernel6Ideal.Gen Cert.Kernel6Ideal.Proj

variable (m : (ℓ : Loc nD τ sig) → Buf (Elt Ideal) ℓ) (c : Dev nD)

/-- The reference's product at the kernel's arguments. -/
abbrev prod : FVec Ideal Cert.Reference6Ideal.S8x2048x7256 .f32 := refProd (aX m c) (aW m c)

theorem agree_q (h) : refQueries (extractStridedSlice Cert.Reference6Ideal.S8x2048x1024 ![0, 0, 3080] (prod m c) h) (aG2 m c) = (dats m 0 c).arrAt 6 cfg0.N := by
  funext i; rw [eq_ix2 i]; exact (queries_of _ _ 3080 h (by omega) _ _ _).trans (fin6_at m c _ _).symm
theorem agree_k (h) : refKeys (extractStridedSlice Cert.Reference6Ideal.S8x2048x512 ![0, 0, 4104] (prod m c) h) (aG3 m c) = (dats m 0 c).arrAt 7 cfg0.N := by
  funext i; rw [eq_ix2 i]; exact (keys_of _ _ 4104 h (by omega) _ _ _).trans (fin7_at m c _ _).symm
theorem agree_v (h) : refValues (extractStridedSlice Cert.Reference6Ideal.S8x2048x512 ![0, 0, 4616] (prod m c) h) = (dats m 0 c).arrAt 9 cfg0.N := by
  funext i; rw [eq_ix2 i]; exact (values_of _ _ 4616 h (by omega) _ _).trans (fin9_at m c _ _).symm

set_option maxHeartbeats 4000000 in
/-- The kernel's run, with its results and its arguments. -/
theorem run_values (g : Dev nD → PrngReg) : θ_run defs (onTc (τ := τ) (main (F := Ideal))) ⟨m, fun _ => 0, g⟩ (fun r => ∀ c : Dev nD,
      (r.2.mem ((c.tc : Thread nD τ).loc main_v23_0) = (dats m 0 c).arrAt 6 cfg0.N ∧ r.2.mem ((c.tc : Thread nD τ).loc main_v23_1) = (dats m 0 c).arrAt 7 cfg0.N
      ∧ r.2.mem ((c.tc : Thread nD τ).loc main_v23_3) = (dats m 0 c).arrAt 9 cfg0.N)) :=
  (θ_run defs _ _).mono (fun _ h c => ⟨(h c).1 6, (h c).1 7, (h c).1 9⟩) (run_main m g)

end Agree

set_option maxHeartbeats 4000000 in
theorem algebraic : Cert.algebraic_Kernel6Ideal_Reference6Ideal := by
  intro m g m' g' _ h
  refine ⟨fun c => (Cert.Kernel6Ideal.Proj.dats m 0 c).arrAt 6 Cert.Kernel6Ideal.cfg0.N, fun c => (Cert.Kernel6Ideal.Proj.dats m 0 c).arrAt 7 Cert.Kernel6Ideal.cfg0.N,
    fun c => (Cert.Kernel6Ideal.Proj.dats m 0 c).arrAt 9 Cert.Kernel6Ideal.cfg0.N, ?_, ?_⟩
  · refine (θ_run Cert.Kernel6Ideal.defs _ _).mono (fun r hr c => ?_) (θ_run_and (run_values m g) (Cert.Kernel6Ideal.Proj.unchanged m g))
    obtain ⟨a0, a1, a2⟩ := hr.1 c
    exact ⟨a0, a1, a2, hr.2 c⟩
  · refine (θ_run Cert.Reference6Ideal.defs _ _).mono (fun r hr c => ?_) (Cert.Reference6Ideal.Value.run (F := Ideal) m' g')
    obtain ⟨h0, h1, h2, h3, h4, h5, h6, h7⟩ := h c
    obtain ⟨a0, a1, a2, a⟩ := hr c
    refine ⟨a0.trans ?_, a1.trans ?_, a2.trans ?_, a⟩
    · rw [h0, h2, h6]; exact agree_q m c _
    · rw [h0, h2, h7]; exact agree_k m c _
    · rw [h0, h2]; exact agree_v m c _

end Cert.SecondLayer

end
-- ==== Proof.lean ====
/-
  The proof of `Cert.Claim`: the SparseCore row gather's frame at both instances, the reference's, and the equality of
  their results, word for word and over the extended reals; the output layers' and the projections' frames and the equality
  of their results with the references' over the extended reals.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_rows_in_pool
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Skeleton
public import proofs.«01_k».proof.Proof.Gen.Reference6Ideal
public import proofs.«01_k».proof.Proof.Gen.Reference6Ideal.Run
public import proofs.«01_k».proof.Proof.Agree
public import proofs.«01_k».proof.Proof.OutClaim
public import proofs.«01_k».proof.Proof.ProjClaim
public import proofs.«01_k».proof.Proof.OutSample
public import proofs.«01_k».proof.Proof.PromptClaim
public import proofs.«01_k».proof.Proof.SecondClaim

@[expose] public section

noncomputable section

namespace Cert.Proof

open Idealize.ShloMosaic Idealize.SL.Sem

theorem frame_kernel : Cert.quiescent_Kernel := fun m ρ h =>
  (θ_run (Cert.KernelIdeal.defs (F := Bits)) _ _).mono (fun _ hr => ⟨fun c => (hr.1 c).2, hr.2⟩) (Cert.Gather.run_of_pre (F := Bits) m ρ h)

theorem frame_ideal : Cert.quiescent_KernelIdeal := fun m ρ h =>
  (θ_run (Cert.KernelIdeal.defs (F := Ideal)) _ _).mono (fun _ hr => ⟨fun c => (hr.1 c).2, hr.2⟩) (Cert.Gather.run_of_pre (F := Ideal) m ρ h)

theorem frame_refIdeal : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

theorem frame_ref : Cert.quiescent_Reference := fun m ρ _ =>
  (θ_run Cert.Reference.defs _ _).mono (fun r hr => ⟨fun c => (hr c).2, sem_eq_zero_of_no_sems (by decide) r.2⟩)
    (Cert.Reference.Value.run (F := Bits) m ρ)

theorem bitexact : Cert.bitexact_Kernel_Reference := fun m ρ m' ρ' h hag =>
  ⟨fun c => Cert.GatherRef.refOut (m (Cert.Gather.argLoc0 c)) (m (Cert.Gather.argLoc1 c)),
    (θ_run (Cert.KernelIdeal.defs (F := Bits)) _ _).mono (fun _ hr c => hr.1 c) (Cert.Gather.run_of_pre (F := Bits) m ρ h),
    (θ_run Cert.Reference.defs _ _).mono
      (fun _ hr c => ⟨(hr c).1.trans ((Cert.GatherRef.res_eq m' c).trans (congrArg₂ Cert.GatherRef.refOut (hag c).1 (hag c).2)), (hr c).2⟩)
      (Cert.Reference.Value.run (F := Bits) m' ρ')⟩

theorem algebraic : Cert.algebraic_KernelIdeal_ReferenceIdeal := fun m ρ m' ρ' h hag =>
  ⟨fun c => Cert.GatherRef.refOut (m (Cert.Gather.argLoc0 c)) (m (Cert.Gather.argLoc1 c)),
    (θ_run (Cert.KernelIdeal.defs (F := Ideal)) _ _).mono (fun _ hr c => hr.1 c) (Cert.Gather.run_of_pre (F := Ideal) m ρ h),
    (θ_run Cert.ReferenceIdeal.defs _ _).mono
      (fun _ hr c => ⟨(hr c).1.trans ((Cert.GatherRef.res_eq (F := Ideal) m' c).trans (congrArg₂ (Cert.GatherRef.refOut (F := Ideal)) (hag c).1 (hag c).2)), (hr c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_rows_in_pool.Gen.facts,
  frame_kernel, frame_ideal, frame_refIdeal, fun m ρ _ => frame_refIdeal m ρ trivial, frame_ref,
  Cert.OutLayer.frame_kernel, Cert.OutLayer.frame_ideal, Cert.OutLayer.frame_refIdeal,
  Cert.ProjLayer.frame_kernel, Cert.ProjLayer.frame_ideal, Cert.ProjLayer.frame_refIdeal,
  Cert.OutSample.frame_kernel, Cert.OutSample.frame_ideal, Cert.OutSample.frame_refIdeal,
  Cert.PromptLayer.frame_kernel, Cert.PromptLayer.frame_ideal, Cert.PromptLayer.frame_refIdeal,
  Cert.SecondLayer.frame_kernel, Cert.SecondLayer.frame_ideal, Cert.SecondLayer.frame_refIdeal, trivial, bitexact, algebraic,
  trivial, Cert.OutLayer.algebraic, trivial, Cert.ProjLayer.algebraic,
  trivial, Cert.OutSample.algebraic, trivial, Cert.PromptLayer.algebraic, trivial, Cert.SecondLayer.algebraic⟩

end Cert.Proof

end
